-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "qscale" .f32 0x3E38AA3B#32 (((8 * (Real.log 2))⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v115) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v69) = v2 c
          ∧ r.2.mem ((c.tc : Thread Cert.Reference3Ideal.nD Cert.Reference3Ideal.τ).loc Cert.Reference3Ideal.main_v70) = v3 c
          ∧ r.2.mem ((c.tc : Thread Cert.Reference3Ideal.nD Cert.Reference3Ideal.τ).loc Cert.Reference3Ideal.main_v71) = v4 c
          ∧ r.2.mem ((c.tc : Thread Cert.Reference3Ideal.nD Cert.Reference3Ideal.τ).loc Cert.Reference3Ideal.main_v72) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_logits.lean ====
abbrev S16x2048x512 : Shape := ⟨3, ![16, 2048, 512]⟩
abbrev S16x2048x128 : Shape := ⟨3, ![16, 2048, 128]⟩
abbrev S8 : Shape := ⟨1, ![8]⟩
abbrev S32x8 : Shape := ⟨2, ![32, 8]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  main_v18

def fn {F : FTy → Type} [FloatOps F] (main_arg0 : FVec F S16x2048x512 .f32) (main_arg1 : FVec F S16x2048x128 .f32) (main_arg2 : FVec F S16x2048x128 .f32) (main_arg3 : FVec F S8 .f32) (main_arg4 : FVec F S32x8 .f32) (main_arg5 : FVec F S16x2048x512 .bf16) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S32x8 .f32 := Host.absf main_arg4
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_v13 main_v16
-- ==== Kernel.lean ====
abbrev S16x2048x512 : Shape := ⟨3, ![16, 2048, 512]⟩
abbrev S16x2048x128 : Shape := ⟨3, ![16, 2048, 128]⟩
abbrev S8 : Shape := ⟨1, ![8]⟩
abbrev S32x8 : Shape := ⟨2, ![32, 8]⟩
abbrev S512 : Shape := ⟨1, ![512]⟩
abbrev S512x1 : Shape := ⟨2, ![512, 1]⟩
abbrev S512x8 : Shape := ⟨2, ![512, 8]⟩
abbrev S8x512 : Shape := ⟨2, ![8, 512]⟩
abbrev S16x2048x64 : Shape := ⟨3, ![16, 2048, 64]⟩
abbrev S16x2048x256 : Shape := ⟨3, ![16, 2048, 256]⟩
abbrev S1x2048x512 : Shape := ⟨3, ![1, 2048, 512]⟩
abbrev S1x2048x256 : Shape := ⟨3, ![1, 2048, 256]⟩
abbrev S8x128x384 : Shape := ⟨3, ![8, 128, 384]⟩
abbrev S128x384 : Shape := ⟨2, ![128, 384]⟩
abbrev S1x512 : Shape := ⟨2, ![1, 512]⟩
abbrev S128x512 : Shape := ⟨2, ![128, 512]⟩
abbrev S1x128x384 : Shape := ⟨3, ![1, 128, 384]⟩
abbrev S1x128x256 : Shape := ⟨3, ![1, 128, 256]⟩
abbrev S128x256 : Shape := ⟨2, ![128, 256]⟩
abbrev S128x128 : Shape := ⟨2, ![128, 128]⟩
abbrev S1x128x512 : Shape := ⟨3, ![1, 128, 512]⟩
abbrev S512x128 : Shape := ⟨2, ![512, 128]⟩
abbrev S512x256 : Shape := ⟨2, ![512, 256]⟩
abbrev S256x128 : Shape := ⟨2, ![256, 128]⟩
abbrev S256x512 : Shape := ⟨2, ![256, 512]⟩
abbrev S1 : Shape := ⟨1, ![1]⟩
abbrev S128 : Shape := ⟨1, ![128]⟩
abbrev S128x1 : Shape := ⟨2, ![128, 1]⟩
abbrev S256x256 : Shape := ⟨2, ![256, 256]⟩
abbrev S768x128 : Shape := ⟨2, ![768, 128]⟩
abbrev S768x256 : Shape := ⟨2, ![768, 256]⟩
abbrev S256x768 : Shape := ⟨2, ![256, 768]⟩
abbrev S128x768 : Shape := ⟨2, ![128, 768]⟩

abbrev nBuf : Space → Nat
  | .hbm => 21
  | .vmem => 12
  | .smem => 1
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S8, .f32⟩
  | .hbm, ⟨4, _⟩ => ⟨S32x8, .f32⟩
  | .hbm, ⟨5, _⟩ => ⟨S16x2048x512, .bf16⟩
  | .hbm, ⟨6, _⟩ => ⟨S512, .i32⟩
  | .hbm, ⟨7, _⟩ => ⟨S512x1, .i32⟩
  | .hbm, ⟨8, _⟩ => ⟨S512x8, .f32⟩
  | .hbm, ⟨9, _⟩ => ⟨S8x512, .f32⟩
  | .hbm, ⟨10, _⟩ => ⟨S16x2048x64, .f32⟩
  | .hbm, ⟨11, _⟩ => ⟨S16x2048x64, .f32⟩
  | .hbm, ⟨12, _⟩ => ⟨S16x2048x128, .f32⟩
  | .hbm, ⟨13, _⟩ => ⟨S16x2048x256, .f32⟩
  | .hbm, ⟨14, _⟩ => ⟨S16x2048x256, .bf16⟩
  | .hbm, ⟨15, _⟩ => ⟨S16x2048x64, .f32⟩
  | .hbm, ⟨16, _⟩ => ⟨S16x2048x64, .f32⟩
  | .hbm, ⟨17, _⟩ => ⟨S16x2048x128, .f32⟩
  | .hbm, ⟨18, _⟩ => ⟨S16x2048x256, .f32⟩
  | .hbm, ⟨19, _⟩ => ⟨S16x2048x256, .bf16⟩
  | .hbm, ⟨20, _⟩ => ⟨S16x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S8x512, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S8x128x384, .f32⟩
  | .local _ .smem, ⟨0, _⟩ => ⟨S8, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_call1_v0 : Ref sig .tc := ⟨.hbm, 10, rfl⟩
abbrev main_call1_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call2_v0 : Ref sig .tc := ⟨.hbm, 15, rfl⟩
abbrev main_call2_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((8 * (Real.log 2))⁻¹ : ℝ) : EReal)
  | _ => none
-- ==== ReferenceIdeal.lean ====
abbrev S16x2048x512 : Shape := ⟨3, ![16, 2048, 512]⟩
abbrev S16x2048x128 : Shape := ⟨3, ![16, 2048, 128]⟩
abbrev S8 : Shape := ⟨1, ![8]⟩
abbrev S32x8 : Shape := ⟨2, ![32, 8]⟩
abbrev S16x16x128x2x4x64 : Shape := ⟨6, ![16, 16, 128, 2, 4, 64]⟩
abbrev S16x2048x2x64 : Shape := ⟨4, ![16, 2048, 2, 64]⟩
abbrev S_ : Shape := ⟨0, ![]⟩
abbrev S16x2304x2x64 : Shape := ⟨4, ![16, 2304, 2, 64]⟩
abbrev S16x18x128x2x64 : Shape := ⟨5, ![16, 18, 128, 2, 64]⟩
abbrev S16x16x128x2x64 : Shape := ⟨5, ![16, 16, 128, 2, 64]⟩
abbrev S16x16x384x2x64 : Shape := ⟨5, ![16, 16, 384, 2, 64]⟩
abbrev S16x16x2x384x128x4 : Shape := ⟨6, ![16, 16, 2, 384, 128, 4]⟩
abbrev S16x16x2x4x128x384 : Shape := ⟨6, ![16, 16, 2, 4, 128, 384]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S1x1x2x4x128x384 : Shape := ⟨6, ![1, 1, 2, 4, 128, 384]⟩
abbrev S2x4 : Shape := ⟨2, ![2, 4]⟩
abbrev S1x1x2x4x1x1 : Shape := ⟨6, ![1, 1, 2, 4, 1, 1]⟩
abbrev S16x16x2x4x128 : Shape := ⟨5, ![16, 16, 2, 4, 128]⟩
abbrev S16x16x2x4x128x1 : Shape := ⟨6, ![16, 16, 2, 4, 128, 1]⟩
abbrev S16x16x2x64x4x128 : Shape := ⟨6, ![16, 16, 2, 64, 4, 128]⟩

abbrev nBuf : Space → Nat
  | .hbm => 149
  | .vmem => 0
  | .smem => 0
  | _ => 0

abbrev hbmTy0_0 (i : Nat) : BufTy := match i % 128 with
  | 0 => ⟨S16x2048x512, .f32⟩
  | 1 => ⟨S16x2048x128, .f32⟩
  | 2 => ⟨S16x2048x128, .f32⟩
  | 3 => ⟨S8, .f32⟩
  | 4 => ⟨S32x8, .f32⟩
  | 5 => ⟨S16x2048x512, .bf16⟩
  | 6 => ⟨S16x16x128x2x4x64, .f32⟩
  | 7 => ⟨S16x2048x2x64, .f32⟩
  | 8 => ⟨S_, .i32⟩
  | 9 => ⟨S_, .f32⟩
  | 10 => ⟨S16x2304x2x64, .f32⟩
  | 11 => ⟨S16x18x128x2x64, .f32⟩
  | 12 => ⟨S16x16x128x2x64, .f32⟩
  | 13 => ⟨S16x16x128x2x64, .f32⟩
  | 14 => ⟨S16x16x128x2x64, .f32⟩
  | 15 => ⟨S16x16x384x2x64, .f32⟩
  | 16 => ⟨S16x2048x2x64, .f32⟩
  | 17 => ⟨S_, .i32⟩
  | 18 => ⟨S_, .f32⟩
  | 19 => ⟨S16x2304x2x64, .f32⟩
  | 20 => ⟨S16x18x128x2x64, .f32⟩
  | 21 => ⟨S16x16x128x2x64, .f32⟩
  | 22 => ⟨S16x16x128x2x64, .f32⟩
  | 23 => ⟨S16x16x128x2x64, .f32⟩
  | 24 => ⟨S16x16x384x2x64, .f32⟩
  | 25 => ⟨S16x16x2x384x128x4, .f32⟩
  | 26 => ⟨S16x16x2x4x128x384, .f32⟩
  | 27 => ⟨S_, .f32⟩
  | 28 => ⟨S16x16x2x4x128x384, .f32⟩
  | 29 => ⟨S16x16x2x4x128x384, .f32⟩
  | 30 => ⟨S384, .i32⟩
  | 31 => ⟨S1x384, .i32⟩
  | 32 => ⟨S_, .i32⟩
  | 33 => ⟨S1x384, .i32⟩
  | 34 => ⟨S1x384, .i32⟩
  | 35 => ⟨S128, .i32⟩
  | 36 => ⟨S128x1, .i32⟩
  | 37 => ⟨S128x384, .i32⟩
  | 38 => ⟨S128x384, .i32⟩
  | 39 => ⟨S128x384, .i32⟩
  | 40 => ⟨S_, .i32⟩
  | 41 => ⟨S128x384, .i32⟩
  | 42 => ⟨S128x384, .i1⟩
  | 43 => ⟨S128x384, .i32⟩
  | 44 => ⟨S_, .i32⟩
  | 45 => ⟨S128x384, .i32⟩
  | 46 => ⟨S128x384, .i32⟩
  | 47 => ⟨S128x384, .i32⟩
  | 48 => ⟨S_, .i32⟩
  | 49 => ⟨S128x384, .i32⟩
  | 50 => ⟨S128x384, .i32⟩
  | 51 => ⟨S128x384, .f32⟩
  | 52 => ⟨S_, .f32⟩
  | 53 => ⟨S128x384, .f32⟩
  | 54 => ⟨S128x384, .f32⟩
  | 55 => ⟨S128x384, .f32⟩
  | 56 => ⟨S_, .f32⟩
  | 57 => ⟨S_, .f32⟩
  | 58 => ⟨S128x384, .f32⟩
  | 59 => ⟨S128x384, .f32⟩
  | 60 => ⟨S_, .f32⟩
  | 61 => ⟨S128x384, .f32⟩
  | 62 => ⟨S128x384, .f32⟩
  | 63 => ⟨S128x384, .i32⟩
  | 64 => ⟨S_, .i32⟩
  | 65 => ⟨S128x384, .i32⟩
  | 66 => ⟨S128x384, .i32⟩
  | 67 => ⟨S_, .i32⟩
  | 68 => ⟨S128x384, .i32⟩
  | 69 => ⟨S128x384, .i32⟩
  | 70 => ⟨S_, .i32⟩
  | 71 => ⟨S128x384, .i32⟩
  | 72 => ⟨S128x384, .i1⟩
  | 73 => ⟨S128x384, .i32⟩
  | 74 => ⟨S128x384, .i32⟩
  | 75 => ⟨S_, .i32⟩
  | 76 => ⟨S128x384, .i32⟩
  | 77 => ⟨S128x384, .i1⟩
  | 78 => ⟨S_, .i32⟩
  | 79 => ⟨S128x384, .i32⟩
  | 80 => ⟨S128x384, .i32⟩
  | 81 => ⟨S128x384, .i32⟩
  | 82 => ⟨S128x384x1, .i32⟩
  | 83 => ⟨S128x384x8, .f32⟩
  | 84 => ⟨S8x128x384, .f32⟩
  | 85 => ⟨S2x4x128x384, .f32⟩
  | 86 => ⟨S16, .i32⟩
  | 87 => ⟨S16x1, .i32⟩
  | 88 => ⟨S_, .i32⟩
  | 89 => ⟨S16x1, .i32⟩
  | 90 => ⟨S16x1, .i32⟩
  | 91 => ⟨S_, .i32⟩
  | 92 => ⟨S16x1, .i32⟩
  | 93 => ⟨S16x1, .i32⟩
  | 94 => ⟨S384, .i32⟩
  | 95 => ⟨S1x384, .i32⟩
  | 96 => ⟨S16x384, .i32⟩
  | 97 => ⟨S16x384, .i32⟩
  | 98 => ⟨S16x384, .i32⟩
  | 99 => ⟨S128x384, .i32⟩
  | 100 => ⟨S_, .i32⟩
  | 101 => ⟨S128x384, .i32⟩
  | 102 => ⟨S128x384, .i1⟩
  | 103 => ⟨S1x128x384, .i1⟩
  | 104 => ⟨S_, .i32⟩
  | 105 => ⟨S16x384, .i32⟩
  | 106 => ⟨S16x384, .i1⟩
  | 107 => ⟨S_, .i32⟩
  | 108 => ⟨S16x384, .i32⟩
  | 109 => ⟨S16x384, .i1⟩
  | 110 => ⟨S16x384, .i1⟩
  | 111 => ⟨S16x1x384, .i1⟩
  | 112 => ⟨S16x128x384, .i1⟩
  | 113 => ⟨S16x128x384, .i1⟩
  | 114 => ⟨S16x128x384, .i1⟩
  | 115 => ⟨S1x16x1x1x128x384, .i1⟩
  | 116 => ⟨S1x1x2x4x128x384, .f32⟩
  | 117 => ⟨S16x16x2x4x128x384, .f32⟩
  | 118 => ⟨S16x16x2x4x128x384, .f32⟩
  | 119 => ⟨S_, .f32⟩
  | 120 => ⟨S_, .f32⟩
  | 121 => ⟨S16x16x2x4x128x384, .i1⟩
  | 122 => ⟨S16x16x2x4x128x384, .f32⟩
  | 123 => ⟨S16x16x2x4x128x384, .f32⟩
  | 124 => ⟨S2x4, .f32⟩
  | 125 => ⟨S1x1x2x4x1x1, .f32⟩
  | 126 => ⟨S_, .f32⟩
  | 127 => ⟨S16x16x2x4x128, .f32⟩
  | _ => ⟨S16x2048x512, .f32⟩

abbrev hbmTy0_1 (i : Nat) : BufTy := match i % 128 with
  | 0 => ⟨S16x16x2x4x128x1, .f32⟩
  | 1 => ⟨S16x16x2x4x128x1, .f32⟩
  | 2 => ⟨S16x16x2x4x128x1, .f32⟩
  | 3 => ⟨S16x16x2x4x128x384, .f32⟩
  | 4 => ⟨S16x16x2x4x128x384, .f32⟩
  | 5 => ⟨S16x16x2x4x128x384, .f32⟩
  | 6 => ⟨S_, .f32⟩
  | 7 => ⟨S16x16x2x4x128, .f32⟩
  | 8 => ⟨S16x16x2x4x128x1, .f32⟩
  | 9 => ⟨S16x16x2x4x128x1, .f32⟩
  | 10 => ⟨S16x16x2x4x128x1, .f32⟩
  | 11 => ⟨S16x16x2x4x128x1, .f32⟩
  | 12 => ⟨S16x16x2x4x128x1, .f32⟩
  | 13 => ⟨S16x16x2x4x128x384, .f32⟩
  | 14 => ⟨S16x16x2x4x128x384, .f32⟩
  | 15 => ⟨S16x16x2x64x4x128, .f32⟩
  | 16 => ⟨S16x16x128x2x4x64, .f32⟩
  | 17 => ⟨S16x2048x512, .f32⟩
  | 18 => ⟨S16x2048x512, .f32⟩
  | 19 => ⟨S16x2048x512, .f32⟩
  | 20 => ⟨S16x2048x512, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_19 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_20 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x4352 : Shape := ⟨2, ![1024, 4352]⟩
abbrev S2048 : Shape := ⟨1, ![2048]⟩
abbrev S16x2048x512 : Shape := ⟨3, ![16, 2048, 512]⟩
abbrev S32x128x16x256 : Shape := ⟨4, ![32, 128, 16, 256]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1x1024 : Shape := ⟨2, ![1, 1024]⟩
abbrev S1x2048 : Shape := ⟨2, ![1, 2048]⟩
abbrev S1x512 : Shape := ⟨2, ![1, 512]⟩
abbrev S16x64x1024 : Shape := ⟨3, ![16, 64, 1024]⟩
abbrev S1024x2176 : Shape := ⟨2, ![1024, 2176]⟩
abbrev S16x64x512 : Shape := ⟨3, ![16, 64, 512]⟩
abbrev S32x4x16x256 : Shape := ⟨4, ![32, 4, 16, 256]⟩
abbrev S4x256x128 : Shape := ⟨3, ![4, 256, 128]⟩
abbrev S16x16x1024 : Shape := ⟨3, ![16, 16, 1024]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S16x128 : Shape := ⟨2, ![16, 128]⟩
abbrev S1x1x16x128 : Shape := ⟨4, ![1, 1, 16, 128]⟩
abbrev S1x16x128 : Shape := ⟨3, ![1, 16, 128]⟩
abbrev S1x256x128 : Shape := ⟨3, ![1, 256, 128]⟩
abbrev S256x128 : Shape := ⟨2, ![256, 128]⟩
abbrev S256x512 : Shape := ⟨2, ![256, 512]⟩
abbrev S16x16x512 : Shape := ⟨3, ![16, 16, 512]⟩

abbrev nBuf : Space → Nat
  | .hbm => 19
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4352, .f32⟩
  | .hbm, ⟨3, _⟩ => ⟨S2048, .f32⟩
  | .hbm, ⟨4, _⟩ => ⟨S16x2048x512, .bf16⟩
  | .hbm, ⟨5, _⟩ => ⟨S32x128x16x256, .bf16⟩
  | .hbm, ⟨6, _⟩ => ⟨S16x2048x512, .bf16⟩
  | .hbm, ⟨7, _⟩ => ⟨S512x512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1x1024, .f32⟩
  | .hbm, ⟨14, _⟩ => ⟨S1024x4352, .bf16⟩
  | .hbm, ⟨15, _⟩ => ⟨S1x2048, .f32⟩
  | .hbm, ⟨16, _⟩ => ⟨S1x512, .f32⟩
  | .hbm, ⟨17, _⟩ => ⟨S1x1024, .f32⟩
  | .hbm, ⟨18, _⟩ => ⟨S16x2048x1024, .f32⟩
  | .local _ .vmem, ⟨0, _⟩ => ⟨S16x64x1024, .f32⟩
  | .local _ .vmem, ⟨1, _⟩ => ⟨S16x64x1024, .f32⟩
  | .local _ .vmem, ⟨2, _⟩ => ⟨S1x1024, .f32⟩
  | .local _ .vmem, ⟨3, _⟩ => ⟨S1024x2176, .bf16⟩
  | .local _ .vmem, ⟨4, _⟩ => ⟨S1x2048, .f32⟩
  | .local _ .vmem, ⟨5, _⟩ => ⟨S16x64x512, .bf16⟩
  | .local _ .vmem, ⟨6, _⟩ => ⟨S16x64x512, .bf16⟩
  | .local _ .vmem, ⟨7, _⟩ => ⟨S32x4x16x256, .bf16⟩
  | .local _ .vmem, ⟨8, _⟩ => ⟨S32x4x16x256, .bf16⟩
  | .local _ .vmem, ⟨9, _⟩ => ⟨S16x64x512, .bf16⟩
  | .local _ .vmem, ⟨10, _⟩ => ⟨S16x64x512, .bf16⟩
  | .local _ .vmem, ⟨11, _⟩ => ⟨S512x512, .f32⟩
  | .local _ .vmem, ⟨12, _⟩ => ⟨S1x512, .f32⟩
  | .local _ .vmem, ⟨13, _⟩ => ⟨S512x1024, .f32⟩
  | .local _ .vmem, ⟨14, _⟩ => ⟨S512x1024, .f32⟩
  | .local _ .vmem, ⟨15, _⟩ => ⟨S1024x1024, .f32⟩
  | .local _ .vmem, ⟨16, _⟩ => ⟨S1x1024, .f32⟩
  | .local _ .vmem, ⟨17, _⟩ => ⟨S16x64x1024, .f32⟩
  | .local _ .vmem, ⟨18, _⟩ => ⟨S16x64x1024, .f32⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S4x256x128, .f32⟩
  | .local _ .vmem, ⟨24, _⟩ => ⟨S4x256x128, .f32⟩
  | .local _ .vmem, ⟨25, _⟩ => ⟨S4x256x128, .f32⟩
  | .local _ .vmem, ⟨26, _⟩ => ⟨S4x256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4x16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16x2048x1024 : Shape := ⟨3, ![16, 2048, 1024]⟩
abbrev S1024 : Shape := ⟨1, ![1024]⟩
abbrev S1024x4352 : Shape := ⟨2, ![1024, 4352]⟩
abbrev S2048 : Shape := ⟨1, ![2048]⟩
abbrev S16x2048x512 : Shape := ⟨3, ![16, 2048, 512]⟩
abbrev S32x128x16x256 : Shape := ⟨4, ![32, 128, 16, 256]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2048 : Shape := ⟨2, ![1024, 2048]⟩
abbrev S16x2048x2048 : Shape := ⟨3, ![16, 2048, 2048]⟩
abbrev S1x1x2048 : Shape := ⟨3, ![1, 1, 2048]⟩
abbrev S4x8x128x16x2x8x16 : Shape := ⟨7, ![4, 8, 128, 16, 2, 8, 16]⟩
abbrev S4x1x128x16x2x8x16 : Shape := ⟨7, ![4, 1, 128, 16, 2, 8, 16]⟩
abbrev S4x128x16x2x8x16 : Shape := ⟨6, ![4, 128, 16, 2, 8, 16]⟩
abbrev S4x128x16x2x0x16 : Shape := ⟨6, ![4, 128, 16, 2, 0, 16]⟩
abbrev S4x128x16x2x7x16 : Shape := ⟨6, ![4, 128, 16, 2, 7, 16]⟩
abbrev S4x128x16x2x1x16 : Shape := ⟨6, ![4, 128, 16, 2, 1, 16]⟩
abbrev S4x128x16x2x6x16 : Shape := ⟨6, ![4, 128, 16, 2, 6, 16]⟩
abbrev S4x128x16x2x2x16 : Shape := ⟨6, ![4, 128, 16, 2, 2, 16]⟩
abbrev S4x128x16x2x5x16 : Shape := ⟨6, ![4, 128, 16, 2, 5, 16]⟩
abbrev S4x128x16x2x3x16 : Shape := ⟨6, ![4, 128, 16, 2, 3, 16]⟩
abbrev S4x128x16x2x4x16 : Shape := ⟨6, ![4, 128, 16, 2, 4, 16]⟩
abbrev S16x128x2x8x4x8x16 : Shape := ⟨7, ![16, 128, 2, 8, 4, 8, 16]⟩
abbrev S1x1x512 : Shape := ⟨3, ![1, 1, 512]⟩

abbrev nBuf : Space → Nat
  | .hbm => 161
  | .vmem => 0
  | .smem => 0
  | _ => 0

abbrev hbmTy0_0 (i : Nat) : BufTy := match i % 128 with
  | 0 => ⟨S16x2048x1024, .f32⟩
  | 1 => ⟨S1024, .f32⟩
  | 2 => ⟨S1024x4352, .f32⟩
  | 3 => ⟨S2048, .f32⟩
  | 4 => ⟨S16x2048x512, .bf16⟩
  | 5 => ⟨S32x128x16x256, .bf16⟩
  | 6 => ⟨S16x2048x512, .bf16⟩
  | 7 => ⟨S512x512, .f32⟩
  | 8 => ⟨S512, .f32⟩
  | 9 => ⟨S512x1024, .f32⟩
  | 10 => ⟨S512x1024, .f32⟩
  | 11 => ⟨S1024x1024, .f32⟩
  | 12 => ⟨S1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .f32⟩
  | 21 => ⟨S16x2048x1, .f32⟩
  | 22 => ⟨S16x2048x1, .f32⟩
  | 23 => ⟨S16x2048x1, .f32⟩
  | 24 => ⟨S16x2048x1024, .f32⟩
  | 25 => ⟨S16x2048x1024, .f32⟩
  | 26 => ⟨S1x1x1024, .f32⟩
  | 27 => ⟨S16x2048x1024, .f32⟩
  | 28 => ⟨S16x2048x1024, .f32⟩
  | 29 => ⟨S1024x2048, .f32⟩
  | 30 => ⟨S16x2048x2048, .f32⟩
  | 31 => ⟨S1x1x2048, .f32⟩
  | 32 => ⟨S16x2048x2048, .f32⟩
  | 33 => ⟨S16x2048x2048, .f32⟩
  | 34 => ⟨S16x2048x1024, .f32⟩
  | 35 => ⟨S16x2048x1024, .f32⟩
  | 36 => ⟨S32x128x16x256, .f32⟩
  | 37 => ⟨S4x8x128x16x2x8x16, .f32⟩
  | 38 => ⟨S4x1x128x16x2x8x16, .f32⟩
  | 39 => ⟨S4x128x16x2x8x16, .f32⟩
  | 40 => ⟨S4x128x16x2x8x16, .f32⟩
  | 41 => ⟨S4x128x16x2x0x16, .f32⟩
  | 42 => ⟨S4x128x16x2x8x16, .f32⟩
  | 43 => ⟨S4x1x128x16x2x8x16, .f32⟩
  | 44 => ⟨S4x128x16x2x8x16, .f32⟩
  | 45 => ⟨S4x128x16x2x7x16, .f32⟩
  | 46 => ⟨S4x128x16x2x1x16, .f32⟩
  | 47 => ⟨S4x128x16x2x8x16, .f32⟩
  | 48 => ⟨S4x1x128x16x2x8x16, .f32⟩
  | 49 => ⟨S4x128x16x2x8x16, .f32⟩
  | 50 => ⟨S4x128x16x2x6x16, .f32⟩
  | 51 => ⟨S4x128x16x2x2x16, .f32⟩
  | 52 => ⟨S4x128x16x2x8x16, .f32⟩
  | 53 => ⟨S4x1x128x16x2x8x16, .f32⟩
  | 54 => ⟨S4x128x16x2x8x16, .f32⟩
  | 55 => ⟨S4x128x16x2x5x16, .f32⟩
  | 56 => ⟨S4x128x16x2x3x16, .f32⟩
  | 57 => ⟨S4x128x16x2x8x16, .f32⟩
  | 58 => ⟨S4x1x128x16x2x8x16, .f32⟩
  | 59 => ⟨S4x128x16x2x8x16, .f32⟩
  | 60 => ⟨S4x128x16x2x4x16, .f32⟩
  | 61 => ⟨S4x128x16x2x4x16, .f32⟩
  | 62 => ⟨S4x128x16x2x8x16, .f32⟩
  | 63 => ⟨S4x1x128x16x2x8x16, .f32⟩
  | 64 => ⟨S4x128x16x2x8x16, .f32⟩
  | 65 => ⟨S4x128x16x2x3x16, .f32⟩
  | 66 => ⟨S4x128x16x2x5x16, .f32⟩
  | 67 => ⟨S4x128x16x2x8x16, .f32⟩
  | 68 => ⟨S4x1x128x16x2x8x16, .f32⟩
  | 69 => ⟨S4x128x16x2x8x16, .f32⟩
  | 70 => ⟨S4x128x16x2x2x16, .f32⟩
  | 71 => ⟨S4x128x16x2x6x16, .f32⟩
  | 72 => ⟨S4x128x16x2x8x16, .f32⟩
  | 73 => ⟨S4x1x128x16x2x8x16, .f32⟩
  | 74 => ⟨S4x128x16x2x8x16, .f32⟩
  | 75 => ⟨S4x128x16x2x1x16, .f32⟩
  | 76 => ⟨S4x128x16x2x7x16, .f32⟩
  | 77 => ⟨S4x128x16x2x8x16, .f32⟩
  | 78 => ⟨S4x1x128x16x2x8x16, .f32⟩
  | 79 => ⟨S4x1x128x16x2x8x16, .f32⟩
  | 80 => ⟨S4x1x128x16x2x8x16, .f32⟩
  | 81 => ⟨S4x1x128x16x2x8x16, .f32⟩
  | 82 => ⟨S4x1x128x16x2x8x16, .f32⟩
  | 83 => ⟨S4x1x128x16x2x8x16, .f32⟩
  | 84 => ⟨S4x1x128x16x2x8x16, .f32⟩
  | 85 => ⟨S4x1x128x16x2x8x16, .f32⟩
  | 86 => ⟨S4x8x128x16x2x8x16, .f32⟩
  | 87 => ⟨S16x128x2x8x4x8x16, .f32⟩
  | 88 => ⟨S16x2048x512, .f32⟩
  | 89 => ⟨S16x2048x512, .f32⟩
  | 90 => ⟨S16x2048x512, .f32⟩
  | 91 => ⟨S_, .f32⟩
  | 92 => ⟨S16x2048x512, .f32⟩
  | 93 => ⟨S16x2048x512, .f32⟩
  | 94 => ⟨S16x2048x512, .f32⟩
  | 95 => ⟨S_, .f32⟩
  | 96 => ⟨S16x2048x512, .f32⟩
  | 97 => ⟨S16x2048x512, .f32⟩
  | 98 => ⟨S16x2048x512, .f32⟩
  | 99 => ⟨S_, .f32⟩
  | 100 => ⟨S16x2048x512, .f32⟩
  | 101 => ⟨S16x2048x512, .f32⟩
  | 102 => ⟨S_, .f32⟩
  | 103 => ⟨S16x2048x512, .f32⟩
  | 104 => ⟨S16x2048x512, .f32⟩
  | 105 => ⟨S16x2048x512, .f32⟩
  | 106 => ⟨S16x2048x512, .f32⟩
  | 107 => ⟨S1x1x512, .f32⟩
  | 108 => ⟨S16x2048x512, .f32⟩
  | 109 => ⟨S16x2048x512, .f32⟩
  | 110 => ⟨S16x2048x512, .f32⟩
  | 111 => ⟨S16x2048x512, .f32⟩
  | 112 => ⟨S_, .f32⟩
  | 113 => ⟨S16x2048x512, .f32⟩
  | 114 => ⟨S16x2048x512, .f32⟩
  | 115 => ⟨S_, .f32⟩
  | 116 => ⟨S16x2048x512, .f32⟩
  | 117 => ⟨S16x2048x512, .f32⟩
  | 118 => ⟨S16x2048x512, .f32⟩
  | 119 => ⟨S16x2048x512, .f32⟩
  | 120 => ⟨S16x2048x512, .f32⟩
  | 121 => ⟨S16x2048x1024, .f32⟩
  | 122 => ⟨S16x2048x1024, .f32⟩
  | 123 => ⟨S_, .f32⟩
  | 124 => ⟨S16x2048x1024, .f32⟩
  | 125 => ⟨S16x2048x1024, .f32⟩
  | 126 => ⟨S_, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S16x2048x512, .f32⟩
  | 2 => ⟨S16x2048x1024, .f32⟩
  | 3 => ⟨S16x2048x1024, .f32⟩
  | 4 => ⟨S16x2048x1024, .f32⟩
  | 5 => ⟨S16x2048x1024, .f32⟩
  | 6 => ⟨S_, .f32⟩
  | 7 => ⟨S16x2048x1024, .f32⟩
  | 8 => ⟨S16x2048x1024, .f32⟩
  | 9 => ⟨S_, .f32⟩
  | 10 => ⟨S16x2048x1024, .f32⟩
  | 11 => ⟨S16x2048x1024, .f32⟩
  | 12 => ⟨S16x2048x1024, .f32⟩
  | 13 => ⟨S16x2048x1024, .f32⟩
  | 14 => ⟨S16x2048x1024, .f32⟩
  | 15 => ⟨S16x2048x1024, .f32⟩
  | 16 => ⟨S16x2048x1024, .f32⟩
  | 17 => ⟨S16x2048x1024, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S_, .f32⟩
  | 25 => ⟨S16x2048x1, .f32⟩
  | 26 => ⟨S16x2048x1, .f32⟩
  | 27 => ⟨S16x2048x1, .f32⟩
  | 28 => ⟨S16x2048x1024, .f32⟩
  | 29 => ⟨S16x2048x1024, .f32⟩
  | 30 => ⟨S1x1x1024, .f32⟩
  | 31 => ⟨S16x2048x1024, .f32⟩
  | 32 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call4_v0 : Ref sig .tc := ⟨.hbm, 60, rfl⟩
abbrev main_call4_v1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call5_v0 : Ref sig .tc := ⟨.hbm, 65, rfl⟩
abbrev main_call5_v1 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call6_v0 : Ref sig .tc := ⟨.hbm, 70, rfl⟩
abbrev main_call6_v1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call7_v0 : Ref sig .tc := ⟨.hbm, 75, rfl⟩
abbrev main_call7_v1 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_2 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_3 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_4 : Ref sig .tc := ⟨.hbm, 99, rfl⟩
abbrev main_v65 : Ref sig .tc := ⟨.hbm, 100, rfl⟩
abbrev main_v66 : Ref sig .tc := ⟨.hbm, 101, rfl⟩
abbrev main_cst_5 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_6 : Ref sig .tc := ⟨.hbm, 112, rfl⟩
abbrev main_v76 : Ref sig .tc := ⟨.hbm, 113, rfl⟩
abbrev main_v77 : Ref sig .tc := ⟨.hbm, 114, rfl⟩
abbrev main_cst_7 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_8 : Ref sig .tc := ⟨.hbm, 123, rfl⟩
abbrev main_v85 : Ref sig .tc := ⟨.hbm, 124, rfl⟩
abbrev main_v86 : Ref sig .tc := ⟨.hbm, 125, rfl⟩
abbrev main_cst_9 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_10 : Ref sig .tc := ⟨.hbm, 134, rfl⟩
abbrev main_v94 : Ref sig .tc := ⟨.hbm, 135, rfl⟩
abbrev main_v95 : Ref sig .tc := ⟨.hbm, 136, rfl⟩
abbrev main_cst_11 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_12 : Ref sig .tc := ⟨.hbm, 146, rfl⟩
abbrev main_v104 : Ref sig .tc := ⟨.hbm, 147, rfl⟩
abbrev main_v105 : Ref sig .tc := ⟨.hbm, 148, rfl⟩
abbrev main_cst_13 : Ref sig .tc := ⟨.hbm, 149, rfl⟩
abbrev main_v106 : Ref sig .tc := ⟨.hbm, 150, rfl⟩
abbrev main_v107 : Ref sig .tc := ⟨.hbm, 151, rfl⟩
abbrev main_cst_14 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x4352 : Shape := ⟨2, ![1024, 4352]⟩
abbrev S1x1024 : Shape := ⟨2, ![1, 1024]⟩
abbrev S16x2048x512 : Shape := ⟨3, ![16, 2048, 512]⟩
abbrev S16x2048x256 : Shape := ⟨3, ![16, 2048, 256]⟩
abbrev S32x128x16x256 : Shape := ⟨4, ![32, 128, 16, 256]⟩
abbrev S16x128x1024 : Shape := ⟨3, ![16, 128, 1024]⟩
abbrev S1024x2304 : Shape := ⟨2, ![1024, 2304]⟩
abbrev S16x128x512 : Shape := ⟨3, ![16, 128, 512]⟩
abbrev S16x128x256 : Shape := ⟨3, ![16, 128, 256]⟩
abbrev S32x8x16x256 : Shape := ⟨4, ![32, 8, 16, 256]⟩
abbrev S4x256x128 : Shape := ⟨3, ![4, 256, 128]⟩
abbrev S16x16x1024 : Shape := ⟨3, ![16, 16, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩
abbrev S1x256x128 : Shape := ⟨3, ![1, 256, 128]⟩
abbrev S16x128 : Shape := ⟨2, ![16, 128]⟩
abbrev S1x16x128 : Shape := ⟨3, ![1, 16, 128]⟩
abbrev S1x1x16x128 : Shape := ⟨4, ![1, 1, 16, 128]⟩
abbrev S256x512 : Shape := ⟨2, ![256, 512]⟩
abbrev S16x16x512 : Shape := ⟨3, ![16, 16, 512]⟩
abbrev S1024x512 : Shape := ⟨2, ![1024, 512]⟩
abbrev S1024x768 : Shape := ⟨2, ![1024, 768]⟩
abbrev S256x768 : Shape := ⟨2, ![256, 768]⟩
abbrev S256x256 : Shape := ⟨2, ![256, 256]⟩
abbrev S16x16x256 : Shape := ⟨3, ![16, 16, 256]⟩

abbrev nBuf : Space → Nat
  | .hbm => 11
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4352, .f32⟩
  | .hbm, ⟨3, _⟩ => ⟨S1x1024, .f32⟩
  | .hbm, ⟨4, _⟩ => ⟨S1024x4352, .bf16⟩
  | .hbm, ⟨5, _⟩ => ⟨S16x2048x512, .bf16⟩
  | .hbm, ⟨6, _⟩ => ⟨S16x2048x256, .bf16⟩
  | .hbm, ⟨7, _⟩ => ⟨S16x2048x256, .bf16⟩
  | .hbm, ⟨8, _⟩ => ⟨S16x2048x512, .bf16⟩
  | .hbm, ⟨9, _⟩ => ⟨S32x128x16x256, .bf16⟩
  | .hbm, ⟨10, _⟩ => ⟨S16x2048x512, .bf16⟩
  | .local _ .vmem, ⟨0, _⟩ => ⟨S16x128x1024, .f32⟩
  | .local _ .vmem, ⟨1, _⟩ => ⟨S16x128x1024, .f32⟩
  | .local _ .vmem, ⟨2, _⟩ => ⟨S1x1024, .f32⟩
  | .local _ .vmem, ⟨3, _⟩ => ⟨S1024x2304, .bf16⟩
  | .local _ .vmem, ⟨4, _⟩ => ⟨S16x128x512, .bf16⟩
  | .local _ .vmem, ⟨5, _⟩ => ⟨S16x128x512, .bf16⟩
  | .local _ .vmem, ⟨6, _⟩ => ⟨S16x128x256, .bf16⟩
  | .local _ .vmem, ⟨7, _⟩ => ⟨S16x128x256, .bf16⟩
  | .local _ .vmem, ⟨8, _⟩ => ⟨S16x128x256, .bf16⟩
  | .local _ .vmem, ⟨9, _⟩ => ⟨S16x128x256, .bf16⟩
  | .local _ .vmem, ⟨10, _⟩ => ⟨S16x128x512, .bf16⟩
  | .local _ .vmem, ⟨11, _⟩ => ⟨S16x128x512, .bf16⟩
  | .local _ .vmem, ⟨12, _⟩ => ⟨S32x8x16x256, .bf16⟩
  | .local _ .vmem, ⟨13, _⟩ => ⟨S32x8x16x256, .bf16⟩
  | .local _ .vmem, ⟨14, _⟩ => ⟨S16x128x512, .bf16⟩
  | .local _ .vmem, ⟨15, _⟩ => ⟨S16x128x512, .bf16⟩
  | .local _ .vmem, ⟨16, _⟩ => ⟨S4x256x128, .f32⟩
  | .local _ .vmem, ⟨17, _⟩ => ⟨S4x256x128, .f32⟩
  | .local _ .vmem, ⟨18, _⟩ => ⟨S4x256x128, .f32⟩
  | .local _ .vmem, ⟨19, _⟩ => ⟨S4x256x128, .f32⟩
  | .local _ .vmem, ⟨20, _⟩ => ⟨S4x256x128, .f32⟩
  | .local _ .vmem, ⟨21, _⟩ => ⟨S4x256x128, .f32⟩
  | .local _ .vmem, ⟨22, _⟩ => ⟨S4x256x128, .f32⟩
  | .local _ .vmem, ⟨23, _⟩ => ⟨S4x256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x8x16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16x2048x1024 : Shape := ⟨3, ![16, 2048, 1024]⟩
abbrev S1024 : Shape := ⟨1, ![1024]⟩
abbrev S1024x4352 : Shape := ⟨2, ![1024, 4352]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2304 : Shape := ⟨2, ![1024, 2304]⟩
abbrev S16x2048x2304 : Shape := ⟨3, ![16, 2048, 2304]⟩
abbrev S16x2048x512 : Shape := ⟨3, ![16, 2048, 512]⟩
abbrev S16x2048x128 : Shape := ⟨3, ![16, 2048, 128]⟩
abbrev S16x2048x64 : Shape := ⟨3, ![16, 2048, 64]⟩
abbrev S16x2048x256 : Shape := ⟨3, ![16, 2048, 256]⟩
abbrev S16x128x2x8x4x8x16 : Shape := ⟨7, ![16, 128, 2, 8, 4, 8, 16]⟩
abbrev S4x8x128x16x2x8x16 : Shape := ⟨7, ![4, 8, 128, 16, 2, 8, 16]⟩
abbrev S4x1x128x16x2x8x16 : Shape := ⟨7, ![4, 1, 128, 16, 2, 8, 16]⟩
abbrev S4x128x16x2x8x16 : Shape := ⟨6, ![4, 128, 16, 2, 8, 16]⟩
abbrev S4x128x16x2x0x16 : Shape := ⟨6, ![4, 128, 16, 2, 0, 16]⟩
abbrev S4x128x16x2x1x16 : Shape := ⟨6, ![4, 128, 16, 2, 1, 16]⟩
abbrev S4x128x16x2x7x16 : Shape := ⟨6, ![4, 128, 16, 2, 7, 16]⟩
abbrev S4x128x16x2x2x16 : Shape := ⟨6, ![4, 128, 16, 2, 2, 16]⟩
abbrev S4x128x16x2x6x16 : Shape := ⟨6, ![4, 128, 16, 2, 6, 16]⟩
abbrev S4x128x16x2x3x16 : Shape := ⟨6, ![4, 128, 16, 2, 3, 16]⟩
abbrev S4x128x16x2x5x16 : Shape := ⟨6, ![4, 128, 16, 2, 5, 16]⟩
abbrev S4x128x16x2x4x16 : Shape := ⟨6, ![4, 128, 16, 2, 4, 16]⟩
abbrev S32x128x16x256 : Shape := ⟨4, ![32, 128, 16, 256]⟩

abbrev nBuf : Space → Nat
  | .hbm => 112
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4352, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S1024x2304, .f32⟩
  | .hbm, ⟨20, _⟩ => ⟨S16x2048x2304, .f32⟩
  | .hbm, ⟨21, _⟩ => ⟨S16x2048x512, .f32⟩
  | .hbm, ⟨22, _⟩ => ⟨S16x2048x128, .f32⟩
  | .hbm, ⟨23, _⟩ => ⟨S16x2048x128, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S_, .f32⟩
  | .hbm, ⟨28, _⟩ => ⟨S16x2048x512, .f32⟩
  | .hbm, ⟨29, _⟩ => ⟨S16x2048x512, .f32⟩
  | .hbm, ⟨30, _⟩ => ⟨S16x2048x64, .f32⟩
  | .hbm, ⟨31, _⟩ => ⟨S16x2048x64, .f32⟩
  | .hbm, ⟨32, _⟩ => ⟨S16x2048x256, .f32⟩
  | .hbm, ⟨33, _⟩ => ⟨S16x2048x64, .f32⟩
  | .hbm, ⟨34, _⟩ => ⟨S16x2048x64, .f32⟩
  | .hbm, ⟨35, _⟩ => ⟨S16x2048x256, .f32⟩
  | .hbm, ⟨36, _⟩ => ⟨S16x2048x512, .f32⟩
  | .hbm, ⟨37, _⟩ => ⟨S16x2048x512, .f32⟩
  | .hbm, ⟨38, _⟩ => ⟨S_, .f32⟩
  | .hbm, ⟨39, _⟩ => ⟨S16x2048x512, .f32⟩
  | .hbm, ⟨40, _⟩ => ⟨S16x2048x512, .f32⟩
  | .hbm, ⟨41, _⟩ => ⟨S_, .f32⟩
  | .hbm, ⟨42, _⟩ => ⟨S16x2048x512, .f32⟩
  | .hbm, ⟨43, _⟩ => ⟨S16x2048x512, .f32⟩
  | .hbm, ⟨44, _⟩ => ⟨S16x2048x512, .f32⟩
  | .hbm, ⟨45, _⟩ => ⟨S16x128x2x8x4x8x16, .f32⟩
  | .hbm, ⟨46, _⟩ => ⟨S4x8x128x16x2x8x16, .f32⟩
  | .hbm, ⟨47, _⟩ => ⟨S4x1x128x16x2x8x16, .f32⟩
  | .hbm, ⟨48, _⟩ => ⟨S4x128x16x2x8x16, .f32⟩
  | .hbm, ⟨49, _⟩ => ⟨S4x128x16x2x8x16, .f32⟩
  | .hbm, ⟨50, _⟩ => ⟨S4x128x16x2x0x16, .f32⟩
  | .hbm, ⟨51, _⟩ => ⟨S4x128x16x2x8x16, .f32⟩
  | .hbm, ⟨52, _⟩ => ⟨S4x1x128x16x2x8x16, .f32⟩
  | .hbm, ⟨53, _⟩ => ⟨S4x128x16x2x8x16, .f32⟩
  | .hbm, ⟨54, _⟩ => ⟨S4x128x16x2x1x16, .f32⟩
  | .hbm, ⟨55, _⟩ => ⟨S4x128x16x2x7x16, .f32⟩
  | .hbm, ⟨56, _⟩ => ⟨S4x128x16x2x8x16, .f32⟩
  | .hbm, ⟨57, _⟩ => ⟨S4x1x128x16x2x8x16, .f32⟩
  | .hbm, ⟨58, _⟩ => ⟨S4x128x16x2x8x16, .f32⟩
  | .hbm, ⟨59, _⟩ => ⟨S4x128x16x2x2x16, .f32⟩
  | .hbm, ⟨60, _⟩ => ⟨S4x128x16x2x6x16, .f32⟩
  | .hbm, ⟨61, _⟩ => ⟨S4x128x16x2x8x16, .f32⟩
  | .hbm, ⟨62, _⟩ => ⟨S4x1x128x16x2x8x16, .f32⟩
  | .hbm, ⟨63, _⟩ => ⟨S4x128x16x2x8x16, .f32⟩
  | .hbm, ⟨64, _⟩ => ⟨S4x128x16x2x3x16, .f32⟩
  | .hbm, ⟨65, _⟩ => ⟨S4x128x16x2x5x16, .f32⟩
  | .hbm, ⟨66, _⟩ => ⟨S4x128x16x2x8x16, .f32⟩
  | .hbm, ⟨67, _⟩ => ⟨S4x1x128x16x2x8x16, .f32⟩
  | .hbm, ⟨68, _⟩ => ⟨S4x128x16x2x8x16, .f32⟩
  | .hbm, ⟨69, _⟩ => ⟨S4x128x16x2x4x16, .f32⟩
  | .hbm, ⟨70, _⟩ => ⟨S4x128x16x2x4x16, .f32⟩
  | .hbm, ⟨71, _⟩ => ⟨S4x128x16x2x8x16, .f32⟩
  | .hbm, ⟨72, _⟩ => ⟨S4x1x128x16x2x8x16, .f32⟩
  | .hbm, ⟨73, _⟩ => ⟨S4x128x16x2x8x16, .f32⟩
  | .hbm, ⟨74, _⟩ => ⟨S4x128x16x2x5x16, .f32⟩
  | .hbm, ⟨75, _⟩ => ⟨S4x128x16x2x3x16, .f32⟩
  | .hbm, ⟨76, _⟩ => ⟨S4x128x16x2x8x16, .f32⟩
  | .hbm, ⟨77, _⟩ => ⟨S4x1x128x16x2x8x16, .f32⟩
  | .hbm, ⟨78, _⟩ => ⟨S4x128x16x2x8x16, .f32⟩
  | .hbm, ⟨79, _⟩ => ⟨S4x128x16x2x6x16, .f32⟩
  | .hbm, ⟨80, _⟩ => ⟨S4x128x16x2x2x16, .f32⟩
  | .hbm, ⟨81, _⟩ => ⟨S4x128x16x2x8x16, .f32⟩
  | .hbm, ⟨82, _⟩ => ⟨S4x1x128x16x2x8x16, .f32⟩
  | .hbm, ⟨83, _⟩ => ⟨S4x128x16x2x8x16, .f32⟩
  | .hbm, ⟨84, _⟩ => ⟨S4x128x16x2x7x16, .f32⟩
  | .hbm, ⟨85, _⟩ => ⟨S4x128x16x2x1x16, .f32⟩
  | .hbm, ⟨86, _⟩ => ⟨S4x128x16x2x8x16, .f32⟩
  | .hbm, ⟨87, _⟩ => ⟨S4x1x128x16x2x8x16, .f32⟩
  | .hbm, ⟨88, _⟩ => ⟨S4x1x128x16x2x8x16, .f32⟩
  | .hbm, ⟨89, _⟩ => ⟨S4x1x128x16x2x8x16, .f32⟩
  | .hbm, ⟨90, _⟩ => ⟨S4x1x128x16x2x8x16, .f32⟩
  | .hbm, ⟨91, _⟩ => ⟨S4x1x128x16x2x8x16, .f32⟩
  | .hbm, ⟨92, _⟩ => ⟨S4x1x128x16x2x8x16, .f32⟩
  | .hbm, ⟨93, _⟩ => ⟨S4x1x128x16x2x8x16, .f32⟩
  | .hbm, ⟨94, _⟩ => ⟨S4x1x128x16x2x8x16, .f32⟩
  | .hbm, ⟨95, _⟩ => ⟨S4x8x128x16x2x8x16, .f32⟩
  | .hbm, ⟨96, _⟩ => ⟨S32x128x16x256, .f32⟩
  | .hbm, ⟨97, _⟩ => ⟨S16x2048x512, .f32⟩
  | .hbm, ⟨98, _⟩ => ⟨S16x2048x512, .f32⟩
  | .hbm, ⟨99, _⟩ => ⟨S_, .f32⟩
  | .hbm, ⟨100, _⟩ => ⟨S16x2048x512, .f32⟩
  | .hbm, ⟨101, _⟩ => ⟨S16x2048x512, .f32⟩
  | .hbm, ⟨102, _⟩ => ⟨S_, .f32⟩
  | .hbm, ⟨103, _⟩ => ⟨S16x2048x512, .f32⟩
  | .hbm, ⟨104, _⟩ => ⟨S16x2048x512, .f32⟩
  | .hbm, ⟨105, _⟩ => ⟨S16x2048x512, .f32⟩
  | .hbm, ⟨106, _⟩ => ⟨S16x2048x512, .bf16⟩
  | .hbm, ⟨107, _⟩ => ⟨S16x2048x256, .bf16⟩
  | .hbm, ⟨108, _⟩ => ⟨S16x2048x256, .bf16⟩
  | .hbm, ⟨109, _⟩ => ⟨S16x2048x512, .bf16⟩
  | .hbm, ⟨110, _⟩ => ⟨S32x128x16x256, .bf16⟩
  | .hbm, ⟨111, _⟩ => ⟨S16x2048x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_v0 : Ref sig .tc := ⟨.hbm, 49, rfl⟩
abbrev main_call1_v1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call2_v0 : Ref sig .tc := ⟨.hbm, 54, rfl⟩
abbrev main_call2_v1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call3_v0 : Ref sig .tc := ⟨.hbm, 59, rfl⟩
abbrev main_call3_v1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call4_v0 : Ref sig .tc := ⟨.hbm, 64, rfl⟩
abbrev main_call4_v1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call5_v0 : Ref sig .tc := ⟨.hbm, 69, rfl⟩
abbrev main_call5_v1 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call6_v0 : Ref sig .tc := ⟨.hbm, 74, rfl⟩
abbrev main_call6_v1 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call7_v0 : Ref sig .tc := ⟨.hbm, 79, rfl⟩
abbrev main_call7_v1 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call8_v0 : Ref sig .tc := ⟨.hbm, 84, rfl⟩
abbrev main_call8_v1 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call9_v0 : Ref sig .tc := ⟨.hbm, 97, rfl⟩
abbrev main_call9_v1 : Ref sig .tc := ⟨.hbm, 98, rfl⟩
abbrev main_call9_cst : Ref sig .tc := ⟨.hbm, 99, rfl⟩
abbrev main_call9_v2 : Ref sig .tc := ⟨.hbm, 100, rfl⟩
abbrev main_call9_v3 : Ref sig .tc := ⟨.hbm, 101, rfl⟩
abbrev main_call9_cst_0 : Ref sig .tc := ⟨.hbm, 102, rfl⟩
abbrev main_call9_v4 : Ref sig .tc := ⟨.hbm, 103, rfl⟩
abbrev main_call9_v5 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩

abbrev nD : Nat := 1
abbrev τ : Topo := Topo.v7x

variable {F : FTy → Type} [FloatOps F]
-- ==== Proof.Tile.lean ====
module

public import proofs.«01_k».proof.Proof.Gen.KernelIdeal
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal

/-! One chunk of 128 queries of the windowed attention, as the kernel computes it, for a window of `n` keys. -/

@[expose] public section

noncomputable section

namespace Cert.Attn

open Cert.KernelIdeal Cert.KernelIdeal.Gen Idealize.ShloMosaic Idealize.ShloMosaic.ValueIdx

variable {F : FTy → Type} [FloatOps F] [Named F]

/-- The shape of an `a` by `b` matrix. -/
abbrev Mat (a b : ℕ) : Shape := ⟨2, ![a, b]⟩
/-- The shape of one `a` by `b` matrix with a leading axis of length one. -/
abbrev Sheet (a b : ℕ) : Shape := ⟨3, ![1, a, b]⟩

/-- The shape conditions of a chunk with `n` keys, whose two halves lie side by side in `n2` columns. -/
structure Fits (n n2 : ℕ) : Prop where
  two : n2 = n + n
  corner : ∀ i e : Fin 2, (Mat 256 n2).Slices ![i.val * 128, e.val * n] (Mat 128 n)
  cast : (Sheet 128 n).ShapeCasts (Mat 128 n)
  red : (Mat 128 n).Reduces [1] S128
  bc : S128x1.Broadcasts (Mat 128 n)
  side : Shape.Concatenates [Mat 128 n, Mat 128 n] (Mat 128 n2) 1
  stack : Shape.Concatenates [Mat 128 n2, Mat 128 n2] (Mat 256 n2) 0

/-- One head's logits: a corner of the score matrix plus the head's bias. -/
def logit {n n2 : ℕ} (h : Fits n n2) (i e : Fin 2) (s : FVec F (Mat 256 n2) .f32) (b : Vec F (Sheet 128 n) .f32) :
    FVec F (Mat 128 n) .f32 :=
  addf (extractStridedSlice (Mat 128 n) ![i.val * 128, e.val * n] s (h.corner i e)) (shapeCast (Mat 128 n) b h.cast)

/-- The number subtracted from a row's logits: the larger of the row's maximum and the sink. -/
def shift {n n2 : ℕ} (h : Fits n n2) (x : FVec F (Mat 128 n) .f32) (sk : F .f32) : FVec F S128x1 .f32 :=
  maximumf (shapeCast S128x1 (multiReduction .maximumf [1] S128 x 0xFF800000#32 h.red (.inl rfl) rfl) shapeCasts_S128_S128x1)
    (broadcast S128x1 sk)

/-- The unnormalised weights of one head. -/
def weight {n n2 : ℕ} (h : Fits n n2) (x : FVec F (Mat 128 n) .f32) (t : FVec F S128x1 .f32) : FVec F (Mat 128 n) .bf16 :=
  truncf .bf16 (exp2 (subf x (broadcastTo (Mat 128 n) t h.bc))) bitsLt_bf16_f32

/-- The sink's unnormalised weight, over the lanes. -/
def sinkWeight (sk : F .f32) (t : FVec F S128x1 .f32) : FVec F S128x128 .f32 :=
  broadcastTo S128x128 (shapeCast S128x1 (exp2 (subf (broadcast S128x1 sk) t)) shapeCasts_S128x1_S128x1)
    broadcasts_S128x1_S128x128

/-- The lanes of the first of a pair of heads. -/
def lower : IVec S128x128 1 :=
  cmpi .slt (iota .tc S128x128 32 [1] iota_S128x128_d1_w32) (broadcast S128x128 64#32)
/-- The lanes of the second of a pair of heads. -/
def upper : IVec S128x128 1 :=
  cmpi .sge (iota .tc S128x128 32 [1] iota_S128x128_d1_w32) (broadcast S128x128 64#32)
/-- A lane mask as numbers. -/
def ones (k : IVec S128x128 1) : FVec F S128x128 .bf16 :=
  truncf .bf16 (sitofp .f32 (extui 32 k natLt_1_32)) bitsLt_bf16_f32

/-- A row of two heads' weights side by side. -/
def sideBySide {n n2 : ℕ} (h : Fits n n2) (p0 p1 : FVec F (Mat 128 n) .bf16) : FVec F (Mat 128 n2) .bf16 :=
  concatenate (Mat 128 n2) 1 [⟨Mat 128 n, p0⟩, ⟨Mat 128 n, p1⟩] h.side

/-- The weighted mean of the values: weights times values over weights times ones plus the sink. -/
def mean {n2 : ℕ} (hs : Shape.Concatenates [Mat 128 n2, Mat 128 n2] (Mat 256 n2) 0) (p0 p1 : FVec F (Mat 128 n2) .bf16)
    (e0 e1 : FVec F S128x128 .f32) (vcat : FVec F (Mat n2 256) .bf16) : FVec F S256x128 .f32 :=
  let o : FVec F S256x256 .f32 := matmul (DotDims.plain 256 n2 256) none
    (concatenate (Mat 256 n2) 0 [⟨Mat 128 n2, p0⟩, ⟨Mat 128 n2, p1⟩] hs) vcat (constant S256x256 .f32 0x00000000#32)
  divf (extractStridedSlice S256x128 ![0, 0] o slices_S256x256_o0_0_S256x128)
    (addf (extractStridedSlice S256x128 ![0, 128] o slices_S256x256_o0_128_S256x128)
      (concatenate S256x128 0 [⟨S128x128, e0⟩, ⟨S128x128, e1⟩] concatenates_S128x128_S128x128_S256x128_d0))

/-- The four heads of one key head: queries `qs` (two slabs stacked), keys `kcat` and values `vcat` (two halves stacked),
    the heads' biases and sinks. -/
def fourHeads {n n2 : ℕ} (h : Fits n n2) (qs : FVec F S256x128 .bf16) (kcat : FVec F (Mat n2 128) .bf16)
    (vcat : FVec F (Mat n2 256) .bf16) (b : Fin 2 → Fin 2 → Vec F (Sheet 128 n) .f32) (sk : Fin 2 → Fin 2 → F .f32) :
    FVec F S256x128 .f32 :=
  let s : FVec F (Mat 256 n2) .f32 :=
    matmul (DotDims.transposedRhs 256 128 n2) none qs kcat (constant (Mat 256 n2) .f32 0x00000000#32)
  let x (i e : Fin 2) := logit h i e s (b i e)
  let t (i e : Fin 2) := shift h (x i e) (sk i e)
  mean h.stack (sideBySide h (weight h (x 0 0) (t 0 0)) (weight h (x 0 1) (t 0 1)))
    (sideBySide h (weight h (x 1 0) (t 1 0)) (weight h (x 1 1) (t 1 1)))
    (select lower (sinkWeight (sk 0 0) (t 0 0)) (sinkWeight (sk 0 1) (t 0 1)))
    (select lower (sinkWeight (sk 1 0) (t 1 0)) (sinkWeight (sk 1 1) (t 1 1))) vcat

/-- A chunk's queries, scaled. -/
def scaled (q : Vec F S1x128x512 .f32) : FVec F S128x512 .bf16 :=
  truncf .bf16 (mulf (shapeCast S128x512 q shapeCasts_S1x128x512_S128x512)
    (broadcast S128x512 (Named.named κ "qscale" 0x3E38AA3B#32))) bitsLt_bf16_f32
/-- The query slabs of the first key head, stacked. -/
def slabs0 (q : Vec F S1x128x512 .f32) : FVec F S256x128 .bf16 :=
  concatenate S256x128 0 [⟨S128x128, extractStridedSlice S128x128 ![0, 0] (scaled q) slices_S128x512_o0_0_S128x128⟩,
    ⟨S128x128, extractStridedSlice S128x128 ![0, 128] (scaled q) slices_S128x512_o0_128_S128x128⟩]
    concatenates_S128x128_S128x128_S256x128_d0
/-- The query slabs of the second key head, stacked. -/
def slabs1 (q : Vec F S1x128x512 .f32) : FVec F S256x128 .bf16 :=
  concatenate S256x128 0 [⟨S128x128, extractStridedSlice S128x128 ![0, 256] (scaled q) slices_S128x512_o0_256_S128x128⟩,
    ⟨S128x128, extractStridedSlice S128x128 ![0, 384] (scaled q) slices_S128x512_o0_384_S128x128⟩]
    concatenates_S128x128_S128x128_S256x128_d0

/-- The left 128 columns of a block of keys or values. -/
def leftSlab (x : Vec F S1x128x256 .bf16) : FVec F S128x128 .bf16 :=
  extractStridedSlice S128x128 ![0, 0] (shapeCast S128x256 x shapeCasts_S1x128x256_S128x256) slices_S128x256_o0_0_S128x128
/-- The right 128 columns of a block of keys or values. -/
def rightSlab (x : Vec F S1x128x256 .bf16) : FVec F S128x128 .bf16 :=
  extractStridedSlice S128x128 ![0, 128] (shapeCast S128x256 x shapeCasts_S1x128x256_S128x256) slices_S128x256_o0_128_S128x128
/-- A slab on one half's lanes. -/
def onLanes (x : FVec F S128x128 .bf16) (k : IVec S128x128 1) : FVec F S128x128 .bf16 := mulf x (ones k)
/-- A value slab on one half's lanes beside that half's ones. -/
def withOnes (x : FVec F S128x128 .bf16) (k : IVec S128x128 1) : FVec F S128x256 .bf16 :=
  concatenate S128x256 1 [⟨S128x128, onLanes x k⟩, ⟨S128x128, ones k⟩] concatenates_S128x128_S128x128_S128x256_d1

/-- Two key heads' outputs, gated and rounded. -/
def gated (on0 on1 : FVec F S256x128 .f32) (za : Vec F S1x128x512 .bf16) : FVec F S1x128x512 .bf16 :=
  shapeCast S1x128x512 (truncf .bf16 (mulf (concatenate S128x512 1
      [⟨S128x128, extractStridedSlice S128x128 ![0, 0] on0 slices_S256x128_o0_0_S128x128⟩,
       ⟨S128x128, extractStridedSlice S128x128 ![128, 0] on0 slices_S256x128_o128_0_S128x128⟩,
       ⟨S128x128, extractStridedSlice S128x128 ![0, 0] on1 slices_S256x128_o0_0_S128x128⟩,
       ⟨S128x128, extractStridedSlice S128x128 ![128, 0] on1 slices_S256x128_o128_0_S128x128⟩]
      concatenates_S128x128_S128x128_S128x128_S128x128_S128x512_d1)
    (extf .f32 (shapeCast S128x512 za shapeCasts_S1x128x512_S128x512) bitsLt_bf16_f32)) bitsLt_bf16_f32)
    shapeCasts_S128x512_S1x128x512

/-- Keys of two blocks, both halves stacked. -/
def keys2 (a0 a1 b0 b1 : FVec F S128x128 .bf16) : FVec F S512x128 .bf16 :=
  concatenate S512x128 0 [⟨S128x128, onLanes a0 lower⟩, ⟨S128x128, onLanes a1 lower⟩, ⟨S128x128, onLanes b0 upper⟩,
    ⟨S128x128, onLanes b1 upper⟩] concatenates_S128x128_S128x128_S128x128_S128x128_S512x128_d0
/-- Keys of three blocks, both halves stacked. -/
def keys3 (a0 a1 a2 b0 b1 b2 : FVec F S128x128 .bf16) : FVec F S768x128 .bf16 :=
  concatenate S768x128 0 [⟨S128x128, onLanes a0 lower⟩, ⟨S128x128, onLanes a1 lower⟩, ⟨S128x128, onLanes a2 lower⟩,
    ⟨S128x128, onLanes b0 upper⟩, ⟨S128x128, onLanes b1 upper⟩, ⟨S128x128, onLanes b2 upper⟩]
    concatenates_S128x128_S128x128_S128x128_S128x128_S128x128_S128x128_S768x128_d0
/-- Values of two blocks, both halves stacked. -/
def values2 (a0 a1 b0 b1 : FVec F S128x128 .bf16) : FVec F S512x256 .bf16 :=
  concatenate S512x256 0 [⟨S128x256, withOnes a0 lower⟩, ⟨S128x256, withOnes a1 lower⟩, ⟨S128x256, withOnes b0 upper⟩,
    ⟨S128x256, withOnes b1 upper⟩] concatenates_S128x256_S128x256_S128x256_S128x256_S512x256_d0
/-- Values of three blocks, both halves stacked. -/
def values3 (a0 a1 a2 b0 b1 b2 : FVec F S128x128 .bf16) : FVec F S768x256 .bf16 :=
  concatenate S768x256 0 [⟨S128x256, withOnes a0 lower⟩, ⟨S128x256, withOnes a1 lower⟩, ⟨S128x256, withOnes a2 lower⟩,
    ⟨S128x256, withOnes b0 upper⟩, ⟨S128x256, withOnes b1 upper⟩, ⟨S128x256, withOnes b2 upper⟩]
    concatenates_S128x256_S128x256_S128x256_S128x256_S128x256_S128x256_S768x256_d0

theorem fits2 : Fits 256 512 where
  two := rfl
  corner := by decide
  cast := by decide
  red := by decide
  bc := by decide
  side := by decide
  stack := by decide

theorem fits3 : Fits 384 768 where
  two := rfl
  corner := by decide
  cast := by decide
  red := by decide
  bc := by decide
  side := by decide
  stack := by decide

/-- An edge chunk: two key blocks. -/
def chunk2 (q : Vec F S1x128x512 .f32) (k v : Fin 2 → Vec F S1x128x256 .bf16) (b : Fin 2 → Fin 2 → Fin 2 → Vec F S1x128x256 .f32)
    (sk : Fin 2 → Fin 2 → Fin 2 → F .f32) (za : Vec F S1x128x512 .bf16) : FVec F S1x128x512 .bf16 :=
  gated
    (fourHeads fits2 (slabs0 q) (keys2 (leftSlab (k 0)) (leftSlab (k 1)) (rightSlab (k 0)) (rightSlab (k 1)))
      (values2 (leftSlab (v 0)) (leftSlab (v 1)) (rightSlab (v 0)) (rightSlab (v 1))) (b 0) (sk 0))
    (fourHeads fits2 (slabs1 q) (keys2 (rightSlab (k 0)) (rightSlab (k 1)) (leftSlab (k 0)) (leftSlab (k 1)))
      (values2 (rightSlab (v 0)) (rightSlab (v 1)) (leftSlab (v 0)) (leftSlab (v 1))) (b 1) (sk 1)) za

/-- A chunk in the middle: three key blocks. -/
def chunk3 (q : Vec F S1x128x512 .f32) (k v : Fin 3 → Vec F S1x128x256 .bf16) (b : Fin 2 → Fin 2 → Fin 2 → Vec F S1x128x384 .f32)
    (sk : Fin 2 → Fin 2 → Fin 2 → F .f32) (za : Vec F S1x128x512 .bf16) : FVec F S1x128x512 .bf16 :=
  gated
    (fourHeads fits3 (slabs0 q)
      (keys3 (leftSlab (k 0)) (leftSlab (k 1)) (leftSlab (k 2)) (rightSlab (k 0)) (rightSlab (k 1)) (rightSlab (k 2)))
      (values3 (leftSlab (v 0)) (leftSlab (v 1)) (leftSlab (v 2)) (rightSlab (v 0)) (rightSlab (v 1)) (rightSlab (v 2))) (b 0) (sk 0))
    (fourHeads fits3 (slabs1 q)
      (keys3 (rightSlab (k 0)) (rightSlab (k 1)) (rightSlab (k 2)) (leftSlab (k 0)) (leftSlab (k 1)) (leftSlab (k 2)))
      (values3 (rightSlab (v 0)) (rightSlab (v 1)) (rightSlab (v 2)) (leftSlab (v 0)) (leftSlab (v 1)) (leftSlab (v 2))) (b 1) (sk 1)) za

end Cert.Attn

end
-- ==== Proof.TileAt.lean ====
module

public import proofs.«01_k».proof.Proof.Tile
public import Idealize.ShloMosaic.Lib.Pipeline.Value

/-! The pieces of a chunk read at an index. -/

@[expose] public section

noncomputable section

namespace Cert.Attn

open Cert.KernelIdeal Cert.KernelIdeal.Gen Idealize.ShloMosaic Idealize.ShloMosaic.ValueIdx
open scoped BigOperators

/-- Row `q` of the `i`-th of two slabs of 128 rows. -/
abbrev row2 (i : Fin 2) (q : Fin 128) : Fin 256 := ⟨i.val * 128 + q.val, by omega⟩
/-- Column `k` of the `e`-th of two halves. -/
abbrev half {n n2 : ℕ} (h : n2 = n + n) (e : Fin 2) (k : Fin n) : Fin n2 :=
  ⟨e.val * n + k.val, by rcases e with ⟨e, he⟩; have := k.isLt; interval_cases e <;> simp <;> omega⟩

theorem logit_apply {n n2 : ℕ} (h : Fits n n2) (i e : Fin 2) (s : FVec Ideal (Mat 256 n2) .f32)
    (b : Vec Ideal (Sheet 128 n) .f32) (q : Fin 128) (k : Fin n) :
    logit h i e s b (ix2 q k) = s (ix2 (row2 i q) (half h.two e k)) + b (ix3 0 q k) := by
  unfold logit
  rw [addf_apply, shapeCast_1ab_ab_apply, extractStridedSlice_apply _ _ _ _ (ix2 (row2 i q) (half h.two e k))]
  intro a
  match a with
  | ⟨0, _⟩ => rfl
  | ⟨1, _⟩ => rfl

theorem fold_max_lt_top {ι : Type} (s : Finset ι) (f : ι → EReal) (h : ∀ k, f k < ⊤) : s.fold max ⊥ f < ⊤ := by
  classical
  induction s using Finset.induction_on with
  | empty => simp
  | insert a s ha ih => rw [Finset.fold_insert ha]; exact max_lt (h a) ih

theorem shift_real {n n2 : ℕ} (h : Fits n n2) (x : FVec Ideal (Mat 128 n) .f32) (sk : Ideal .f32) (q : Fin 128) (r : ℝ)
    (hs : sk = (r : EReal)) (hx : ∀ k, x (ix2 q k) < (⊤ : EReal)) : ∃ m : ℝ, shift h x sk (ix2 q 0) = (m : EReal) := by
  have e : shift h x sk (ix2 q 0) = max ((Finset.univ : Finset (Fin n)).fold max (⊥ : EReal) (fun k => x (ix2 q k))) (r : EReal) := by
    unfold shift
    rw [maximumf_apply, broadcast_apply, hs, shapeCast_a_a1_apply]
    refine congrArg (fun z : EReal => max z (r : EReal)) ?_
    refine (Ideal.multiReduction_maximumf_single x 0xFF800000#32 h.red (.inl rfl) rfl (ix1 q)).trans ?_
    have h0 : (FloatOps.ofBits .f32 0xFF800000#32 : Ideal .f32) = (⊥ : EReal) := by
      show Ideal.ofBits .f32 0xFF800000#32 = ⊥
      simp [Ideal.ofBits, Ideal.ieee]
    rw [h0]
    have h1 : (x ∘ h.red.lift (ix1 q)) = fun k : Fin n => x (ix2 q k) := by
      funext k
      show x _ = x _
      congr 1
      funext a
      match a with
      | ⟨0, _⟩ => apply Fin.ext; rfl
      | ⟨1, _⟩ => apply Fin.ext; rfl
    rw [h1]
    rfl
  rw [e]
  have h1 := fold_max_lt_top (Finset.univ : Finset (Fin n)) (fun k => (x (ix2 q k) : EReal)) hx
  have h2 : max ((Finset.univ : Finset (Fin n)).fold max (⊥ : EReal) (fun k => x (ix2 q k))) (r : EReal) < ⊤ :=
    max_lt h1 (EReal.coe_lt_top r)
  have h3 : (⊥ : EReal) < max ((Finset.univ : Finset (Fin n)).fold max (⊥ : EReal) (fun k => x (ix2 q k))) (r : EReal) :=
    lt_of_lt_of_le (EReal.bot_lt_coe r) (le_max_right _ _)
  exact ⟨_, (EReal.coe_toReal h2.ne h3.ne').symm⟩

theorem col_apply {b : ℕ} (t : (Mat 128 1).Idx → EReal) (h : (Mat 128 1).Broadcasts (Mat 128 b)) (q : Fin 128) (k : Fin b) :
    broadcastTo (Mat 128 b) t h (ix2 q k) = t (ix2 q 0) := by
  refine broadcastTo_apply t h (ix2 q k) (ix2 q 0) fun ax => ?_
  match ax with
  | ⟨0, _⟩ => rfl
  | ⟨1, _⟩ => rfl

theorem weight_apply {n n2 : ℕ} (h : Fits n n2) (x : FVec Ideal (Mat 128 n) .f32) (t : FVec Ideal S128x1 .f32) (q : Fin 128)
    (k : Fin n) : weight h x t (ix2 q k) = Ideal.exp2 ((x (ix2 q k) : EReal) - t (ix2 q 0)) := by
  unfold weight
  show Ideal.exp2 ((x (ix2 q k) : EReal) - broadcastTo (Mat 128 n) t h.bc (ix2 q k)) = _
  rw [col_apply]

theorem sinkWeight_apply (sk : Ideal .f32) (t : FVec Ideal S128x1 .f32) (q l : Fin 128) :
    sinkWeight sk t (ix2 q l) = Ideal.exp2 ((sk : EReal) - t (ix2 q 0)) := by
  unfold sinkWeight
  rw [col_apply, shapeCast_self]
  rfl

theorem lower_apply (q l : Fin 128) : lower (ix2 q l) = if l.val < 64 then 1#1 else 0#1 := by
  unfold lower
  show IntOp.cmpi .slt (iota .tc S128x128 32 [1] iota_S128x128_d1_w32 (ix2 q l)) 64#32 = _
  rw [iota_single_apply]
  show IntOp.cmpi .slt (BitVec.ofNat 32 l.val) 64#32 = _
  revert l; decide +kernel

theorem upper_apply (q l : Fin 128) : upper (ix2 q l) = if l.val < 64 then 0#1 else 1#1 := by
  unfold upper
  show IntOp.cmpi .sge (iota .tc S128x128 32 [1] iota_S128x128_d1_w32 (ix2 q l)) 64#32 = _
  rw [iota_single_apply]
  show IntOp.cmpi .sge (BitVec.ofNat 32 l.val) 64#32 = _
  revert l; decide +kernel

theorem ones_apply (k : IVec S128x128 1) (j : S128x128.Idx) :
    (ones k : FVec Ideal S128x128 .bf16) j = if k j = 1#1 then (1 : EReal) else 0 := by
  show ((((k j).setWidth 32).toInt : ℝ) : EReal) = _
  generalize k j = w
  revert w
  intro w
  rcases (by revert w; decide : w = 0#1 ∨ w = 1#1) with h | h <;> subst h <;> simp

theorem ones_lower (q l : Fin 128) : (ones lower : FVec Ideal S128x128 .bf16) (ix2 q l) = if l.val < 64 then (1 : EReal) else 0 := by
  rw [ones_apply, lower_apply]; split <;> simp
theorem ones_upper (q l : Fin 128) : (ones upper : FVec Ideal S128x128 .bf16) (ix2 q l) = if l.val < 64 then (0 : EReal) else 1 := by
  rw [ones_apply, upper_apply]; split <;> simp

theorem sideBySide_apply {n n2 : ℕ} (h : Fits n n2) (p : Fin 2 → FVec Ideal (Mat 128 n) .bf16) (q : Fin 128) (e : Fin 2) (k : Fin n) :
    sideBySide h (p 0) (p 1) (ix2 q (half h.two e k)) = p e (ix2 q k) := by
  unfold sideBySide
  match e with
  | ⟨0, _⟩ =>
    refine concatenate_pair_apply_left (t := Mat 128 n2) 1 (p 0) (p 1) _ _ rfl (ix2 q k) fun b => ?_
    match b with
    | ⟨0, _⟩ => rfl
    | ⟨1, _⟩ => show k.val = 0 * n + k.val; omega
  | ⟨1, _⟩ =>
    refine concatenate_pair_apply_right (t := Mat 128 n2) 1 (p 0) (p 1) _ _ rfl rfl (ix2 q k) (fun b hb => ?_) ?_
    · match b with
      | ⟨0, _⟩ => rfl
      | ⟨1, _⟩ => exact absurd rfl hb
    · show k.val + n = 1 * n + k.val; omega

theorem stack_apply {b : ℕ} (h : Shape.Concatenates [Mat 128 b, Mat 128 b] (Mat 256 b) 0) (p : Fin 2 → (Mat 128 b).Idx → EReal)
    (i : Fin 2) (q : Fin 128) (k : Fin b) :
    concatenate (Mat 256 b) 0 [⟨Mat 128 b, p 0⟩, ⟨Mat 128 b, p 1⟩] h (ix2 (row2 i q) k) = p i (ix2 q k) := by
  match i with
  | ⟨0, _⟩ =>
    refine concatenate_pair_apply_left (t := Mat 256 b) 0 (p 0) (p 1) _ _ rfl (ix2 q k) fun c => ?_
    match c with
    | ⟨0, _⟩ => show q.val = 0 * 128 + q.val; omega
    | ⟨1, _⟩ => rfl
  | ⟨1, _⟩ =>
    refine concatenate_pair_apply_right (t := Mat 256 b) 0 (p 0) (p 1) _ _ rfl rfl (ix2 q k) (fun c hc => ?_) ?_
    · match c with
      | ⟨0, _⟩ => exact absurd rfl hc
      | ⟨1, _⟩ => rfl
    · show q.val + 128 = 1 * 128 + q.val; omega

theorem mean_apply {n2 : ℕ} (hs : Shape.Concatenates [Mat 128 n2, Mat 128 n2] (Mat 256 n2) 0)
    (p : Fin 2 → FVec Ideal (Mat 128 n2) .bf16) (E : Fin 2 → FVec Ideal S128x128 .f32) (v : FVec Ideal (Mat n2 256) .bf16)
    (i : Fin 2) (q l : Fin 128) :
    mean hs (p 0) (p 1) (E 0) (E 1) v (ix2 (row2 i q) l)
      = Ideal.div (∑ k : Fin n2, (p i (ix2 q k) : EReal) * v (ix2 k ⟨l.val, by omega⟩))
          ((∑ k : Fin n2, (p i (ix2 q k) : EReal) * v (ix2 k ⟨128 + l.val, by omega⟩)) + E i (ix2 q l)) := by
  have key : ∀ c : Fin 256, matmul (DotDims.plain 256 n2 256) none
      (concatenate (Mat 256 n2) 0 [⟨Mat 128 n2, p 0⟩, ⟨Mat 128 n2, p 1⟩] hs) v (constant S256x256 .f32 0x00000000#32) (ix2 (row2 i q) c)
      = ∑ k : Fin n2, (p i (ix2 q k) : EReal) * v (ix2 k c) := by
    intro c
    refine (Ideal.matmul_plain_apply none _ _ _ (row2 i q) c).trans ?_
    have h0 : (constant S256x256 .f32 0x00000000#32 : FVec Ideal S256x256 .f32) (ix2 (row2 i q) c) = (0 : EReal) :=
      Ideal.ofBits_zero_f32
    rw [h0, zero_add]
    refine Finset.sum_congr rfl fun k _ => ?_
    rw [stack_apply hs p i q k]
  unfold mean
  rw [divf_apply, addf_apply]
  rw [extractStridedSlice_apply _ _ slices_S256x256_o0_0_S256x128 (ix2 (row2 i q) l) (ix2 (row2 i q) ⟨l.val, by omega⟩)
      (by intro a; match a with | ⟨0, _⟩ => exact (Nat.zero_add _).symm | ⟨1, _⟩ => exact (Nat.zero_add _).symm),
    extractStridedSlice_apply _ _ slices_S256x256_o0_128_S256x128 (ix2 (row2 i q) l) (ix2 (row2 i q) ⟨128 + l.val, by omega⟩)
      (by intro a; match a with | ⟨0, _⟩ => exact (Nat.zero_add _).symm | ⟨1, _⟩ => rfl)]
  rw [stack_apply _ E i q l]
  rw [key, key]

theorem half_sum {n n2 : ℕ} (h : n2 = n + n) (f : Fin n2 → EReal) :
    (∑ k, f k) = ∑ e' : Fin 2, ∑ k : Fin n, f (half h e' k) := by
  subst h
  rw [Fin.sum_univ_add, Fin.sum_univ_two]
  congr 1
  · refine Finset.sum_congr rfl fun k _ => congrArg f (Fin.ext ?_)
    simp [half]
  · refine Finset.sum_congr rfl fun k _ => congrArg f (Fin.ext ?_)
    simp [half, Nat.add_comm]

/-- A score matrix. -/
def scores {n2 : ℕ} (qs : FVec Ideal S256x128 .bf16) (kcat : FVec Ideal (Mat n2 128) .bf16) : FVec Ideal (Mat 256 n2) .f32 :=
  matmul (DotDims.transposedRhs 256 128 n2) none qs kcat (constant (Mat 256 n2) .f32 0x00000000#32)

theorem scores_apply {n2 : ℕ} (qs : FVec Ideal S256x128 .bf16) (kcat : FVec Ideal (Mat n2 128) .bf16) (a : Fin 256) (c : Fin n2) :
    (scores qs kcat (ix2 a c) : EReal) = ∑ x : Fin 128, (qs (ix2 a x) : EReal) * kcat (ix2 c x) := by
  refine (Ideal.matmul_transposedRhs_apply none _ _ _ a c).trans ?_
  have h0 : (constant (Mat 256 n2) .f32 0x00000000#32 : FVec Ideal (Mat 256 n2) .f32) (ix2 a c) = (0 : EReal) :=
    Ideal.ofBits_zero_f32
  rw [h0, zero_add]

/-- One head's unnormalised weights, from the score matrix. -/
def headWeight {n n2 : ℕ} (h : Fits n n2) (s : FVec Ideal (Mat 256 n2) .f32) (b : Fin 2 → Fin 2 → Vec Ideal (Sheet 128 n) .f32)
    (sk : Fin 2 → Fin 2 → Ideal .f32) (i e : Fin 2) : FVec Ideal (Mat 128 n) .bf16 :=
  weight h (logit h i e s (b i e)) (shift h (logit h i e s (b i e)) (sk i e))
/-- One head's unnormalised sink weight, from the score matrix. -/
def headSink {n n2 : ℕ} (h : Fits n n2) (s : FVec Ideal (Mat 256 n2) .f32) (b : Fin 2 → Fin 2 → Vec Ideal (Sheet 128 n) .f32)
    (sk : Fin 2 → Fin 2 → Ideal .f32) (i e : Fin 2) : FVec Ideal S128x128 .f32 :=
  sinkWeight (sk i e) (shift h (logit h i e s (b i e)) (sk i e))
/-- A pair of heads' weights side by side. -/
def pairWeight {n n2 : ℕ} (h : Fits n n2) (s : FVec Ideal (Mat 256 n2) .f32) (b : Fin 2 → Fin 2 → Vec Ideal (Sheet 128 n) .f32)
    (sk : Fin 2 → Fin 2 → Ideal .f32) (i : Fin 2) : FVec Ideal (Mat 128 n2) .bf16 :=
  sideBySide h (headWeight h s b sk i 0) (headWeight h s b sk i 1)
/-- A pair of heads' sink weights, each on its half of the lanes. -/
def pairSink {n n2 : ℕ} (h : Fits n n2) (s : FVec Ideal (Mat 256 n2) .f32) (b : Fin 2 → Fin 2 → Vec Ideal (Sheet 128 n) .f32)
    (sk : Fin 2 → Fin 2 → Ideal .f32) (i : Fin 2) : FVec Ideal S128x128 .f32 :=
  select lower (headSink h s b sk i 0) (headSink h s b sk i 1)

theorem fourHeads_eq {n n2 : ℕ} (h : Fits n n2) (qs : FVec Ideal S256x128 .bf16) (kcat : FVec Ideal (Mat n2 128) .bf16)
    (vcat : FVec Ideal (Mat n2 256) .bf16) (b : Fin 2 → Fin 2 → Vec Ideal (Sheet 128 n) .f32) (sk : Fin 2 → Fin 2 → Ideal .f32) :
    fourHeads h qs kcat vcat b sk = mean h.stack (pairWeight h (scores qs kcat) b sk 0) (pairWeight h (scores qs kcat) b sk 1)
      (pairSink h (scores qs kcat) b sk 0) (pairSink h (scores qs kcat) b sk 1) vcat := rfl

theorem pairWeight_apply {n n2 : ℕ} (h : Fits n n2) (s : FVec Ideal (Mat 256 n2) .f32)
    (b : Fin 2 → Fin 2 → Vec Ideal (Sheet 128 n) .f32) (sk : Fin 2 → Fin 2 → Ideal .f32) (i e : Fin 2) (q : Fin 128) (k : Fin n) :
    (pairWeight h s b sk i (ix2 q (half h.two e k)) : EReal)
      = Ideal.exp2 ((logit h i e s (b i e) (ix2 q k) : EReal) - shift h (logit h i e s (b i e)) (sk i e) (ix2 q 0)) :=
  (sideBySide_apply h (headWeight h s b sk i) q e k).trans (weight_apply h _ _ q k)

theorem pairSink_apply {n n2 : ℕ} (h : Fits n n2) (s : FVec Ideal (Mat 256 n2) .f32)
    (b : Fin 2 → Fin 2 → Vec Ideal (Sheet 128 n) .f32) (sk : Fin 2 → Fin 2 → Ideal .f32) (i e : Fin 2) (q : Fin 128) (d : Fin 64) :
    (pairSink h s b sk i (ix2 q ⟨e.val * 64 + d.val, by omega⟩) : EReal)
      = Ideal.exp2 ((sk i e : EReal) - shift h (logit h i e s (b i e)) (sk i e) (ix2 q 0)) := by
  refine Eq.trans (b := headSink h s b sk i e (ix2 q ⟨e.val * 64 + d.val, by omega⟩)) ?_ (sinkWeight_apply _ _ q _)
  unfold pairSink
  rw [select_apply, lower_apply]
  match e with
  | ⟨0, _⟩ => simp [Scalar.select]
  | ⟨1, _⟩ => simp [Scalar.select]

/-- The weighted mean one head gives, from its row of scores. -/
theorem fourHeads_apply {n n2 : ℕ} (h : Fits n n2) (qs : FVec Ideal S256x128 .bf16) (kcat : FVec Ideal (Mat n2 128) .bf16)
    (vcat : FVec Ideal (Mat n2 256) .bf16) (b : Fin 2 → Fin 2 → Vec Ideal (Sheet 128 n) .f32) (sk : Fin 2 → Fin 2 → Ideal .f32)
    (i e : Fin 2) (q : Fin 128) (d : Fin 64) (r : ℝ) (hr : sk i e = (r : EReal)) (w : Fin n → ℝ) (V : Fin n → EReal)
    (hw : ∀ (k : Fin n) (m : ℝ), Ideal.exp2 (((∑ x : Fin 128, (qs (ix2 (row2 i q) x) : EReal) * kcat (ix2 (half h.two e k) x))
        + b i e (ix3 0 q k)) - (m : EReal)) = ((w k * Real.rpow 2 (-m) : ℝ) : EReal))
    (hV : ∀ (e' : Fin 2) (k : Fin n), (vcat (ix2 (half h.two e' k) ⟨e.val * 64 + d.val, by omega⟩) : EReal) = if e' = e then V k else 0)
    (h1 : ∀ (e' : Fin 2) (k : Fin n), (vcat (ix2 (half h.two e' k) ⟨128 + (e.val * 64 + d.val), by omega⟩) : EReal)
      = if e' = e then 1 else 0) :
    ∃ m : ℝ, (fourHeads h qs kcat vcat b sk (ix2 (row2 i q) ⟨e.val * 64 + d.val, by omega⟩) : EReal)
      = Ideal.div (∑ k, ((w k * Real.rpow 2 (-m) : ℝ) : EReal) * V k)
          ((∑ k, ((w k * Real.rpow 2 (-m) : ℝ) : EReal)) + ((Real.rpow 2 (r - m) : ℝ) : EReal)) := by
  rw [fourHeads_eq]
  have hsa := scores_apply qs kcat
  generalize scores qs kcat = s at hsa ⊢
  have hx : ∀ k, (logit h i e s (b i e) (ix2 q k) : EReal)
      = (∑ x : Fin 128, (qs (ix2 (row2 i q) x) : EReal) * kcat (ix2 (half h.two e k) x)) + b i e (ix3 0 q k) := by
    intro k
    rw [logit_apply]
    exact congrArg (fun z : EReal => z + b i e (ix3 0 q k)) (hsa _ _)
  have hlt : ∀ k, (logit h i e s (b i e) (ix2 q k) : EReal) < ⊤ := by
    intro k
    rw [lt_top_iff_ne_top]
    intro ht
    have h3 := hw k 0
    rw [← hx k, ht] at h3
    exact EReal.coe_ne_top _ h3.symm
  obtain ⟨m, hm⟩ := shift_real h (logit h i e s (b i e)) (sk i e) q r hr hlt
  refine ⟨m, ?_⟩
  have hpe : ∀ k : Fin n, (pairWeight h s b sk i (ix2 q (half h.two e k)) : EReal) = ((w k * Real.rpow 2 (-m) : ℝ) : EReal) := by
    intro k
    rw [pairWeight_apply, hm, hx, hw]
  have hE : (pairSink h s b sk i (ix2 q ⟨e.val * 64 + d.val, by omega⟩) : EReal) = ((Real.rpow 2 (r - m) : ℝ) : EReal) := by
    rw [pairSink_apply, hm, hr, ← EReal.coe_sub]
    rfl
  have hsum : ∀ (c : Fin 256) (U : Fin n → EReal),
      (∀ (e' : Fin 2) (k : Fin n), (vcat (ix2 (half h.two e' k) c) : EReal) = if e' = e then U k else 0) →
      (∑ k : Fin n2, (pairWeight h s b sk i (ix2 q k) : EReal) * vcat (ix2 k c))
        = ∑ k, ((w k * Real.rpow 2 (-m) : ℝ) : EReal) * U k := by
    intro c U hU
    rw [half_sum h.two, Finset.sum_eq_single e]
    · refine Finset.sum_congr rfl fun k _ => ?_
      rw [hU, if_pos rfl, hpe]
    · intro e' _ hne
      refine Finset.sum_eq_zero fun k _ => ?_
      rw [hU, if_neg hne, mul_zero]
    · intro hne; exact absurd (Finset.mem_univ _) hne
  refine (mean_apply h.stack (pairWeight h s b sk) (pairSink h s b sk) vcat i q ⟨e.val * 64 + d.val, by omega⟩).trans ?_
  rw [hE, hsum _ V hV, hsum _ (fun _ => 1) h1]
  simp only [mul_one]

end Cert.Attn

end
-- ==== Proof.Mean.lean ====
module

public import proofs.«01_k».proof.Proof.TileAt

/-! A head's weighted mean, free of the number subtracted from its logits. -/

@[expose] public section

noncomputable section

namespace Cert.Attn

open Cert.KernelIdeal Cert.KernelIdeal.Gen Idealize.ShloMosaic Idealize.ShloMosaic.ValueIdx
open scoped BigOperators

theorem coe_sum_real {ι : Type} [Fintype ι] (f : ι → ℝ) : (∑ k, ((f k : ℝ) : EReal)) = ((∑ k, f k : ℝ) : EReal) := by
  classical
  have : ∀ s : Finset ι, (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact this _

theorem mul_sum_real {ι : Type} [Fintype ι] (c : ℝ) (hc : 0 ≤ c) (f : ι → EReal) :
    (c : EReal) * (∑ k, f k) = ∑ k, (c : EReal) * f k := by
  classical
  have : ∀ s : Finset ι, (c : EReal) * (∑ k ∈ s, f k) = ∑ k ∈ s, (c : EReal) * f k := by
    intro s
    induction s using Finset.induction_on with
    | empty => simp
    | insert a s ha ih =>
      rw [Finset.sum_insert ha, Finset.sum_insert ha,
        EReal.left_distrib_of_nonneg_of_ne_top (by exact_mod_cast hc) (EReal.coe_ne_top c), ih]
  exact this _

theorem div_real (x : EReal) (y : ℝ) (hy : 0 < y) : Ideal.div x (y : EReal) = x * ((y⁻¹ : ℝ) : EReal) := by
  have h0 : ((y : ℝ) : EReal) ≠ 0 := by exact_mod_cast hy.ne'
  unfold Ideal.div
  rw [if_neg h0, EReal.coe_inv]

/-- Weights scaled alike, summed against values and divided by their own sum plus the sink's: the softmax mean. -/
theorem softmax_div {ι : Type} [Fintype ι] (w : ι → ℝ) (hw : ∀ k, 0 ≤ w k) (ws c : ℝ) (hs : 0 < ws) (hc : 0 < c) (V : ι → EReal) :
    Ideal.div (∑ k, ((w k * c : ℝ) : EReal) * V k) ((∑ k, ((w k * c : ℝ) : EReal)) + ((ws * c : ℝ) : EReal))
      = ∑ k, ((w k / ((∑ k, w k) + ws) : ℝ) : EReal) * V k := by
  have hW : 0 ≤ ∑ k, w k := Finset.sum_nonneg fun k _ => hw k
  have hD : 0 < (∑ k, w k) + ws := by linarith
  rw [coe_sum_real, ← EReal.coe_add, ← Finset.sum_mul, ← add_mul, div_real _ _ (mul_pos hD hc), mul_comm,
    mul_sum_real _ (inv_nonneg.mpr (mul_pos hD hc).le)]
  refine Finset.sum_congr rfl fun k _ => ?_
  rw [← mul_assoc, ← EReal.coe_mul]
  congr 2
  field_simp

theorem rpow_two_log (x m : ℝ) : Real.rpow 2 ((Real.log 2)⁻¹ * x - m) = Real.exp x * Real.rpow 2 (-m) := by
  have hl : Real.log 2 ≠ 0 := (Real.log_pos (by norm_num)).ne'
  show (2 : ℝ) ^ ((Real.log 2)⁻¹ * x - m) = Real.exp x * (2 : ℝ) ^ (-m)
  rw [sub_eq_add_neg, Real.rpow_add (by norm_num)]
  congr 1
  rw [Real.rpow_def_of_pos (by norm_num)]
  congr 1
  field_simp

/-- Lane `d` of half `e`. -/
abbrev lane (e : Fin 2) (d : Fin 64) : Fin 128 := half rfl e d

/-- One head's weighted mean of the values. -/
theorem fourHeads_mean {n n2 : ℕ} (h : Fits n n2) (qs : FVec Ideal S256x128 .bf16) (kcat : FVec Ideal (Mat n2 128) .bf16)
    (vcat : FVec Ideal (Mat n2 256) .bf16) (b : Fin 2 → Fin 2 → Vec Ideal (Sheet 128 n) .f32) (sk : Fin 2 → Fin 2 → Ideal .f32)
    (i e : Fin 2) (q : Fin 128) (d : Fin 64) (qr : Fin 64 → ℝ) (kr : Fin n → Fin 64 → ℝ) (ok : Fin n → Prop) [DecidablePred ok]
    (β : Fin n → ℝ) (s : ℝ) (V : Fin n → EReal)
    (hq : ∀ d, (qs (ix2 (row2 i q) (lane e d)) : EReal) = ((qr d * (8 * Real.log 2)⁻¹ : ℝ) : EReal))
    (hk : ∀ (e' : Fin 2) (k : Fin n) (d : Fin 64), (kcat (ix2 (half h.two e k) (lane e' d)) : EReal) = if e' = e then ((kr k d : ℝ) : EReal) else 0)
    (hb : ∀ k, (b i e (ix3 0 q k) : EReal) = if ok k then (((Real.log 2)⁻¹ * β k : ℝ) : EReal) else ⊥)
    (hs : (sk i e : EReal) = (((Real.log 2)⁻¹ * s : ℝ) : EReal))
    (hV : ∀ (e' : Fin 2) (k : Fin n), (vcat (ix2 (half h.two e' k) ⟨e.val * 64 + d.val, by omega⟩) : EReal) = if e' = e then V k else 0)
    (h1 : ∀ (e' : Fin 2) (k : Fin n), (vcat (ix2 (half h.two e' k) ⟨128 + (e.val * 64 + d.val), by omega⟩) : EReal)
      = if e' = e then 1 else 0)
    (w : Fin n → ℝ) (hw : ∀ k, w k = if ok k then Real.exp ((∑ d, qr d * kr k d) / 8 + β k) else 0) :
    (fourHeads h qs kcat vcat b sk (ix2 (row2 i q) ⟨e.val * 64 + d.val, by omega⟩) : EReal)
      = ∑ k, ((w k / ((∑ k, w k) + Real.exp s) : ℝ) : EReal) * V k := by
  have hl : Real.log 2 ≠ 0 := (Real.log_pos (by norm_num)).ne'
  have hdot : ∀ k, (∑ x : Fin 128, (qs (ix2 (row2 i q) x) : EReal) * kcat (ix2 (half h.two e k) x))
      = (((Real.log 2)⁻¹ * ((∑ d, qr d * kr k d) / 8) : ℝ) : EReal) := by
    intro k
    rw [half_sum (n := 64) rfl, Finset.sum_eq_single e]
    · have : ∀ d : Fin 64, (qs (ix2 (row2 i q) (half rfl e d)) : EReal) * kcat (ix2 (half h.two e k) (half rfl e d))
          = ((qr d * (8 * Real.log 2)⁻¹ * kr k d : ℝ) : EReal) := by
        intro d
        rw [hq, hk, if_pos rfl, ← EReal.coe_mul]
      rw [Finset.sum_congr rfl fun d _ => this d, coe_sum_real]
      congr 1
      rw [Finset.sum_div, Finset.mul_sum]
      refine Finset.sum_congr rfl fun d _ => ?_
      field_simp
    · intro e' _ hne
      refine Finset.sum_eq_zero fun d _ => ?_
      rw [hk, if_neg hne, mul_zero]
    · intro hne; exact absurd (Finset.mem_univ _) hne
  have hwk : ∀ (k : Fin n) (m : ℝ), Ideal.exp2 (((∑ x : Fin 128, (qs (ix2 (row2 i q) x) : EReal) * kcat (ix2 (half h.two e k) x))
        + b i e (ix3 0 q k)) - (m : EReal)) = ((w k * Real.rpow 2 (-m) : ℝ) : EReal) := by
    intro k m
    rw [hdot, hb, hw]
    by_cases hok : ok k
    · rw [if_pos hok, if_pos hok, ← EReal.coe_add, ← EReal.coe_sub, ← mul_add]
      show ((Real.rpow 2 _ : ℝ) : EReal) = _
      rw [rpow_two_log]
    · rw [if_neg hok, if_neg hok, EReal.add_bot, zero_mul]
      have : (⊥ : EReal) - (m : EReal) = ⊥ := by rw [sub_eq_add_neg, EReal.bot_add]
      rw [this]
      rfl
  obtain ⟨m, hm⟩ := fourHeads_apply h qs kcat vcat b sk i e q d ((Real.log 2)⁻¹ * s) hs w V hwk hV h1
  rw [hm, rpow_two_log]
  refine softmax_div w (fun k => ?_) (Real.exp s) (Real.rpow 2 (-m)) (Real.exp_pos s) (Real.rpow_pos_of_pos (by norm_num) _) V
  rw [hw]
  split
  · exact (Real.exp_pos _).le
  · exact le_rfl

end Cert.Attn

end
-- ==== Proof.Chunk.lean ====
module

public import proofs.«01_k».proof.Proof.Mean

/-! A chunk's output at a row, a head and a lane. -/

@[expose] public section

noncomputable section

namespace Cert.Attn

open Cert.KernelIdeal Cert.KernelIdeal.Gen Idealize.ShloMosaic Idealize.ShloMosaic.ValueIdx
open scoped BigOperators

/-- The lanes of half `e`. -/
def mask (e : Fin 2) : IVec S128x128 1 := ![lower, upper] e

theorem ones_mask (e e' : Fin 2) (q : Fin 128) (d : Fin 64) :
    (ones (mask e) : FVec Ideal S128x128 .bf16) (ix2 q (lane e' d)) = if e' = e then (1 : EReal) else 0 := by
  match e, e' with
  | ⟨0, _⟩, ⟨0, _⟩ => exact (ones_lower q _).trans (by simp)
  | ⟨0, _⟩, ⟨1, _⟩ => exact (ones_lower q _).trans (by simp)
  | ⟨1, _⟩, ⟨0, _⟩ => exact (ones_upper q _).trans (by simp)
  | ⟨1, _⟩, ⟨1, _⟩ => exact (ones_upper q _).trans (by simp)

theorem onLanes_apply (x : FVec Ideal S128x128 .bf16) (e e' : Fin 2) (kk : Fin 128) (d : Fin 64) :
    (onLanes x (mask e) (ix2 kk (lane e' d)) : EReal) = if e' = e then (x (ix2 kk (lane e' d)) : EReal) else 0 := by
  unfold onLanes
  rw [mulf_apply, ones_mask]
  split
  · exact mul_one _
  · exact mul_zero _

theorem withOnes_left (x : FVec Ideal S128x128 .bf16) (e e' : Fin 2) (kk : Fin 128) (d : Fin 64) :
    (withOnes x (mask e) (ix2 kk ⟨e'.val * 64 + d.val, by omega⟩) : EReal)
      = if e = e' then (x (ix2 kk (lane e' d)) : EReal) else 0 := by
  unfold withOnes
  refine (concatenate_pair_apply_left (t := S128x256) 1 (onLanes x (mask e)) (ones (mask e)) _ _ rfl (ix2 kk (lane e' d)) fun b => ?_).trans ?_
  · match b with
    | ⟨0, _⟩ => rfl
    | ⟨1, _⟩ => rfl
  · rw [onLanes_apply]
    simp only [eq_comm]

theorem withOnes_right (x : FVec Ideal S128x128 .bf16) (e e' : Fin 2) (kk : Fin 128) (d : Fin 64) :
    (withOnes x (mask e) (ix2 kk ⟨128 + (e'.val * 64 + d.val), by omega⟩) : EReal) = if e = e' then 1 else 0 := by
  unfold withOnes
  refine (concatenate_pair_apply_right (t := S128x256) 1 (onLanes x (mask e)) (ones (mask e)) _ _ rfl rfl (ix2 kk (lane e' d))
    (fun b hb => ?_) ?_).trans ?_
  · match b with
    | ⟨0, _⟩ => rfl
    | ⟨1, _⟩ => exact absurd rfl hb
  · show (e'.val * 64 + d.val) + 128 = 128 + (e'.val * 64 + d.val); omega
  · rw [ones_mask]
    simp only [eq_comm]

/-- Row `kk` of block `b`. -/
abbrev slot2 (b : Fin 2) (kk : Fin 128) : Fin 256 := ⟨b.val * 128 + kk.val, by omega⟩

theorem stack4_apply {w : ℕ} (X : Fin 2 → Fin 2 → (Mat 128 w).Idx → EReal)
    (h : Shape.Concatenates [Mat 128 w, Mat 128 w, Mat 128 w, Mat 128 w] (Mat 512 w) 0)
    (e : Fin 2) (b : Fin 2) (kk : Fin 128) (c : Fin w) :
    concatenate (Mat 512 w) 0 [⟨Mat 128 w, X 0 0⟩, ⟨Mat 128 w, X 0 1⟩, ⟨Mat 128 w, X 1 0⟩, ⟨Mat 128 w, X 1 1⟩] h
      (ix2 (half fits2.two e (slot2 b kk)) c) = X e b (ix2 kk c) := by
  match e, b with
  | ⟨0, _⟩, ⟨0, _⟩ =>
    refine concatenate_apply_piece (t := Mat 512 w) 0
      [⟨Mat 128 w, X 0 0⟩, ⟨Mat 128 w, X 0 1⟩, ⟨Mat 128 w, X 1 0⟩, ⟨Mat 128 w, X 1 1⟩] h _ 0 (by simp) (Mat 128 w) (X 0 0) rfl rfl 0 rfl (ix2 kk c) (fun a ha => ?_) ?_
    · match a with
      | ⟨0, _⟩ => exact absurd rfl ha
      | ⟨1, _⟩ => rfl
    · show 0 + kk.val = 0 * 256 + (0 * 128 + kk.val); omega
  | ⟨0, _⟩, ⟨1, _⟩ =>
    refine concatenate_apply_piece (t := Mat 512 w) 0
      [⟨Mat 128 w, X 0 0⟩, ⟨Mat 128 w, X 0 1⟩, ⟨Mat 128 w, X 1 0⟩, ⟨Mat 128 w, X 1 1⟩] h _ 1 (by simp) (Mat 128 w) (X 0 1) rfl rfl 128 rfl (ix2 kk c) (fun a ha => ?_) ?_
    · match a with
      | ⟨0, _⟩ => exact absurd rfl ha
      | ⟨1, _⟩ => rfl
    · show 128 + kk.val = 0 * 256 + (1 * 128 + kk.val); omega
  | ⟨1, _⟩, ⟨0, _⟩ =>
    refine concatenate_apply_piece (t := Mat 512 w) 0
      [⟨Mat 128 w, X 0 0⟩, ⟨Mat 128 w, X 0 1⟩, ⟨Mat 128 w, X 1 0⟩, ⟨Mat 128 w, X 1 1⟩] h _ 2 (by simp) (Mat 128 w) (X 1 0) rfl rfl 256 rfl (ix2 kk c) (fun a ha => ?_) ?_
    · match a with
      | ⟨0, _⟩ => exact absurd rfl ha
      | ⟨1, _⟩ => rfl
    · show 256 + kk.val = 1 * 256 + (0 * 128 + kk.val); omega
  | ⟨1, _⟩, ⟨1, _⟩ =>
    refine concatenate_apply_piece (t := Mat 512 w) 0
      [⟨Mat 128 w, X 0 0⟩, ⟨Mat 128 w, X 0 1⟩, ⟨Mat 128 w, X 1 0⟩, ⟨Mat 128 w, X 1 1⟩] h _ 3 (by simp) (Mat 128 w) (X 1 1) rfl rfl 384 rfl (ix2 kk c) (fun a ha => ?_) ?_
    · match a with
      | ⟨0, _⟩ => exact absurd rfl ha
      | ⟨1, _⟩ => rfl
    · show 384 + kk.val = 1 * 256 + (1 * 128 + kk.val); omega

theorem keys2_apply (P : Fin 2 → Fin 2 → FVec Ideal S128x128 .bf16) (e e' : Fin 2) (b : Fin 2) (kk : Fin 128) (d : Fin 64) :
    (keys2 (P 0 0) (P 0 1) (P 1 0) (P 1 1) (ix2 (half fits2.two e (slot2 b kk)) (lane e' d)) : EReal)
      = if e' = e then (P e b (ix2 kk (lane e' d)) : EReal) else 0 :=
  (stack4_apply (fun e b => onLanes (P e b) (mask e)) _ e b kk (lane e' d)).trans (onLanes_apply _ e e' kk d)

theorem values2_apply (P : Fin 2 → Fin 2 → FVec Ideal S128x128 .bf16) (e e' : Fin 2) (b : Fin 2) (kk : Fin 128) (d : Fin 64) :
    (values2 (P 0 0) (P 0 1) (P 1 0) (P 1 1) (ix2 (half fits2.two e' (slot2 b kk)) ⟨e.val * 64 + d.val, by omega⟩) : EReal)
      = if e' = e then (P e' b (ix2 kk (lane e d)) : EReal) else 0 :=
  (stack4_apply (fun e b => withOnes (P e b) (mask e)) _ e' b kk _).trans (withOnes_left _ e' e kk d)

theorem values2_ones (P : Fin 2 → Fin 2 → FVec Ideal S128x128 .bf16) (e e' : Fin 2) (b : Fin 2) (kk : Fin 128) (d : Fin 64) :
    (values2 (P 0 0) (P 0 1) (P 1 0) (P 1 1) (ix2 (half fits2.two e' (slot2 b kk)) ⟨128 + (e.val * 64 + d.val), by omega⟩) : EReal)
      = if e' = e then 1 else 0 :=
  (stack4_apply (fun e b => withOnes (P e b) (mask e)) _ e' b kk _).trans (withOnes_right _ e' e kk d)

/-- Row `kk` of block `b`. -/
abbrev slot3 (b : Fin 3) (kk : Fin 128) : Fin 384 := ⟨b.val * 128 + kk.val, by omega⟩

theorem stack6_apply {w : ℕ} (X : Fin 2 → Fin 3 → (Mat 128 w).Idx → EReal)
    (h : Shape.Concatenates [Mat 128 w, Mat 128 w, Mat 128 w, Mat 128 w, Mat 128 w, Mat 128 w] (Mat 768 w) 0)
    (e : Fin 2) (b : Fin 3) (kk : Fin 128) (c : Fin w) :
    concatenate (Mat 768 w) 0 [⟨Mat 128 w, X 0 0⟩, ⟨Mat 128 w, X 0 1⟩, ⟨Mat 128 w, X 0 2⟩, ⟨Mat 128 w, X 1 0⟩, ⟨Mat 128 w, X 1 1⟩, ⟨Mat 128 w, X 1 2⟩] h
      (ix2 (half fits3.two e (slot3 b kk)) c) = X e b (ix2 kk c) := by
  match e, b with
  | ⟨0, _⟩, ⟨0, _⟩ =>
    refine concatenate_apply_piece (t := Mat 768 w) 0
      [⟨Mat 128 w, X 0 0⟩, ⟨Mat 128 w, X 0 1⟩, ⟨Mat 128 w, X 0 2⟩, ⟨Mat 128 w, X 1 0⟩, ⟨Mat 128 w, X 1 1⟩, ⟨Mat 128 w, X 1 2⟩] h _ 0 (by simp) (Mat 128 w) (X 0 0) rfl rfl 0 rfl (ix2 kk c) (fun a ha => ?_) ?_
    · match a with
      | ⟨0, _⟩ => exact absurd rfl ha
      | ⟨1, _⟩ => rfl
    · show 0 + kk.val = 0 * 384 + (0 * 128 + kk.val); omega
  | ⟨0, _⟩, ⟨1, _⟩ =>
    refine concatenate_apply_piece (t := Mat 768 w) 0
      [⟨Mat 128 w, X 0 0⟩, ⟨Mat 128 w, X 0 1⟩, ⟨Mat 128 w, X 0 2⟩, ⟨Mat 128 w, X 1 0⟩, ⟨Mat 128 w, X 1 1⟩, ⟨Mat 128 w, X 1 2⟩] h _ 1 (by simp) (Mat 128 w) (X 0 1) rfl rfl 128 rfl (ix2 kk c) (fun a ha => ?_) ?_
    · match a with
      | ⟨0, _⟩ => exact absurd rfl ha
      | ⟨1, _⟩ => rfl
    · show 128 + kk.val = 0 * 384 + (1 * 128 + kk.val); omega
  | ⟨0, _⟩, ⟨2, _⟩ =>
    refine concatenate_apply_piece (t := Mat 768 w) 0
      [⟨Mat 128 w, X 0 0⟩, ⟨Mat 128 w, X 0 1⟩, ⟨Mat 128 w, X 0 2⟩, ⟨Mat 128 w, X 1 0⟩, ⟨Mat 128 w, X 1 1⟩, ⟨Mat 128 w, X 1 2⟩] h _ 2 (by simp) (Mat 128 w) (X 0 2) rfl rfl 256 rfl (ix2 kk c) (fun a ha => ?_) ?_
    · match a with
      | ⟨0, _⟩ => exact absurd rfl ha
      | ⟨1, _⟩ => rfl
    · show 256 + kk.val = 0 * 384 + (2 * 128 + kk.val); omega
  | ⟨1, _⟩, ⟨0, _⟩ =>
    refine concatenate_apply_piece (t := Mat 768 w) 0
      [⟨Mat 128 w, X 0 0⟩, ⟨Mat 128 w, X 0 1⟩, ⟨Mat 128 w, X 0 2⟩, ⟨Mat 128 w, X 1 0⟩, ⟨Mat 128 w, X 1 1⟩, ⟨Mat 128 w, X 1 2⟩] h _ 3 (by simp) (Mat 128 w) (X 1 0) rfl rfl 384 rfl (ix2 kk c) (fun a ha => ?_) ?_
    · match a with
      | ⟨0, _⟩ => exact absurd rfl ha
      | ⟨1, _⟩ => rfl
    · show 384 + kk.val = 1 * 384 + (0 * 128 + kk.val); omega
  | ⟨1, _⟩, ⟨1, _⟩ =>
    refine concatenate_apply_piece (t := Mat 768 w) 0
      [⟨Mat 128 w, X 0 0⟩, ⟨Mat 128 w, X 0 1⟩, ⟨Mat 128 w, X 0 2⟩, ⟨Mat 128 w, X 1 0⟩, ⟨Mat 128 w, X 1 1⟩, ⟨Mat 128 w, X 1 2⟩] h _ 4 (by simp) (Mat 128 w) (X 1 1) rfl rfl 512 rfl (ix2 kk c) (fun a ha => ?_) ?_
    · match a with
      | ⟨0, _⟩ => exact absurd rfl ha
      | ⟨1, _⟩ => rfl
    · show 512 + kk.val = 1 * 384 + (1 * 128 + kk.val); omega
  | ⟨1, _⟩, ⟨2, _⟩ =>
    refine concatenate_apply_piece (t := Mat 768 w) 0
      [⟨Mat 128 w, X 0 0⟩, ⟨Mat 128 w, X 0 1⟩, ⟨Mat 128 w, X 0 2⟩, ⟨Mat 128 w, X 1 0⟩, ⟨Mat 128 w, X 1 1⟩, ⟨Mat 128 w, X 1 2⟩] h _ 5 (by simp) (Mat 128 w) (X 1 2) rfl rfl 640 rfl (ix2 kk c) (fun a ha => ?_) ?_
    · match a with
      | ⟨0, _⟩ => exact absurd rfl ha
      | ⟨1, _⟩ => rfl
    · show 640 + kk.val = 1 * 384 + (2 * 128 + kk.val); omega

theorem keys3_apply (P : Fin 2 → Fin 3 → FVec Ideal S128x128 .bf16) (e e' : Fin 2) (b : Fin 3) (kk : Fin 128) (d : Fin 64) :
    (keys3 (P 0 0) (P 0 1) (P 0 2) (P 1 0) (P 1 1) (P 1 2) (ix2 (half fits3.two e (slot3 b kk)) (lane e' d)) : EReal)
      = if e' = e then (P e b (ix2 kk (lane e' d)) : EReal) else 0 :=
  (stack6_apply (fun e b => onLanes (P e b) (mask e)) _ e b kk (lane e' d)).trans (onLanes_apply _ e e' kk d)

theorem values3_apply (P : Fin 2 → Fin 3 → FVec Ideal S128x128 .bf16) (e e' : Fin 2) (b : Fin 3) (kk : Fin 128) (d : Fin 64) :
    (values3 (P 0 0) (P 0 1) (P 0 2) (P 1 0) (P 1 1) (P 1 2) (ix2 (half fits3.two e' (slot3 b kk)) ⟨e.val * 64 + d.val, by omega⟩) : EReal)
      = if e' = e then (P e' b (ix2 kk (lane e d)) : EReal) else 0 :=
  (stack6_apply (fun e b => withOnes (P e b) (mask e)) _ e' b kk _).trans (withOnes_left _ e' e kk d)

theorem values3_ones (P : Fin 2 → Fin 3 → FVec Ideal S128x128 .bf16) (e e' : Fin 2) (b : Fin 3) (kk : Fin 128) (d : Fin 64) :
    (values3 (P 0 0) (P 0 1) (P 0 2) (P 1 0) (P 1 1) (P 1 2) (ix2 (half fits3.two e' (slot3 b kk)) ⟨128 + (e.val * 64 + d.val), by omega⟩) : EReal)
      = if e' = e then 1 else 0 :=
  (stack6_apply (fun e b => withOnes (P e b) (mask e)) _ e' b kk _).trans (withOnes_right _ e' e kk d)

theorem leftSlab_apply (x : Vec Ideal S1x128x256 .bf16) (q l : Fin 128) :
    leftSlab x (ix2 q l) = x (ix3 0 q ⟨l.val, by omega⟩) := by
  unfold leftSlab
  rw [extractStridedSlice_apply _ _ _ _ (ix2 q ⟨l.val, by omega⟩)
    (by intro a; match a with | ⟨0, _⟩ => exact (Nat.zero_add _).symm | ⟨1, _⟩ => exact (Nat.zero_add _).symm), shapeCast_1ab_ab_apply]

theorem rightSlab_apply (x : Vec Ideal S1x128x256 .bf16) (q l : Fin 128) :
    rightSlab x (ix2 q l) = x (ix3 0 q ⟨128 + l.val, by omega⟩) := by
  unfold rightSlab
  rw [extractStridedSlice_apply _ _ _ _ (ix2 q ⟨128 + l.val, by omega⟩)
    (by intro a; match a with | ⟨0, _⟩ => exact (Nat.zero_add _).symm | ⟨1, _⟩ => rfl), shapeCast_1ab_ab_apply]

theorem qscale_ideal : (Named.named κ "qscale" 0x3E38AA3B#32 : Ideal .f32) = (((8 * Real.log 2)⁻¹ : ℝ) : EReal) :=
  IdealRules.named_const.ideal_named_scalar _ _ _ _ rfl
theorem log2e_ideal : (Named.named κ "log2e" 0x3FB8AA3B#32 : Ideal .f32) = (((Real.log 2)⁻¹ : ℝ) : EReal) :=
  IdealRules.named_const.ideal_named_scalar _ _ _ _ rfl

theorem scaled_apply (x : Vec Ideal S1x128x512 .f32) (q : Fin 128) (l : Fin 512) :
    (scaled x (ix2 q l) : EReal) = (x (ix3 0 q l) : EReal) * (((8 * Real.log 2)⁻¹ : ℝ) : EReal) := by
  unfold scaled
  rw [truncf_apply, mulf_apply, broadcast_apply, shapeCast_1ab_ab_apply, qscale_ideal]

/-- One slab of the queries of key head 0. -/
def slab0 (x : Vec Ideal S1x128x512 .f32) (i : Fin 2) : FVec Ideal S128x128 .bf16 :=
  match i with
  | 0 => extractStridedSlice S128x128 ![0, 0] (scaled x) slices_S128x512_o0_0_S128x128
  | 1 => extractStridedSlice S128x128 ![0, 128] (scaled x) slices_S128x512_o0_128_S128x128

theorem slabs0_eq (x : Vec Ideal S1x128x512 .f32) : slabs0 x = concatenate S256x128 0 [⟨S128x128, slab0 x 0⟩, ⟨S128x128, slab0 x 1⟩]
    concatenates_S128x128_S128x128_S256x128_d0 := rfl

theorem slabs0_apply (x : Vec Ideal S1x128x512 .f32) (i : Fin 2) (q l : Fin 128) :
    (slabs0 x (ix2 (row2 i q) l) : EReal) = scaled x (ix2 q ⟨i.val * 128 + l.val, by omega⟩) := by
  rw [slabs0_eq]
  refine (stack_apply concatenates_S128x128_S128x128_S256x128_d0 (slab0 x) i q l).trans ?_
  match i with
  | ⟨0, _⟩ =>
    show extractStridedSlice S128x128 ![0, 0] (scaled x) slices_S128x512_o0_0_S128x128 (ix2 q l) = _
    refine extractStridedSlice_apply _ _ _ _ _ fun a => ?_
    match a with
    | ⟨0, _⟩ => exact (Nat.zero_add _).symm
    | ⟨1, _⟩ => show 0 * 128 + l.val = 0 + l.val; omega
  | ⟨1, _⟩ =>
    show extractStridedSlice S128x128 ![0, 128] (scaled x) slices_S128x512_o0_128_S128x128 (ix2 q l) = _
    refine extractStridedSlice_apply _ _ _ _ _ fun a => ?_
    match a with
    | ⟨0, _⟩ => exact (Nat.zero_add _).symm
    | ⟨1, _⟩ => show 1 * 128 + l.val = 128 + l.val; omega

/-- One slab of the queries of key head 1. -/
def slab1 (x : Vec Ideal S1x128x512 .f32) (i : Fin 2) : FVec Ideal S128x128 .bf16 :=
  match i with
  | 0 => extractStridedSlice S128x128 ![0, 256] (scaled x) slices_S128x512_o0_256_S128x128
  | 1 => extractStridedSlice S128x128 ![0, 384] (scaled x) slices_S128x512_o0_384_S128x128

theorem slabs1_eq (x : Vec Ideal S1x128x512 .f32) : slabs1 x = concatenate S256x128 0 [⟨S128x128, slab1 x 0⟩, ⟨S128x128, slab1 x 1⟩]
    concatenates_S128x128_S128x128_S256x128_d0 := rfl

theorem slabs1_apply (x : Vec Ideal S1x128x512 .f32) (i : Fin 2) (q l : Fin 128) :
    (slabs1 x (ix2 (row2 i q) l) : EReal) = scaled x (ix2 q ⟨256 + i.val * 128 + l.val, by omega⟩) := by
  rw [slabs1_eq]
  refine (stack_apply concatenates_S128x128_S128x128_S256x128_d0 (slab1 x) i q l).trans ?_
  match i with
  | ⟨0, _⟩ =>
    show extractStridedSlice S128x128 ![0, 256] (scaled x) slices_S128x512_o0_256_S128x128 (ix2 q l) = _
    refine extractStridedSlice_apply _ _ _ _ _ fun a => ?_
    match a with
    | ⟨0, _⟩ => exact (Nat.zero_add _).symm
    | ⟨1, _⟩ => show 256 + 0 * 128 + l.val = 256 + l.val; omega
  | ⟨1, _⟩ =>
    show extractStridedSlice S128x128 ![0, 384] (scaled x) slices_S128x512_o0_384_S128x128 (ix2 q l) = _
    refine extractStridedSlice_apply _ _ _ _ _ fun a => ?_
    match a with
    | ⟨0, _⟩ => exact (Nat.zero_add _).symm
    | ⟨1, _⟩ => show 256 + 1 * 128 + l.val = 384 + l.val; omega

theorem gated_apply (on : Fin 2 → FVec Ideal S256x128 .f32) (za : Vec Ideal S1x128x512 .bf16) (j i : Fin 2) (q l : Fin 128) :
    (gated (on 0) (on 1) za (ix3 0 q ⟨(j.val * 2 + i.val) * 128 + l.val, by omega⟩) : EReal)
      = (on j (ix2 (row2 i q) l) : EReal) * za (ix3 0 q ⟨(j.val * 2 + i.val) * 128 + l.val, by omega⟩) := by
  unfold gated
  rw [shapeCast_ab_1ab_apply, truncf_apply, mulf_apply, extf_apply, shapeCast_1ab_ab_apply]
  congr 1
  match j, i with
  | ⟨0, _⟩, ⟨0, _⟩ =>
    refine (concatenate_apply_piece (t := S128x512) 1
      [⟨S128x128, extractStridedSlice S128x128 ![0, 0] (on 0) slices_S256x128_o0_0_S128x128⟩,
       ⟨S128x128, extractStridedSlice S128x128 ![128, 0] (on 0) slices_S256x128_o128_0_S128x128⟩,
       ⟨S128x128, extractStridedSlice S128x128 ![0, 0] (on 1) slices_S256x128_o0_0_S128x128⟩,
       ⟨S128x128, extractStridedSlice S128x128 ![128, 0] (on 1) slices_S256x128_o128_0_S128x128⟩]
      concatenates_S128x128_S128x128_S128x128_S128x128_S128x512_d1 _ 0 (by simp) S128x128
      (extractStridedSlice S128x128 ![0, 0] (on 0) slices_S256x128_o0_0_S128x128) rfl rfl 0 rfl (ix2 q l) (fun a ha => ?_) ?_).trans ?_
    · match a with
      | ⟨0, _⟩ => rfl
      | ⟨1, _⟩ => exact absurd rfl ha
    · show 0 + l.val = (0 * 2 + 0) * 128 + l.val; omega
    · refine extractStridedSlice_apply _ _ _ _ _ fun a => ?_
      match a with
      | ⟨0, _⟩ => show 0 * 128 + q.val = 0 + q.val; omega
      | ⟨1, _⟩ => exact (Nat.zero_add _).symm
  | ⟨0, _⟩, ⟨1, _⟩ =>
    refine (concatenate_apply_piece (t := S128x512) 1
      [⟨S128x128, extractStridedSlice S128x128 ![0, 0] (on 0) slices_S256x128_o0_0_S128x128⟩,
       ⟨S128x128, extractStridedSlice S128x128 ![128, 0] (on 0) slices_S256x128_o128_0_S128x128⟩,
       ⟨S128x128, extractStridedSlice S128x128 ![0, 0] (on 1) slices_S256x128_o0_0_S128x128⟩,
       ⟨S128x128, extractStridedSlice S128x128 ![128, 0] (on 1) slices_S256x128_o128_0_S128x128⟩]
      concatenates_S128x128_S128x128_S128x128_S128x128_S128x512_d1 _ 1 (by simp) S128x128
      (extractStridedSlice S128x128 ![128, 0] (on 0) slices_S256x128_o128_0_S128x128) rfl rfl 128 rfl (ix2 q l) (fun a ha => ?_) ?_).trans ?_
    · match a with
      | ⟨0, _⟩ => rfl
      | ⟨1, _⟩ => exact absurd rfl ha
    · show 128 + l.val = (0 * 2 + 1) * 128 + l.val; omega
    · refine extractStridedSlice_apply _ _ _ _ _ fun a => ?_
      match a with
      | ⟨0, _⟩ => show 1 * 128 + q.val = 128 + q.val; omega
      | ⟨1, _⟩ => exact (Nat.zero_add _).symm
  | ⟨1, _⟩, ⟨0, _⟩ =>
    refine (concatenate_apply_piece (t := S128x512) 1
      [⟨S128x128, extractStridedSlice S128x128 ![0, 0] (on 0) slices_S256x128_o0_0_S128x128⟩,
       ⟨S128x128, extractStridedSlice S128x128 ![128, 0] (on 0) slices_S256x128_o128_0_S128x128⟩,
       ⟨S128x128, extractStridedSlice S128x128 ![0, 0] (on 1) slices_S256x128_o0_0_S128x128⟩,
       ⟨S128x128, extractStridedSlice S128x128 ![128, 0] (on 1) slices_S256x128_o128_0_S128x128⟩]
      concatenates_S128x128_S128x128_S128x128_S128x128_S128x512_d1 _ 2 (by simp) S128x128
      (extractStridedSlice S128x128 ![0, 0] (on 1) slices_S256x128_o0_0_S128x128) rfl rfl 256 rfl (ix2 q l) (fun a ha => ?_) ?_).trans ?_
    · match a with
      | ⟨0, _⟩ => rfl
      | ⟨1, _⟩ => exact absurd rfl ha
    · show 256 + l.val = (1 * 2 + 0) * 128 + l.val; omega
    · refine extractStridedSlice_apply _ _ _ _ _ fun a => ?_
      match a with
      | ⟨0, _⟩ => show 0 * 128 + q.val = 0 + q.val; omega
      | ⟨1, _⟩ => exact (Nat.zero_add _).symm
  | ⟨1, _⟩, ⟨1, _⟩ =>
    refine (concatenate_apply_piece (t := S128x512) 1
      [⟨S128x128, extractStridedSlice S128x128 ![0, 0] (on 0) slices_S256x128_o0_0_S128x128⟩,
       ⟨S128x128, extractStridedSlice S128x128 ![128, 0] (on 0) slices_S256x128_o128_0_S128x128⟩,
       ⟨S128x128, extractStridedSlice S128x128 ![0, 0] (on 1) slices_S256x128_o0_0_S128x128⟩,
       ⟨S128x128, extractStridedSlice S128x128 ![128, 0] (on 1) slices_S256x128_o128_0_S128x128⟩]
      concatenates_S128x128_S128x128_S128x128_S128x128_S128x512_d1 _ 3 (by simp) S128x128
      (extractStridedSlice S128x128 ![128, 0] (on 1) slices_S256x128_o128_0_S128x128) rfl rfl 384 rfl (ix2 q l) (fun a ha => ?_) ?_).trans ?_
    · match a with
      | ⟨0, _⟩ => rfl
      | ⟨1, _⟩ => exact absurd rfl ha
    · show 384 + l.val = (1 * 2 + 1) * 128 + l.val; omega
    · refine extractStridedSlice_apply _ _ _ _ _ fun a => ?_
      match a with
      | ⟨0, _⟩ => show 1 * 128 + q.val = 128 + q.val; omega
      | ⟨1, _⟩ => exact (Nat.zero_add _).symm

end Cert.Attn

end
-- ==== Proof.ChunkMean.lean ====
module

public import proofs.«01_k».proof.Proof.Chunk

/-! A chunk's output: the softmax mean of the values over its window, times the gate. -/

@[expose] public section

noncomputable section

namespace Cert.Attn

open Cert.KernelIdeal Cert.KernelIdeal.Gen Idealize.ShloMosaic Idealize.ShloMosaic.ValueIdx
open scoped BigOperators

/-- The query column of key head `j`, slab `i`, half `e`, lane `d`. -/
abbrev qcol (j i e : Fin 2) (d : Fin 64) : Fin 512 := ⟨(j.val * 2 + i.val) * 128 + (lane e d).val, by have := (lane e d).isLt; omega⟩
/-- The key column holding lane `d` of key head `j` on half `e`. -/
def kcol (j e : Fin 2) (d : Fin 64) : Fin 256 :=
  ⟨(if j = e then 0 else 128) + (lane e d).val, by have := (lane e d).isLt; split <;> omega⟩

/-- The slab of a key block that holds key head `j` on half `e`. -/
def slabOf (j e : Fin 2) (x : Vec Ideal S1x128x256 .bf16) : FVec Ideal S128x128 .bf16 :=
  match j, e with
  | 0, 0 => leftSlab x
  | 0, 1 => rightSlab x
  | 1, 0 => rightSlab x
  | 1, 1 => leftSlab x

theorem slabOf_apply (j e : Fin 2) (x : Vec Ideal S1x128x256 .bf16) (kk : Fin 128) (d : Fin 64) :
    (slabOf j e x (ix2 kk (lane e d)) : EReal) = x (ix3 0 kk (kcol j e d)) := by
  have e2 : ∀ a b : Fin 256, a.val = b.val → (x (ix3 0 kk a) : EReal) = x (ix3 0 kk b) := by
    intro a b h; rw [Fin.ext h]
  match j, e with
  | ⟨0, _⟩, ⟨0, _⟩ => exact (leftSlab_apply x kk _).trans (e2 _ _ (by simp [kcol]))
  | ⟨0, _⟩, ⟨1, _⟩ => exact (rightSlab_apply x kk _).trans (e2 _ _ (by simp [kcol]))
  | ⟨1, _⟩, ⟨0, _⟩ => exact (rightSlab_apply x kk _).trans (e2 _ _ (by simp [kcol]))
  | ⟨1, _⟩, ⟨1, _⟩ => exact (leftSlab_apply x kk _).trans (e2 _ _ (by simp [kcol]))

/-- The two stacked slabs of key head `j`. -/
def slabsOf (q : Vec Ideal S1x128x512 .f32) (j : Fin 2) : FVec Ideal S256x128 .bf16 :=
  match j with
  | 0 => slabs0 q
  | 1 => slabs1 q

theorem slabsOf_apply (q : Vec Ideal S1x128x512 .f32) (j i e : Fin 2) (r : Fin 128) (d : Fin 64) :
    (slabsOf q j (ix2 (row2 i r) (lane e d)) : EReal) = (q (ix3 0 r (qcol j i e d)) : EReal) * (((8 * Real.log 2)⁻¹ : ℝ) : EReal) := by
  have e2 : ∀ a b : Fin 512, a.val = b.val → (scaled q (ix2 r a) : EReal) = scaled q (ix2 r b) := by
    intro a b h; rw [Fin.ext h]
  rw [← scaled_apply]
  match j with
  | ⟨0, _⟩ => exact (slabs0_apply q i r _).trans (e2 _ _ (by simp only [qcol]; omega))
  | ⟨1, _⟩ => exact (slabs1_apply q i r _).trans (e2 _ _ (by simp only [qcol]; omega))

/-- The four heads of key head `j`. -/
def heads2 (q : Vec Ideal S1x128x512 .f32) (k v : Fin 2 → Vec Ideal S1x128x256 .bf16) (b : Fin 2 → Fin 2 → Fin 2 → Vec Ideal S1x128x256 .f32)
    (sk : Fin 2 → Fin 2 → Fin 2 → Ideal .f32) (j : Fin 2) : FVec Ideal S256x128 .f32 :=
  fourHeads fits2 (slabsOf q j)
    (keys2 (slabOf j 0 (k 0)) (slabOf j 0 (k 1)) (slabOf j 1 (k 0)) (slabOf j 1 (k 1)))
    (values2 (slabOf j 0 (v 0)) (slabOf j 0 (v 1)) (slabOf j 1 (v 0)) (slabOf j 1 (v 1)))
    (b j) (sk j)

theorem chunk2_eq (q : Vec Ideal S1x128x512 .f32) (k v : Fin 2 → Vec Ideal S1x128x256 .bf16)
    (b : Fin 2 → Fin 2 → Fin 2 → Vec Ideal S1x128x256 .f32) (sk : Fin 2 → Fin 2 → Fin 2 → Ideal .f32) (za : Vec Ideal S1x128x512 .bf16) :
    chunk2 q k v b sk za = gated (heads2 q k v b sk 0) (heads2 q k v b sk 1) za := rfl

theorem chunk2_apply (q : Vec Ideal S1x128x512 .f32) (k v : Fin 2 → Vec Ideal S1x128x256 .bf16)
    (b : Fin 2 → Fin 2 → Fin 2 → Vec Ideal S1x128x256 .f32) (sk : Fin 2 → Fin 2 → Fin 2 → Ideal .f32) (za : Vec Ideal S1x128x512 .bf16)
    (j i e : Fin 2) (r : Fin 128) (d : Fin 64) (qr : Fin 64 → ℝ) (kr : Fin 256 → Fin 64 → ℝ) (ok : Fin 256 → Prop) [DecidablePred ok]
    (β : Fin 256 → ℝ) (s : ℝ) (V : Fin 256 → EReal)
    (hq : ∀ d, (q (ix3 0 r (qcol j i e d)) : EReal) = ((qr d : ℝ) : EReal))
    (hk : ∀ (c : Fin 2) (kk : Fin 128) (d : Fin 64), (k c (ix3 0 kk (kcol j e d)) : EReal) = ((kr (slot2 c kk) d : ℝ) : EReal))
    (hv : ∀ (c : Fin 2) (kk : Fin 128), (v c (ix3 0 kk (kcol j e d)) : EReal) = V (slot2 c kk))
    (hb : ∀ x : Fin 256, (b j i e (ix3 0 r x) : EReal) = if ok x then (((Real.log 2)⁻¹ * β x : ℝ) : EReal) else ⊥)
    (hs : (sk j i e : EReal) = (((Real.log 2)⁻¹ * s : ℝ) : EReal))
    (w : Fin 256 → ℝ) (hw : ∀ x, w x = if ok x then Real.exp ((∑ d, qr d * kr x d) / 8 + β x) else 0) :
    (chunk2 q k v b sk za (ix3 0 r (qcol j i e d)) : EReal)
      = (∑ x, ((w x / ((∑ x, w x) + Real.exp s) : ℝ) : EReal) * V x) * za (ix3 0 r (qcol j i e d)) := by
  have hslot : ∀ x : Fin 256, ∃ (c : Fin 2) (kk : Fin 128), x = slot2 c kk := fun x =>
    ⟨⟨x.val / 128, by omega⟩, ⟨x.val % 128, by omega⟩, Fin.ext (by simp only []; omega)⟩
  rw [chunk2_eq]
  refine (gated_apply (heads2 q k v b sk) za j i r (lane e d)).trans ?_
  refine congrArg (fun z : EReal => z * za (ix3 0 r (qcol j i e d))) ?_
  refine fourHeads_mean fits2 (slabsOf q j) _ _ (b j) (sk j) i e r d qr kr ok β s V ?_ ?_ hb hs ?_ ?_ w hw
  · intro d
    rw [slabsOf_apply, hq, ← EReal.coe_mul]
  · intro e' x d
    obtain ⟨c, kk, rfl⟩ := hslot x
    refine (keys2_apply (fun e c => slabOf j e (k c)) e e' c kk d).trans ?_
    by_cases h : e' = e
    · subst h
      rw [if_pos rfl, if_pos rfl, slabOf_apply, hk]
    · rw [if_neg h, if_neg h]
  · intro e' x
    obtain ⟨c, kk, rfl⟩ := hslot x
    refine (values2_apply (fun e c => slabOf j e (v c)) e e' c kk d).trans ?_
    by_cases h : e' = e
    · subst h
      rw [if_pos rfl, if_pos rfl, slabOf_apply, hv]
    · rw [if_neg h, if_neg h]
  · intro e' x
    obtain ⟨c, kk, rfl⟩ := hslot x
    exact values2_ones (fun e c => slabOf j e (v c)) e e' c kk d

/-- The four heads of key head `j`. -/
def heads3 (q : Vec Ideal S1x128x512 .f32) (k v : Fin 3 → Vec Ideal S1x128x256 .bf16) (b : Fin 2 → Fin 2 → Fin 2 → Vec Ideal S1x128x384 .f32)
    (sk : Fin 2 → Fin 2 → Fin 2 → Ideal .f32) (j : Fin 2) : FVec Ideal S256x128 .f32 :=
  fourHeads fits3 (slabsOf q j)
    (keys3 (slabOf j 0 (k 0)) (slabOf j 0 (k 1)) (slabOf j 0 (k 2)) (slabOf j 1 (k 0)) (slabOf j 1 (k 1)) (slabOf j 1 (k 2)))
    (values3 (slabOf j 0 (v 0)) (slabOf j 0 (v 1)) (slabOf j 0 (v 2)) (slabOf j 1 (v 0)) (slabOf j 1 (v 1)) (slabOf j 1 (v 2)))
    (b j) (sk j)

theorem chunk3_eq (q : Vec Ideal S1x128x512 .f32) (k v : Fin 3 → Vec Ideal S1x128x256 .bf16)
    (b : Fin 2 → Fin 2 → Fin 2 → Vec Ideal S1x128x384 .f32) (sk : Fin 2 → Fin 2 → Fin 2 → Ideal .f32) (za : Vec Ideal S1x128x512 .bf16) :
    chunk3 q k v b sk za = gated (heads3 q k v b sk 0) (heads3 q k v b sk 1) za := rfl

theorem chunk3_apply (q : Vec Ideal S1x128x512 .f32) (k v : Fin 3 → Vec Ideal S1x128x256 .bf16)
    (b : Fin 2 → Fin 2 → Fin 2 → Vec Ideal S1x128x384 .f32) (sk : Fin 2 → Fin 2 → Fin 2 → Ideal .f32) (za : Vec Ideal S1x128x512 .bf16)
    (j i e : Fin 2) (r : Fin 128) (d : Fin 64) (qr : Fin 64 → ℝ) (kr : Fin 384 → Fin 64 → ℝ) (ok : Fin 384 → Prop) [DecidablePred ok]
    (β : Fin 384 → ℝ) (s : ℝ) (V : Fin 384 → EReal)
    (hq : ∀ d, (q (ix3 0 r (qcol j i e d)) : EReal) = ((qr d : ℝ) : EReal))
    (hk : ∀ (c : Fin 3) (kk : Fin 128) (d : Fin 64), (k c (ix3 0 kk (kcol j e d)) : EReal) = ((kr (slot3 c kk) d : ℝ) : EReal))
    (hv : ∀ (c : Fin 3) (kk : Fin 128), (v c (ix3 0 kk (kcol j e d)) : EReal) = V (slot3 c kk))
    (hb : ∀ x : Fin 384, (b j i e (ix3 0 r x) : EReal) = if ok x then (((Real.log 2)⁻¹ * β x : ℝ) : EReal) else ⊥)
    (hs : (sk j i e : EReal) = (((Real.log 2)⁻¹ * s : ℝ) : EReal))
    (w : Fin 384 → ℝ) (hw : ∀ x, w x = if ok x then Real.exp ((∑ d, qr d * kr x d) / 8 + β x) else 0) :
    (chunk3 q k v b sk za (ix3 0 r (qcol j i e d)) : EReal)
      = (∑ x, ((w x / ((∑ x, w x) + Real.exp s) : ℝ) : EReal) * V x) * za (ix3 0 r (qcol j i e d)) := by
  have hslot : ∀ x : Fin 384, ∃ (c : Fin 3) (kk : Fin 128), x = slot3 c kk := fun x =>
    ⟨⟨x.val / 128, by omega⟩, ⟨x.val % 128, by omega⟩, Fin.ext (by simp only []; omega)⟩
  rw [chunk3_eq]
  refine (gated_apply (heads3 q k v b sk) za j i r (lane e d)).trans ?_
  refine congrArg (fun z : EReal => z * za (ix3 0 r (qcol j i e d))) ?_
  refine fourHeads_mean fits3 (slabsOf q j) _ _ (b j) (sk j) i e r d qr kr ok β s V ?_ ?_ hb hs ?_ ?_ w hw
  · intro d
    rw [slabsOf_apply, hq, ← EReal.coe_mul]
  · intro e' x d
    obtain ⟨c, kk, rfl⟩ := hslot x
    refine (keys3_apply (fun e c => slabOf j e (k c)) e e' c kk d).trans ?_
    by_cases h : e' = e
    · subst h
      rw [if_pos rfl, if_pos rfl, slabOf_apply, hk]
    · rw [if_neg h, if_neg h]
  · intro e' x
    obtain ⟨c, kk, rfl⟩ := hslot x
    refine (values3_apply (fun e c => slabOf j e (v c)) e e' c kk d).trans ?_
    by_cases h : e' = e
    · subst h
      rw [if_pos rfl, if_pos rfl, slabOf_apply, hv]
    · rw [if_neg h, if_neg h]
  · intro e' x
    obtain ⟨c, kk, rfl⟩ := hslot x
    exact values3_ones (fun e c => slabOf j e (v c)) e e' c kk d

end Cert.Attn

end
-- ==== Proof.Pieces.lean ====
module

public import proofs.«01_k».proof.Proof.Tile
public import proofs.«01_k».proof.Proof.Gen.KernelIdeal.Frame
public import Idealize.ShloMosaic.Lib.Tactic.RunNames

/-! The kernel's sixteen stores of a grid point, each as a chunk of its loads. -/

@[expose] public section

noncomputable section

namespace Cert.Attn

open Cert.KernelIdeal Cert.KernelIdeal.Gen Idealize.ShloMosaic Idealize.ShloMosaic.ValueIdx

variable {F : FTy → Type} [FloatOps F] [Named F]

/-- 128 rows of queries, from row `o`. -/
def qAt (M : Memref sig .tc .vmem S1x2048x512 .f32) (h : M.IsWhole) (x : Vec F S1x2048x512 .f32) (o : ℕ)
    (ho : ∀ a, (![0, o, 0] : Fin 3 → ℕ) a + S1x128x512.size a ≤ S1x2048x512.size a := by decide) : Vec F S1x128x512 .f32 :=
  View.readAt (Elt F) M.view (Rect.unit (s := S1x2048x512) ![0, o, 0] S1x128x512.size ho).toLoadRect (h.unread x)
/-- 128 rows of gates, from row `o`. -/
def zaAt (M : Memref sig .tc .vmem S1x2048x512 .bf16) (h : M.IsWhole) (x : Vec F S1x2048x512 .bf16) (o : ℕ)
    (ho : ∀ a, (![0, o, 0] : Fin 3 → ℕ) a + S1x128x512.size a ≤ S1x2048x512.size a := by decide) : Vec F S1x128x512 .bf16 :=
  View.readAt (Elt F) M.view (Rect.unit (s := S1x2048x512) ![0, o, 0] S1x128x512.size ho).toLoadRect (h.unread x)
/-- 128 rows of keys or values, from row `o`. -/
def kvAt (M : Memref sig .tc .vmem S1x2048x256 .bf16) (h : M.IsWhole) (x : Vec F S1x2048x256 .bf16) (o : ℕ)
    (ho : ∀ a, (![0, o, 0] : Fin 3 → ℕ) a + S1x128x256.size a ≤ S1x2048x256.size a := by decide) : Vec F S1x128x256 .bf16 :=
  View.readAt (Elt F) M.view (Rect.unit (s := S1x2048x256) ![0, o, 0] S1x128x256.size ho).toLoadRect (h.unread x)

/-- The number of a head: its key head, its slab, its half. -/
def head (j i e : Fin 2) : Fin 8 := ⟨j.val * 4 + i.val * 2 + e.val, by omega⟩

theorem band_fits (hd : Fin 8) (o n : ℕ) (ho : o + n ≤ 384) :
    ∀ a, (![hd.val, 0, o] : Fin 3 → ℕ) a + (![1, 128, n] : Fin 3 → ℕ) a ≤ S8x128x384.size a := by
  intro a
  match a with
  | ⟨0, _⟩ => show hd.val + 1 ≤ 8; omega
  | ⟨1, _⟩ => show 0 + 128 ≤ 128; omega
  | ⟨2, _⟩ => exact ho

/-- `n` columns of one head's bias band, from column `o`. -/
def bandAt (M : Memref sig .tc .vmem S8x128x384 .f32) (h : M.IsWhole) (x : Vec F S8x128x384 .f32) (hd : Fin 8) (o n : ℕ)
    (ho : o + n ≤ 384 := by decide) : Vec F (Sheet 128 n) .f32 :=
  View.readAt (Elt F) M.view (Rect.unit (s := S8x128x384) ![hd.val, 0, o] ![1, 128, n] (band_fits hd o n ho)).toLoadRect (h.unread x)

theorem sink_fits (hd : Fin 8) : ∀ a, (![hd.val] : Fin 1 → ℕ) a + S1.size a ≤ S8.size a := by
  intro a
  match a with
  | ⟨0, _⟩ => show hd.val + 1 ≤ 8; omega

/-- A head's sink, in base two. -/
def sinkAt (M : Memref sig .tc .smem S8 .f32) (h : M.IsWhole) (x : Vec F S8 .f32) (j i e : Fin 2) : F .f32 :=
  Scalar.mulf (Named.named κ "log2e" 0x3FB8AA3B#32)
    (View.readAt (Elt F) M.view (Rect.unit (s := S8) ![(head j i e).val] S1.size (sink_fits _)).toLoadRect (h.unread x) (Shape.Idx.first (by show 0 < S1.numel; decide)))

/-- `n` columns of one head's bias band, from column `o`, read back from the stores of this point. -/
def bandCov (M : Memref sig .tc .vmem S8x128x384 .f32) (L : List (View.Piece (Elt F) S8x128x384 .f32)) (o n : ℕ) (ho : o + n ≤ 384)
    (hd : Fin 8) : Vec F (Sheet 128 n) .f32 :=
  M.view.readCov L (Rect.unit (s := S8x128x384) ![hd.val, 0, o] ![1, 128, n] (band_fits hd o n ho)).toLoadRect

/-- The sixteen stores of a grid point, last first. -/
def stores (arg1 : Memref sig .tc .smem S8 .f32) (harg1 : arg1.IsWhole) (arg2 : Memref sig .tc .vmem S1x2048x512 .f32) (harg2 : arg2.IsWhole)
    (arg3 : Memref sig .tc .vmem S1x2048x256 .bf16) (harg3 : arg3.IsWhole) (arg4 : Memref sig .tc .vmem S1x2048x256 .bf16) (harg4 : arg4.IsWhole)
    (arg6 : Memref sig .tc .vmem S1x2048x512 .bf16) (harg6 : arg6.IsWhole) (x0 : Vec F S8 .f32) (x1 : Vec F S1x2048x512 .f32)
    (x2 : Vec F S1x2048x256 .bf16) (x3 : Vec F S1x2048x256 .bf16) (x5 : Vec F S1x2048x512 .bf16)
    (band : (o n : ℕ) → o + n ≤ 384 → Fin 8 → Vec F (Sheet 128 n) .f32) : List (View.Piece (Elt F) S1x2048x512 .bf16) :=
      [⟨Rect.unit ![0, 1920, 0] S1x128x512.size inb_S1x2048x512_S1x128x512_0_1920_0,
        chunk2 (qAt arg2 harg2 x1 1920) ![kvAt arg3 harg3 x2 1792, kvAt arg3 harg3 x2 1920] ![kvAt arg4 harg4 x3 1792, kvAt arg4 harg4 x3 1920]
          (fun j i e => band 0 256 (by decide) (head j i e)) (sinkAt arg1 harg1 x0) (zaAt arg6 harg6 x5 1920)⟩,
      ⟨Rect.unit ![0, 1792, 0] S1x128x512.size inb_S1x2048x512_S1x128x512_0_1792_0,
        chunk3 (qAt arg2 harg2 x1 1792) ![kvAt arg3 harg3 x2 1664, kvAt arg3 harg3 x2 1792, kvAt arg3 harg3 x2 1920] ![kvAt arg4 harg4 x3 1664, kvAt arg4 harg4 x3 1792, kvAt arg4 harg4 x3 1920]
          (fun j i e => band 0 384 (by decide) (head j i e)) (sinkAt arg1 harg1 x0) (zaAt arg6 harg6 x5 1792)⟩,
      ⟨Rect.unit ![0, 1664, 0] S1x128x512.size inb_S1x2048x512_S1x128x512_0_1664_0,
        chunk3 (qAt arg2 harg2 x1 1664) ![kvAt arg3 harg3 x2 1536, kvAt arg3 harg3 x2 1664, kvAt arg3 harg3 x2 1792] ![kvAt arg4 harg4 x3 1536, kvAt arg4 harg4 x3 1664, kvAt arg4 harg4 x3 1792]
          (fun j i e => band 0 384 (by decide) (head j i e)) (sinkAt arg1 harg1 x0) (zaAt arg6 harg6 x5 1664)⟩,
      ⟨Rect.unit ![0, 1536, 0] S1x128x512.size inb_S1x2048x512_S1x128x512_0_1536_0,
        chunk3 (qAt arg2 harg2 x1 1536) ![kvAt arg3 harg3 x2 1408, kvAt arg3 harg3 x2 1536, kvAt arg3 harg3 x2 1664] ![kvAt arg4 harg4 x3 1408, kvAt arg4 harg4 x3 1536, kvAt arg4 harg4 x3 1664]
          (fun j i e => band 0 384 (by decide) (head j i e)) (sinkAt arg1 harg1 x0) (zaAt arg6 harg6 x5 1536)⟩,
      ⟨Rect.unit ![0, 1408, 0] S1x128x512.size inb_S1x2048x512_S1x128x512_0_1408_0,
        chunk3 (qAt arg2 harg2 x1 1408) ![kvAt arg3 harg3 x2 1280, kvAt arg3 harg3 x2 1408, kvAt arg3 harg3 x2 1536] ![kvAt arg4 harg4 x3 1280, kvAt arg4 harg4 x3 1408, kvAt arg4 harg4 x3 1536]
          (fun j i e => band 0 384 (by decide) (head j i e)) (sinkAt arg1 harg1 x0) (zaAt arg6 harg6 x5 1408)⟩,
      ⟨Rect.unit ![0, 1280, 0] S1x128x512.size inb_S1x2048x512_S1x128x512_0_1280_0,
        chunk3 (qAt arg2 harg2 x1 1280) ![kvAt arg3 harg3 x2 1152, kvAt arg3 harg3 x2 1280, kvAt arg3 harg3 x2 1408] ![kvAt arg4 harg4 x3 1152, kvAt arg4 harg4 x3 1280, kvAt arg4 harg4 x3 1408]
          (fun j i e => band 0 384 (by decide) (head j i e)) (sinkAt arg1 harg1 x0) (zaAt arg6 harg6 x5 1280)⟩,
      ⟨Rect.unit ![0, 1152, 0] S1x128x512.size inb_S1x2048x512_S1x128x512_0_1152_0,
        chunk3 (qAt arg2 harg2 x1 1152) ![kvAt arg3 harg3 x2 1024, kvAt arg3 harg3 x2 1152, kvAt arg3 harg3 x2 1280] ![kvAt arg4 harg4 x3 1024, kvAt arg4 harg4 x3 1152, kvAt arg4 harg4 x3 1280]
          (fun j i e => band 0 384 (by decide) (head j i e)) (sinkAt arg1 harg1 x0) (zaAt arg6 harg6 x5 1152)⟩,
      ⟨Rect.unit ![0, 1024, 0] S1x128x512.size inb_S1x2048x512_S1x128x512_0_1024_0,
        chunk3 (qAt arg2 harg2 x1 1024) ![kvAt arg3 harg3 x2 896, kvAt arg3 harg3 x2 1024, kvAt arg3 harg3 x2 1152] ![kvAt arg4 harg4 x3 896, kvAt arg4 harg4 x3 1024, kvAt arg4 harg4 x3 1152]
          (fun j i e => band 0 384 (by decide) (head j i e)) (sinkAt arg1 harg1 x0) (zaAt arg6 harg6 x5 1024)⟩,
      ⟨Rect.unit ![0, 896, 0] S1x128x512.size inb_S1x2048x512_S1x128x512_0_896_0,
        chunk3 (qAt arg2 harg2 x1 896) ![kvAt arg3 harg3 x2 768, kvAt arg3 harg3 x2 896, kvAt arg3 harg3 x2 1024] ![kvAt arg4 harg4 x3 768, kvAt arg4 harg4 x3 896, kvAt arg4 harg4 x3 1024]
          (fun j i e => band 0 384 (by decide) (head j i e)) (sinkAt arg1 harg1 x0) (zaAt arg6 harg6 x5 896)⟩,
      ⟨Rect.unit ![0, 768, 0] S1x128x512.size inb_S1x2048x512_S1x128x512_0_768_0,
        chunk3 (qAt arg2 harg2 x1 768) ![kvAt arg3 harg3 x2 640, kvAt arg3 harg3 x2 768, kvAt arg3 harg3 x2 896] ![kvAt arg4 harg4 x3 640, kvAt arg4 harg4 x3 768, kvAt arg4 harg4 x3 896]
          (fun j i e => band 0 384 (by decide) (head j i e)) (sinkAt arg1 harg1 x0) (zaAt arg6 harg6 x5 768)⟩,
      ⟨Rect.unit ![0, 640, 0] S1x128x512.size inb_S1x2048x512_S1x128x512_0_640_0,
        chunk3 (qAt arg2 harg2 x1 640) ![kvAt arg3 harg3 x2 512, kvAt arg3 harg3 x2 640, kvAt arg3 harg3 x2 768] ![kvAt arg4 harg4 x3 512, kvAt arg4 harg4 x3 640, kvAt arg4 harg4 x3 768]
          (fun j i e => band 0 384 (by decide) (head j i e)) (sinkAt arg1 harg1 x0) (zaAt arg6 harg6 x5 640)⟩,
      ⟨Rect.unit ![0, 512, 0] S1x128x512.size inb_S1x2048x512_S1x128x512_0_512_0,
        chunk3 (qAt arg2 harg2 x1 512) ![kvAt arg3 harg3 x2 384, kvAt arg3 harg3 x2 512, kvAt arg3 harg3 x2 640] ![kvAt arg4 harg4 x3 384, kvAt arg4 harg4 x3 512, kvAt arg4 harg4 x3 640]
          (fun j i e => band 0 384 (by decide) (head j i e)) (sinkAt arg1 harg1 x0) (zaAt arg6 harg6 x5 512)⟩,
      ⟨Rect.unit ![0, 384, 0] S1x128x512.size inb_S1x2048x512_S1x128x512_0_384_0,
        chunk3 (qAt arg2 harg2 x1 384) ![kvAt arg3 harg3 x2 256, kvAt arg3 harg3 x2 384, kvAt arg3 harg3 x2 512] ![kvAt arg4 harg4 x3 256, kvAt arg4 harg4 x3 384, kvAt arg4 harg4 x3 512]
          (fun j i e => band 0 384 (by decide) (head j i e)) (sinkAt arg1 harg1 x0) (zaAt arg6 harg6 x5 384)⟩,
      ⟨Rect.unit ![0, 256, 0] S1x128x512.size inb_S1x2048x512_S1x128x512_0_256_0,
        chunk3 (qAt arg2 harg2 x1 256) ![kvAt arg3 harg3 x2 128, kvAt arg3 harg3 x2 256, kvAt arg3 harg3 x2 384] ![kvAt arg4 harg4 x3 128, kvAt arg4 harg4 x3 256, kvAt arg4 harg4 x3 384]
          (fun j i e => band 0 384 (by decide) (head j i e)) (sinkAt arg1 harg1 x0) (zaAt arg6 harg6 x5 256)⟩,
      ⟨Rect.unit ![0, 128, 0] S1x128x512.size inb_S1x2048x512_S1x128x512_0_128_0,
        chunk3 (qAt arg2 harg2 x1 128) ![kvAt arg3 harg3 x2 0, kvAt arg3 harg3 x2 128, kvAt arg3 harg3 x2 256] ![kvAt arg4 harg4 x3 0, kvAt arg4 harg4 x3 128, kvAt arg4 harg4 x3 256]
          (fun j i e => band 0 384 (by decide) (head j i e)) (sinkAt arg1 harg1 x0) (zaAt arg6 harg6 x5 128)⟩,
      ⟨Rect.unit ![0, 0, 0] S1x128x512.size inb_S1x2048x512_S1x128x512_0_0_0,
        chunk2 (qAt arg2 harg2 x1 0) ![kvAt arg3 harg3 x2 0, kvAt arg3 harg3 x2 128] ![kvAt arg4 harg4 x3 0, kvAt arg4 harg4 x3 128]
          (fun j i e => band 128 256 (by decide) (head j i e)) (sinkAt arg1 harg1 x0) (zaAt arg6 harg6 x5 0)⟩]

set_option maxHeartbeats 1000000 in
theorem pieces_B (c : Dev nD) (i : grid0.Coords) (arg1 : Memref sig .tc .smem S8 .f32) (harg1 : arg1.IsWhole) (arg2 : Memref sig .tc .vmem S1x2048x512 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S8x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S8x128x384 .f32) (harg8 : arg8.IsWhole) (hc0 : ¬ cond0_0 i)
    (x0 : Vec F S8 .f32) (x1 : Vec F S1x2048x512 .f32) (x2 : Vec F S1x2048x256 .bf16) (x3 : Vec F S1x2048x256 .bf16) (x4 : Vec F S8x512 .f32) (x5 : Vec F S1x2048x512 .bf16) (xs0 : Vec F S8x128x384 .f32) :
    (kernelRun0_B c i arg1 harg1 arg2 harg2 arg3 harg3 arg4 harg4 arg5 harg5 arg6 harg6 arg7 harg7 arg8 harg8 hc0 x0 x1 x2 x3 x4 x5 xs0).1 = stores arg1 harg1 arg2 harg2 arg3 harg3 arg4 harg4 arg6 harg6 x0 x1 x2 x3 x5
      (fun o n ho hd => bandAt arg8 harg8 xs0 hd o n ho) := by
  unfold kernelRun0_B
  sl_unfold_run_values
  unfold stores
  dsimp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117,
    k0_pay118, k0_pay119, k0_pay120, k0_pay121, k0_pay122, k0_pay123, k0_pay124, k0_pay125, k0_pay126, k0_pay127,
    k0_pay128, k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167,
    k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237,
    k0_pay238, k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407,
    k0_pay408, k0_pay409, k0_pay410, k0_pay411, k0_pay412, k0_pay413, k0_pay414, k0_pay415, k0_pay416, k0_pay417,
    k0_pay418, k0_pay419, k0_pay420, k0_pay421, k0_pay422, k0_pay423, k0_pay424, k0_pay425, k0_pay426, k0_pay427,
    k0_pay428, k0_pay429, k0_pay430, k0_pay431, k0_pay432, k0_pay433, k0_pay434, k0_pay435, k0_pay436, k0_pay437,
    k0_pay438, k0_pay439, k0_pay440, k0_pay441, k0_pay442, k0_pay443, k0_pay444, k0_pay445, k0_pay446, k0_pay447,
    k0_pay448, k0_pay449, k0_pay450, k0_pay451, k0_pay452, k0_pay453, k0_pay454, k0_pay455, k0_pay456, k0_pay457,
    k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477,
    k0_pay478, k0_pay479, k0_pay480, k0_pay481, k0_pay482, k0_pay483, k0_pay484, k0_pay485, k0_pay486, k0_pay487,
    k0_pay488, k0_pay489, k0_pay490, k0_pay491, k0_pay492, k0_pay493, k0_pay494, k0_pay495, k0_pay496, k0_pay497,
    k0_pay498, k0_pay499, k0_pay500, k0_pay501, k0_pay502, k0_pay503, k0_pay504, k0_pay505, k0_pay506, k0_pay507,
    k0_pay508, k0_pay509, k0_pay510, k0_pay511, k0_pay512, k0_pay513, k0_pay514, k0_pay515, k0_pay516, k0_pay517,
    k0_pay518, k0_pay519, k0_pay520, k0_pay521, k0_pay522, k0_pay523, k0_pay524, k0_pay525, k0_pay526, k0_pay527,
    k0_pay528, k0_pay529, k0_pay530, k0_pay531, k0_pay532, k0_pay533, k0_pay534, k0_pay535, k0_pay536, k0_pay537,
    k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557,
    k0_pay558, k0_pay559, k0_pay560, k0_pay561, k0_pay562, k0_pay563, k0_pay564, k0_pay565, k0_pay566, k0_pay567,
    k0_pay568, k0_pay569, k0_pay570, k0_pay571, k0_pay572, k0_pay573, k0_pay574, k0_pay575, k0_pay576, k0_pay577,
    k0_pay578, k0_pay579, k0_pay580, k0_pay581, k0_pay582, k0_pay583, k0_pay584, k0_pay585, k0_pay586, k0_pay587,
    k0_pay588, k0_pay589, k0_pay590, k0_pay591, k0_pay592, k0_pay593, k0_pay594, k0_pay595, k0_pay596, k0_pay597,
    k0_pay598, k0_pay599, k0_pay600, k0_pay601, k0_pay602, k0_pay603, k0_pay604, k0_pay605, k0_pay606, k0_pay607,
    k0_pay608, k0_pay609, k0_pay610, k0_pay611, k0_pay612, k0_pay613, k0_pay614, k0_pay615, k0_pay616, k0_pay617,
    k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637,
    k0_pay638, k0_pay639, k0_pay640, k0_pay641, k0_pay642, k0_pay643, k0_pay644, k0_pay645, k0_pay646, k0_pay647,
    k0_pay648, k0_pay649, k0_pay650, k0_pay651, k0_pay652, k0_pay653, k0_pay654, k0_pay655, k0_pay656, k0_pay657,
    k0_pay658, k0_pay659, k0_pay660, k0_pay661, k0_pay662, k0_pay663, k0_pay664, k0_pay665, k0_pay666, k0_pay667,
    k0_pay668, k0_pay669, k0_pay670, k0_pay671, k0_pay672, k0_pay673, k0_pay674, k0_pay675, k0_pay676, k0_pay677,
    k0_pay678, k0_pay679, k0_pay680, k0_pay681, k0_pay682, k0_pay683, k0_pay684, k0_pay685, k0_pay686, k0_pay687,
    k0_pay688, k0_pay689, k0_pay690, k0_pay691, k0_pay692, k0_pay693, k0_pay694, k0_pay695, k0_pay696, k0_pay697,
    k0_pay698, k0_pay699, k0_pay700, k0_pay701, k0_pay702, k0_pay703, k0_pay704, k0_pay705, k0_pay706, k0_pay707,
    k0_pay708, k0_pay709, k0_pay710, k0_pay711, k0_pay712, k0_pay713, k0_pay714, k0_pay715, k0_pay716, k0_pay717,
    k0_pay718, k0_pay719, k0_pay720, k0_pay721, k0_pay722, k0_pay723, k0_pay724, k0_pay725, k0_pay726, k0_pay727,
    k0_pay728, k0_pay729, k0_pay730, k0_pay731, k0_pay732, k0_pay733, k0_pay734, k0_pay735, k0_pay736, k0_pay737,
    k0_pay738, k0_pay739, k0_pay740, k0_pay741, k0_pay742, k0_pay743, k0_pay744, k0_pay745, k0_pay746, k0_pay747,
    k0_pay748, k0_pay749, k0_pay750, k0_pay751, k0_pay752, k0_pay753, k0_pay754, k0_pay755, k0_pay756, k0_pay757,
    k0_pay758, k0_pay759, k0_pay760, k0_pay761, k0_pay762, k0_pay763, k0_pay764, k0_pay765, k0_pay766, k0_pay767,
    k0_pay768, k0_pay769, k0_pay770, k0_pay771, k0_pay772, k0_pay773, k0_pay774, k0_pay775, k0_pay776, k0_pay777,
    k0_pay778, k0_pay779, k0_pay780, k0_pay781, k0_pay782, k0_pay783, k0_pay784, k0_pay785, k0_pay786, k0_pay787,
    k0_pay788, k0_pay789, k0_pay790, k0_pay791, k0_pay792, k0_pay793, k0_pay794, k0_pay795, k0_pay796, k0_pay797,
    k0_pay798, k0_pay799, k0_pay800, k0_pay801, k0_pay802, k0_pay803, k0_pay804, k0_pay805, k0_pay806, k0_pay807,
    k0_pay808, k0_pay809, k0_pay810, k0_pay811, k0_pay812, k0_pay813, k0_pay814, k0_pay815, k0_pay816, k0_pay817,
    k0_pay818, k0_pay819, k0_pay820, k0_pay821]
  dsimp only [chunk2, chunk3, gated, fourHeads, mean, sideBySide, weight, shift, sinkWeight, logit, slabs0, slabs1, scaled,
    keys2, values2, keys3, values3, onLanes, withOnes, ones, leftSlab, rightSlab, qAt, zaAt, kvAt, bandAt, sinkAt, lower, upper]
  simp only [head, Fin.isValue, Fin.val_zero, Fin.val_one, Nat.zero_mul, Nat.one_mul, Nat.zero_add, Nat.add_zero, Nat.reduceMul,
    Nat.reduceAdd, Matrix.cons_val_zero, Matrix.cons_val_one, Matrix.cons_val]
  with_reducible congr! 10

set_option maxHeartbeats 1000000 in
theorem pieces_A (c : Dev nD) (i : grid0.Coords) (arg1 : Memref sig .tc .smem S8 .f32) (harg1 : arg1.IsWhole) (arg2 : Memref sig .tc .vmem S1x2048x512 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S8x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S8x128x384 .f32) (harg8 : arg8.IsWhole) (hc0 : cond0_0 i)
    (x0 : Vec F S8 .f32) (x1 : Vec F S1x2048x512 .f32) (x2 : Vec F S1x2048x256 .bf16) (x3 : Vec F S1x2048x256 .bf16) (x4 : Vec F S8x512 .f32) (x5 : Vec F S1x2048x512 .bf16) :
    (kernelRun0_A c i arg1 harg1 arg2 harg2 arg3 harg3 arg4 harg4 arg5 harg5 arg6 harg6 arg7 harg7 arg8 harg8 hc0 x0 x1 x2 x3 x4 x5).1 = stores arg1 harg1 arg2 harg2 arg3 harg3 arg4 harg4 arg6 harg6 x0 x1 x2 x3 x5
      (bandCov arg8 (kernelRun0_A.sl.HS0_8 c arg5 harg5 x4)) := by
  unfold kernelRun0_A
  sl_unfold_run_values
  unfold stores
  dsimp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117,
    k0_pay118, k0_pay119, k0_pay120, k0_pay121, k0_pay122, k0_pay123, k0_pay124, k0_pay125, k0_pay126, k0_pay127,
    k0_pay128, k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167,
    k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237,
    k0_pay238, k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407,
    k0_pay408, k0_pay409, k0_pay410, k0_pay411, k0_pay412, k0_pay413, k0_pay414, k0_pay415, k0_pay416, k0_pay417,
    k0_pay418, k0_pay419, k0_pay420, k0_pay421, k0_pay422, k0_pay423, k0_pay424, k0_pay425, k0_pay426, k0_pay427,
    k0_pay428, k0_pay429, k0_pay430, k0_pay431, k0_pay432, k0_pay433, k0_pay434, k0_pay435, k0_pay436, k0_pay437,
    k0_pay438, k0_pay439, k0_pay440, k0_pay441, k0_pay442, k0_pay443, k0_pay444, k0_pay445, k0_pay446, k0_pay447,
    k0_pay448, k0_pay449, k0_pay450, k0_pay451, k0_pay452, k0_pay453, k0_pay454, k0_pay455, k0_pay456, k0_pay457,
    k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477,
    k0_pay478, k0_pay479, k0_pay480, k0_pay481, k0_pay482, k0_pay483, k0_pay484, k0_pay485, k0_pay486, k0_pay487,
    k0_pay488, k0_pay489, k0_pay490, k0_pay491, k0_pay492, k0_pay493, k0_pay494, k0_pay495, k0_pay496, k0_pay497,
    k0_pay498, k0_pay499, k0_pay500, k0_pay501, k0_pay502, k0_pay503, k0_pay504, k0_pay505, k0_pay506, k0_pay507,
    k0_pay508, k0_pay509, k0_pay510, k0_pay511, k0_pay512, k0_pay513, k0_pay514, k0_pay515, k0_pay516, k0_pay517,
    k0_pay518, k0_pay519, k0_pay520, k0_pay521, k0_pay522, k0_pay523, k0_pay524, k0_pay525, k0_pay526, k0_pay527,
    k0_pay528, k0_pay529, k0_pay530, k0_pay531, k0_pay532, k0_pay533, k0_pay534, k0_pay535, k0_pay536, k0_pay537,
    k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557,
    k0_pay558, k0_pay559, k0_pay560, k0_pay561, k0_pay562, k0_pay563, k0_pay564, k0_pay565, k0_pay566, k0_pay567,
    k0_pay568, k0_pay569, k0_pay570, k0_pay571, k0_pay572, k0_pay573, k0_pay574, k0_pay575, k0_pay576, k0_pay577,
    k0_pay578, k0_pay579, k0_pay580, k0_pay581, k0_pay582, k0_pay583, k0_pay584, k0_pay585, k0_pay586, k0_pay587,
    k0_pay588, k0_pay589, k0_pay590, k0_pay591, k0_pay592, k0_pay593, k0_pay594, k0_pay595, k0_pay596, k0_pay597,
    k0_pay598, k0_pay599, k0_pay600, k0_pay601, k0_pay602, k0_pay603, k0_pay604, k0_pay605, k0_pay606, k0_pay607,
    k0_pay608, k0_pay609, k0_pay610, k0_pay611, k0_pay612, k0_pay613, k0_pay614, k0_pay615, k0_pay616, k0_pay617,
    k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637,
    k0_pay638, k0_pay639, k0_pay640, k0_pay641, k0_pay642, k0_pay643, k0_pay644, k0_pay645, k0_pay646, k0_pay647,
    k0_pay648, k0_pay649, k0_pay650, k0_pay651, k0_pay652, k0_pay653, k0_pay654, k0_pay655, k0_pay656, k0_pay657,
    k0_pay658, k0_pay659, k0_pay660, k0_pay661, k0_pay662, k0_pay663, k0_pay664, k0_pay665, k0_pay666, k0_pay667,
    k0_pay668, k0_pay669, k0_pay670, k0_pay671, k0_pay672, k0_pay673, k0_pay674, k0_pay675, k0_pay676, k0_pay677,
    k0_pay678, k0_pay679, k0_pay680, k0_pay681, k0_pay682, k0_pay683, k0_pay684, k0_pay685, k0_pay686, k0_pay687,
    k0_pay688, k0_pay689, k0_pay690, k0_pay691, k0_pay692, k0_pay693, k0_pay694, k0_pay695, k0_pay696, k0_pay697,
    k0_pay698, k0_pay699, k0_pay700, k0_pay701, k0_pay702, k0_pay703, k0_pay704, k0_pay705, k0_pay706, k0_pay707,
    k0_pay708, k0_pay709, k0_pay710, k0_pay711, k0_pay712, k0_pay713, k0_pay714, k0_pay715, k0_pay716, k0_pay717,
    k0_pay718, k0_pay719, k0_pay720, k0_pay721, k0_pay722, k0_pay723, k0_pay724, k0_pay725, k0_pay726, k0_pay727,
    k0_pay728, k0_pay729, k0_pay730, k0_pay731, k0_pay732, k0_pay733, k0_pay734, k0_pay735, k0_pay736, k0_pay737,
    k0_pay738, k0_pay739, k0_pay740, k0_pay741, k0_pay742, k0_pay743, k0_pay744, k0_pay745, k0_pay746, k0_pay747,
    k0_pay748, k0_pay749, k0_pay750, k0_pay751, k0_pay752, k0_pay753, k0_pay754, k0_pay755, k0_pay756, k0_pay757,
    k0_pay758, k0_pay759, k0_pay760, k0_pay761, k0_pay762, k0_pay763, k0_pay764, k0_pay765, k0_pay766, k0_pay767,
    k0_pay768, k0_pay769, k0_pay770, k0_pay771, k0_pay772, k0_pay773, k0_pay774, k0_pay775, k0_pay776, k0_pay777,
    k0_pay778, k0_pay779, k0_pay780, k0_pay781, k0_pay782, k0_pay783, k0_pay784, k0_pay785, k0_pay786, k0_pay787,
    k0_pay788, k0_pay789, k0_pay790, k0_pay791, k0_pay792, k0_pay793, k0_pay794, k0_pay795, k0_pay796, k0_pay797,
    k0_pay798, k0_pay799, k0_pay800, k0_pay801, k0_pay802, k0_pay803, k0_pay804, k0_pay805, k0_pay806, k0_pay807,
    k0_pay808, k0_pay809, k0_pay810, k0_pay811, k0_pay812, k0_pay813, k0_pay814, k0_pay815, k0_pay816, k0_pay817,
    k0_pay818, k0_pay819, k0_pay820, k0_pay821]
  dsimp only [chunk2, chunk3, gated, fourHeads, mean, sideBySide, weight, shift, sinkWeight, logit, slabs0, slabs1, scaled,
    keys2, values2, keys3, values3, onLanes, withOnes, ones, leftSlab, rightSlab, qAt, zaAt, kvAt, bandCov, sinkAt, lower, upper]
  simp only [head, Fin.isValue, Fin.val_zero, Fin.val_one, Nat.zero_mul, Nat.one_mul, Nat.zero_add, Nat.add_zero, Nat.reduceMul,
    Nat.reduceAdd, Matrix.cons_val_zero, Matrix.cons_val_one, Matrix.cons_val]
  with_reducible congr! 10

end Cert.Attn

end
-- ==== Proof.Block.lean ====
module

public import proofs.«01_k».proof.Proof.ChunkMean
public import proofs.«01_k».proof.Proof.Pieces

/-! A batch member's output block: every store of a grid point agrees with one function of the row and the column. -/

@[expose] public section

noncomputable section

namespace Cert.Attn

open Cert.KernelIdeal Cert.KernelIdeal.Gen Idealize.ShloMosaic Idealize.ShloMosaic.ValueIdx
open scoped BigOperators

/-! ## Loads read at an index -/

theorem qAt_apply (M : Memref sig .tc .vmem S1x2048x512 .f32) (h : M.IsWhole) (x : Vec Ideal S1x2048x512 .f32) (o : ℕ)
    (ho : ∀ a, (![0, o, 0] : Fin 3 → ℕ) a + S1x128x512.size a ≤ S1x2048x512.size a) (r : Fin 128) (l : Fin 512) (t : Fin 2048)
    (ht : t.val = o + r.val) : qAt M h x o ho (ix3 0 r l) = x (ix3 0 t l) := by
  unfold qAt
  rw [View.readAt_eq_ld, h.read_unread]
  show x _ = x _
  congr 1
  funext a
  apply Fin.ext
  match a with
  | ⟨0, _⟩ => rfl
  | ⟨1, _⟩ => show o + 1 * r.val = t.val; omega
  | ⟨2, _⟩ => show 0 + 1 * l.val = l.val; omega

theorem zaAt_apply (M : Memref sig .tc .vmem S1x2048x512 .bf16) (h : M.IsWhole) (x : Vec Ideal S1x2048x512 .bf16) (o : ℕ)
    (ho : ∀ a, (![0, o, 0] : Fin 3 → ℕ) a + S1x128x512.size a ≤ S1x2048x512.size a) (r : Fin 128) (l : Fin 512) (t : Fin 2048)
    (ht : t.val = o + r.val) : zaAt M h x o ho (ix3 0 r l) = x (ix3 0 t l) := by
  unfold zaAt
  rw [View.readAt_eq_ld, h.read_unread]
  show x _ = x _
  congr 1
  funext a
  apply Fin.ext
  match a with
  | ⟨0, _⟩ => rfl
  | ⟨1, _⟩ => show o + 1 * r.val = t.val; omega
  | ⟨2, _⟩ => show 0 + 1 * l.val = l.val; omega

theorem kvAt_apply (M : Memref sig .tc .vmem S1x2048x256 .bf16) (h : M.IsWhole) (x : Vec Ideal S1x2048x256 .bf16) (o : ℕ)
    (ho : ∀ a, (![0, o, 0] : Fin 3 → ℕ) a + S1x128x256.size a ≤ S1x2048x256.size a) (r : Fin 128) (l : Fin 256) (t : Fin 2048)
    (ht : t.val = o + r.val) : kvAt M h x o ho (ix3 0 r l) = x (ix3 0 t l) := by
  unfold kvAt
  rw [View.readAt_eq_ld, h.read_unread]
  show x _ = x _
  congr 1
  funext a
  apply Fin.ext
  match a with
  | ⟨0, _⟩ => rfl
  | ⟨1, _⟩ => show o + 1 * r.val = t.val; omega
  | ⟨2, _⟩ => show 0 + 1 * l.val = l.val; omega

theorem bandAt_apply (M : Memref sig .tc .vmem S8x128x384 .f32) (h : M.IsWhole) (x : Vec Ideal S8x128x384 .f32) (hd : Fin 8) (o n : ℕ)
    (ho : o + n ≤ 384) (r : Fin 128) (k : Fin n) : bandAt M h x hd o n ho (ix3 0 r k) = x (ix3 hd r ⟨o + k.val, by omega⟩) := by
  unfold bandAt
  rw [View.readAt_eq_ld, h.read_unread]
  show x _ = x _
  congr 1
  funext a
  apply Fin.ext
  match a with
  | ⟨0, _⟩ => show hd.val + 1 * 0 = hd.val; omega
  | ⟨1, _⟩ => show 0 + 1 * r.val = r.val; omega
  | ⟨2, _⟩ => show o + 1 * k.val = o + k.val; omega

theorem sinkAt_apply (M : Memref sig .tc .smem S8 .f32) (h : M.IsWhole) (x : Vec Ideal S8 .f32) (j i e : Fin 2) (s : ℝ)
    (hs : (x (ix1 (head j i e)) : EReal) = (s : EReal)) : (sinkAt M h x j i e : EReal) = (((Real.log 2)⁻¹ * s : ℝ) : EReal) := by
  unfold sinkAt
  rw [View.readAt_eq_ld, h.read_unread, log2e_ideal]
  have : View.ld x (Rect.unit (s := S8) ![(head j i e).val] S1.size (sink_fits _)) (Shape.Idx.first (by show 0 < S1.numel; decide))
      = x (ix1 (head j i e)) := by
    show x _ = x _
    congr 1
    funext a
    apply Fin.ext
    match a with
    | ⟨0, _⟩ => rfl
  show _ * _ = _
  rw [EReal.coe_mul, ← hs, ← this]

/-! ## The block's output as one function -/

/-- Slot `x` of the window of query `r` lies in the band. -/
def near (r : Fin 128) (x : ℕ) : Prop := r.val ≤ x ∧ x ≤ r.val + 256
instance (r : Fin 128) : DecidablePred (near r) := fun _ => by unfold near; infer_instance
/-- Slot `x` of chunk `c`'s window is a key of the sequence. -/
def inside (c x : ℕ) : Prop := 128 ≤ c * 128 + x ∧ c * 128 + x < 2176
instance (c : ℕ) : DecidablePred (inside c) := fun _ => by unfold inside; infer_instance
/-- The sequence position of slot `x` of chunk `c`'s window. -/
def keyRow (c x : ℕ) : Fin 2048 := ⟨(c * 128 + x - 128) % 2048, Nat.mod_lt _ (by norm_num)⟩

/-- One batch member's numbers: queries, keys, values, biases by head, row and slot, and sinks. -/
structure Data where
  qr : Fin 2048 → Fin 512 → ℝ
  kr : Fin 2048 → Fin 2 → Fin 64 → ℝ
  vr : Fin 2048 → Fin 2 → Fin 64 → EReal
  β : Fin 8 → Fin 128 → Fin 384 → ℝ
  sk : Fin 8 → ℝ

/-- The row `r` of chunk `c`. -/
def rowOf (c : Fin 16) (r : Fin 128) : Fin 2048 := ⟨c.val * 128 + r.val, by omega⟩

/-- A slot's unnormalised weight. -/
def Data.weight (D : Data) (c : Fin 16) (r : Fin 128) (j i e : Fin 2) (x : Fin 384) : ℝ :=
  if inside c x ∧ near r x then
    Real.exp ((∑ d, D.qr (rowOf c r) (qcol j i e d) * D.kr (keyRow c x) j d) / 8 + D.β (head j i e) r x)
  else 0
/-- A slot's value. -/
def Data.value (D : Data) (c : Fin 16) (j : Fin 2) (d : Fin 64) (x : Fin 384) : EReal :=
  if inside c x then D.vr (keyRow c x) j d else 0
/-- The softmax mean of a window. -/
def Data.mean (D : Data) (c : Fin 16) (r : Fin 128) (j i e : Fin 2) (d : Fin 64) : EReal :=
  ∑ x, ((D.weight c r j i e x / ((∑ x, D.weight c r j i e x) + Real.exp (D.sk (head j i e))) : ℝ) : EReal) * D.value c j d x

theorem window_sum {M : Type} [AddCommMonoid M] (o n : ℕ) (ho : o + n ≤ 384) (f : Fin 384 → M)
    (hf : ∀ x : Fin 384, ¬ (o ≤ x.val ∧ x.val < o + n) → f x = 0) :
    (∑ x, f x) = ∑ k : Fin n, f ⟨o + k.val, by omega⟩ := by
  classical
  symm
  refine Finset.sum_of_injOn (fun k : Fin n => (⟨o + k.val, by omega⟩ : Fin 384)) ?_ ?_ ?_ ?_
  · intro a _ b _ h
    have := congrArg Fin.val h
    exact Fin.ext (by simp only [] at this; omega)
  · intro a _; simp
  · intro x _ hx
    refine hf x fun hh => hx ?_
    exact ⟨⟨x.val - o, by omega⟩, by simp, Fin.ext (by simp only []; omega)⟩
  · intro a _; rfl

variable (arg1 : Memref sig .tc .smem S8 .f32) (harg1 : arg1.IsWhole) (arg2 : Memref sig .tc .vmem S1x2048x512 .f32) (harg2 : arg2.IsWhole)
    (arg3 : Memref sig .tc .vmem S1x2048x256 .bf16) (harg3 : arg3.IsWhole) (arg4 : Memref sig .tc .vmem S1x2048x256 .bf16) (harg4 : arg4.IsWhole)
    (arg6 : Memref sig .tc .vmem S1x2048x512 .bf16) (harg6 : arg6.IsWhole) (x0 : Vec Ideal S8 .f32) (x1 : Vec Ideal S1x2048x512 .f32)
    (x2 : Vec Ideal S1x2048x256 .bf16) (x3 : Vec Ideal S1x2048x256 .bf16) (x5 : Vec Ideal S1x2048x512 .bf16)
    (band : (o n : ℕ) → o + n ≤ 384 → Fin 8 → Vec Ideal (Sheet 128 n) .f32)

/-- The blocks hold the numbers `D`. -/
structure Holds (D : Data) : Prop where
  sink : ∀ h, (x0 (ix1 h) : EReal) = ((D.sk h : ℝ) : EReal)
  query : ∀ t l, (x1 (ix3 0 t l) : EReal) = ((D.qr t l : ℝ) : EReal)
  key : ∀ t j e d, (x2 (ix3 0 t (kcol j e d)) : EReal) = ((D.kr t j d : ℝ) : EReal)
  value : ∀ t j e d, (x3 (ix3 0 t (kcol j e d)) : EReal) = D.vr t j d

/-- The bias band read through `band` holds the biases `D`, and nothing outside the window. -/
def Band (D : Data) : Prop := ∀ (o n : ℕ) (ho : o + n ≤ 384) (hd : Fin 8) (r : Fin 128) (k : Fin n),
  (band o n ho hd (ix3 0 r k) : EReal)
    = if near r (o + k.val) then (((Real.log 2)⁻¹ * D.β hd r ⟨o + k.val, by omega⟩ : ℝ) : EReal) else ⊥

theorem edge_apply (D : Data) (H : Holds x0 x1 x2 x3 D) (B : Band band D) (c : Fin 16) (o q : ℕ) (ho : o + 256 ≤ 384)
    (k0 : ℕ) (hk0 : ∀ a, (![0, k0, 0] : Fin 3 → ℕ) a + S1x128x256.size a ≤ S1x2048x256.size a) (k1 : ℕ) (hk1 : ∀ a, (![0, k1, 0] : Fin 3 → ℕ) a + S1x128x256.size a ≤ S1x2048x256.size a)
    (hqo : ∀ a, (![0, q, 0] : Fin 3 → ℕ) a + S1x128x512.size a ≤ S1x2048x512.size a)
    (hq : q = c.val * 128) (e0 : k0 + 128 = c.val * 128 + o + 0) (e1 : k1 + 128 = c.val * 128 + o + 128)
    (hin : ∀ x, o ≤ x → x < o + 256 → inside c x) (hout : ∀ x, ¬ (o ≤ x ∧ x < o + 256) → x < 384 → ¬ inside c x)
    (r : Fin 128) (j i e : Fin 2) (d : Fin 64) :
    (chunk2 (qAt arg2 harg2 x1 q hqo) ![kvAt arg3 harg3 x2 k0 hk0, kvAt arg3 harg3 x2 k1 hk1] ![kvAt arg4 harg4 x3 k0 hk0, kvAt arg4 harg4 x3 k1 hk1] (fun j i e => band o 256 ho (head j i e)) (sinkAt arg1 harg1 x0)
        (zaAt arg6 harg6 x5 q hqo) (ix3 0 r (qcol j i e d)) : EReal)
      = D.mean c r j i e d * x5 (ix3 0 (rowOf c r) (qcol j i e d)) := by
  have b0 : k0 + 128 ≤ 2048 := hk0 1
  have b1 : k1 + 128 ≤ 2048 := hk1 1
  refine (chunk2_apply _ _ _ _ _ _ j i e r d (fun d => D.qr (rowOf c r) (qcol j i e d))
    (fun x d => D.kr (keyRow c (o + x.val)) j d) (fun x => near r (o + x.val)) (fun x => D.β (head j i e) r ⟨o + x.val, by omega⟩)
    (D.sk (head j i e)) (fun x => D.vr (keyRow c (o + x.val)) j d) ?_ ?_ ?_ ?_ ?_
    (fun x => D.weight c r j i e ⟨o + x.val, by omega⟩) ?_).trans ?_
  · intro d
    rw [qAt_apply _ _ _ _ _ r _ (rowOf c r) (by simp [rowOf]; omega), H.query]
  · intro b kk d
    match b with
      | ⟨0, _⟩ => exact (kvAt_apply _ _ _ _ _ kk _ (keyRow c (o + (slot2 0 kk).val)) (by simp [keyRow]; omega)).trans (H.key _ _ _ _)
      | ⟨1, _⟩ => exact (kvAt_apply _ _ _ _ _ kk _ (keyRow c (o + (slot2 1 kk).val)) (by simp [keyRow]; omega)).trans (H.key _ _ _ _)
  · intro b kk
    match b with
      | ⟨0, _⟩ => exact (kvAt_apply _ _ _ _ _ kk _ (keyRow c (o + (slot2 0 kk).val)) (by simp [keyRow]; omega)).trans (H.value _ _ _ _)
      | ⟨1, _⟩ => exact (kvAt_apply _ _ _ _ _ kk _ (keyRow c (o + (slot2 1 kk).val)) (by simp [keyRow]; omega)).trans (H.value _ _ _ _)
  · intro x
    exact B o 256 ho (head j i e) r x
  · exact sinkAt_apply _ _ _ j i e _ (H.sink _)
  · intro x
    have hi : inside c (o + x.val) := hin _ (by omega) (by omega)
    unfold Data.weight
    by_cases hn : near r (o + x.val)
    · rw [if_pos ⟨hi, hn⟩, if_pos hn]
    · rw [if_neg (fun h => hn h.2), if_neg hn]
  · have hw0 : ∀ x : Fin 384, ¬ (o ≤ x.val ∧ x.val < o + 256) → D.weight c r j i e x = 0 := by
      intro x hx
      unfold Data.weight
      rw [if_neg fun h => hout x.val hx x.isLt h.1]
    rw [zaAt_apply _ _ _ _ _ r _ (rowOf c r) (by simp [rowOf]; omega)]
    refine congrArg (fun z : EReal => z * x5 (ix3 0 (rowOf c r) (qcol j i e d))) ?_
    unfold Data.mean
    rw [← window_sum o 256 ho (D.weight c r j i e) hw0]
    refine Eq.trans ?_ (window_sum o 256 ho (fun x => ((D.weight c r j i e x
      / ((∑ x, D.weight c r j i e x) + Real.exp (D.sk (head j i e))) : ℝ) : EReal) * D.value c j d x)
      (fun x hx => by rw [hw0 x hx, zero_div, EReal.coe_zero, zero_mul])).symm
    refine Finset.sum_congr rfl fun x _ => ?_
    congr 1
    unfold Data.value
    rw [if_pos (hin (o + x.val) (by omega) (by omega))]

theorem mid_apply (D : Data) (H : Holds x0 x1 x2 x3 D) (B : Band band D) (c : Fin 16) (o q : ℕ) (ho : o + 384 ≤ 384)
    (k0 : ℕ) (hk0 : ∀ a, (![0, k0, 0] : Fin 3 → ℕ) a + S1x128x256.size a ≤ S1x2048x256.size a) (k1 : ℕ) (hk1 : ∀ a, (![0, k1, 0] : Fin 3 → ℕ) a + S1x128x256.size a ≤ S1x2048x256.size a) (k2 : ℕ) (hk2 : ∀ a, (![0, k2, 0] : Fin 3 → ℕ) a + S1x128x256.size a ≤ S1x2048x256.size a)
    (hqo : ∀ a, (![0, q, 0] : Fin 3 → ℕ) a + S1x128x512.size a ≤ S1x2048x512.size a)
    (hq : q = c.val * 128) (e0 : k0 + 128 = c.val * 128 + o + 0) (e1 : k1 + 128 = c.val * 128 + o + 128) (e2 : k2 + 128 = c.val * 128 + o + 256)
    (hin : ∀ x, o ≤ x → x < o + 384 → inside c x) (hout : ∀ x, ¬ (o ≤ x ∧ x < o + 384) → x < 384 → ¬ inside c x)
    (r : Fin 128) (j i e : Fin 2) (d : Fin 64) :
    (chunk3 (qAt arg2 harg2 x1 q hqo) ![kvAt arg3 harg3 x2 k0 hk0, kvAt arg3 harg3 x2 k1 hk1, kvAt arg3 harg3 x2 k2 hk2] ![kvAt arg4 harg4 x3 k0 hk0, kvAt arg4 harg4 x3 k1 hk1, kvAt arg4 harg4 x3 k2 hk2] (fun j i e => band o 384 ho (head j i e)) (sinkAt arg1 harg1 x0)
        (zaAt arg6 harg6 x5 q hqo) (ix3 0 r (qcol j i e d)) : EReal)
      = D.mean c r j i e d * x5 (ix3 0 (rowOf c r) (qcol j i e d)) := by
  have b0 : k0 + 128 ≤ 2048 := hk0 1
  have b1 : k1 + 128 ≤ 2048 := hk1 1
  have b2 : k2 + 128 ≤ 2048 := hk2 1
  refine (chunk3_apply _ _ _ _ _ _ j i e r d (fun d => D.qr (rowOf c r) (qcol j i e d))
    (fun x d => D.kr (keyRow c (o + x.val)) j d) (fun x => near r (o + x.val)) (fun x => D.β (head j i e) r ⟨o + x.val, by omega⟩)
    (D.sk (head j i e)) (fun x => D.vr (keyRow c (o + x.val)) j d) ?_ ?_ ?_ ?_ ?_
    (fun x => D.weight c r j i e ⟨o + x.val, by omega⟩) ?_).trans ?_
  · intro d
    rw [qAt_apply _ _ _ _ _ r _ (rowOf c r) (by simp [rowOf]; omega), H.query]
  · intro b kk d
    match b with
      | ⟨0, _⟩ => exact (kvAt_apply _ _ _ _ _ kk _ (keyRow c (o + (slot3 0 kk).val)) (by simp [keyRow]; omega)).trans (H.key _ _ _ _)
      | ⟨1, _⟩ => exact (kvAt_apply _ _ _ _ _ kk _ (keyRow c (o + (slot3 1 kk).val)) (by simp [keyRow]; omega)).trans (H.key _ _ _ _)
      | ⟨2, _⟩ => exact (kvAt_apply _ _ _ _ _ kk _ (keyRow c (o + (slot3 2 kk).val)) (by simp [keyRow]; omega)).trans (H.key _ _ _ _)
  · intro b kk
    match b with
      | ⟨0, _⟩ => exact (kvAt_apply _ _ _ _ _ kk _ (keyRow c (o + (slot3 0 kk).val)) (by simp [keyRow]; omega)).trans (H.value _ _ _ _)
      | ⟨1, _⟩ => exact (kvAt_apply _ _ _ _ _ kk _ (keyRow c (o + (slot3 1 kk).val)) (by simp [keyRow]; omega)).trans (H.value _ _ _ _)
      | ⟨2, _⟩ => exact (kvAt_apply _ _ _ _ _ kk _ (keyRow c (o + (slot3 2 kk).val)) (by simp [keyRow]; omega)).trans (H.value _ _ _ _)
  · intro x
    exact B o 384 ho (head j i e) r x
  · exact sinkAt_apply _ _ _ j i e _ (H.sink _)
  · intro x
    have hi : inside c (o + x.val) := hin _ (by omega) (by omega)
    unfold Data.weight
    by_cases hn : near r (o + x.val)
    · rw [if_pos ⟨hi, hn⟩, if_pos hn]
    · rw [if_neg (fun h => hn h.2), if_neg hn]
  · have hw0 : ∀ x : Fin 384, ¬ (o ≤ x.val ∧ x.val < o + 384) → D.weight c r j i e x = 0 := by
      intro x hx
      unfold Data.weight
      rw [if_neg fun h => hout x.val hx x.isLt h.1]
    rw [zaAt_apply _ _ _ _ _ r _ (rowOf c r) (by simp [rowOf]; omega)]
    refine congrArg (fun z : EReal => z * x5 (ix3 0 (rowOf c r) (qcol j i e d))) ?_
    unfold Data.mean
    rw [← window_sum o 384 ho (D.weight c r j i e) hw0]
    refine Eq.trans ?_ (window_sum o 384 ho (fun x => ((D.weight c r j i e x
      / ((∑ x, D.weight c r j i e x) + Real.exp (D.sk (head j i e))) : ℝ) : EReal) * D.value c j d x)
      (fun x hx => by rw [hw0 x hx, zero_div, EReal.coe_zero, zero_mul])).symm
    refine Finset.sum_congr rfl fun x _ => ?_
    congr 1
    unfold Data.value
    rw [if_pos (hin (o + x.val) (by omega) (by omega))]

/-! ## All the stores -/

theorem canon_agrees {s : Shape} {e : EltTy} (f : s.Idx → Elt Ideal e) : ∀ (L : List (View.Piece (Elt Ideal) s e)) (y : s.Idx),
    (∀ p ∈ L, ∀ x, p.2 x = f (p.1.emb x)) → (∃ p ∈ L, y ∈ p.1.set) → View.canon L y = f y
  | [], _, _, h => by obtain ⟨_, hm, _⟩ := h; exact absurd hm List.not_mem_nil
  | ⟨rc, w⟩ :: L, y, hf, hc => by
    by_cases hy : y ∈ rc.set
    · obtain ⟨x, rfl⟩ : ∃ x, rc.emb x = y := rc.exists_idx_of_mem hy
      rw [View.canon_cons_emb]
      exact hf ⟨rc, w⟩ List.mem_cons_self x
    · rw [View.canon_cons_of_not_mem _ _ hy]
      refine canon_agrees f L y (fun p hp => hf p (List.mem_cons_of_mem _ hp)) ?_
      obtain ⟨p, hp, hpy⟩ := hc
      rcases List.mem_cons.mp hp with rfl | hp
      · exact absurd hpy hy
      · exact ⟨p, hp, hpy⟩

/-- The block's output at a row and a column: the softmax mean, gated. -/
def Data.out (D : Data) (za : Vec Ideal S1x2048x512 .bf16) (t : Fin 2048) (l : Fin 512) : EReal :=
  D.mean ⟨t.val / 128, by omega⟩ ⟨t.val % 128, by omega⟩ ⟨l.val / 256, by omega⟩ ⟨l.val / 128 % 2, by omega⟩ ⟨l.val / 64 % 2, by omega⟩
    ⟨l.val % 64, by omega⟩ * za (ix3 0 t l)

theorem qcol_surj (l : Fin 512) : l = qcol ⟨l.val / 256, by omega⟩ ⟨l.val / 128 % 2, by omega⟩ ⟨l.val / 64 % 2, by omega⟩
    ⟨l.val % 64, by omega⟩ := Fin.ext (by simp only [qcol, lane, half]; omega)

theorem out_eq (D : Data) (za : Vec Ideal S1x2048x512 .bf16) (c : Fin 16) (r : Fin 128) (j i e : Fin 2) (d : Fin 64) :
    D.out za (rowOf c r) (qcol j i e d) = D.mean c r j i e d * za (ix3 0 (rowOf c r) (qcol j i e d)) := by
  unfold Data.out
  have h1 : (⟨(rowOf c r).val / 128, by omega⟩ : Fin 16) = c := Fin.ext (by simp only [rowOf]; omega)
  have h2 : (⟨(rowOf c r).val % 128, by omega⟩ : Fin 128) = r := Fin.ext (by simp only [rowOf]; omega)
  have h3 : (⟨(qcol j i e d).val / 256, by omega⟩ : Fin 2) = j := Fin.ext (by simp only [qcol, lane, half]; omega)
  have h4 : (⟨(qcol j i e d).val / 128 % 2, by omega⟩ : Fin 2) = i := Fin.ext (by simp only [qcol, lane, half]; omega)
  have h5 : (⟨(qcol j i e d).val / 64 % 2, by omega⟩ : Fin 2) = e := Fin.ext (by simp only [qcol, lane, half]; omega)
  have h6 : (⟨(qcol j i e d).val % 64, by omega⟩ : Fin 64) = d := Fin.ext (by simp only [qcol, lane, half]; omega)
  rw [h1, h2, h3, h4, h5, h6]

/-- A chunk whose entries are the softmax means agrees with the block's output where it is stored. -/
theorem agrees (D : Data) (c : Fin 16) (o : ℕ) (ho : ∀ a, (![0, o, 0] : Fin 3 → ℕ) a + S1x128x512.size a ≤ S1x2048x512.size a)
    (hoc : o = c.val * 128) (X : Vec Ideal S1x128x512 .bf16)
    (hX : ∀ r j i e d, (X (ix3 0 r (qcol j i e d)) : EReal) = D.mean c r j i e d * x5 (ix3 0 (rowOf c r) (qcol j i e d)))
    (x : S1x128x512.Idx) :
    (X x : EReal) = (fun y : S1x2048x512.Idx => D.out x5 (y 1) (y 2)) ((Rect.unit (s := S1x2048x512) ![0, o, 0] S1x128x512.size ho).emb x) := by
  obtain ⟨u, r, l, rfl⟩ : ∃ (u : Fin 1) (r : Fin 128) (l : Fin 512), x = ix3 u r l := ⟨x 0, x 1, x 2, by
    funext a; match a with | ⟨0, _⟩ => rfl | ⟨1, _⟩ => rfl | ⟨2, _⟩ => rfl⟩
  obtain rfl : u = 0 := Subsingleton.elim _ _
  have e1 : ((Rect.unit (s := S1x2048x512) ![0, o, 0] S1x128x512.size ho).emb (ix3 0 r l)) 1 = rowOf c r :=
    Fin.ext (by show o + 1 * r.val = c.val * 128 + r.val; omega)
  have e2 : ((Rect.unit (s := S1x2048x512) ![0, o, 0] S1x128x512.size ho).emb (ix3 0 r l)) 2 = l :=
    Fin.ext (by show 0 + 1 * l.val = l.val; omega)
  show _ = D.out x5 (((Rect.unit (s := S1x2048x512) ![0, o, 0] S1x128x512.size ho).emb (ix3 0 r l)) 1)
    (((Rect.unit (s := S1x2048x512) ![0, o, 0] S1x128x512.size ho).emb (ix3 0 r l)) 2)
  rw [e1, e2, qcol_surj l, out_eq, hX]

theorem stores_agree (D : Data) (H : Holds x0 x1 x2 x3 D) (B : Band band D) :
    ∀ p ∈ stores arg1 harg1 arg2 harg2 arg3 harg3 arg4 harg4 arg6 harg6 x0 x1 x2 x3 x5 band, ∀ x,
      p.2 x = (fun y : S1x2048x512.Idx => D.out x5 (y 1) (y 2)) (p.1.emb x) := by
  unfold stores
  refine List.forall_mem_cons.mpr ⟨?_, ?_⟩
  · exact agrees x5 D 15 1920 (by decide) rfl _ (edge_apply arg1 harg1 arg2 harg2 arg3 harg3 arg4 harg4 arg6 harg6 x0 x1 x2 x3 x5 band D H B 15 0 1920 (by decide) 1792 (by decide) 1920 (by decide) (by decide) rfl rfl rfl
      (fun x h1 h2 => by show 128 ≤ 15 * 128 + x ∧ 15 * 128 + x < 2176; omega)
      (fun x h1 h2 => by show ¬ (128 ≤ 15 * 128 + x ∧ 15 * 128 + x < 2176); omega))
  refine List.forall_mem_cons.mpr ⟨?_, ?_⟩
  · exact agrees x5 D 14 1792 (by decide) rfl _ (mid_apply arg1 harg1 arg2 harg2 arg3 harg3 arg4 harg4 arg6 harg6 x0 x1 x2 x3 x5 band D H B 14 0 1792 (by decide) 1664 (by decide) 1792 (by decide) 1920 (by decide) (by decide) rfl rfl rfl rfl
      (fun x h1 h2 => by show 128 ≤ 14 * 128 + x ∧ 14 * 128 + x < 2176; omega)
      (fun x h1 h2 => by show ¬ (128 ≤ 14 * 128 + x ∧ 14 * 128 + x < 2176); omega))
  refine List.forall_mem_cons.mpr ⟨?_, ?_⟩
  · exact agrees x5 D 13 1664 (by decide) rfl _ (mid_apply arg1 harg1 arg2 harg2 arg3 harg3 arg4 harg4 arg6 harg6 x0 x1 x2 x3 x5 band D H B 13 0 1664 (by decide) 1536 (by decide) 1664 (by decide) 1792 (by decide) (by decide) rfl rfl rfl rfl
      (fun x h1 h2 => by show 128 ≤ 13 * 128 + x ∧ 13 * 128 + x < 2176; omega)
      (fun x h1 h2 => by show ¬ (128 ≤ 13 * 128 + x ∧ 13 * 128 + x < 2176); omega))
  refine List.forall_mem_cons.mpr ⟨?_, ?_⟩
  · exact agrees x5 D 12 1536 (by decide) rfl _ (mid_apply arg1 harg1 arg2 harg2 arg3 harg3 arg4 harg4 arg6 harg6 x0 x1 x2 x3 x5 band D H B 12 0 1536 (by decide) 1408 (by decide) 1536 (by decide) 1664 (by decide) (by decide) rfl rfl rfl rfl
      (fun x h1 h2 => by show 128 ≤ 12 * 128 + x ∧ 12 * 128 + x < 2176; omega)
      (fun x h1 h2 => by show ¬ (128 ≤ 12 * 128 + x ∧ 12 * 128 + x < 2176); omega))
  refine List.forall_mem_cons.mpr ⟨?_, ?_⟩
  · exact agrees x5 D 11 1408 (by decide) rfl _ (mid_apply arg1 harg1 arg2 harg2 arg3 harg3 arg4 harg4 arg6 harg6 x0 x1 x2 x3 x5 band D H B 11 0 1408 (by decide) 1280 (by decide) 1408 (by decide) 1536 (by decide) (by decide) rfl rfl rfl rfl
      (fun x h1 h2 => by show 128 ≤ 11 * 128 + x ∧ 11 * 128 + x < 2176; omega)
      (fun x h1 h2 => by show ¬ (128 ≤ 11 * 128 + x ∧ 11 * 128 + x < 2176); omega))
  refine List.forall_mem_cons.mpr ⟨?_, ?_⟩
  · exact agrees x5 D 10 1280 (by decide) rfl _ (mid_apply arg1 harg1 arg2 harg2 arg3 harg3 arg4 harg4 arg6 harg6 x0 x1 x2 x3 x5 band D H B 10 0 1280 (by decide) 1152 (by decide) 1280 (by decide) 1408 (by decide) (by decide) rfl rfl rfl rfl
      (fun x h1 h2 => by show 128 ≤ 10 * 128 + x ∧ 10 * 128 + x < 2176; omega)
      (fun x h1 h2 => by show ¬ (128 ≤ 10 * 128 + x ∧ 10 * 128 + x < 2176); omega))
  refine List.forall_mem_cons.mpr ⟨?_, ?_⟩
  · exact agrees x5 D 9 1152 (by decide) rfl _ (mid_apply arg1 harg1 arg2 harg2 arg3 harg3 arg4 harg4 arg6 harg6 x0 x1 x2 x3 x5 band D H B 9 0 1152 (by decide) 1024 (by decide) 1152 (by decide) 1280 (by decide) (by decide) rfl rfl rfl rfl
      (fun x h1 h2 => by show 128 ≤ 9 * 128 + x ∧ 9 * 128 + x < 2176; omega)
      (fun x h1 h2 => by show ¬ (128 ≤ 9 * 128 + x ∧ 9 * 128 + x < 2176); omega))
  refine List.forall_mem_cons.mpr ⟨?_, ?_⟩
  · exact agrees x5 D 8 1024 (by decide) rfl _ (mid_apply arg1 harg1 arg2 harg2 arg3 harg3 arg4 harg4 arg6 harg6 x0 x1 x2 x3 x5 band D H B 8 0 1024 (by decide) 896 (by decide) 1024 (by decide) 1152 (by decide) (by decide) rfl rfl rfl rfl
      (fun x h1 h2 => by show 128 ≤ 8 * 128 + x ∧ 8 * 128 + x < 2176; omega)
      (fun x h1 h2 => by show ¬ (128 ≤ 8 * 128 + x ∧ 8 * 128 + x < 2176); omega))
  refine List.forall_mem_cons.mpr ⟨?_, ?_⟩
  · exact agrees x5 D 7 896 (by decide) rfl _ (mid_apply arg1 harg1 arg2 harg2 arg3 harg3 arg4 harg4 arg6 harg6 x0 x1 x2 x3 x5 band D H B 7 0 896 (by decide) 768 (by decide) 896 (by decide) 1024 (by decide) (by decide) rfl rfl rfl rfl
      (fun x h1 h2 => by show 128 ≤ 7 * 128 + x ∧ 7 * 128 + x < 2176; omega)
      (fun x h1 h2 => by show ¬ (128 ≤ 7 * 128 + x ∧ 7 * 128 + x < 2176); omega))
  refine List.forall_mem_cons.mpr ⟨?_, ?_⟩
  · exact agrees x5 D 6 768 (by decide) rfl _ (mid_apply arg1 harg1 arg2 harg2 arg3 harg3 arg4 harg4 arg6 harg6 x0 x1 x2 x3 x5 band D H B 6 0 768 (by decide) 640 (by decide) 768 (by decide) 896 (by decide) (by decide) rfl rfl rfl rfl
      (fun x h1 h2 => by show 128 ≤ 6 * 128 + x ∧ 6 * 128 + x < 2176; omega)
      (fun x h1 h2 => by show ¬ (128 ≤ 6 * 128 + x ∧ 6 * 128 + x < 2176); omega))
  refine List.forall_mem_cons.mpr ⟨?_, ?_⟩
  · exact agrees x5 D 5 640 (by decide) rfl _ (mid_apply arg1 harg1 arg2 harg2 arg3 harg3 arg4 harg4 arg6 harg6 x0 x1 x2 x3 x5 band D H B 5 0 640 (by decide) 512 (by decide) 640 (by decide) 768 (by decide) (by decide) rfl rfl rfl rfl
      (fun x h1 h2 => by show 128 ≤ 5 * 128 + x ∧ 5 * 128 + x < 2176; omega)
      (fun x h1 h2 => by show ¬ (128 ≤ 5 * 128 + x ∧ 5 * 128 + x < 2176); omega))
  refine List.forall_mem_cons.mpr ⟨?_, ?_⟩
  · exact agrees x5 D 4 512 (by decide) rfl _ (mid_apply arg1 harg1 arg2 harg2 arg3 harg3 arg4 harg4 arg6 harg6 x0 x1 x2 x3 x5 band D H B 4 0 512 (by decide) 384 (by decide) 512 (by decide) 640 (by decide) (by decide) rfl rfl rfl rfl
      (fun x h1 h2 => by show 128 ≤ 4 * 128 + x ∧ 4 * 128 + x < 2176; omega)
      (fun x h1 h2 => by show ¬ (128 ≤ 4 * 128 + x ∧ 4 * 128 + x < 2176); omega))
  refine List.forall_mem_cons.mpr ⟨?_, ?_⟩
  · exact agrees x5 D 3 384 (by decide) rfl _ (mid_apply arg1 harg1 arg2 harg2 arg3 harg3 arg4 harg4 arg6 harg6 x0 x1 x2 x3 x5 band D H B 3 0 384 (by decide) 256 (by decide) 384 (by decide) 512 (by decide) (by decide) rfl rfl rfl rfl
      (fun x h1 h2 => by show 128 ≤ 3 * 128 + x ∧ 3 * 128 + x < 2176; omega)
      (fun x h1 h2 => by show ¬ (128 ≤ 3 * 128 + x ∧ 3 * 128 + x < 2176); omega))
  refine List.forall_mem_cons.mpr ⟨?_, ?_⟩
  · exact agrees x5 D 2 256 (by decide) rfl _ (mid_apply arg1 harg1 arg2 harg2 arg3 harg3 arg4 harg4 arg6 harg6 x0 x1 x2 x3 x5 band D H B 2 0 256 (by decide) 128 (by decide) 256 (by decide) 384 (by decide) (by decide) rfl rfl rfl rfl
      (fun x h1 h2 => by show 128 ≤ 2 * 128 + x ∧ 2 * 128 + x < 2176; omega)
      (fun x h1 h2 => by show ¬ (128 ≤ 2 * 128 + x ∧ 2 * 128 + x < 2176); omega))
  refine List.forall_mem_cons.mpr ⟨?_, ?_⟩
  · exact agrees x5 D 1 128 (by decide) rfl _ (mid_apply arg1 harg1 arg2 harg2 arg3 harg3 arg4 harg4 arg6 harg6 x0 x1 x2 x3 x5 band D H B 1 0 128 (by decide) 0 (by decide) 128 (by decide) 256 (by decide) (by decide) rfl rfl rfl rfl
      (fun x h1 h2 => by show 128 ≤ 1 * 128 + x ∧ 1 * 128 + x < 2176; omega)
      (fun x h1 h2 => by show ¬ (128 ≤ 1 * 128 + x ∧ 1 * 128 + x < 2176); omega))
  refine List.forall_mem_cons.mpr ⟨?_, ?_⟩
  · exact agrees x5 D 0 0 (by decide) rfl _ (edge_apply arg1 harg1 arg2 harg2 arg3 harg3 arg4 harg4 arg6 harg6 x0 x1 x2 x3 x5 band D H B 0 128 0 (by decide) 0 (by decide) 128 (by decide) (by decide) rfl rfl rfl
      (fun x h1 h2 => by show 128 ≤ 0 * 128 + x ∧ 0 * 128 + x < 2176; omega)
      (fun x h1 h2 => by show ¬ (128 ≤ 0 * 128 + x ∧ 0 * 128 + x < 2176); omega))
  exact fun p hp => absurd hp List.not_mem_nil

end Cert.Attn

end
-- ==== Proof.Band.lean ====
module

public import proofs.«01_k».proof.Proof.Block

/-! The bias band a grid's first point writes, and the block's output at every point. -/

@[expose] public section

noncomputable section

namespace Cert.Attn

open Cert.KernelIdeal Cert.KernelIdeal.Gen Idealize.ShloMosaic Idealize.ShloMosaic.ValueIdx
open scoped BigOperators

theorem mask_ideal : (Named.named κ "mask" 0xF149F2CA#32 : Ideal .f32) = (⊥ : EReal) :=
  IdealRules.named_const.ideal_named_scalar _ _ _ _ rfl

/-- Which slots of the window lie in the band. -/
def inBand : IVec S128x384 1 :=
  cmpi .sle (absi (subi (subi (iota .tc S128x384 32 [1] iota_S128x384_d1_w32) (broadcast S128x384 128#32))
    (iota .tc S128x384 32 [0] iota_S128x384_d0_w32))) (broadcast S128x384 128#32)

theorem band_word : ∀ d : Fin 512, IntOp.cmpi .sle (IntOp.absi (BitVec.ofNat 32 d.val - 255#32)) 128#32
    = if 127 ≤ d.val ∧ d.val ≤ 383 then 1#1 else 0#1 := by decide +kernel

theorem inBand_apply (r : Fin 128) (x : Fin 384) : inBand (ix2 r x) = if near r x.val then 1#1 else 0#1 := by
  have e : BitVec.ofNat 32 x.val - 128#32 - BitVec.ofNat 32 r.val = BitVec.ofNat 32 (x.val + 127 - r.val) - 255#32 := by
    apply BitVec.eq_of_toNat_eq
    simp only [BitVec.toNat_sub, BitVec.toNat_ofNat]
    omega
  unfold inBand
  show IntOp.cmpi .sle (IntOp.absi (iota .tc S128x384 32 [1] iota_S128x384_d1_w32 (ix2 r x) - 128#32
    - iota .tc S128x384 32 [0] iota_S128x384_d0_w32 (ix2 r x))) 128#32 = _
  rw [iota_single_apply, iota_single_apply]
  show IntOp.cmpi .sle (IntOp.absi (BitVec.ofNat 32 x.val - 128#32 - BitVec.ofNat 32 r.val)) 128#32 = _
  rw [e]
  refine (band_word ⟨x.val + 127 - r.val, by omega⟩).trans ?_
  by_cases h : near r x.val
  · have h' : r.val ≤ x.val ∧ x.val ≤ r.val + 256 := h
    rw [if_pos h]
    exact if_pos (show 127 ≤ x.val + 127 - r.val ∧ x.val + 127 - r.val ≤ 383 by omega)
  · have h' : ¬ (r.val ≤ x.val ∧ x.val ≤ r.val + 256) := h
    rw [if_neg h]
    exact if_neg (show ¬ (127 ≤ x.val + 127 - r.val ∧ x.val + 127 - r.val ≤ 383) by omega)

section
variable {F : FTy → Type} [FloatOps F] [Named F]

/-- One head's bias band out of its row of biases. -/
def bandRow (x : Vec F S1x512 .f32) : FVec F S1x128x384 .f32 :=
  shapeCast S1x128x384 (select inBand (extractStridedSlice S128x384 ![0, 0] (dynamicRotate 1 0#32 (some (1, 0))
    (broadcastTo S128x512 (shapeCast S1x512 (mulf (broadcast S1x512 (Named.named κ "log2e" 0x3FB8AA3B#32 : F .f32))
      (shapeCast S1x512 x shapeCasts_S1x512_S1x512)) shapeCasts_S1x512_S1x512) broadcasts_S1x512_S128x512)
    rotates_S128x512_d1s1a0) slices_S128x512_o0_0_S128x384)
    (broadcast S128x384 (Named.named κ "mask" 0xF149F2CA#32 : F .f32))) shapeCasts_S128x384_S1x128x384

/-- One head's row of biases. -/
def biasAt (M : Memref sig .tc .vmem S8x512 .f32) (h : M.IsWhole) (x : Vec F S8x512 .f32) (hd : ℕ)
    (ho : ∀ a, (![hd, 0] : Fin 2 → ℕ) a + S1x512.size a ≤ S8x512.size a := by decide) : Vec F S1x512 .f32 :=
  View.readAt (Elt F) M.view (Rect.unit (s := S8x512) ![hd, 0] S1x512.size ho).toLoadRect (h.unread x)

theorem band_pieces (c : Dev nD) (arg5 : Memref sig .tc .vmem S8x512 .f32) (harg5 : arg5.IsWhole) (x4 : Vec F S8x512 .f32) :
    kernelRun0_A.sl.HS0_8 c arg5 harg5 x4
      = [⟨Rect.unit ![7, 0, 0] S1x128x384.size inb_S8x128x384_S1x128x384_7_0_0, bandRow (biasAt arg5 harg5 x4 7)⟩,
         ⟨Rect.unit ![6, 0, 0] S1x128x384.size inb_S8x128x384_S1x128x384_6_0_0, bandRow (biasAt arg5 harg5 x4 6)⟩,
         ⟨Rect.unit ![5, 0, 0] S1x128x384.size inb_S8x128x384_S1x128x384_5_0_0, bandRow (biasAt arg5 harg5 x4 5)⟩,
         ⟨Rect.unit ![4, 0, 0] S1x128x384.size inb_S8x128x384_S1x128x384_4_0_0, bandRow (biasAt arg5 harg5 x4 4)⟩,
         ⟨Rect.unit ![3, 0, 0] S1x128x384.size inb_S8x128x384_S1x128x384_3_0_0, bandRow (biasAt arg5 harg5 x4 3)⟩,
         ⟨Rect.unit ![2, 0, 0] S1x128x384.size inb_S8x128x384_S1x128x384_2_0_0, bandRow (biasAt arg5 harg5 x4 2)⟩,
         ⟨Rect.unit ![1, 0, 0] S1x128x384.size inb_S8x128x384_S1x128x384_1_0_0, bandRow (biasAt arg5 harg5 x4 1)⟩,
         ⟨Rect.unit ![0, 0, 0] S1x128x384.size inb_S8x128x384_S1x128x384_0_0_0, bandRow (biasAt arg5 harg5 x4 0)⟩] := by
  unfold kernelRun0_A.sl.HS0_8
  sl_unfold_words
  dsimp only [k0_pay13, k0_pay12, k0_pay11, k0_pay10, k0_pay9, k0_pay8, k0_pay7, k0_pay6, k0_pay5, k0_pay4, k0_pay3, k0_pay2,
    bandRow, biasAt, inBand]

end

theorem biasAt_apply (M : Memref sig .tc .vmem S8x512 .f32) (h : M.IsWhole) (x : Vec Ideal S8x512 .f32) (hd : ℕ)
    (ho : ∀ a, (![hd, 0] : Fin 2 → ℕ) a + S1x512.size a ≤ S8x512.size a) (p : Fin 512) (H : Fin 8) (hH : H.val = hd) :
    biasAt M h x hd ho (ix2 0 p) = x (ix2 H p) := by
  unfold biasAt
  rw [View.readAt_eq_ld, h.read_unread]
  show x _ = x _
  congr 1
  funext a
  apply Fin.ext
  match a with
  | ⟨0, _⟩ => show hd + 1 * 0 = H.val; omega
  | ⟨1, _⟩ => show 0 + 1 * p.val = p.val; omega

theorem bandRow_apply (x : Vec Ideal S1x512 .f32) (r : Fin 128) (k : Fin 384) :
    (bandRow x (ix3 0 r k) : EReal) = if near r k.val then (((Real.log 2)⁻¹ : ℝ) : EReal) * x (ix2 0 ⟨(k.val + 512 - r.val) % 512, Nat.mod_lt _ (by decide)⟩) else ⊥ := by
  unfold bandRow
  rw [shapeCast_ab_1ab_apply]
  show (if inBand (ix2 r k) = 1#1 then _ else _) = _
  rw [inBand_apply]
  by_cases hn : near r k.val
  · rw [if_pos hn, if_pos rfl, if_pos hn]
    rw [extractStridedSlice_apply _ _ _ _ (ix2 r ⟨k.val, by omega⟩)
      (by intro a; match a with | ⟨0, _⟩ => exact (Nat.zero_add _).symm | ⟨1, _⟩ => exact (Nat.zero_add _).symm)]
    unfold dynamicRotate
    refine (broadcastTo_apply _ _ _ (ix2 0 ⟨(k.val + 512 - r.val) % 512, Nat.mod_lt _ (by decide)⟩) ?_).trans ?_
    · intro a
      match a with
      | ⟨0, _⟩ => rfl
      | ⟨1, _⟩ =>
        show (k.val + 512 - r.val) % 512 = (k.val + 512 - (0 + 1 * r.val) % 512) % 512
        have : (0 + 1 * r.val) % 512 = r.val := by omega
        rw [this]
    · rw [shapeCast_self, shapeCast_self]
      refine (mulf_apply _ _ _).trans ?_
      rw [broadcast_apply, log2e_ideal]
  · rw [if_neg hn, if_neg (by decide), if_neg hn, broadcast_apply, mask_ideal]

/-- The band's value at a head, a row and a slot, out of the rows of biases. -/
def bandNum (rows : Vec Ideal S8x512 .f32) (hd : Fin 8) (r : Fin 128) (x : Fin 384) : EReal :=
  if near r x.val then (((Real.log 2)⁻¹ : ℝ) : EReal) * rows (ix2 hd ⟨(x.val + 512 - r.val) % 512, Nat.mod_lt _ (by decide)⟩) else ⊥

/-- The whole band. -/
def bandVal (rows : Vec Ideal S8x512 .f32) (y : S8x128x384.Idx) : EReal := bandNum rows (y 0) (y 1) (y 2)

theorem band_piece (arg5 : Memref sig .tc .vmem S8x512 .f32) (harg5 : arg5.IsWhole) (x4 : Vec Ideal S8x512 .f32) (hd : ℕ) (H : Fin 8) (hH : H.val = hd)
    (ho : ∀ a, (![hd, 0] : Fin 2 → ℕ) a + S1x512.size a ≤ S8x512.size a)
    (hb : ∀ a, (![hd, 0, 0] : Fin 3 → ℕ) a + S1x128x384.size a ≤ S8x128x384.size a) (x : S1x128x384.Idx) :
    (bandRow (biasAt arg5 harg5 x4 hd ho) x : EReal) = bandVal x4 ((Rect.unit (s := S8x128x384) ![hd, 0, 0] S1x128x384.size hb).emb x) := by
  obtain ⟨u, r, k, rfl⟩ : ∃ (u : Fin 1) (r : Fin 128) (k : Fin 384), x = ix3 u r k := ⟨x 0, x 1, x 2, by
    funext a; match a with | ⟨0, _⟩ => rfl | ⟨1, _⟩ => rfl | ⟨2, _⟩ => rfl⟩
  obtain rfl : u = 0 := Subsingleton.elim _ _
  have e : (Rect.unit (s := S8x128x384) ![hd, 0, 0] S1x128x384.size hb).emb (ix3 0 r k) = ix3 H r k := by
    funext a
    apply Fin.ext
    match a with
    | ⟨0, _⟩ => show hd + 1 * 0 = H.val; omega
    | ⟨1, _⟩ => show 0 + 1 * r.val = r.val; omega
    | ⟨2, _⟩ => show 0 + 1 * k.val = k.val; omega
  rw [e, bandRow_apply, biasAt_apply arg5 harg5 x4 hd ho _ H hH]
  rfl

theorem band_agrees (c : Dev nD) (arg5 : Memref sig .tc .vmem S8x512 .f32) (harg5 : arg5.IsWhole) (x4 : Vec Ideal S8x512 .f32) :
    ∀ p ∈ kernelRun0_A.sl.HS0_8 c arg5 harg5 x4, ∀ x, p.2 x = bandVal x4 (p.1.emb x) := by
  rw [band_pieces]
  refine List.forall_mem_cons.mpr ⟨fun x => band_piece arg5 harg5 x4 7 7 rfl (by decide) (by decide) x, ?_⟩
  refine List.forall_mem_cons.mpr ⟨fun x => band_piece arg5 harg5 x4 6 6 rfl (by decide) (by decide) x, ?_⟩
  refine List.forall_mem_cons.mpr ⟨fun x => band_piece arg5 harg5 x4 5 5 rfl (by decide) (by decide) x, ?_⟩
  refine List.forall_mem_cons.mpr ⟨fun x => band_piece arg5 harg5 x4 4 4 rfl (by decide) (by decide) x, ?_⟩
  refine List.forall_mem_cons.mpr ⟨fun x => band_piece arg5 harg5 x4 3 3 rfl (by decide) (by decide) x, ?_⟩
  refine List.forall_mem_cons.mpr ⟨fun x => band_piece arg5 harg5 x4 2 2 rfl (by decide) (by decide) x, ?_⟩
  refine List.forall_mem_cons.mpr ⟨fun x => band_piece arg5 harg5 x4 1 1 rfl (by decide) (by decide) x, ?_⟩
  refine List.forall_mem_cons.mpr ⟨fun x => band_piece arg5 harg5 x4 0 0 rfl (by decide) (by decide) x, ?_⟩
  exact fun p hp => absurd hp List.not_mem_nil

/-- The rows of biases `rows` hold the biases of `D`. -/
def Rows (rows : Vec Ideal S8x512 .f32) (D : Data) : Prop := ∀ (hd : Fin 8) (r : Fin 128) (x : Fin 384), near r x.val →
  (rows (ix2 hd ⟨(x.val + 512 - r.val) % 512, Nat.mod_lt _ (by decide)⟩) : EReal) = ((D.β hd r x : ℝ) : EReal)

theorem bandVal_real (rows : Vec Ideal S8x512 .f32) (D : Data) (H : Rows rows D) (hd : Fin 8) (r : Fin 128) (x : Fin 384) :
    bandVal rows (ix3 hd r x) = if near r x.val then (((Real.log 2)⁻¹ * D.β hd r x : ℝ) : EReal) else ⊥ := by
  show (if near r x.val then _ else _) = _
  by_cases hn : near r x.val
  · rw [if_pos hn, if_pos hn]
    refine (congrArg (fun z : EReal => (((Real.log 2)⁻¹ : ℝ) : EReal) * z) (H hd r x hn)).trans (EReal.coe_mul _ _).symm
  · rw [if_neg hn, if_neg hn]

theorem bandAt_band (M : Memref sig .tc .vmem S8x128x384 .f32) (h : M.IsWhole) (x : Vec Ideal S8x128x384 .f32)
    (rows : Vec Ideal S8x512 .f32) (hx : ∀ y, (x y : EReal) = bandVal rows y) (D : Data) (H : Rows rows D) :
    Band (fun o n ho hd => bandAt M h x hd o n ho) D := by
  intro o n ho hd r k
  show (bandAt M h x hd o n ho (ix3 0 r k) : EReal) = _
  rw [bandAt_apply, hx, bandVal_real rows D H]

/-! ## The covered reads of the first point, and both cases' outputs -/

section
variable (c : Dev nD) (i : grid0.Coords) (arg1 : Memref sig .tc .smem S8 .f32) (harg1 : arg1.IsWhole) (arg2 : Memref sig .tc .vmem S1x2048x512 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S8x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S8x128x384 .f32) (harg8 : arg8.IsWhole)
    (x0 : Vec Ideal S8 .f32) (x1 : Vec Ideal S1x2048x512 .f32) (x2 : Vec Ideal S1x2048x256 .bf16) (x3 : Vec Ideal S1x2048x256 .bf16) (x4 : Vec Ideal S8x512 .f32) (x5 : Vec Ideal S1x2048x512 .bf16)

theorem first_band (hc0 : cond0_0 i) (y : S8x128x384.Idx) :
    (sout0_A_0 c i arg1 harg1 arg2 harg2 arg3 harg3 arg4 harg4 arg5 harg5 arg6 harg6 arg7 harg7 arg8 harg8 hc0 x0 x1 x2 x3 x4 x5 y : EReal) = bandVal x4 y := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  exact canon_agrees (bandVal x4) _ y (band_agrees c arg5 harg5 x4) (scover0_A_0 c i arg1 harg1 arg2 harg2 arg3 harg3 arg4 harg4 arg5 harg5 arg6 harg6 arg7 harg7 arg8 harg8 hc0 x0 x1 x2 x3 x4 x5 y)

include i arg1 harg1 arg2 harg2 arg3 harg3 arg4 harg4 arg6 harg6 harg8 in
theorem bandCov_band (hc0 : cond0_0 i) (D : Data) (H : Rows x4 D) : Band (bandCov arg8 (kernelRun0_A.sl.HS0_8 c arg5 harg5 x4)) D := by
  intro o n ho hd r k
  unfold bandCov
  rw [View.readCov_eq_canon']
  have e : (Rect.unit (s := S8x128x384) ![hd.val, 0, o] ![1, 128, n] (band_fits hd o n ho)).toLoadRect.idx (ix3 0 r k)
      = ix3 hd r ⟨o + k.val, by omega⟩ := by
    funext a
    apply Fin.ext
    match a with
    | ⟨0, _⟩ => show hd.val + 1 * 0 = hd.val; omega
    | ⟨1, _⟩ => show 0 + 1 * r.val = r.val; omega
    | ⟨2, _⟩ => show o + 1 * k.val = o + k.val; omega
  show View.canon _ _ = _
  rw [e]
  refine (canon_agrees (bandVal x4) _ _ (band_agrees c arg5 harg5 x4) ?_).trans (bandVal_real x4 D H hd r _)
  exact scover0_A_0 c i arg1 harg1 arg2 harg2 arg3 harg3 arg4 harg4 arg5 harg5 arg6 harg6 arg6 harg6 arg8 harg8 hc0
    (fun _ => (0 : EReal)) (fun _ => (0 : EReal)) (fun _ => (0 : EReal)) (fun _ => (0 : EReal)) x4 (fun _ => (0 : EReal)) _

theorem first_out (hc0 : cond0_0 i) (D : Data) (H : Holds x0 x1 x2 x3 D) (R : Rows x4 D) (y : S1x2048x512.Idx) :
    (out0_A_6 c i arg1 harg1 arg2 harg2 arg3 harg3 arg4 harg4 arg5 harg5 arg6 harg6 arg7 harg7 arg8 harg8 hc0 x0 x1 x2 x3 x4 x5 y : EReal) = D.out x5 (y 1) (y 2) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  have hc := cover0_A_6 c i arg1 harg1 arg2 harg2 arg3 harg3 arg4 harg4 arg5 harg5 arg6 harg6 arg7 harg7 arg8 harg8 hc0 x0 x1 x2 x3 x4 x5 y
  rw [pieces_A] at hc ⊢
  exact canon_agrees (fun y : S1x2048x512.Idx => D.out x5 (y 1) (y 2)) _ y
    (stores_agree arg1 harg1 arg2 harg2 arg3 harg3 arg4 harg4 arg6 harg6 x0 x1 x2 x3 x5 _ D H
      (bandCov_band c i arg1 harg1 arg2 harg2 arg3 harg3 arg4 harg4 arg5 harg5 arg6 harg6 arg8 harg8 x4 hc0 D R)) hc

theorem later_out (hc0 : ¬ cond0_0 i) (xs0 : Vec Ideal S8x128x384 .f32) (rows : Vec Ideal S8x512 .f32) (hs : ∀ y, (xs0 y : EReal) = bandVal rows y)
    (D : Data) (H : Holds x0 x1 x2 x3 D) (R : Rows rows D) (y : S1x2048x512.Idx) :
    (out0_B_6 c i arg1 harg1 arg2 harg2 arg3 harg3 arg4 harg4 arg5 harg5 arg6 harg6 arg7 harg7 arg8 harg8 hc0 x0 x1 x2 x3 x4 x5 xs0 y : EReal) = D.out x5 (y 1) (y 2) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  have hc := cover0_B_6 c i arg1 harg1 arg2 harg2 arg3 harg3 arg4 harg4 arg5 harg5 arg6 harg6 arg7 harg7 arg8 harg8 hc0 x0 x1 x2 x3 x4 x5 xs0 y
  rw [pieces_B] at hc ⊢
  exact canon_agrees (fun y : S1x2048x512.Idx => D.out x5 (y 1) (y 2)) _ y
    (stores_agree arg1 harg1 arg2 harg2 arg3 harg3 arg4 harg4 arg6 harg6 x0 x1 x2 x3 x5 _ D H (bandAt_band arg8 harg8 xs0 rows hs D R)) hc

end

end Cert.Attn

end
-- ==== Proof.Grid.lean ====
module

public import proofs.«01_k».proof.Proof.Band
public import proofs.«01_k».proof.Proof.Gen.KernelIdeal.Value
public import Idealize.ShloMosaic.Lib.Routing.Ops

/-! The arrays the launch finds, its blocks at a grid point, and the array it leaves. -/

@[expose] public section

noncomputable section

namespace Cert.Attn

open Cert.KernelIdeal Cert.KernelIdeal.Gen Idealize.ShloMosaic Idealize.ShloMosaic.ValueIdx
open scoped BigOperators

/-! ## The host's arrays -/

/-- A tensor beside its halves swapped. -/
def withSwap {F : FTy → Type} [FloatOps F] [Named F] (x : Vec F S16x2048x128 .f32) : Vec F S16x2048x256 .bf16 :=
  truncf .bf16 (concatenate S16x2048x256 2 [⟨S16x2048x128, x⟩, ⟨S16x2048x128, concatenate S16x2048x128 2
    [⟨S16x2048x64, extractStridedSlice S16x2048x64 ![0, 0, 64] x slices_S16x2048x128_S16x2048x64_0_0_64⟩,
     ⟨S16x2048x64, extractStridedSlice S16x2048x64 ![0, 0, 0] x slices_S16x2048x128_S16x2048x64_0_0_0⟩]
    concatenates_S16x2048x64_S16x2048x64_S16x2048x128_d2⟩] concatenates_S16x2048x128_S16x2048x128_S16x2048x256_d2) bitsLt_bf16_f32

/-- The rows of biases: the table's rows at the buckets, transposed. -/
def biasRows {F : FTy → Type} [FloatOps F] [Named F] (x : Vec F S32x8 .f32) : Vec F S8x512 .f32 :=
  transpose S8x512 [1, 0] (Host.gather gather_S32x8_S512x1_S512x8_1_0_n_n_0_1_18 x
    (broadcastInDim S512x1 ![0] bcast_S512_S512x1_0 (fun i => lit0 (S512.rowMajor i) : Vec F S512 .i32))) transposes_S512x8_S8x512_1_0

section
variable {F : FTy → Type} [FloatOps F] [Named F] (m : (ℓ : Loc nD τ sig) → Buf (Elt F) ℓ) (c : Dev nD)

theorem V_keys : V m c main_v4 = withSwap (m ((c.tc : Thread nD τ).loc main_arg1)) := by rfl
theorem V_values : V m c main_v7 = withSwap (m ((c.tc : Thread nD τ).loc main_arg2)) := by rfl
theorem V_rows : V m c main_v1 = biasRows (m ((c.tc : Thread nD τ).loc main_arg4)) := by unfold biasRows; rfl
end

/-- Column of a key head's dimension. -/
def kvCol (j : Fin 2) (d : Fin 64) : Fin 128 := ⟨j.val * 64 + d.val, by omega⟩

theorem kcol_val (j e : Fin 2) (d : Fin 64) : (kcol j e d).val = (if j = e then 0 else 128) + (e.val * 64 + d.val) := by
  simp only [kcol, lane, half]

theorem withSwap_apply (x : Vec Ideal S16x2048x128 .f32) (b : Fin 16) (t : Fin 2048) (j e : Fin 2) (d : Fin 64) :
    (withSwap x (ix3 b t (kcol j e d)) : EReal) = x (ix3 b t (kvCol j d)) := by
  unfold withSwap
  rw [truncf_apply]
  have hk := kcol_val j e d
  by_cases h : j = e
  · subst h
    rw [if_pos rfl] at hk
    refine (concatenate_apply_piece (t := S16x2048x256) 2 [⟨S16x2048x128, x⟩, ⟨S16x2048x128, concatenate S16x2048x128 2
      [⟨S16x2048x64, extractStridedSlice S16x2048x64 ![0, 0, 64] x slices_S16x2048x128_S16x2048x64_0_0_64⟩,
       ⟨S16x2048x64, extractStridedSlice S16x2048x64 ![0, 0, 0] x slices_S16x2048x128_S16x2048x64_0_0_0⟩]
      concatenates_S16x2048x64_S16x2048x64_S16x2048x128_d2⟩] concatenates_S16x2048x128_S16x2048x128_S16x2048x256_d2 _ 0 (by simp) S16x2048x128 x
      rfl rfl 0 rfl (ix3 b t (kvCol j d)) (fun a ha => ?_) ?_)
    · match a with
      | ⟨0, _⟩ => rfl
      | ⟨1, _⟩ => rfl
      | ⟨2, _⟩ => exact absurd rfl ha
    · show 0 + (j.val * 64 + d.val) = (kcol j j d).val
      omega
  · rw [if_neg h] at hk
    have hje : j.val + e.val = 1 := by
      have : j.val ≠ e.val := fun h' => h (Fin.ext h')
      omega
    refine (concatenate_apply_piece (t := S16x2048x256) 2 [⟨S16x2048x128, x⟩, ⟨S16x2048x128, concatenate S16x2048x128 2
      [⟨S16x2048x64, extractStridedSlice S16x2048x64 ![0, 0, 64] x slices_S16x2048x128_S16x2048x64_0_0_64⟩,
       ⟨S16x2048x64, extractStridedSlice S16x2048x64 ![0, 0, 0] x slices_S16x2048x128_S16x2048x64_0_0_0⟩]
      concatenates_S16x2048x64_S16x2048x64_S16x2048x128_d2⟩] concatenates_S16x2048x128_S16x2048x128_S16x2048x256_d2 _ 1 (by simp) S16x2048x128 _
      rfl rfl 128 rfl (ix3 b t (kvCol e d)) (fun a ha => ?_) ?_).trans ?_
    · match a with
      | ⟨0, _⟩ => rfl
      | ⟨1, _⟩ => rfl
      | ⟨2, _⟩ => exact absurd rfl ha
    · show 128 + (e.val * 64 + d.val) = (kcol j e d).val
      omega
    · match e, hje with
      | ⟨0, _⟩, hje =>
        refine (concatenate_apply_piece (t := S16x2048x128) 2
          [⟨S16x2048x64, extractStridedSlice S16x2048x64 ![0, 0, 64] x slices_S16x2048x128_S16x2048x64_0_0_64⟩,
           ⟨S16x2048x64, extractStridedSlice S16x2048x64 ![0, 0, 0] x slices_S16x2048x128_S16x2048x64_0_0_0⟩]
          concatenates_S16x2048x64_S16x2048x64_S16x2048x128_d2 _ 0 (by simp) S16x2048x64 _ rfl rfl 0 rfl (ix3 b t d) (fun a ha => ?_) ?_).trans ?_
        · match a with
          | ⟨0, _⟩ => rfl
          | ⟨1, _⟩ => rfl
          | ⟨2, _⟩ => exact absurd rfl ha
        · show 0 + d.val = 0 * 64 + d.val
          omega
        · refine extractStridedSlice_apply _ _ _ _ _ fun a => ?_
          match a with
          | ⟨0, _⟩ => exact (Nat.zero_add _).symm
          | ⟨1, _⟩ => exact (Nat.zero_add _).symm
          | ⟨2, _⟩ => show j.val * 64 + d.val = 64 + d.val; simp only at hje; omega
      | ⟨1, _⟩, hje =>
        refine (concatenate_apply_piece (t := S16x2048x128) 2
          [⟨S16x2048x64, extractStridedSlice S16x2048x64 ![0, 0, 64] x slices_S16x2048x128_S16x2048x64_0_0_64⟩,
           ⟨S16x2048x64, extractStridedSlice S16x2048x64 ![0, 0, 0] x slices_S16x2048x128_S16x2048x64_0_0_0⟩]
          concatenates_S16x2048x64_S16x2048x64_S16x2048x128_d2 _ 1 (by simp) S16x2048x64 _ rfl rfl 64 rfl (ix3 b t d) (fun a ha => ?_) ?_).trans ?_
        · match a with
          | ⟨0, _⟩ => rfl
          | ⟨1, _⟩ => rfl
          | ⟨2, _⟩ => exact absurd rfl ha
        · show 64 + d.val = 1 * 64 + d.val
          omega
        · refine extractStridedSlice_apply _ _ _ _ _ fun a => ?_
          match a with
          | ⟨0, _⟩ => exact (Nat.zero_add _).symm
          | ⟨1, _⟩ => exact (Nat.zero_add _).symm
          | ⟨2, _⟩ => show j.val * 64 + d.val = 0 + d.val; simp only at hje; omega

/-- The bucket of a distance. -/
def near15 (n : ℕ) : ℕ := if n < 8 then n else min 15 (2 + Nat.log2 (n * n))

/-- The bucket of slot `p` beyond the query's row: its relative position is `p - 128`. -/
def bucket (p : ℕ) : Fin 32 := ⟨((if 128 < p then 16 else 0) + near15 ((p - 128) + (128 - p))) % 32, Nat.mod_lt _ (by decide)⟩

theorem buckets : ∀ p : Fin 257, lit0 (S512.rowMajor (ix1 ⟨p.val, by omega⟩)) = BitVec.ofNat 32 (bucket p.val).val := by
  decide +kernel

theorem biasRows_apply (x : Vec Ideal S32x8 .f32) (hd : Fin 8) (p : Fin 512) (hp : p.val < 257) :
    biasRows x (ix2 hd p) = x (ix2 (bucket p.val) hd) := by
  unfold biasRows
  refine (transpose_apply _ _ _ _ (ix2 p hd) ?_).trans ?_
  · intro a
    match a with
    | ⟨0, _⟩ => rfl
    | ⟨1, _⟩ => rfl
  · refine Routing.gather_row gather_S32x8_S512x1_S512x8_1_0_n_n_0_1_18 rfl rfl rfl rfl rfl x _ p hd (bucket p.val) ?_ (by decide)
    refine (broadcastInDim_apply _ _ _ _ (ix1 p) ?_).trans (buckets ⟨p.val, hp⟩)
    intro a
    match a with
    | ⟨0, _⟩ => rfl

end Cert.Attn

end
-- ==== Proof.RefBucket.lean ====
module

public import proofs.«01_k».proof.Proof.Grid
public import proofs.«01_k».proof.Proof.Gen.ReferenceIdeal.Read

/-! The bucket the reference computes for a slot of the window is the one the kernel's table holds. -/

@[expose] public section

noncomputable section

namespace Cert.Attn

open Cert.ReferenceIdeal Cert.ReferenceIdeal.Gen Cert.ReferenceIdeal.Read Idealize.ShloMosaic Idealize.ShloMosaic.ValueIdx
open scoped BigOperators

/-- The relative position of slot `x` of row `r`. -/
theorem rel_at (r : Fin 128) (x : Fin 384) (h : r.val ≤ x.val) :
    val_main_v27 (F := Ideal) (ix2 r x) = BitVec.ofNat 32 (x.val - r.val) - 128#32 := by
  rw [val_main_v27_apply, val_main_v25_apply, val_main_v22_apply, val_main_v20_apply, val_main_v19_apply, val_main_v21_apply,
    val_main_c_1_apply, val_main_v26_apply, val_main_v24_apply, val_main_v23_apply]
  show BitVec.ofNat 32 x.val - 128#32 - BitVec.ofNat 32 r.val = _
  have e : BitVec.ofNat 32 x.val = BitVec.ofNat 32 (x.val - r.val) + BitVec.ofNat 32 r.val := by
    rw [← BitVec.ofNat_add]
    congr 1
    omega
  rw [e, BitVec.sub_eq_add_neg, BitVec.sub_eq_add_neg, BitVec.sub_eq_add_neg, BitVec.add_assoc, BitVec.add_assoc,
    BitVec.add_comm (BitVec.ofNat 32 r.val), BitVec.add_assoc, BitVec.add_comm (-BitVec.ofNat 32 r.val),
    ← BitVec.sub_eq_add_neg (BitVec.ofNat 32 r.val), BitVec.sub_self, BitVec.add_zero]

/-- The logarithmic step count of a distance given as a word. -/
def steps (a : BitVec 32) : BitVec 32 :=
  FloatOps.fptosi (F := Ideal) (φ := .f32) 32 (FloatOps.mulf (FloatOps.hostDivf (FloatOps.hostUnary .log (FloatOps.hostDivf (FloatOps.sitofp .f32 (IntOp.maxsi a 1#32))
    (FloatOps.ofBits .f32 0x41000000#32))) (FloatOps.hostUnary .log (FloatOps.ofBits .f32 0x41800000#32))) (FloatOps.ofBits .f32 0x41000000#32))

/-- The bucket less its half, of a distance given as a word. -/
def small (a : BitVec 32) : BitVec 32 :=
  Scalar.select (IntOp.cmpi .slt a 8#32) a (IntOp.minsi (IntOp.addi 8#32 (steps a)) 15#32)

/-- The bucket of a relative position whose distance has the small part `s`. -/
def whole (z s : BitVec 32) : BitVec 32 :=
  let b := IntOp.addi (IntOp.muli ((IntOp.cmpi .sgt z 0#32).setWidth 32) 16#32) s
  Scalar.select (IntOp.cmpi .slt b 0#32) (IntOp.addi b 32#32) b

theorem bucket_word (y : S128x384.Idx) :
    val_main_v58 (F := Ideal) y = whole (val_main_v27 (F := Ideal) y) (small (IntOp.absi (val_main_v27 (F := Ideal) y))) := by
  unfold whole small steps
  simp only [val_main_v58_apply, val_main_v57_apply, val_main_v56_apply, val_main_v55_apply, val_main_v54_apply, val_main_v53_apply,
    val_main_v52_apply, val_main_v51_apply, val_main_v50_apply, val_main_v49_apply, val_main_v48_apply, val_main_v47_apply,
    val_main_v46_apply, val_main_v45_apply, val_main_v44_apply, val_main_v43_apply, val_main_v42_apply, val_main_v41_apply,
    val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_c_2_apply, val_main_c_3_apply, val_main_c_4_apply, val_main_cst_5_apply, val_main_cst_6_apply,
    val_main_cst_7_apply, val_main_c_8_apply, val_main_c_9_apply, val_main_c_10_apply, val_main_c_11_apply, val_main_c_12_apply]

theorem eight_ideal : Ideal.ofBits .f32 0x41000000#32 = ((8 : ℝ) : EReal) := by
  simp [Ideal.ofBits, Ideal.ieee, -EReal.coe_mul]; norm_num

theorem sixteen_ideal : Ideal.ofBits .f32 0x41800000#32 = ((16 : ℝ) : EReal) := by
  simp [Ideal.ofBits, Ideal.ieee, -EReal.coe_mul]; norm_num

/-- The number of half-octaves from 8 to `n`. -/
theorem octaves (n k : ℕ) (hn : 8 ≤ n) (h1 : 2 ^ k * 64 ≤ n * n) (h2 : n * n < 2 ^ (k + 1) * 64) :
    ⌊Real.log ((n : ℝ) * 8⁻¹) * (Real.log 16)⁻¹ * 8⌋ = (k : ℤ) := by
  have hl : 0 < Real.log 2 := Real.log_pos (by norm_num)
  have h16 : Real.log 16 = 4 * Real.log 2 := by
    rw [show (16 : ℝ) = 2 ^ 4 by norm_num, Real.log_pow]; norm_num
  have hp : (0 : ℝ) < (n : ℝ) * 8⁻¹ := by
    have : (0 : ℝ) < n := by exact_mod_cast (by omega : 0 < n)
    positivity
  have e : Real.log ((n : ℝ) * 8⁻¹) * (Real.log 16)⁻¹ * 8 = Real.log (((n : ℝ) * 8⁻¹) ^ 2) / Real.log 2 := by
    rw [h16, Real.log_pow]
    field_simp
    push_cast
    ring
  have a1 : (2 : ℝ) ^ k ≤ ((n : ℝ) * 8⁻¹) ^ 2 := by
    have : ((2 ^ k * 64 : ℕ) : ℝ) ≤ ((n * n : ℕ) : ℝ) := by exact_mod_cast h1
    push_cast at this
    nlinarith
  have a2 : ((n : ℝ) * 8⁻¹) ^ 2 < (2 : ℝ) ^ (k + 1) := by
    have : ((n * n : ℕ) : ℝ) < ((2 ^ (k + 1) * 64 : ℕ) : ℝ) := by exact_mod_cast h2
    push_cast at this
    nlinarith
  rw [e, Int.floor_eq_iff]
  constructor
  · rw [le_div_iff₀ hl]
    have := Real.log_le_log (by positivity) a1
    rw [Real.log_pow] at this
    exact_mod_cast this
  · rw [div_lt_iff₀ hl]
    have := Real.log_lt_log (by positivity) a2
    have e2 : Real.log ((2 : ℝ) ^ (k + 1)) = ((k + 1 : ℕ) : ℝ) * Real.log 2 := Real.log_pow _ _
    rw [e2] at this
    push_cast at this ⊢
    exact this

theorem octave_bounds : ∀ n : Fin 129, 8 ≤ n.val →
    2 ^ (Nat.log2 (n.val * n.val) - 6) * 64 ≤ n.val * n.val ∧ n.val * n.val < 2 ^ (Nat.log2 (n.val * n.val) - 6 + 1) * 64
      ∧ Nat.log2 (n.val * n.val) - 6 ≤ 8 := by
  decide +kernel

theorem steps_at (n : Fin 129) (hn : 8 ≤ n.val) : steps (BitVec.ofNat 32 n.val) = BitVec.ofNat 32 (Nat.log2 (n.val * n.val) - 6) := by
  obtain ⟨h1, h2, h3⟩ := octave_bounds n hn
  have hmax : (IntOp.maxsi (BitVec.ofNat 32 n.val) 1#32).toInt = (n.val : ℤ) := by
    revert hn h1 h2 h3
    revert n
    decide +kernel
  have hn0 : (0 : ℝ) < n.val := by exact_mod_cast (by omega : 0 < n.val)
  have hf := octaves n.val _ hn h1 h2
  have h16 : 0 < Real.log 16 := Real.log_pos (by norm_num)
  unfold steps
  have e : (FloatOps.mulf (FloatOps.hostDivf (FloatOps.hostUnary .log (FloatOps.hostDivf (FloatOps.sitofp (F := Ideal) .f32 (IntOp.maxsi (BitVec.ofNat 32 n.val) 1#32))
    (FloatOps.ofBits .f32 0x41000000#32))) (FloatOps.hostUnary .log (FloatOps.ofBits .f32 0x41800000#32))) (FloatOps.ofBits .f32 0x41000000#32) : Ideal .f32)
      = ((Real.log ((n.val : ℝ) * 8⁻¹) * (Real.log 16)⁻¹ * 8 : ℝ) : EReal) := by
    show Ideal.div (Ideal.log (Ideal.div (((IntOp.maxsi (BitVec.ofNat 32 n.val) 1#32).toInt : ℝ) : EReal) (Ideal.ofBits .f32 0x41000000#32)))
      (Ideal.log (Ideal.ofBits .f32 0x41800000#32)) * Ideal.ofBits .f32 0x41000000#32 = _
    rw [hmax, eight_ideal, sixteen_ideal, div_real _ 8 (by norm_num)]
    have l1 : Ideal.log ((((n.val : ℤ) : ℝ) : EReal) * ((8⁻¹ : ℝ) : EReal)) = ((Real.log ((n.val : ℝ) * 8⁻¹) : ℝ) : EReal) := by
      rw [← EReal.coe_mul]
      show (if ((n.val : ℤ) : ℝ) * 8⁻¹ ≤ 0 then (⊥ : EReal) else _) = _
      rw [if_neg (by push_cast; exact not_le.mpr (by positivity))]
      push_cast
      rfl
    have l2 : Ideal.log ((16 : ℝ) : EReal) = ((Real.log 16 : ℝ) : EReal) := by
      show (if (16 : ℝ) ≤ 0 then (⊥ : EReal) else _) = _
      rw [if_neg (by norm_num)]
    rw [l1, l2, div_real _ _ h16, ← EReal.coe_mul, ← EReal.coe_mul]
  rw [e]
  show Ideal.fptosi 32 _ = _
  unfold Ideal.fptosi
  rw [Ideal.toIntClamped_coe]
  have hpos : 0 ≤ Real.log ((n.val : ℝ) * 8⁻¹) * (Real.log 16)⁻¹ * 8 := by
    have : 0 ≤ ⌊Real.log ((n.val : ℝ) * 8⁻¹) * (Real.log 16)⁻¹ * 8⌋ := by rw [hf]; exact Int.natCast_nonneg _
    exact Int.floor_nonneg.mp this
  rw [if_pos hpos, hf]
  generalize Nat.log2 (n.val * n.val) - 6 = k at h3
  clear e hf hpos h1 h2
  interval_cases k <;> decide

/-- The distance of slot `p`, as a word. -/
theorem dist_word : ∀ p : Fin 257, IntOp.absi (BitVec.ofNat 32 p.val - 128#32) = BitVec.ofNat 32 ((p.val - 128) + (128 - p.val)) := by
  decide +kernel

theorem small_at (n : Fin 129) : small (BitVec.ofNat 32 n.val) = BitVec.ofNat 32 (near15 n.val) := by
  unfold small
  by_cases hn : n.val < 8
  · have : ∀ n : Fin 129, n.val < 8 → IntOp.cmpi .slt (BitVec.ofNat 32 n.val) 8#32 = 1#1 ∧ near15 n.val = n.val := by decide +kernel
    rw [(this n hn).1, (this n hn).2]
    rfl
  · have : ∀ n : Fin 129, ¬ n.val < 8 → IntOp.cmpi .slt (BitVec.ofNat 32 n.val) 8#32 = 0#1
        ∧ IntOp.minsi (IntOp.addi 8#32 (BitVec.ofNat 32 (Nat.log2 (n.val * n.val) - 6))) 15#32 = BitVec.ofNat 32 (near15 n.val) := by decide +kernel
    rw [steps_at n (by omega), (this n hn).1, (this n hn).2]
    rfl

theorem whole_at : ∀ p : Fin 257, whole (BitVec.ofNat 32 p.val - 128#32) (BitVec.ofNat 32 (near15 ((p.val - 128) + (128 - p.val))))
    = BitVec.ofNat 32 (bucket p.val).val := by
  decide +kernel

/-- The reference's bucket of a slot near its row. -/
theorem bucket_at (r : Fin 128) (x : Fin 384) (hn : near r x.val) :
    val_main_v58 (F := Ideal) (ix2 r x) = BitVec.ofNat 32 (bucket (x.val - r.val)).val := by
  have h1 : r.val ≤ x.val ∧ x.val ≤ r.val + 256 := hn
  rw [bucket_word, rel_at r x h1.1]
  have hd := dist_word ⟨x.val - r.val, by omega⟩
  have hw := whole_at ⟨x.val - r.val, by omega⟩
  have hs := small_at ⟨(x.val - r.val - 128) + (128 - (x.val - r.val)), by omega⟩
  dsimp only at hd hw hs
  rw [hd, hs, hw]

/-- A row of the table, taken by the reference. -/
theorem taken_at (x4 : Vec Ideal S32x8 .f32) (r : Fin 128) (x : Fin 384) (hd : Fin 8) (b : Fin 32)
    (hb : val_main_v59 (F := Ideal) (ix3 r x 0) = BitVec.ofNat 32 b.val) :
    val_main_v60 (F := Ideal) x4 (ix3 r x hd) = x4 (ix2 b hd) := by
  unfold val_main_v60 Host.gather
  let d := gather_S32x8_S128x384x1_S128x384x8_2_0_n_n_0_2_18
  refine congrArg x4 (funext fun a => Fin.ext ?_)
  have hbN : ∀ a', a' ∉ d.operandBatchingDims := fun a' => List.not_mem_nil
  match a with
  | ⟨0, _⟩ =>
    have hk : (0 : Fin 2) ∉ d.sKept := by decide
    have hm : (0 : Fin 2) ∈ d.startIndexMap := by decide
    show d.start (ix3 r x hd) (val_main_v59 (F := Ideal)) 0 + d.batchCoord (ix3 r x hd) 0 + d.offCoord (ix3 r x hd) 0 = b.val
    rw [d.batchCoord_eq_zero _ _ (hbN 0), d.offCoord_eq_zero _ _ hk]
    simp only [Nat.add_zero]
    unfold GatherDims.start
    rw [dif_pos hm]
    have hsi : d.siIdx (ix3 r x hd) ⟨d.startIndexMap.idxOf 0, List.idxOf_lt_length_iff.2 hm⟩ = ix3 r x (0 : Fin 1) := by
      funext b'
      apply Fin.ext
      match b' with
      | ⟨0, _⟩ => rfl
      | ⟨1, _⟩ => rfl
      | ⟨2, _⟩ => rfl
    rw [hsi, hb]
    show min ((BitVec.ofNat 32 b.val).toInt.toNat) 31 = b.val
    clear hsi hb
    revert b
    decide +kernel
  | ⟨1, _⟩ =>
    have hk : (1 : Fin 2) ∈ d.sKept := by decide
    have hm : (1 : Fin 2) ∉ d.startIndexMap := by decide
    show d.start (ix3 r x hd) (val_main_v59 (F := Ideal)) 1 + d.batchCoord (ix3 r x hd) 1 + d.offCoord (ix3 r x hd) 1 = hd.val
    rw [d.batchCoord_eq_zero _ _ (hbN 1), Nat.add_zero]
    unfold GatherDims.start GatherDims.offCoord
    rw [dif_neg hm, dif_pos hk, Nat.zero_add]
    rfl

end Cert.Attn

end
-- ==== Proof.RefWindow.lean ====
module

public import proofs.«01_k».proof.Proof.RefBucket
public import Idealize.ShloMosaic.Lib.KernelVsHost
public import Idealize.ShloMosaic.Lib.ValueIdxRank6

/-! The reference's window of keys and values about a chunk, and the slots it masks. -/

@[expose] public section

noncomputable section

namespace Cert.Attn

open Cert.ReferenceIdeal Cert.ReferenceIdeal.Gen Cert.ReferenceIdeal.Read Idealize.ShloMosaic Idealize.ShloMosaic.ValueIdx
open scoped BigOperators

/-- The padded sequence. -/
theorem padded_at (k : Vec Ideal S16x2048x128 .f32) (b : Fin 16) (n : Fin 2304) (j : Fin 2) (d : Fin 64) :
    (val_main_v2 (F := Ideal) k (ix4 b n j d) : EReal)
      = if 128 ≤ n.val ∧ n.val < 2176 then (k (ix3 b ⟨(n.val - 128) % 2048, Nat.mod_lt _ (by norm_num)⟩ (kvCol j d)) : EReal) else 0 := by
  unfold val_main_v2
  by_cases hn : 128 ≤ n.val ∧ n.val < 2176
  · rw [if_pos hn]
    refine (pad_apply_of_inside (s := S16x2048x2x64) (t := S16x2304x2x64) _ _ _ (val_main_v1 (F := Ideal) k) _ _ _ _ (ix4 b (⟨n.val - 128, by omega⟩ : Fin 2048) j d)
      (fun a => ?_)).trans ?_
    · match a with
      | ⟨0, _⟩ => show b.val = 0 + b.val * (0 + 1); omega
      | ⟨1, _⟩ => show n.val = 128 + (n.val - 128) * (0 + 1); omega
      | ⟨2, _⟩ => show j.val = 0 + j.val * (0 + 1); omega
      | ⟨3, _⟩ => show d.val = 0 + d.val * (0 + 1); omega
    · rw [val_main_v1_apply]
      congr 1
      funext a
      apply Fin.ext
      match a with
      | ⟨0, _⟩ => show (((b.val * 2048 + (n.val - 128)) * 2 + j.val) * 64 + d.val) / 262144 = b.val; omega
      | ⟨1, _⟩ => show (((b.val * 2048 + (n.val - 128)) * 2 + j.val) * 64 + d.val) / 128 % 2048 = (n.val - 128) % 2048; omega
      | ⟨2, _⟩ => show (((b.val * 2048 + (n.val - 128)) * 2 + j.val) * 64 + d.val) % 128 = j.val * 64 + d.val; omega
  · rw [if_neg hn]
    refine (pad_apply_of_not_inside (s := S16x2048x2x64) (t := S16x2304x2x64) _ _ _ (val_main_v1 (F := Ideal) k) _ _ _ _ (1 : Fin 4) ?_).trans ?_
    · rintro ⟨h1, _, h3⟩
      have h1' : 128 ≤ n.val := h1
      have h3' : (n.val - 128) / (0 + 1) < 2048 := h3
      omega
    · show ((((0#32 : BitVec 32).toInt : ℝ)) : EReal) = 0
      simp

/-- A block of the padded sequence. -/
theorem blocked_at (k : Vec Ideal S16x2048x128 .f32) (b : Fin 16) (p : Fin 18) (q : Fin 128) (j : Fin 2) (d : Fin 64) :
    val_main_v3 (F := Ideal) k (ix5 b p q j d) = val_main_v2 (F := Ideal) k (ix4 b (⟨p.val * 128 + q.val, by omega⟩ : Fin 2304) j d) := by
  rw [val_main_v3_apply]
  congr 1
  funext a
  apply Fin.ext
  match a with
  | ⟨0, _⟩ => show ((((b.val * 18 + p.val) * 128 + q.val) * 2 + j.val) * 64 + d.val) / 294912 = b.val; omega
  | ⟨1, _⟩ => show ((((b.val * 18 + p.val) * 128 + q.val) * 2 + j.val) * 64 + d.val) / 128 % 2304 = p.val * 128 + q.val; omega
  | ⟨2, _⟩ => show ((((b.val * 18 + p.val) * 128 + q.val) * 2 + j.val) * 64 + d.val) / 64 % 2 = j.val; omega
  | ⟨3, _⟩ => show ((((b.val * 18 + p.val) * 128 + q.val) * 2 + j.val) * 64 + d.val) % 64 = d.val; omega

/-- A slot of a chunk's window, as a block of the padded sequence. -/
theorem slot_at (k : Vec Ideal S16x2048x128 .f32) (b c : Fin 16) (x : Fin 384) (j : Fin 2) (d : Fin 64) :
    val_main_v7 (F := Ideal) k (ix5 b c x j d)
      = val_main_v3 (F := Ideal) k (ix5 b (⟨c.val + x.val / 128, by omega⟩ : Fin 18) (⟨x.val % 128, Nat.mod_lt _ (by norm_num)⟩ : Fin 128) j d) := by
  unfold val_main_v7
  have hx : x.val / 128 = 0 ∨ x.val / 128 = 1 ∨ x.val / 128 = 2 := by omega
  rcases hx with h0 | h1 | h2
  · refine (concatenate_apply_piece (t := S16x16x384x2x64) 2
      [⟨S16x16x128x2x64, val_main_v4 (F := Ideal) k⟩, ⟨S16x16x128x2x64, val_main_v5 (F := Ideal) k⟩, ⟨S16x16x128x2x64, val_main_v6 (F := Ideal) k⟩]
      concatenates_S16x16x128x2x64_S16x16x128x2x64_S16x16x128x2x64_S16x16x384x2x64_d2 _ 0 (by simp) S16x16x128x2x64 (val_main_v4 (F := Ideal) k) rfl rfl 0 rfl
      (ix5 b c (⟨x.val % 128, Nat.mod_lt _ (by norm_num)⟩ : Fin 128) j d) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show 0 + x.val % 128 = x.val; omega
    · rw [val_main_v4_apply]
      congr 1
      funext a
      apply Fin.ext
      match a with
      | ⟨0, _⟩ => rfl
      | ⟨1, _⟩ => show c.val = c.val + x.val / 128; omega
      | ⟨2, _⟩ => rfl
      | ⟨3, _⟩ => rfl
      | ⟨4, _⟩ => rfl
  · refine (concatenate_apply_piece (t := S16x16x384x2x64) 2
      [⟨S16x16x128x2x64, val_main_v4 (F := Ideal) k⟩, ⟨S16x16x128x2x64, val_main_v5 (F := Ideal) k⟩, ⟨S16x16x128x2x64, val_main_v6 (F := Ideal) k⟩]
      concatenates_S16x16x128x2x64_S16x16x128x2x64_S16x16x128x2x64_S16x16x384x2x64_d2 _ 1 (by simp) S16x16x128x2x64 (val_main_v5 (F := Ideal) k) rfl rfl 128 rfl
      (ix5 b c (⟨x.val % 128, Nat.mod_lt _ (by norm_num)⟩ : Fin 128) j d) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show 128 + x.val % 128 = x.val; omega
    · rw [val_main_v5_apply]
      congr 1
      funext a
      apply Fin.ext
      match a with
      | ⟨0, _⟩ => rfl
      | ⟨1, _⟩ => show 1 + c.val = c.val + x.val / 128; omega
      | ⟨2, _⟩ => rfl
      | ⟨3, _⟩ => rfl
      | ⟨4, _⟩ => rfl
  · refine (concatenate_apply_piece (t := S16x16x384x2x64) 2
      [⟨S16x16x128x2x64, val_main_v4 (F := Ideal) k⟩, ⟨S16x16x128x2x64, val_main_v5 (F := Ideal) k⟩, ⟨S16x16x128x2x64, val_main_v6 (F := Ideal) k⟩]
      concatenates_S16x16x128x2x64_S16x16x128x2x64_S16x16x128x2x64_S16x16x384x2x64_d2 _ 2 (by simp) S16x16x128x2x64 (val_main_v6 (F := Ideal) k) rfl rfl 256 rfl
      (ix5 b c (⟨x.val % 128, Nat.mod_lt _ (by norm_num)⟩ : Fin 128) j d) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show 256 + x.val % 128 = x.val; omega
    · rw [val_main_v6_apply]
      congr 1
      funext a
      apply Fin.ext
      match a with
      | ⟨0, _⟩ => rfl
      | ⟨1, _⟩ => show 2 + c.val = c.val + x.val / 128; omega
      | ⟨2, _⟩ => rfl
      | ⟨3, _⟩ => rfl
      | ⟨4, _⟩ => rfl

/-- A slot of a chunk's window. -/
theorem window_at (k : Vec Ideal S16x2048x128 .f32) (b c : Fin 16) (x : Fin 384) (j : Fin 2) (d : Fin 64) :
    (val_main_v7 (F := Ideal) k (ix5 b c x j d) : EReal) = if inside c.val x.val then (k (ix3 b (keyRow c.val x.val) (kvCol j d)) : EReal) else 0 := by
  rw [slot_at, blocked_at]
  have e : (c.val + x.val / 128) * 128 + x.val % 128 = c.val * 128 + x.val := by omega
  have e2 : (⟨(c.val + x.val / 128) * 128 + x.val % 128, by omega⟩ : Fin 2304) = ⟨c.val * 128 + x.val, by omega⟩ := Fin.ext e
  dsimp only
  rw [e2]
  exact padded_at k b ⟨c.val * 128 + x.val, by omega⟩ j d

theorem values_eq (v : Vec Ideal S16x2048x128 .f32) : val_main_v14 (F := Ideal) v = val_main_v7 (F := Ideal) v := rfl

/-! ### The mask -/

theorem inside_word : ∀ (c : Fin 16) (x : Fin 384),
    IntOp.andi (IntOp.cmpi .sge (BitVec.ofNat 32 c.val * 128#32 - 128#32 + BitVec.ofNat 32 x.val) 0#32)
      (IntOp.cmpi .slt (BitVec.ofNat 32 c.val * 128#32 - 128#32 + BitVec.ofNat 32 x.val) 2048#32)
      = if inside c.val x.val then 1#1 else 0#1 := by decide +kernel

theorem inside_at (c : Fin 16) (x : Fin 384) : val_main_v82 (F := Ideal) (ix2 c x) = if inside c.val x.val then 1#1 else 0#1 := by
  refine Eq.trans ?_ (inside_word c x)
  rw [val_main_v82_apply, val_main_v79_apply, val_main_v81_apply, val_main_v78_apply, val_main_v80_apply, val_main_v73_apply, val_main_v71_apply,
    val_main_v72_apply, val_main_v68_apply, val_main_v70_apply, val_main_v66_apply, val_main_v67_apply, val_main_v69_apply, val_main_v64_apply,
    val_main_v65_apply, val_main_v63_apply, val_main_c_16_apply, val_main_c_17_apply, val_main_c_13_apply, val_main_c_14_apply]
  rfl

theorem near_at (r : Fin 128) (x : Fin 384) : val_main_v76 (F := Ideal) (ix2 r x) = if near r x.val then 1#1 else 0#1 := by
  refine Eq.trans ?_ (inBand_apply r x)
  rw [val_main_v76_apply, val_main_v74_apply, val_main_v75_apply, val_main_c_15_apply, val_main_v27_apply, val_main_v25_apply, val_main_v22_apply,
    val_main_v20_apply, val_main_v19_apply, val_main_v21_apply, val_main_c_1_apply, val_main_v26_apply, val_main_v24_apply, val_main_v23_apply]
  unfold inBand
  show _ = IntOp.cmpi .sle (IntOp.absi (iota .tc Cert.KernelIdeal.S128x384 32 [1] Cert.KernelIdeal.Gen.iota_S128x384_d1_w32 (ix2 r x) - 128#32
    - iota .tc Cert.KernelIdeal.S128x384 32 [0] Cert.KernelIdeal.Gen.iota_S128x384_d0_w32 (ix2 r x))) 128#32
  rw [iota_single_apply, iota_single_apply]
  rfl

/-- The mask of a slot. -/
theorem mask_at (c : Fin 16) (r : Fin 128) (x : Fin 384) :
    val_main_v87 (F := Ideal) (ix6 0 c 0 0 r x) = if inside c.val x.val ∧ near r x.val then 1#1 else 0#1 := by
  have e1 : val_main_v84 (F := Ideal) (ix3 c r x) = val_main_v76 (F := Ideal) (ix2 r x) := by
    rw [val_main_v84_apply, val_main_v77_apply]
    congr 1
    funext a
    match a with
    | ⟨0, _⟩ => rfl
    | ⟨1, _⟩ => rfl
  have e2 : val_main_v85 (F := Ideal) (ix3 c r x) = val_main_v82 (F := Ideal) (ix2 c x) := by
    rw [val_main_v85_apply, val_main_v83_apply]
    congr 1
    funext a
    match a with
    | ⟨0, _⟩ => rfl
    | ⟨1, _⟩ => rfl
  have e0 : val_main_v87 (F := Ideal) (ix6 0 c 0 0 r x) = val_main_v86 (F := Ideal) (ix3 c r x) := by
    rw [val_main_v87_apply]
    congr 1
    funext a
    match a with
    | ⟨0, _⟩ => rfl
    | ⟨1, _⟩ => rfl
    | ⟨2, _⟩ => rfl
  rw [e0, val_main_v86_apply, e1, e2, near_at, inside_at]
  by_cases h1 : inside c.val x.val
  · by_cases h2 : near r x.val
    · rw [if_pos h1, if_pos h2, if_pos ⟨h1, h2⟩]; rfl
    · rw [if_pos h1, if_neg h2, if_neg (fun h => h2 h.2)]; rfl
  · by_cases h2 : near r x.val
    · rw [if_neg h1, if_pos h2, if_neg (fun h => h1 h.1)]; rfl
    · rw [if_neg h1, if_neg h2, if_neg (fun h => h1 h.1)]; rfl

end Cert.Attn

end
-- ==== Proof.Launch.lean ====
module

public import proofs.«01_k».proof.Proof.Grid

/-! What the launch leaves in its result: at every grid point the output block and the carried band are the ones the
block lemmas name, so the result array is the gated weighted mean at every index. -/

@[expose] public section

noncomputable section

namespace Cert.Attn

open Cert.KernelIdeal Cert.KernelIdeal.Gen Idealize.ShloMosaic Idealize.ShloMosaic.ValueIdx
open scoped BigOperators

/-- One batch of the arguments, read as reals where the weights need reals. -/
def dataAt (q : Vec Ideal S16x2048x512 .f32) (k v : Vec Ideal S16x2048x128 .f32) (s : Vec Ideal S8 .f32) (e : Vec Ideal S32x8 .f32)
    (b : Fin 16) : Data where
  qr t l := (q (ix3 b t l) : EReal).toReal
  kr t j d := (k (ix3 b t (kvCol j d)) : EReal).toReal
  vr t j d := v (ix3 b t (kvCol j d))
  β hd r x := (e (ix2 (bucket (x.val - r.val)) hd) : EReal).toReal
  sk hd := (s (ix1 hd) : EReal).toReal

/-- The arguments the weights are made of are real. -/
structure Real4 (q : Vec Ideal S16x2048x512 .f32) (k : Vec Ideal S16x2048x128 .f32) (s : Vec Ideal S8 .f32) (e : Vec Ideal S32x8 .f32) : Prop where
  query : ∀ i, ((q i : EReal).toReal : EReal) = q i
  key : ∀ i, ((k i : EReal).toReal : EReal) = k i
  sink : ∀ i, ((s i : EReal).toReal : EReal) = s i
  table : ∀ i, ((e i : EReal).toReal : EReal) = e i

section
variable (m : (ℓ : Loc nD τ sig) → Buf (Elt Ideal) ℓ) (c : Dev nD)

theorem idx_const : ∀ t : Fin cfg0.N, (∀ a, win0_0.index t a = 0) ∧ ∀ a, win0_4.index t a = 0 :=
  (by decide +kernel : ∀ t : Fin grid0.N, _)

theorem idx_batch : ∀ t : Fin cfg0.N,
    (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The point's batch. -/
def batch (t : Fin cfg0.N) : Fin 16 := ⟨t.val, lt_of_lt_of_eq t.isLt N_0⟩

theorem sink_block (t : Fin cfg0.N) : iblk m c 0 t = V m c main_arg3 := by
  funext j
  show V m c main_arg3 (((cfg0.win 0).blk t).view.emb j) = V m c main_arg3 j
  congr 1
  funext a
  apply Fin.ext
  match a with
  | ⟨0, _⟩ => show win0_0.index t (0 : Fin 1) * 8 + 1 * (j 0).val = (j 0).val; have := (idx_const t).1 0; omega

theorem rows_block (t : Fin cfg0.N) : iblk m c 4 t = V m c main_v1 := by
  funext j
  show V m c main_v1 (((cfg0.win 4).blk t).view.emb j) = V m c main_v1 j
  congr 1
  funext a
  apply Fin.ext
  match a with
  | ⟨0, _⟩ => show win0_4.index t (0 : Fin 2) * 8 + 1 * (j 0).val = (j 0).val; have := (idx_const t).2 0; omega
  | ⟨1, _⟩ => show win0_4.index t (1 : Fin 2) * 512 + 1 * (j 1).val = (j 1).val; have := (idx_const t).2 1; omega

theorem query_block (t : Fin cfg0.N) (r : Fin 2048) (l : Fin 512) :
    iblk m c 1 t (ix3 0 r l) = V m c main_arg0 (ix3 (batch t) r l) := by
  show V m c main_arg0 (((cfg0.win 1).blk t).view.emb (ix3 0 r l)) = _
  congr 1
  funext a
  apply Fin.ext
  obtain ⟨h0, h1, h2⟩ := (idx_batch t).1
  match a with
  | ⟨0, _⟩ => show win0_1.index t (0 : Fin 3) * 1 + 1 * 0 = t.val; omega
  | ⟨1, _⟩ => show win0_1.index t (1 : Fin 3) * 2048 + 1 * r.val = r.val; omega
  | ⟨2, _⟩ => show win0_1.index t (2 : Fin 3) * 512 + 1 * l.val = l.val; omega

theorem key_block (t : Fin cfg0.N) (r : Fin 2048) (l : Fin 256) :
    iblk m c 2 t (ix3 0 r l) = V m c main_v4 (ix3 (batch t) r l) := by
  show V m c main_v4 (((cfg0.win 2).blk t).view.emb (ix3 0 r l)) = _
  congr 1
  funext a
  apply Fin.ext
  obtain ⟨h0, h1, h2⟩ := (idx_batch t).2.1
  match a with
  | ⟨0, _⟩ => show win0_2.index t (0 : Fin 3) * 1 + 1 * 0 = t.val; omega
  | ⟨1, _⟩ => show win0_2.index t (1 : Fin 3) * 2048 + 1 * r.val = r.val; omega
  | ⟨2, _⟩ => show win0_2.index t (2 : Fin 3) * 256 + 1 * l.val = l.val; omega

theorem value_block (t : Fin cfg0.N) (r : Fin 2048) (l : Fin 256) :
    iblk m c 3 t (ix3 0 r l) = V m c main_v7 (ix3 (batch t) r l) := by
  show V m c main_v7 (((cfg0.win 3).blk t).view.emb (ix3 0 r l)) = _
  congr 1
  funext a
  apply Fin.ext
  obtain ⟨h0, h1, h2⟩ := (idx_batch t).2.2.1
  match a with
  | ⟨0, _⟩ => show win0_3.index t (0 : Fin 3) * 1 + 1 * 0 = t.val; omega
  | ⟨1, _⟩ => show win0_3.index t (1 : Fin 3) * 2048 + 1 * r.val = r.val; omega
  | ⟨2, _⟩ => show win0_3.index t (2 : Fin 3) * 256 + 1 * l.val = l.val; omega

theorem gate_block (t : Fin cfg0.N) (r : Fin 2048) (l : Fin 512) :
    iblk m c 5 t (ix3 0 r l) = V m c main_arg5 (ix3 (batch t) r l) := by
  show V m c main_arg5 (((cfg0.win 5).blk t).view.emb (ix3 0 r l)) = _
  congr 1
  funext a
  apply Fin.ext
  obtain ⟨h0, h1, h2⟩ := (idx_batch t).2.2.2
  match a with
  | ⟨0, _⟩ => show win0_5.index t (0 : Fin 3) * 1 + 1 * 0 = t.val; omega
  | ⟨1, _⟩ => show win0_5.index t (1 : Fin 3) * 2048 + 1 * r.val = r.val; omega
  | ⟨2, _⟩ => show win0_5.index t (2 : Fin 3) * 512 + 1 * l.val = l.val; omega

/-- The batch's data of the launch. -/
abbrev launched (b : Fin 16) : Data :=
  dataAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b

/-- What the weights need of the launch's arguments. -/
abbrev Finite4 : Prop :=
  Real4 (m ((c.tc : Thread nD τ).loc main_arg0)) (m ((c.tc : Thread nD τ).loc main_arg1))
    (m ((c.tc : Thread nD τ).loc main_arg3)) (m ((c.tc : Thread nD τ).loc main_arg4))

theorem holds_at (R : Finite4 m c) (t : Fin cfg0.N) :
    Holds (iblk m c 0 t) (iblk m c 1 t) (iblk m c 2 t) (iblk m c 3 t) (launched m c (batch t)) where
  sink hd := by
    rw [sink_block, V_main_arg3]
    exact (R.sink _).symm
  query r l := by
    refine (query_block m c t r l).trans ?_
    rw [V_main_arg0]
    exact (R.query _).symm
  key r j e d := by
    refine (key_block m c t r (kcol j e d)).trans ?_
    rw [V_keys]
    refine (withSwap_apply _ _ _ _ _ _).trans ?_
    exact (R.key _).symm
  value r j e d := by
    refine (value_block m c t r (kcol j e d)).trans ?_
    rw [V_values]
    exact withSwap_apply _ _ _ _ _ _

theorem rows_at (R : Finite4 m c) (b : Fin 16) : Rows (V m c main_v1) (launched m c b) := by
  intro hd r x hn
  rw [V_rows]
  have h1 : r.val ≤ x.val ∧ x.val ≤ r.val + 256 := hn
  have e : (⟨(x.val + 512 - r.val) % 512, Nat.mod_lt _ (by decide)⟩ : Fin 512) = ⟨x.val - r.val, by omega⟩ := by
    apply Fin.ext
    show (x.val + 512 - r.val) % 512 = x.val - r.val
    omega
  rw [e]
  refine (biasRows_apply _ hd ⟨x.val - r.val, by omega⟩ (by show x.val - r.val < 257; omega)).trans ?_
  exact (R.table _).symm

/-- A point of the first kind: the band it leaves and its output block. -/
theorem first_at (R : Finite4 m c) (t : Fin cfg0.N) (acc) (h0 : t.val % 16 = 0) :
    (∀ y, ((Cert.KernelIdeal.Value.stAt0 m c t.val t.isLt acc).2 y : EReal) = bandVal (V m c main_v1) y)
    ∧ ∀ y : S1x2048x512.Idx, ((Cert.KernelIdeal.Value.stAt0 m c t.val t.isLt acc).1 y : EReal)
        = (launched m c (batch t)).out (iblk m c 5 t) (y 1) (y 2) := by
  have e := Cert.KernelIdeal.Value.stAt0_A m c t acc h0
  have R4 : Rows (iblk m c 4 t) (launched m c (batch t)) := by
    rw [rows_block]
    exact rows_at m c R _
  refine ⟨fun y => ?_, fun y => ?_⟩
  · have f := (first_band c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) ((hcond0_0 t).mpr h0) y)
    rw [e]
    with_reducible exact f.trans (congrFun (congrArg bandVal (rows_block m c t)) y)
  · have f := first_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) ((hcond0_0 t).mpr h0) _ (holds_at m c R t) R4 y
    rw [e]
    with_reducible exact f

/-- A later point, over a band already there. -/
theorem later_at (R : Finite4 m c) (t : Fin cfg0.N) (acc : Vec Ideal S1x2048x512 .bf16 × Vec Ideal S8x128x384 .f32)
    (hb : ∀ y, (acc.2 y : EReal) = bandVal (V m c main_v1) y) (h0 : ¬ t.val % 16 = 0) :
    (∀ y, ((Cert.KernelIdeal.Value.stAt0 m c t.val t.isLt acc).2 y : EReal) = bandVal (V m c main_v1) y)
    ∧ ∀ y : S1x2048x512.Idx, ((Cert.KernelIdeal.Value.stAt0 m c t.val t.isLt acc).1 y : EReal)
        = (launched m c (batch t)).out (iblk m c 5 t) (y 1) (y 2) := by
  have e := Cert.KernelIdeal.Value.stAt0_B m c t acc h0
  refine ⟨fun y => ?_, fun y => ?_⟩
  · rw [e]
    exact hb y
  · have f := later_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (fun h => h0 ((hcond0_0 t).mp h)) acc.2 _ hb _ (holds_at m c R t) (rows_at m c R _) y
    rw [e]
    with_reducible exact f

/-- What point `n` leaves: the carried band and the output block. -/
theorem outs_at (R : Finite4 m c) : ∀ (n : ℕ) (hn : n < cfg0.N),
    (∀ y, ((outsAt0 m c n hn).2 y : EReal) = bandVal (V m c main_v1) y)
    ∧ ∀ y : S1x2048x512.Idx, ((outsAt0 m c n hn).1 y : EReal) = (launched m c (batch ⟨n, hn⟩)).out (iblk m c 5 ⟨n, hn⟩) (y 1) (y 2) := by
  intro n
  induction n with
  | zero =>
    intro hn
    rw [Cert.KernelIdeal.Value.outsAt0_zero]
    exact first_at m c R ⟨0, hn⟩ _ (Nat.zero_mod _)
  | succ n ih =>
    intro hn
    obtain ⟨hb, -⟩ := ih (Nat.lt_of_succ_lt hn)
    have hN := lt_of_lt_of_eq hn (show cfg0.N = 16 from N_0)
    rw [Cert.KernelIdeal.Value.outsAt0_succ]
    exact later_at m c R ⟨n + 1, hn⟩ _ hb (by show ¬ (n + 1) % 16 = 0; omega)

/-- The result array at an index. -/
theorem result_at (R : Finite4 m c) (b : Fin 16) (t : Fin 2048) (l : Fin 512) :
    (Cert.KernelIdeal.Value.G6 m c (ix3 b t l) : EReal)
      = (launched m c b).out (fun i => m ((c.tc : Thread nD τ).loc main_arg5) (ix3 b (i 1) (i 2))) t l := by
  have hp : Cert.KernelIdeal.Value.pt6Of (ix3 b t l) = b.val := by
    show 1 * (b.val / 1 - 0) + 1 * (t.val / 2048 - 0) + 1 * (l.val / 512 - 0) = b.val
    omega
  have hb : b.val < cfg0.N := lt_of_lt_of_eq b.isLt N_0.symm
  unfold Cert.KernelIdeal.Value.G6
  rw [dif_pos (by rw [hp]; exact hb), Cert.KernelIdeal.Value.fold0_congr m c _ _ b.val (by omega) hp,
    ← Cert.KernelIdeal.Value.outsAt0_sweep m c b.val hb]
  have hl : Cert.KernelIdeal.Value.loc6Of (ix3 b t l) = ix3 0 t l := by
    funext a
    apply Fin.ext
    match a with
    | ⟨0, _⟩ => exact Nat.mod_one _
    | ⟨1, _⟩ => exact Nat.mod_eq_of_lt t.isLt
    | ⟨2, _⟩ => exact Nat.mod_eq_of_lt l.isLt
  rw [hl]
  refine ((outs_at m c R b.val hb).2 (ix3 0 t l)).trans ?_
  unfold Data.out
  have hg := gate_block m c ⟨b.val, hb⟩ t l
  rw [V_main_arg5] at hg
  show _ * (iblk m c 5 ⟨b.val, hb⟩ (ix3 0 t l) : EReal) = _
  rw [hg]
  rfl

end

end Cert.Attn

end
-- ==== Proof.RefMean.lean ====
module

public import proofs.«01_k».proof.Proof.RefWindow
public import proofs.«01_k».proof.Proof.Launch

/-! The reference's attention is the softmax mean of each window, gated. -/

@[expose] public section

noncomputable section

namespace Cert.Attn

open Cert.ReferenceIdeal Cert.ReferenceIdeal.Gen Cert.ReferenceIdeal.Read Idealize.ShloMosaic Idealize.ShloMosaic.ValueIdx
open scoped BigOperators

/-- The member `i, e` of a group of four heads. -/
def member (i e : Fin 2) : Fin 4 := ⟨i.val * 2 + e.val, by omega⟩

/-- A left fold by the greater of two stays below the top. -/
theorem foldl_max_lt {ι : Type} (f : ι → EReal) (hf : ∀ n, f n < ⊤) : ∀ (l : List ι) (z : EReal), z < ⊤ →
    l.foldl (fun r n => max r (f n)) z < ⊤
  | [], _, hz => hz
  | n :: l, _, hz => foldl_max_lt f hf l _ (max_lt hz (hf n))

theorem reduce_max_lt {s t u : Shape} {axes : List (Fin s.rank)} (x : s.Idx → Ideal .f32) (z : u.Idx → Ideal .f32) (h : s.ReducesTo axes t)
    (hu : 0 < u.numel) (hx : ∀ i, (x i : EReal) < ⊤) (hz : ∀ i, (z i : EReal) < ⊤) (j : t.Idx) :
    (Host.reduce (FloatOps.maximumf (F := Ideal) (φ := .f32)) x z h hu j : EReal) < ⊤ :=
  foldl_max_lt (fun n => (x (s.rowMajor.symm n) : EReal)) (fun _ => hx _) _ _ (hz _)

theorem neg_inf_ideal : Ideal.ofBits .f32 0xFF800000#32 = ⊥ := by
  simp [Ideal.ofBits, Ideal.ieee]

theorem eighth_ideal : Ideal.ofBits .f32 0x3E000000#32 = ((8⁻¹ : ℝ) : EReal) := by
  simp [Ideal.ofBits, Ideal.ieee, -EReal.coe_mul]; norm_num

variable {q : Vec Ideal S16x2048x512 .f32} {k : Vec Ideal S16x2048x128 .f32} (v : Vec Ideal S16x2048x128 .f32) {s : Vec Ideal S8 .f32}
    {e : Vec Ideal S32x8 .f32} (R : Real4 q k s e)

/-- A slot's logit. -/
def Data.logit (D : Data) (c : Fin 16) (r : Fin 128) (j i e : Fin 2) (x : Fin 384) : ℝ :=
  (∑ d, D.qr (rowOf c r) (qcol j i e d) * D.kr (keyRow c x) j d) / 8 + D.β (head j i e) r x

/-- The query of a row and head. -/
theorem query_at (b c : Fin 16) (r : Fin 128) (j i e : Fin 2) (d : Fin 64) :
    val_main_v0 (F := Ideal) q (ix6 b c r j (member i e) d) = q (ix3 b (rowOf c r) (qcol j i e d)) := by
  unfold val_main_v0
  refine shapeCast_apply q _ _ _ ?_
  rw [Shape.rowMajor_val_three, Shape.rowMajor_val_six]
  show (b.val * 2048 + (c.val * 128 + r.val)) * 512 + ((j.val * 2 + i.val) * 128 + (e.val * 64 + d.val))
    = ((((b.val * 16 + c.val) * 128 + r.val) * 2 + j.val) * 4 + (i.val * 2 + e.val)) * 64 + d.val
  omega

include R in
/-- A scaled score. -/
theorem score_at (b c : Fin 16) (r : Fin 128) (j i e' : Fin 2) (x : Fin 384) (hx : inside c.val x.val) :
    (val_main_v18 (F := Ideal) q k (ix6 b c j (member i e') r x) : EReal)
      = (((∑ d, (dataAt q k v s e b).qr (rowOf c r) (qcol j i e' d) * (dataAt q k v s e b).kr (keyRow c x) j d) / 8 : ℝ) : EReal) := by
  have e16 : val_main_v16 (F := Ideal) q k (ix6 b c j (member i e') r x) = val_main_v15 (F := Ideal) q k (ix6 b c j x r (member i e')) := by
    rw [val_main_v16_apply]
    congr 1
    funext a
    match a with
    | ⟨0, _⟩ => rfl
    | ⟨1, _⟩ => rfl
    | ⟨2, _⟩ => rfl
    | ⟨3, _⟩ => rfl
    | ⟨4, _⟩ => rfl
    | ⟨5, _⟩ => rfl
  have e15 : (val_main_v15 (F := Ideal) q k (ix6 b c j x r (member i e')) : EReal)
      = ((∑ d, (dataAt q k v s e b).qr (rowOf c r) (qcol j i e' d) * (dataAt q k v s e b).kr (keyRow c x) j d : ℝ) : EReal) := by
    rw [val_main_v15_apply, ← coe_sum_real]
    refine Finset.sum_congr rfl fun d _ => ?_
    have el : lidx_main_v15 (ix6 b c j x r (member i e')) d = ix5 b c x j d := by
      funext a
      match a with
      | ⟨0, _⟩ => rfl
      | ⟨1, _⟩ => rfl
      | ⟨2, _⟩ => rfl
      | ⟨3, _⟩ => rfl
      | ⟨4, _⟩ => rfl
    have er : ridx_main_v15 (ix6 b c j x r (member i e')) d = ix6 b c r j (member i e') d := by
      funext a
      match a with
      | ⟨0, _⟩ => rfl
      | ⟨1, _⟩ => rfl
      | ⟨2, _⟩ => rfl
      | ⟨3, _⟩ => rfl
      | ⟨4, _⟩ => rfl
      | ⟨5, _⟩ => rfl
    rw [el, er, query_at]
    have hw := window_at k b c x j d
    rw [if_pos hx] at hw
    rw [EReal.coe_mul, mul_comm]
    refine congrArg₂ (· * ·) (R.query _).symm ?_
    exact hw.trans (R.key _).symm
  rw [val_main_v18_apply, e16, val_main_v17_apply]
  show (_ : EReal) * Ideal.ofBits .f32 0x3E000000#32 = _
  rw [e15, eighth_ideal, ← EReal.coe_mul, div_eq_mul_inv]

include R in
/-- The bias of a slot in the band. -/
theorem bias_at (b c : Fin 16) (r : Fin 128) (j i e' : Fin 2) (x : Fin 384) (hn : near r x.val) :
    (val_main_v89 (F := Ideal) e (ix6 b c j (member i e') r x) : EReal) = ((dataAt q k v s e b).β (head j i e') r x : EReal) := by
  have e1 : val_main_v89 (F := Ideal) e (ix6 b c j (member i e') r x) = val_main_v62 (F := Ideal) e (ix4 j (member i e') r x) := by
    rw [val_main_v89_apply, val_main_v88_apply]
    congr 1
    funext a
    match a with
    | ⟨0, _⟩ => rfl
    | ⟨1, _⟩ => rfl
    | ⟨2, _⟩ => rfl
    | ⟨3, _⟩ => rfl
  have e2 : val_main_v62 (F := Ideal) e (ix4 j (member i e') r x) = val_main_v61 (F := Ideal) e (ix3 (head j i e') r x) := by
    rw [val_main_v62_apply]
    congr 1
    funext a
    apply Fin.ext
    match a with
    | ⟨0, _⟩ => show (((j.val * 4 + (i.val * 2 + e'.val)) * 128 + r.val) * 384 + x.val) / 49152 = j.val * 4 + i.val * 2 + e'.val; omega
    | ⟨1, _⟩ => show (((j.val * 4 + (i.val * 2 + e'.val)) * 128 + r.val) * 384 + x.val) / 384 % 128 = r.val; omega
    | ⟨2, _⟩ => show (((j.val * 4 + (i.val * 2 + e'.val)) * 128 + r.val) * 384 + x.val) % 384 = x.val; omega
  have e3 : val_main_v61 (F := Ideal) e (ix3 (head j i e') r x) = val_main_v60 (F := Ideal) e (ix3 r x (head j i e')) := by
    rw [val_main_v61_apply]
    congr 1
    funext a
    match a with
    | ⟨0, _⟩ => rfl
    | ⟨1, _⟩ => rfl
    | ⟨2, _⟩ => rfl
  have hb : val_main_v59 (F := Ideal) (ix3 r x 0) = BitVec.ofNat 32 (bucket (x.val - r.val)).val := by
    refine Eq.trans ?_ (bucket_at r x hn)
    rw [val_main_v59_apply]
    congr 1
    funext a
    match a with
    | ⟨0, _⟩ => rfl
    | ⟨1, _⟩ => rfl
  rw [e1, e2, e3, taken_at e r x (head j i e') _ hb]
  exact (R.table _).symm

include R in
/-- A masked logit. -/
theorem logit_at (b c : Fin 16) (r : Fin 128) (j i e' : Fin 2) (x : Fin 384) :
    (val_main_v91 (F := Ideal) q k e (ix6 b c j (member i e') r x) : EReal)
      = if inside c.val x.val ∧ near r x.val then (((dataAt q k v s e b).logit c r j i e' x : ℝ) : EReal) else ⊥ := by
  have e1 : val_main_call3_v1 (F := Ideal) (ix6 b c j (member i e') r x) = val_main_v87 (F := Ideal) (ix6 0 c 0 0 r x) := by
    rw [val_main_call3_v1_apply]
    congr 1
    funext a
    match a with
    | ⟨0, _⟩ => rfl
    | ⟨1, _⟩ => rfl
    | ⟨2, _⟩ => rfl
    | ⟨3, _⟩ => rfl
    | ⟨4, _⟩ => rfl
    | ⟨5, _⟩ => rfl
  rw [val_main_v91_apply, e1, mask_at]
  by_cases h : inside c.val x.val ∧ near r x.val
  · rw [if_pos h, if_pos h]
    show (val_main_v90 (F := Ideal) q k e (ix6 b c j (member i e') r x) : EReal) = _
    rw [val_main_v90_apply]
    show (val_main_v18 (F := Ideal) q k (ix6 b c j (member i e') r x) : EReal) + (val_main_v89 (F := Ideal) e (ix6 b c j (member i e') r x) : EReal) = _
    rw [score_at v R b c r j i e' x h.1, bias_at v R b c r j i e' x h.2, ← EReal.coe_add]
    rfl
  · rw [if_neg h, if_neg h]
    show (val_main_call3_v2 (F := Ideal) (ix6 b c j (member i e') r x) : EReal) = ⊥
    rw [val_main_call3_v2_apply]
    exact neg_inf_ideal

theorem member_split (g : Fin 4) : ∃ i e : Fin 2, g = member i e :=
  ⟨⟨g.val / 2, by omega⟩, ⟨g.val % 2, by omega⟩, Fin.ext (by show g.val = g.val / 2 * 2 + g.val % 2; omega)⟩

include R in
theorem logit_lt_top (i : S16x16x2x4x128x384.Idx) : (val_main_v91 (F := Ideal) q k e i : EReal) < ⊤ := by
  obtain ⟨b, c, j, g, r, x, rfl⟩ : ∃ b c j g r x, i = ix6 b c j g r x := ⟨_, _, _, _, _, _, eq_ix6 i⟩
  obtain ⟨i', e', rfl⟩ := member_split g
  refine lt_of_eq_of_lt (logit_at k R b c r j i' e' x) ?_
  by_cases h : inside c.val x.val ∧ near r x.val
  · rw [if_pos h]; exact EReal.coe_lt_top _
  · rw [if_neg h]; exact bot_lt_top

/-- The sink of a head, in the reference's layout. -/
theorem sink_at (j i e' : Fin 2) : val_main_v93 (F := Ideal) s (ix6 0 0 j (member i e') 0 0) = s (ix1 (head j i e')) := by
  rw [val_main_v93_apply, val_main_v92_apply]
  congr 1
  funext a
  apply Fin.ext
  match a with
  | ⟨0, _⟩ => show j.val * 4 + (i.val * 2 + e'.val) = j.val * 4 + i.val * 2 + e'.val; omega

include R in
/-- The row's shift is real. -/
theorem shift_at (b c : Fin 16) (r : Fin 128) (j i e' : Fin 2) :
    ∃ M : ℝ, (val_main_v97 (F := Ideal) q k s e (ix6 b c j (member i e') r 0) : EReal) = (M : EReal) := by
  rw [val_main_v97_apply]
  have h1 : (val_main_v95 (F := Ideal) q k e (ix6 b c j (member i e') r 0) : EReal) < ⊤ := by
    rw [val_main_v95_apply]
    unfold val_main_v94
    refine reduce_max_lt _ _ _ _ (logit_lt_top R) (fun i => ?_) _
    exact lt_of_eq_of_lt neg_inf_ideal bot_lt_top
  have h2 : (val_main_v96 (F := Ideal) s (ix6 b c j (member i e') r 0) : EReal) = (((s (ix1 (head j i e')) : EReal).toReal : ℝ) : EReal) := by
    rw [R.sink, ← sink_at (s := s) j i e', val_main_v96_apply]
    congr 1
    funext a
    match a with
    | ⟨0, _⟩ => rfl
    | ⟨1, _⟩ => rfl
    | ⟨2, _⟩ => rfl
    | ⟨3, _⟩ => rfl
    | ⟨4, _⟩ => rfl
    | ⟨5, _⟩ => rfl
  show ∃ M : ℝ, max (val_main_v95 (F := Ideal) q k e (ix6 b c j (member i e') r 0) : EReal) (val_main_v96 (F := Ideal) s (ix6 b c j (member i e') r 0) : EReal) = M
  rw [h2]
  refine ⟨(max (val_main_v95 (F := Ideal) q k e (ix6 b c j (member i e') r 0) : EReal) _).toReal, (EReal.coe_toReal ?_ ?_).symm⟩
  · exact (max_lt h1 (EReal.coe_lt_top _)).ne
  · exact (lt_of_lt_of_le (EReal.bot_lt_coe _) (le_max_right _ _)).ne'

include R in
/-- A slot's shifted weight. -/
theorem weight_at (b c : Fin 16) (r : Fin 128) (j i e' : Fin 2) (x : Fin 384) (M : ℝ)
    (hM : (val_main_v97 (F := Ideal) q k s e (ix6 b c j (member i e') r 0) : EReal) = (M : EReal)) :
    (val_main_v100 (F := Ideal) q k s e (ix6 b c j (member i e') r x) : EReal)
      = (((dataAt q k v s e b).weight c r j i e' x * Real.exp (-M) : ℝ) : EReal) := by
  have e1 : val_main_v98 (F := Ideal) q k s e (ix6 b c j (member i e') r x) = val_main_v97 (F := Ideal) q k s e (ix6 b c j (member i e') r 0) := by
    rw [val_main_v98_apply]
    refine congrArg (val_main_v97 (F := Ideal) q k s e) ?_
    funext a
    match a with
    | ⟨0, _⟩ => rfl
    | ⟨1, _⟩ => rfl
    | ⟨2, _⟩ => rfl
    | ⟨3, _⟩ => rfl
    | ⟨4, _⟩ => rfl
    | ⟨5, _⟩ => rfl
  rw [val_main_v100_apply, val_main_v99_apply, e1]
  show Ideal.exp ((val_main_v91 (F := Ideal) q k e (ix6 b c j (member i e') r x) : EReal)
    - (val_main_v97 (F := Ideal) q k s e (ix6 b c j (member i e') r 0) : EReal)) = _
  rw [hM, logit_at v R]
  unfold Data.weight
  by_cases h : inside c.val x.val ∧ near r x.val
  · rw [if_pos h, if_pos h, ← EReal.coe_sub, Ideal.exp_coe, sub_eq_add_neg, Real.exp_add]
    rfl
  · rw [if_neg h, if_neg h, zero_mul, EReal.bot_sub]
    exact Ideal.exp_bot

include R in
/-- A row's shifted total. -/
theorem total_at (b c : Fin 16) (r : Fin 128) (j i e' : Fin 2) (M : ℝ)
    (hM : (val_main_v97 (F := Ideal) q k s e (ix6 b c j (member i e') r 0) : EReal) = (M : EReal)) :
    (val_main_v106 (F := Ideal) q k s e (ix6 b c j (member i e') r 0) : EReal)
      = ((((∑ x, (dataAt q k v s e b).weight c r j i e' x) + Real.exp ((dataAt q k v s e b).sk (head j i e'))) * Real.exp (-M) : ℝ) : EReal) := by
  have e1 : val_main_v102 (F := Ideal) q k s e (ix6 b c j (member i e') r 0) = val_main_v101 (F := Ideal) q k s e (ix5 b c j (member i e') r) := by
    rw [val_main_v102_apply]
    refine congrArg (val_main_v101 (F := Ideal) q k s e) ?_
    funext a
    match a with
    | ⟨0, _⟩ => rfl
    | ⟨1, _⟩ => rfl
    | ⟨2, _⟩ => rfl
    | ⟨3, _⟩ => rfl
    | ⟨4, _⟩ => rfl
  have e2 : (val_main_v101 (F := Ideal) q k s e (ix5 b c j (member i e') r) : EReal)
      = (((∑ x, (dataAt q k v s e b).weight c r j i e' x) * Real.exp (-M) : ℝ) : EReal) := by
    rw [val_main_v101_apply, Finset.sum_mul, ← coe_sum_real]
    have hz : (val_main_cst_20 (F := Ideal) (Shape.Idx.first h_S_) : EReal) = 0 := Ideal.ofBits_zero_f32
    rw [hz, zero_add]
    refine Finset.sum_congr rfl fun x _ => ?_
    refine Eq.trans ?_ (weight_at v R b c r j i e' x M hM)
    refine congrArg (val_main_v100 (F := Ideal) q k s e) ?_
    funext a
    match a with
    | ⟨0, _⟩ => rfl
    | ⟨1, _⟩ => rfl
    | ⟨2, _⟩ => rfl
    | ⟨3, _⟩ => rfl
    | ⟨4, _⟩ => rfl
    | ⟨5, _⟩ => rfl
  have e3 : (val_main_v103 (F := Ideal) s (ix6 b c j (member i e') r 0) : EReal) = ((dataAt q k v s e b).sk (head j i e') : EReal) := by
    refine Eq.trans ?_ (R.sink _).symm
    rw [← sink_at (s := s) j i e', val_main_v103_apply]
    refine congrArg (val_main_v93 (F := Ideal) s) ?_
    funext a
    match a with
    | ⟨0, _⟩ => rfl
    | ⟨1, _⟩ => rfl
    | ⟨2, _⟩ => rfl
    | ⟨3, _⟩ => rfl
    | ⟨4, _⟩ => rfl
    | ⟨5, _⟩ => rfl
  have e4 : (val_main_v105 (F := Ideal) q k s e (ix6 b c j (member i e') r 0) : EReal)
      = ((Real.exp ((dataAt q k v s e b).sk (head j i e')) * Real.exp (-M) : ℝ) : EReal) := by
    rw [val_main_v105_apply, val_main_v104_apply]
    show Ideal.exp ((val_main_v103 (F := Ideal) s (ix6 b c j (member i e') r 0) : EReal)
      - (val_main_v97 (F := Ideal) q k s e (ix6 b c j (member i e') r 0) : EReal)) = _
    rw [hM, e3, ← EReal.coe_sub, Ideal.exp_coe, sub_eq_add_neg, Real.exp_add]
  rw [val_main_v106_apply, e1]
  show (val_main_v101 (F := Ideal) q k s e (ix5 b c j (member i e') r) : EReal) + (val_main_v105 (F := Ideal) q k s e (ix6 b c j (member i e') r 0) : EReal) = _
  rw [e2, e4, ← EReal.coe_add, add_mul]

include R in
/-- A slot's share of its row. -/
theorem share_at (b c : Fin 16) (r : Fin 128) (j i e' : Fin 2) (x : Fin 384) :
    (val_main_v108 (F := Ideal) q k s e (ix6 b c j (member i e') r x) : EReal)
      = (((dataAt q k v s e b).weight c r j i e' x
          / ((∑ x, (dataAt q k v s e b).weight c r j i e' x) + Real.exp ((dataAt q k v s e b).sk (head j i e'))) : ℝ) : EReal) := by
  obtain ⟨M, hM⟩ := shift_at R b c r j i e'
  have e1 : val_main_v107 (F := Ideal) q k s e (ix6 b c j (member i e') r x) = val_main_v106 (F := Ideal) q k s e (ix6 b c j (member i e') r 0) := by
    rw [val_main_v107_apply]
    refine congrArg (val_main_v106 (F := Ideal) q k s e) ?_
    funext a
    match a with
    | ⟨0, _⟩ => rfl
    | ⟨1, _⟩ => rfl
    | ⟨2, _⟩ => rfl
    | ⟨3, _⟩ => rfl
    | ⟨4, _⟩ => rfl
    | ⟨5, _⟩ => rfl
  have hw : ∀ x, 0 ≤ (dataAt q k v s e b).weight c r j i e' x := fun x => by
    unfold Data.weight
    split
    · exact (Real.exp_pos _).le
    · exact le_rfl
  have hS : 0 < (∑ x, (dataAt q k v s e b).weight c r j i e' x) + Real.exp ((dataAt q k v s e b).sk (head j i e')) :=
    add_pos_of_nonneg_of_pos (Finset.sum_nonneg fun x _ => hw x) (Real.exp_pos _)
  rw [val_main_v108_apply, e1]
  show Ideal.div (val_main_v100 (F := Ideal) q k s e (ix6 b c j (member i e') r x) : EReal)
    (val_main_v106 (F := Ideal) q k s e (ix6 b c j (member i e') r 0) : EReal) = _
  rw [weight_at v R b c r j i e' x M hM, total_at v R b c r j i e' M hM, div_real _ _ (mul_pos hS (Real.exp_pos _)), ← EReal.coe_mul]
  refine congrArg Real.toEReal ?_
  have hM0 := (Real.exp_pos (-M)).ne'
  field_simp

include R in
/-- The softmax mean of a window. -/
theorem mean_at (b c : Fin 16) (r : Fin 128) (j i e' : Fin 2) (d : Fin 64) :
    (val_main_v109 (F := Ideal) q k v s e (ix6 b c j d (member i e') r) : EReal) = (dataAt q k v s e b).mean c r j i e' d := by
  rw [val_main_v109_apply]
  unfold Data.mean
  refine Finset.sum_congr rfl fun x _ => ?_
  have el : lidx_main_v109 (ix6 b c j d (member i e') r) x = ix5 b c x j d := by
    funext a
    match a with
    | ⟨0, _⟩ => rfl
    | ⟨1, _⟩ => rfl
    | ⟨2, _⟩ => rfl
    | ⟨3, _⟩ => rfl
    | ⟨4, _⟩ => rfl
  have er : ridx_main_v109 (ix6 b c j d (member i e') r) x = ix6 b c j (member i e') r x := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [el, er, share_at v R, mul_comm, values_eq]
  refine congrArg₂ (· * ·) rfl ?_
  exact window_at v b c x j d

include R in
/-- The reference's result. -/
theorem reference_at (za : Vec Ideal S16x2048x512 .bf16) (b : Fin 16) (t : Fin 2048) (l : Fin 512) :
    (val_main_v114 (F := Ideal) q k v s e za (ix3 b t l) : EReal)
      = (dataAt q k v s e b).out (fun i => za (ix3 b (i 1) (i 2))) t l := by
  have e1 : val_main_v111 (F := Ideal) q k v s e (ix3 b t l)
      = val_main_v109 (F := Ideal) q k v s e (ix6 b (⟨t.val / 128, by omega⟩ : Fin 16) (⟨l.val / 256, by omega⟩ : Fin 2) (⟨l.val % 64, by omega⟩ : Fin 64)
          (member ⟨l.val / 128 % 2, by omega⟩ ⟨l.val / 64 % 2, by omega⟩) (⟨t.val % 128, by omega⟩ : Fin 128)) := by
    unfold val_main_v111
    refine (shapeCast_apply _ _ _ (ix6 b (⟨t.val / 128, by omega⟩ : Fin 16) (⟨t.val % 128, by omega⟩ : Fin 128) (⟨l.val / 256, by omega⟩ : Fin 2)
      (member ⟨l.val / 128 % 2, by omega⟩ ⟨l.val / 64 % 2, by omega⟩) (⟨l.val % 64, by omega⟩ : Fin 64)) ?_).trans ?_
    · rw [Shape.rowMajor_val_three, Shape.rowMajor_val_six]
      show ((((b.val * 16 + t.val / 128) * 128 + t.val % 128) * 2 + l.val / 256) * 4 + (l.val / 128 % 2 * 2 + l.val / 64 % 2)) * 64 + l.val % 64
        = (b.val * 2048 + t.val) * 512 + l.val
      omega
    · rw [val_main_v110_apply]
      congr 1
      funext a
      match a with
      | ⟨0, _⟩ => rfl
      | ⟨1, _⟩ => rfl
      | ⟨2, _⟩ => rfl
      | ⟨3, _⟩ => rfl
      | ⟨4, _⟩ => rfl
      | ⟨5, _⟩ => rfl
  rw [val_main_v114_apply, val_main_v113_apply, val_main_v112_apply, e1]
  show (val_main_v109 (F := Ideal) q k v s e _ : EReal) * (za (ix3 b t l) : EReal) = _
  rw [mean_at v R]
  rfl

end Cert.Attn

end
-- ==== Proof.Finite.lean ====
module

public import proofs.«01_k».proof.Defs
public import proofs.«01_k».proof.Proof.RefMean
public import proofs.«01_k».proof.Proof.Gen.Pre_finite_logits
public import Idealize.ShloMosaic.Lib.ReduceAll

/-! What the precondition says: the arguments the weights are made of are real. -/

@[expose] public section

noncomputable section

namespace Cert.Attn

open Idealize.ShloMosaic Idealize.ShloMosaic.ValueIdx

/-- An extended real whose absolute value is below the top is real. -/
theorem real_of_abs_lt (x : EReal) (h : max x (-x) < ⊤) : ((x.toReal : ℝ) : EReal) = x := by
  refine EReal.coe_toReal ?_ ?_
  · rintro rfl
    exact absurd ((le_max_left _ _).trans_lt h) (lt_irrefl _)
  · rintro rfl
    exact absurd ((le_max_right _ _).trans_lt h) (by simp)

theorem inf_ideal : Ideal.ofBits .f32 0x7F800000#32 = ⊤ := by
  simp [Ideal.ofBits, Ideal.ieee]

instance : Subsingleton Cert.Pre_finite_logits.S_.Idx := ⟨fun a b => funext fun i => i.elim0⟩

/-- An array whose entries all compare below infinity in absolute value is real everywhere. -/
theorem real_of_all {s : Shape} {axes : List (Fin s.rank)} (x : Vec Ideal s .f32) (y : IVec Cert.Pre_finite_logits.S_ 1)
    (hb : Cert.Pre_finite_logits.S_.BroadcastsInDim s (![] : Fin 0 → Fin s.rank)) (h : s.ReducesTo axes Cert.Pre_finite_logits.S_)
    (hu : 0 < Cert.Pre_finite_logits.S_.numel) (j : Cert.Pre_finite_logits.S_.Idx)
    (e : Host.reduce IntOp.andi (cmpf (F := Ideal) (φ := .f32) .olt (Host.absf x)
      (broadcastInDim s ![] hb (constant Cert.Pre_finite_logits.S_ .f32 0x7F800000#32))) y h hu j = 1#1) (i : s.Idx) :
    (((x i : EReal).toReal : ℝ) : EReal) = x i := by
  have h1 := Host.reduce_andi_all _ _ _ _ _ e i
  have h2 : Ideal.cmp .olt (max (x i : EReal) (-(x i : EReal))) (Ideal.ofBits .f32 0x7F800000#32) = 1#1 := h1
  rw [inf_ideal] at h2
  refine real_of_abs_lt _ ?_
  by_contra hn
  have h3 : Ideal.cmp .olt (max (x i : EReal) (-(x i : EReal))) ⊤ = 0#1 := by
    show BitVec.ofBool (decide _) = _
    rw [decide_eq_false hn]
    rfl
  rw [h3] at h2
  exact absurd h2 (by decide)

/-- The precondition gives real queries, keys, sinks and biases. -/
theorem real_of_pre {q : Vec Ideal Cert.Pre_finite_logits.S16x2048x512 .f32} {k v : Vec Ideal Cert.Pre_finite_logits.S16x2048x128 .f32}
    {s : Vec Ideal Cert.Pre_finite_logits.S8 .f32} {e : Vec Ideal Cert.Pre_finite_logits.S32x8 .f32}
    {za : Vec Ideal Cert.Pre_finite_logits.S16x2048x512 .bf16} (h : Cert.Pre_finite_logits.fn (F := Ideal) q k v s e za = fun _ => 1#1) :
    Real4 q k s e := by
  have h0 := congrFun h (fun i => i.elim0)
  unfold Cert.Pre_finite_logits.fn Cert.Pre_finite_logits.fn_part1 at h0
  obtain ⟨h1, ht⟩ := IntOp.andi_eq_one.1 h0
  obtain ⟨h2, hs⟩ := IntOp.andi_eq_one.1 h1
  obtain ⟨hq, hk⟩ := IntOp.andi_eq_one.1 h2
  exact ⟨real_of_all _ _ _ _ _ _ hq, real_of_all _ _ _ _ _ _ hk, real_of_all _ _ _ _ _ _ hs, real_of_all _ _ _ _ _ _ ht⟩

end Cert.Attn

end
-- ==== Proof.MergeMath.lean ====
module

public import proofs.«01_k».proof.Proof.Mean

/-! The merge of one token, in plain extended reals; and how its kernel's powers of two cancel. -/

@[expose] public section

noncomputable section

namespace Cert.Merge

open Idealize.ShloMosaic Cert.Attn
open scoped BigOperators

/-! ## The literals -/

theorem half_ideal : (Ideal.ofBits .f32 0x3F000000#32 : EReal) = ((1 / 2 : ℝ) : EReal) := by
  simp [Ideal.ofBits, Ideal.ieee, -EReal.coe_mul]; norm_num
theorem one_ideal : (Ideal.ofBits .f32 0x3F800000#32 : EReal) = 1 := by
  rw [← EReal.coe_one]
  simp [Ideal.ofBits, Ideal.ieee, -EReal.coe_mul, -EReal.coe_one]; norm_num
theorem quarter_ideal : (Ideal.ofBits .f32 0x3E800000#32 : EReal) = ((1 / 4 : ℝ) : EReal) := by
  simp [Ideal.ofBits, Ideal.ieee, -EReal.coe_mul]; norm_num

/-! ## One token -/

/-- A row scaled by the root of its mean square, and by a gain. -/
def nrm (x g : Fin 1024 → EReal) (e : Fin 1024) : EReal :=
  x e * Ideal.rsqrt (Ideal.div (∑ d, x d * x d) (Ideal.ofBits .f32 0x44800000#32) + Ideal.ofBits .f32 0x358637BD#32) * g e

/-- The curve of the gelu: the hyperbolic tangent of its argument. -/
def curve (y : EReal) : EReal :=
  Ideal.tanh (Ideal.ofBits .f32 0x3F4C422A#32 * (y + Ideal.ofBits .f32 0x3D372713#32 * (y * y * y)))

/-- The gelu. -/
def gelu (y : EReal) : EReal := y * (Ideal.ofBits .f32 0x3F000000#32 * (1 + curve y))

/-- A gate. -/
def gate (x g : Fin 1024 → EReal) (w : Fin 1024 → Fin 2048 → EReal) (b : Fin 2048 → EReal) (j : Fin 2048) : EReal :=
  Ideal.logistic ((∑ d, nrm x g d * w d j) + b j)

/-- The scan branch: its activated output, gated twice. -/
def branch (y z : Fin 512 → EReal) (wl : Fin 512 → Fin 512 → EReal) (bl : Fin 512 → EReal) (c : Fin 512) : EReal :=
  gelu (y c) * Ideal.logistic ((∑ k, gelu (y k) * wl k c) + bl c) * z c

/-- The gated sum of the two branches. -/
def merged (gt : Fin 2048 → EReal) (ao s : Fin 512 → EReal) (wa ws : Fin 512 → Fin 1024 → EReal) (k : Fin 1024) : EReal :=
  gt ⟨k.val, by omega⟩ * (∑ c, ao c * wa c k) + gt ⟨1024 + k.val, by omega⟩ * (∑ c, s c * ws c k)

/-- The token's output. -/
def token (x g : Fin 1024 → EReal) (w : Fin 1024 → Fin 2048 → EReal) (b : Fin 2048 → EReal) (ao y z : Fin 512 → EReal)
    (wl : Fin 512 → Fin 512 → EReal) (bl : Fin 512 → EReal) (wa ws : Fin 512 → Fin 1024 → EReal) (wo : Fin 1024 → Fin 1024 → EReal)
    (fg : Fin 1024 → EReal) (e : Fin 1024) : EReal :=
  nrm (fun d => x d + ∑ k, merged (gate x g w b) ao (branch y z wl bl) wa ws k * wo k d) fg e

/-! ## Powers of two -/

theorem scale_add (c : ℝ) (hc : 0 ≤ c) (a b : EReal) : (c : EReal) * (a + b) = c * a + c * b :=
  EReal.left_distrib_of_nonneg_of_ne_top (by exact_mod_cast hc) (EReal.coe_ne_top c) _ _

theorem scales_cancel (c d : ℝ) (h : c * d = 1) (a b : EReal) : ((c : EReal) * a) * ((d : EReal) * b) = a * b := by
  rw [mul_mul_mul_comm, ← EReal.coe_mul, h, EReal.coe_one, one_mul]

theorem tanh_real (r : ℝ) : 1 + Real.tanh (1 / 2 * r) = 2 * (1 + Real.exp (-r))⁻¹ := by
  have ha := Real.exp_pos (1 / 2 * r)
  have hb := Real.exp_pos (-(1 / 2 * r))
  have hab : Real.exp (1 / 2 * r) * Real.exp (-(1 / 2 * r)) = 1 := by rw [← Real.exp_add]; simp
  have hr : Real.exp (-r) = Real.exp (-(1 / 2 * r)) * Real.exp (-(1 / 2 * r)) := by rw [← Real.exp_add]; congr 1; ring
  rw [Real.tanh_eq_sinh_div_cosh, Real.sinh_eq, Real.cosh_eq, hr]
  generalize Real.exp (1 / 2 * r) = a at *
  generalize Real.exp (-(1 / 2 * r)) = b at *
  have h1 : a + b ≠ 0 := by positivity
  have h2 : 1 + b * b ≠ 0 := by positivity
  field_simp
  linear_combination (2 * b) * hab

theorem twice_logistic (z : EReal) : 1 + Ideal.tanh (((1 / 2 : ℝ) : EReal) * z) = ((2 : ℝ) : EReal) * Ideal.logistic z := by
  induction z with
  | bot => rw [EReal.coe_mul_bot_of_pos (by norm_num), Ideal.tanh_bot, Ideal.logistic_bot, mul_zero, ← EReal.coe_one, ← EReal.coe_neg, ← EReal.coe_add]; simp
  | top => rw [EReal.coe_mul_top_of_pos (by norm_num), Ideal.tanh_top, Ideal.logistic_top, mul_one, ← EReal.coe_one, ← EReal.coe_add]; norm_num
  | coe r =>
    rw [← EReal.coe_mul, Ideal.tanh_coe, Ideal.logistic_coe, ← EReal.coe_mul, ← tanh_real, EReal.coe_add, EReal.coe_one]

theorem twice_gelu (y : EReal) : y * (1 + curve y) = ((2 : ℝ) : EReal) * gelu y := by
  unfold gelu
  rw [half_ideal, mul_left_comm y, ← mul_assoc ((2 : ℝ) : EReal), ← EReal.coe_mul]
  norm_num

theorem nrm_half (x g : Fin 1024 → EReal) (e : Fin 1024) :
    nrm x (fun d => ((1 / 2 : ℝ) : EReal) * g d) e = ((1 / 2 : ℝ) : EReal) * nrm x g e := by
  unfold nrm
  rw [mul_left_comm]

theorem twice_gate (x g : Fin 1024 → EReal) (w : Fin 1024 → Fin 2048 → EReal) (b : Fin 2048 → EReal) (j : Fin 2048) :
    1 + Ideal.tanh ((∑ d, nrm x (fun d => ((1 / 2 : ℝ) : EReal) * g d) d * w d j) + ((1 / 2 : ℝ) : EReal) * b j)
      = ((2 : ℝ) : EReal) * gate x g w b j := by
  unfold gate
  rw [← twice_logistic, scale_add _ (by norm_num), mul_sum_real _ (by norm_num)]
  simp only [nrm_half, mul_assoc]

theorem four_branch (y z : Fin 512 → EReal) (wl : Fin 512 → Fin 512 → EReal) (bl : Fin 512 → EReal) (c : Fin 512) :
    ((2 : ℝ) : EReal) * gelu (y c) * (1 + Ideal.tanh ((∑ k, (((2 : ℝ) : EReal) * gelu (y k)) * (((1 / 4 : ℝ) : EReal) * wl k c))
      + ((1 / 2 : ℝ) : EReal) * bl c)) * z c = ((4 : ℝ) : EReal) * branch y z wl bl c := by
  have e : (∑ k, (((2 : ℝ) : EReal) * gelu (y k)) * (((1 / 4 : ℝ) : EReal) * wl k c)) = ((1 / 2 : ℝ) : EReal) * ∑ k, gelu (y k) * wl k c := by
    rw [mul_sum_real _ (by norm_num)]
    refine Finset.sum_congr rfl fun k _ => ?_
    rw [mul_mul_mul_comm, ← EReal.coe_mul]
    norm_num
  rw [e, ← scale_add _ (by norm_num), twice_logistic]
  unfold branch
  rw [mul_mul_mul_comm, ← EReal.coe_mul, mul_assoc, mul_assoc]
  norm_num

theorem twice_merged (gt : Fin 2048 → EReal) (ao s : Fin 512 → EReal) (wa ws : Fin 512 → Fin 1024 → EReal) (k : Fin 1024) :
    ((2 : ℝ) : EReal) * gt ⟨k.val, by omega⟩ * (∑ c, ao c * (1 * wa c k))
      + ((2 : ℝ) : EReal) * gt ⟨1024 + k.val, by omega⟩ * (∑ c, (((4 : ℝ) : EReal) * s c) * (((1 / 4 : ℝ) : EReal) * ws c k))
      = ((2 : ℝ) : EReal) * merged gt ao s wa ws k := by
  unfold merged
  rw [scale_add _ (by norm_num)]
  simp only [one_mul, scales_cancel 4 (1 / 4) (by norm_num), mul_assoc]

end Cert.Merge
-- ==== Proof.MergeScan.lean ====
module

public import proofs.«01_k».proof.Proof.MergeMath
public import proofs.«01_k».proof.Proof.Gen.Reference2Ideal.Read
public import Idealize.ShloMosaic.Lib.ValueIdxRank6

/-! The reference's reading of the scan's output out of its own layout, at an index. -/

@[expose] public section

noncomputable section

namespace Cert.Merge

open Cert.Reference2Ideal Cert.Reference2Ideal.Gen Cert.Reference2Ideal.Read Idealize.ShloMosaic Idealize.ShloMosaic.ValueIdx
open scoped BigOperators

/-- An index of rank seven, from its coordinates. -/
abbrev at7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun i => match i with | ⟨0, _⟩ => a | ⟨1, _⟩ => b | ⟨2, _⟩ => c | ⟨3, _⟩ => d | ⟨4, _⟩ => e | ⟨5, _⟩ => f | ⟨6, _⟩ => g

/-- The row-major position of an index of rank seven. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

variable {α : Type}

/-- A turn by `k` along the lanes, put together of its two slices. -/
theorem turn_apply (r k : ℕ) (hk : r + k = 8) (A : S4x128x16x2x8x16.Idx → α)
    (P : (⟨6, ![4, 128, 16, 2, r, 16]⟩ : Shape).Idx → α) (Q : (⟨6, ![4, 128, 16, 2, k, 16]⟩ : Shape).Idx → α)
    (hP : ∀ v n b h (s : Fin r) c, P (ix6 v n b h s c) = A (ix6 v n b h ⟨k + s.val, by omega⟩ c))
    (hQ : ∀ v n b h (s : Fin k) c, Q (ix6 v n b h s c) = A (ix6 v n b h ⟨s.val, by omega⟩ c))
    (hc : Shape.Concatenates [⟨6, ![4, 128, 16, 2, r, 16]⟩, ⟨6, ![4, 128, 16, 2, k, 16]⟩] S4x128x16x2x8x16 4)
    (v : Fin 4) (n : Fin 128) (b : Fin 16) (h : Fin 2) (s : Fin 8) (c : Fin 16) :
    concatenate S4x128x16x2x8x16 4 [⟨⟨6, ![4, 128, 16, 2, r, 16]⟩, P⟩, ⟨⟨6, ![4, 128, 16, 2, k, 16]⟩, Q⟩] hc (ix6 v n b h s c)
      = A (ix6 v n b h ⟨(k + s.val) % 8, Nat.mod_lt _ (by omega)⟩ c) := by
  by_cases hs : s.val < r
  · refine (concatenate_pair_apply_left _ P Q hc _ rfl (ix6 v n b h ⟨s.val, hs⟩ c) (fun a => match a with
      | ⟨0, _⟩ => rfl | ⟨1, _⟩ => rfl | ⟨2, _⟩ => rfl | ⟨3, _⟩ => rfl | ⟨4, _⟩ => rfl | ⟨5, _⟩ => rfl)).trans ?_
    rw [hP]
    have e : (⟨k + s.val, by omega⟩ : Fin 8) = ⟨(k + s.val) % 8, Nat.mod_lt _ (by omega)⟩ := Fin.ext (by show k + s.val = (k + s.val) % 8; omega)
    exact congrArg (fun z : Fin 8 => A (ix6 v n b h z c)) e
  · refine (concatenate_pair_apply_right _ P Q hc _ rfl rfl (ix6 v n b h ⟨s.val - r, by omega⟩ c) (fun a => match a with
      | ⟨0, _⟩ => fun _ => rfl | ⟨1, _⟩ => fun _ => rfl | ⟨2, _⟩ => fun _ => rfl | ⟨3, _⟩ => fun _ => rfl
      | ⟨4, _⟩ => fun ha => absurd rfl ha | ⟨5, _⟩ => fun _ => rfl) (by show s.val - r + r = s.val; omega)).trans ?_
    rw [hQ]
    have e : (⟨s.val - r, by omega⟩ : Fin 8) = ⟨(k + s.val) % 8, Nat.mod_lt _ (by omega)⟩ := Fin.ext (by show s.val - r = (k + s.val) % 8; omega)
    exact congrArg (fun z : Fin 8 => A (ix6 v n b h z c)) e

/-- Dropping the size-one axis of a place among eight. -/
theorem drop_apply (x : S4x1x128x16x2x8x16.Idx → α) (hs : S4x1x128x16x2x8x16.ShapeCasts S4x128x16x2x8x16)
    (v : Fin 4) (n : Fin 128) (b : Fin 16) (h : Fin 2) (s : Fin 8) (c : Fin 16) :
    shapeCast S4x128x16x2x8x16 x hs (ix6 v n b h s c) = x (at7 v 0 n b h s c) :=
  shapeCast_apply x hs _ _ (by
    rw [rowMajor_val_seven, Shape.rowMajor_val_six]
    show (((((v.val * 1 + 0) * 128 + n.val) * 16 + b.val) * 2 + h.val) * 8 + s.val) * 16 + c.val
      = ((((v.val * 128 + n.val) * 16 + b.val) * 2 + h.val) * 8 + s.val) * 16 + c.val
    omega)

variable (y : Vec Ideal S32x128x16x256 .bf16)

/-- The scan's output cut into its lanes. -/
theorem lanes_apply (v : Fin 4) (p : Fin 8) (n : Fin 128) (b : Fin 16) (h : Fin 2) (s : Fin 8) (c : Fin 16) :
    (val_main_v21 (F := Ideal) y (at7 v p n b h s c) : EReal)
      = y (ix4 ⟨v.val * 8 + p.val, by omega⟩ n b ⟨h.val * 128 + s.val * 16 + c.val, by omega⟩) := by
  unfold val_main_v21
  refine (shapeCast_apply _ _ _ (ix4 ⟨v.val * 8 + p.val, by omega⟩ n b ⟨h.val * 128 + s.val * 16 + c.val, by omega⟩) (by
    rw [rowMajor_val_seven, Shape.rowMajor_val_four]
    show (((v.val * 8 + p.val) * 128 + n.val) * 16 + b.val) * 256 + (h.val * 128 + s.val * 16 + c.val)
      = (((((v.val * 8 + p.val) * 128 + n.val) * 16 + b.val) * 2 + h.val) * 8 + s.val) * 16 + c.val
    omega)).trans ?_
  rfl

theorem plane_0 (v : Fin 4) (n : Fin 128) (b : Fin 16) (h : Fin 2) (s : Fin 8) (c : Fin 16) :
    val_main_v23 (F := Ideal) y (ix6 v n b h s c) = val_main_v21 (F := Ideal) y (at7 v 0 n b h s c) := by
  unfold val_main_v23
  rw [drop_apply, val_main_v22_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_0 (v : Fin 4) (n : Fin 128) (b : Fin 16) (h : Fin 2) (s : Fin 8) (c : Fin 16) :
    val_main_v24 (F := Ideal) y (ix6 v n b h s c) = val_main_v21 (F := Ideal) y (at7 v 0 n b h ⟨(0 + s.val) % 8, Nat.mod_lt _ (by omega)⟩ c) := by
  unfold val_main_v24
  refine (turn_apply 8 0 rfl (val_main_v23 (F := Ideal) y) _ _ ?_ ?_ _ v n b h s c).trans (plane_0 y v n b h _ c)
  · intro v n b h s c
    refine (val_main_call0_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => exact (Nat.zero_add _).symm | ⟨5, _⟩ => rfl
  · intro v n b h s c
    refine (val_main_call0_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_0 (v : Fin 4) (n : Fin 128) (b : Fin 16) (h : Fin 2) (s : Fin 8) (c : Fin 16) :
    val_main_v54 (F := Ideal) y (at7 v 0 n b h s c) = val_main_v21 (F := Ideal) y (at7 v 0 n b h ⟨(0 + s.val) % 8, Nat.mod_lt _ (by omega)⟩ c) := by
  unfold val_main_v54
  refine (concatenate_apply_piece (t := S4x8x128x16x2x8x16) 1 _ _ _ 0 (by simp) S4x1x128x16x2x8x16 (val_main_v46 (F := Ideal) y) rfl rfl 0 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v46_apply (F := Ideal) y _).trans ?_
  refine (congrArg _ ?_).trans (turned_0 y v n b h s c)
  funext a; match a with | ⟨0, _⟩ => rfl | ⟨1, _⟩ => rfl | ⟨2, _⟩ => rfl | ⟨3, _⟩ => rfl | ⟨4, _⟩ => rfl | ⟨5, _⟩ => rfl

theorem plane_1 (v : Fin 4) (n : Fin 128) (b : Fin 16) (h : Fin 2) (s : Fin 8) (c : Fin 16) :
    val_main_v26 (F := Ideal) y (ix6 v n b h s c) = val_main_v21 (F := Ideal) y (at7 v 1 n b h s c) := by
  unfold val_main_v26
  rw [drop_apply, val_main_v25_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_1 (v : Fin 4) (n : Fin 128) (b : Fin 16) (h : Fin 2) (s : Fin 8) (c : Fin 16) :
    val_main_v27 (F := Ideal) y (ix6 v n b h s c) = val_main_v21 (F := Ideal) y (at7 v 1 n b h ⟨(1 + s.val) % 8, Nat.mod_lt _ (by omega)⟩ c) := by
  unfold val_main_v27
  refine (turn_apply 7 1 rfl (val_main_v26 (F := Ideal) y) _ _ ?_ ?_ _ v n b h s c).trans (plane_1 y v n b h _ c)
  · intro v n b h s c
    refine (val_main_call1_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call1_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_1 (v : Fin 4) (n : Fin 128) (b : Fin 16) (h : Fin 2) (s : Fin 8) (c : Fin 16) :
    val_main_v54 (F := Ideal) y (at7 v 1 n b h s c) = val_main_v21 (F := Ideal) y (at7 v 1 n b h ⟨(1 + s.val) % 8, Nat.mod_lt _ (by omega)⟩ c) := by
  unfold val_main_v54
  refine (concatenate_apply_piece (t := S4x8x128x16x2x8x16) 1 _ _ _ 1 (by simp) S4x1x128x16x2x8x16 (val_main_v47 (F := Ideal) y) rfl rfl 1 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v47_apply (F := Ideal) y _).trans ?_
  refine (congrArg _ ?_).trans (turned_1 y v n b h s c)
  funext a; match a with | ⟨0, _⟩ => rfl | ⟨1, _⟩ => rfl | ⟨2, _⟩ => rfl | ⟨3, _⟩ => rfl | ⟨4, _⟩ => rfl | ⟨5, _⟩ => rfl

theorem plane_2 (v : Fin 4) (n : Fin 128) (b : Fin 16) (h : Fin 2) (s : Fin 8) (c : Fin 16) :
    val_main_v29 (F := Ideal) y (ix6 v n b h s c) = val_main_v21 (F := Ideal) y (at7 v 2 n b h s c) := by
  unfold val_main_v29
  rw [drop_apply, val_main_v28_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_2 (v : Fin 4) (n : Fin 128) (b : Fin 16) (h : Fin 2) (s : Fin 8) (c : Fin 16) :
    val_main_v30 (F := Ideal) y (ix6 v n b h s c) = val_main_v21 (F := Ideal) y (at7 v 2 n b h ⟨(2 + s.val) % 8, Nat.mod_lt _ (by omega)⟩ c) := by
  unfold val_main_v30
  refine (turn_apply 6 2 rfl (val_main_v29 (F := Ideal) y) _ _ ?_ ?_ _ v n b h s c).trans (plane_2 y v n b h _ c)
  · intro v n b h s c
    refine (val_main_call2_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call2_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_2 (v : Fin 4) (n : Fin 128) (b : Fin 16) (h : Fin 2) (s : Fin 8) (c : Fin 16) :
    val_main_v54 (F := Ideal) y (at7 v 2 n b h s c) = val_main_v21 (F := Ideal) y (at7 v 2 n b h ⟨(2 + s.val) % 8, Nat.mod_lt _ (by omega)⟩ c) := by
  unfold val_main_v54
  refine (concatenate_apply_piece (t := S4x8x128x16x2x8x16) 1 _ _ _ 2 (by simp) S4x1x128x16x2x8x16 (val_main_v48 (F := Ideal) y) rfl rfl 2 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v48_apply (F := Ideal) y _).trans ?_
  refine (congrArg _ ?_).trans (turned_2 y v n b h s c)
  funext a; match a with | ⟨0, _⟩ => rfl | ⟨1, _⟩ => rfl | ⟨2, _⟩ => rfl | ⟨3, _⟩ => rfl | ⟨4, _⟩ => rfl | ⟨5, _⟩ => rfl

theorem plane_3 (v : Fin 4) (n : Fin 128) (b : Fin 16) (h : Fin 2) (s : Fin 8) (c : Fin 16) :
    val_main_v32 (F := Ideal) y (ix6 v n b h s c) = val_main_v21 (F := Ideal) y (at7 v 3 n b h s c) := by
  unfold val_main_v32
  rw [drop_apply, val_main_v31_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_3 (v : Fin 4) (n : Fin 128) (b : Fin 16) (h : Fin 2) (s : Fin 8) (c : Fin 16) :
    val_main_v33 (F := Ideal) y (ix6 v n b h s c) = val_main_v21 (F := Ideal) y (at7 v 3 n b h ⟨(3 + s.val) % 8, Nat.mod_lt _ (by omega)⟩ c) := by
  unfold val_main_v33
  refine (turn_apply 5 3 rfl (val_main_v32 (F := Ideal) y) _ _ ?_ ?_ _ v n b h s c).trans (plane_3 y v n b h _ c)
  · intro v n b h s c
    refine (val_main_call3_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call3_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_3 (v : Fin 4) (n : Fin 128) (b : Fin 16) (h : Fin 2) (s : Fin 8) (c : Fin 16) :
    val_main_v54 (F := Ideal) y (at7 v 3 n b h s c) = val_main_v21 (F := Ideal) y (at7 v 3 n b h ⟨(3 + s.val) % 8, Nat.mod_lt _ (by omega)⟩ c) := by
  unfold val_main_v54
  refine (concatenate_apply_piece (t := S4x8x128x16x2x8x16) 1 _ _ _ 3 (by simp) S4x1x128x16x2x8x16 (val_main_v49 (F := Ideal) y) rfl rfl 3 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v49_apply (F := Ideal) y _).trans ?_
  refine (congrArg _ ?_).trans (turned_3 y v n b h s c)
  funext a; match a with | ⟨0, _⟩ => rfl | ⟨1, _⟩ => rfl | ⟨2, _⟩ => rfl | ⟨3, _⟩ => rfl | ⟨4, _⟩ => rfl | ⟨5, _⟩ => rfl

theorem plane_4 (v : Fin 4) (n : Fin 128) (b : Fin 16) (h : Fin 2) (s : Fin 8) (c : Fin 16) :
    val_main_v35 (F := Ideal) y (ix6 v n b h s c) = val_main_v21 (F := Ideal) y (at7 v 4 n b h s c) := by
  unfold val_main_v35
  rw [drop_apply, val_main_v34_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_4 (v : Fin 4) (n : Fin 128) (b : Fin 16) (h : Fin 2) (s : Fin 8) (c : Fin 16) :
    val_main_v36 (F := Ideal) y (ix6 v n b h s c) = val_main_v21 (F := Ideal) y (at7 v 4 n b h ⟨(4 + s.val) % 8, Nat.mod_lt _ (by omega)⟩ c) := by
  unfold val_main_v36
  refine (turn_apply 4 4 rfl (val_main_v35 (F := Ideal) y) _ _ ?_ ?_ _ v n b h s c).trans (plane_4 y v n b h _ c)
  · intro v n b h s c
    refine (val_main_call4_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call4_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_4 (v : Fin 4) (n : Fin 128) (b : Fin 16) (h : Fin 2) (s : Fin 8) (c : Fin 16) :
    val_main_v54 (F := Ideal) y (at7 v 4 n b h s c) = val_main_v21 (F := Ideal) y (at7 v 4 n b h ⟨(4 + s.val) % 8, Nat.mod_lt _ (by omega)⟩ c) := by
  unfold val_main_v54
  refine (concatenate_apply_piece (t := S4x8x128x16x2x8x16) 1 _ _ _ 4 (by simp) S4x1x128x16x2x8x16 (val_main_v50 (F := Ideal) y) rfl rfl 4 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v50_apply (F := Ideal) y _).trans ?_
  refine (congrArg _ ?_).trans (turned_4 y v n b h s c)
  funext a; match a with | ⟨0, _⟩ => rfl | ⟨1, _⟩ => rfl | ⟨2, _⟩ => rfl | ⟨3, _⟩ => rfl | ⟨4, _⟩ => rfl | ⟨5, _⟩ => rfl

theorem plane_5 (v : Fin 4) (n : Fin 128) (b : Fin 16) (h : Fin 2) (s : Fin 8) (c : Fin 16) :
    val_main_v38 (F := Ideal) y (ix6 v n b h s c) = val_main_v21 (F := Ideal) y (at7 v 5 n b h s c) := by
  unfold val_main_v38
  rw [drop_apply, val_main_v37_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_5 (v : Fin 4) (n : Fin 128) (b : Fin 16) (h : Fin 2) (s : Fin 8) (c : Fin 16) :
    val_main_v39 (F := Ideal) y (ix6 v n b h s c) = val_main_v21 (F := Ideal) y (at7 v 5 n b h ⟨(5 + s.val) % 8, Nat.mod_lt _ (by omega)⟩ c) := by
  unfold val_main_v39
  refine (turn_apply 3 5 rfl (val_main_v38 (F := Ideal) y) _ _ ?_ ?_ _ v n b h s c).trans (plane_5 y v n b h _ c)
  · intro v n b h s c
    refine (val_main_call5_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call5_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_5 (v : Fin 4) (n : Fin 128) (b : Fin 16) (h : Fin 2) (s : Fin 8) (c : Fin 16) :
    val_main_v54 (F := Ideal) y (at7 v 5 n b h s c) = val_main_v21 (F := Ideal) y (at7 v 5 n b h ⟨(5 + s.val) % 8, Nat.mod_lt _ (by omega)⟩ c) := by
  unfold val_main_v54
  refine (concatenate_apply_piece (t := S4x8x128x16x2x8x16) 1 _ _ _ 5 (by simp) S4x1x128x16x2x8x16 (val_main_v51 (F := Ideal) y) rfl rfl 5 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v51_apply (F := Ideal) y _).trans ?_
  refine (congrArg _ ?_).trans (turned_5 y v n b h s c)
  funext a; match a with | ⟨0, _⟩ => rfl | ⟨1, _⟩ => rfl | ⟨2, _⟩ => rfl | ⟨3, _⟩ => rfl | ⟨4, _⟩ => rfl | ⟨5, _⟩ => rfl

theorem plane_6 (v : Fin 4) (n : Fin 128) (b : Fin 16) (h : Fin 2) (s : Fin 8) (c : Fin 16) :
    val_main_v41 (F := Ideal) y (ix6 v n b h s c) = val_main_v21 (F := Ideal) y (at7 v 6 n b h s c) := by
  unfold val_main_v41
  rw [drop_apply, val_main_v40_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_6 (v : Fin 4) (n : Fin 128) (b : Fin 16) (h : Fin 2) (s : Fin 8) (c : Fin 16) :
    val_main_v42 (F := Ideal) y (ix6 v n b h s c) = val_main_v21 (F := Ideal) y (at7 v 6 n b h ⟨(6 + s.val) % 8, Nat.mod_lt _ (by omega)⟩ c) := by
  unfold val_main_v42
  refine (turn_apply 2 6 rfl (val_main_v41 (F := Ideal) y) _ _ ?_ ?_ _ v n b h s c).trans (plane_6 y v n b h _ c)
  · intro v n b h s c
    refine (val_main_call6_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call6_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_6 (v : Fin 4) (n : Fin 128) (b : Fin 16) (h : Fin 2) (s : Fin 8) (c : Fin 16) :
    val_main_v54 (F := Ideal) y (at7 v 6 n b h s c) = val_main_v21 (F := Ideal) y (at7 v 6 n b h ⟨(6 + s.val) % 8, Nat.mod_lt _ (by omega)⟩ c) := by
  unfold val_main_v54
  refine (concatenate_apply_piece (t := S4x8x128x16x2x8x16) 1 _ _ _ 6 (by simp) S4x1x128x16x2x8x16 (val_main_v52 (F := Ideal) y) rfl rfl 6 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v52_apply (F := Ideal) y _).trans ?_
  refine (congrArg _ ?_).trans (turned_6 y v n b h s c)
  funext a; match a with | ⟨0, _⟩ => rfl | ⟨1, _⟩ => rfl | ⟨2, _⟩ => rfl | ⟨3, _⟩ => rfl | ⟨4, _⟩ => rfl | ⟨5, _⟩ => rfl

theorem plane_7 (v : Fin 4) (n : Fin 128) (b : Fin 16) (h : Fin 2) (s : Fin 8) (c : Fin 16) :
    val_main_v44 (F := Ideal) y (ix6 v n b h s c) = val_main_v21 (F := Ideal) y (at7 v 7 n b h s c) := by
  unfold val_main_v44
  rw [drop_apply, val_main_v43_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_7 (v : Fin 4) (n : Fin 128) (b : Fin 16) (h : Fin 2) (s : Fin 8) (c : Fin 16) :
    val_main_v45 (F := Ideal) y (ix6 v n b h s c) = val_main_v21 (F := Ideal) y (at7 v 7 n b h ⟨(7 + s.val) % 8, Nat.mod_lt _ (by omega)⟩ c) := by
  unfold val_main_v45
  refine (turn_apply 1 7 rfl (val_main_v44 (F := Ideal) y) _ _ ?_ ?_ _ v n b h s c).trans (plane_7 y v n b h _ c)
  · intro v n b h s c
    refine (val_main_call7_v0_apply (F := Ideal) y _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call7_v1_apply (F := Ideal) y _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_7 (v : Fin 4) (n : Fin 128) (b : Fin 16) (h : Fin 2) (s : Fin 8) (c : Fin 16) :
    val_main_v54 (F := Ideal) y (at7 v 7 n b h s c) = val_main_v21 (F := Ideal) y (at7 v 7 n b h ⟨(7 + s.val) % 8, Nat.mod_lt _ (by omega)⟩ c) := by
  unfold val_main_v54
  refine (concatenate_apply_piece (t := S4x8x128x16x2x8x16) 1 _ _ _ 7 (by simp) S4x1x128x16x2x8x16 (val_main_v53 (F := Ideal) y) rfl rfl 7 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v53_apply (F := Ideal) y _).trans ?_
  refine (congrArg _ ?_).trans (turned_7 y v n b h s c)
  funext a; match a with | ⟨0, _⟩ => rfl | ⟨1, _⟩ => rfl | ⟨2, _⟩ => rfl | ⟨3, _⟩ => rfl | ⟨4, _⟩ => rfl | ⟨5, _⟩ => rfl

/-- The lanes of every place among eight, turned back. -/
theorem stacked_apply (v : Fin 4) (p : Fin 8) (n : Fin 128) (b : Fin 16) (h : Fin 2) (s : Fin 8) (c : Fin 16) :
    val_main_v54 (F := Ideal) y (at7 v p n b h s c) = val_main_v21 (F := Ideal) y (at7 v p n b h ⟨(p.val + s.val) % 8, Nat.mod_lt _ (by omega)⟩ c) := by
  match p with
  | ⟨0, _⟩ => exact stacked_0 y v n b h s c
  | ⟨1, _⟩ => exact stacked_1 y v n b h s c
  | ⟨2, _⟩ => exact stacked_2 y v n b h s c
  | ⟨3, _⟩ => exact stacked_3 y v n b h s c
  | ⟨4, _⟩ => exact stacked_4 y v n b h s c
  | ⟨5, _⟩ => exact stacked_5 y v n b h s c
  | ⟨6, _⟩ => exact stacked_6 y v n b h s c
  | ⟨7, _⟩ => exact stacked_7 y v n b h s c

/-- The scan's output of a token and channel. -/
theorem scan_at (b : Fin 16) (t : Fin 2048) (c : Fin 512) :
    (val_main_v56 (F := Ideal) y (ix3 b t c) : EReal)
      = y (ix4 ⟨c.val / 16, by omega⟩ ⟨t.val / 16, by omega⟩ b
          ⟨t.val % 16 / 8 * 128 + ((c.val % 128 / 16 + t.val % 8) % 8 * 16 + c.val % 16), by omega⟩) := by
  unfold val_main_v56
  refine (shapeCast_apply _ _ _ (at7 b ⟨t.val / 16, by omega⟩ ⟨t.val % 16 / 8, by omega⟩ ⟨t.val % 8, by omega⟩ ⟨c.val / 128, by omega⟩
      ⟨c.val % 128 / 16, by omega⟩ ⟨c.val % 16, by omega⟩) (by
    rw [rowMajor_val_seven, Shape.rowMajor_val_three]
    show (((((b.val * 128 + t.val / 16) * 2 + t.val % 16 / 8) * 8 + t.val % 8) * 4 + c.val / 128) * 8 + c.val % 128 / 16) * 16 + c.val % 16
      = (b.val * 2048 + t.val) * 512 + c.val
    omega)).trans ?_
  refine (val_main_v55_apply (F := Ideal) y _).trans ?_
  have e : idx_main_v55 (at7 b ⟨t.val / 16, by omega⟩ ⟨t.val % 16 / 8, by omega⟩ ⟨t.val % 8, by omega⟩ ⟨c.val / 128, by omega⟩
      ⟨c.val % 128 / 16, by omega⟩ ⟨c.val % 16, by omega⟩)
      = at7 ⟨c.val / 128, by omega⟩ ⟨c.val % 128 / 16, by omega⟩ ⟨t.val / 16, by omega⟩ b ⟨t.val % 16 / 8, by omega⟩ ⟨t.val % 8, by omega⟩
        ⟨c.val % 16, by omega⟩ := by
    funext a; match a with | ⟨0, _⟩ => rfl | ⟨1, _⟩ => rfl | ⟨2, _⟩ => rfl | ⟨3, _⟩ => rfl | ⟨4, _⟩ => rfl | ⟨5, _⟩ => rfl | ⟨6, _⟩ => rfl
  rw [e, stacked_apply, lanes_apply]
  refine congrArg y ?_
  funext a; apply Fin.ext
  match a with
  | ⟨0, _⟩ => show c.val / 128 * 8 + c.val % 128 / 16 = c.val / 16; omega
  | ⟨1, _⟩ => rfl
  | ⟨2, _⟩ => rfl
  | ⟨3, _⟩ =>
    show t.val % 16 / 8 * 128 + (c.val % 128 / 16 + t.val % 8) % 8 * 16 + c.val % 16
      = t.val % 16 / 8 * 128 + ((c.val % 128 / 16 + t.val % 8) % 8 * 16 + c.val % 16)
    omega

end Cert.Merge

end
-- ==== Proof.Unpack.lean ====
module

public import proofs.«01_k».proof.Proof.Gen.Kernel2Ideal.Frame
public import Idealize.ShloMosaic.Lib.Tactic.RunNames
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal

/-! The scan's output of one sub-tile, unpacked into the merge's scratch by sixty-four strided stores. -/

@[expose] public section

noncomputable section

namespace Cert.Merge

open Cert.Kernel2Ideal Cert.Kernel2Ideal.Gen Idealize.ShloMosaic Idealize.ShloMosaic.ValueIdx

variable {F : FTy → Type} [FloatOps F]

/-- The lanes of slot `s`: sixteen of the hundred and twenty-eight. -/
def mask (s : Fin 8) : IVec S16x128 1 :=
  andi (cmpi .sge (iota .tc S16x128 32 [1] iota_S16x128_d1_w32) (broadcast S16x128 (BitVec.ofNat 32 (16 * s.val))))
    (cmpi .slt (iota .tc S16x128 32 [1] iota_S16x128_d1_w32) (broadcast S16x128 (BitVec.ofNat 32 (16 * s.val + 16))))

/-- For the token at place `t` of its half: each slot's lanes from the source that holds them. -/
def pick (t : Fin 8) (s : Fin 8 → FVec F S16x128 .f32) : FVec F S16x128 .f32 :=
  select (mask (7 + t)) (s 7) (select (mask (6 + t)) (s 6) (select (mask (5 + t)) (s 5) (select (mask (4 + t)) (s 4)
    (select (mask (3 + t)) (s 3) (select (mask (2 + t)) (s 2) (select (mask (1 + t)) (s 1) (s 0)))))))

/-- The picked lanes, turned so that the first source's are the first. -/
def slot : Fin 8 → (Fin 8 → FVec F S16x128 .f32) → FVec F S1x16x128 .f32
  | ⟨0, _⟩, s => shapeCast S1x16x128 (pick 0 s) shapeCasts_S16x128_S1x16x128
  | ⟨t + 1, h⟩, s => shapeCast S1x16x128
      (dynamicRotate 1 (BitVec.ofNat 32 (112 - 16 * t)) none (pick ⟨t + 1, h⟩ s) rotates_S16x128_d1) shapeCasts_S16x128_S1x16x128

theorem src_fits (st v : Fin 4) (hf : Fin 2) (p : Fin 8) :
    ∀ a, (![v.val * 8 + p.val, st.val, 0, hf.val * 128] : Fin 4 → ℕ) a + S1x1x16x128.size a ≤ S32x4x16x256.size a := by
  intro a
  match a with
  | ⟨0, _⟩ => show v.val * 8 + p.val + 1 ≤ 32; omega
  | ⟨1, _⟩ => show st.val + 1 ≤ 4; omega
  | ⟨2, _⟩ => show 0 + 16 ≤ 16; omega
  | ⟨3, _⟩ => show hf.val * 128 + 128 ≤ 256; omega

/-- One group's half chunk of the sub-tile `st`, for all the batch rows. -/
def src (M : Memref sig .tc .vmem S32x4x16x256 .bf16) (h : M.IsWhole) (x : Vec F S32x4x16x256 .bf16) (st v : Fin 4) (hf : Fin 2) (p : Fin 8) :
    FVec F S16x128 .f32 :=
  extf .f32 (shapeCast S16x128 (View.readAt (Elt F) M.view
    (Rect.unit (s := S32x4x16x256) ![v.val * 8 + p.val, st.val, 0, hf.val * 128] S1x1x16x128.size (src_fits st v hf p)).toLoadRect (h.unread x))
    shapeCasts_S1x1x16x128_S16x128) bitsLt_bf16_f32

theorem slot_fits (v : Fin 4) (hf : Fin 2) (t : Fin 8) :
    ∀ a, S1x16x128.size a = 0 ∨ (![v.val, hf.val * 8 + t.val, 0] : Fin 3 → ℕ) a + (![1, 16, 1] : Fin 3 → ℕ) a * (S1x16x128.size a - 1) < S4x256x128.size a := by
  intro a
  right
  match a with
  | ⟨0, _⟩ => show v.val + 1 * (1 - 1) < 4; omega
  | ⟨1, _⟩ => show hf.val * 8 + t.val + 16 * (16 - 1) < 256; omega
  | ⟨2, _⟩ => show 0 + 1 * (128 - 1) < 128; omega

/-- The store of one token of each batch row. -/
def slotStore (M : Memref sig .tc .vmem S32x4x16x256 .bf16) (h : M.IsWhole) (x : Vec F S32x4x16x256 .bf16) (st v : Fin 4) (hf : Fin 2)
    (t : Fin 8) : View.Piece (Elt F) S4x256x128 .f32 :=
  ⟨⟨⟨![v.val, hf.val * 8 + t.val, 0], S1x16x128.size, ![1, 16, 1], slot_fits v hf t⟩, spos_1_16_1⟩, slot t (src M h x st v hf)⟩

/-- The stores of one row of lanes' half, last first, before the others. -/
def halfStores (M : Memref sig .tc .vmem S32x4x16x256 .bf16) (h : M.IsWhole) (x : Vec F S32x4x16x256 .bf16) (st v : Fin 4) (hf : Fin 2)
    (L : List (View.Piece (Elt F) S4x256x128 .f32)) : List (View.Piece (Elt F) S4x256x128 .f32) :=
  slotStore M h x st v hf 7 :: slotStore M h x st v hf 6 :: slotStore M h x st v hf 5 :: slotStore M h x st v hf 4
    :: slotStore M h x st v hf 3 :: slotStore M h x st v hf 2 :: slotStore M h x st v hf 1 :: slotStore M h x st v hf 0 :: L

/-- All sixty-four, last first. -/
def slotStores (M : Memref sig .tc .vmem S32x4x16x256 .bf16) (h : M.IsWhole) (x : Vec F S32x4x16x256 .bf16) (st : Fin 4) :
    List (View.Piece (Elt F) S4x256x128 .f32) :=
  halfStores M h x st 3 1 <| halfStores M h x st 3 0 <| halfStores M h x st 2 1 <| halfStores M h x st 2 0 <|
    halfStores M h x st 1 1 <| halfStores M h x st 1 0 <| halfStores M h x st 0 1 <| halfStores M h x st 0 0 []

end Cert.Merge
-- ==== Proof.UnpackAt.lean ====
module

public import proofs.«01_k».proof.Proof.Unpack
public import proofs.«01_k».proof.Proof.Block

/-! The unpacked rows at an index: which group's block, chunk, slot and channel each lane holds. -/

@[expose] public section

noncomputable section

namespace Cert.Merge

open Cert.Kernel2Ideal Cert.Kernel2Ideal.Gen Idealize.ShloMosaic Idealize.ShloMosaic.ValueIdx

section
variable {F : FTy → Type} [FloatOps F]

theorem stores_A0 (c : Dev nD) (M : Memref sig .tc .vmem S32x4x16x256 .bf16) (h : M.IsWhole) (x : Vec F S32x4x16x256 .bf16) :
    kernelRun0_A.sl.HS4_64 c M h x = slotStores M h x 0 := by
  sl_unfold_words; rfl
theorem stores_A1 (c : Dev nD) (M : Memref sig .tc .vmem S32x4x16x256 .bf16) (h : M.IsWhole) (x : Vec F S32x4x16x256 .bf16) :
    kernelRun0_A.sl.HS5_64 c M h x = slotStores M h x 1 := by
  sl_unfold_words; rfl
theorem stores_A2 (c : Dev nD) (M : Memref sig .tc .vmem S32x4x16x256 .bf16) (h : M.IsWhole) (x : Vec F S32x4x16x256 .bf16) :
    kernelRun0_A.sl.HS6_64 c M h x = slotStores M h x 2 := by
  sl_unfold_words; rfl
theorem stores_A3 (c : Dev nD) (M : Memref sig .tc .vmem S32x4x16x256 .bf16) (h : M.IsWhole) (x : Vec F S32x4x16x256 .bf16) :
    kernelRun0_A.sl.HS7_64 c M h x = slotStores M h x 3 := by
  sl_unfold_words; rfl
theorem stores_B0 (c : Dev nD) (M : Memref sig .tc .vmem S32x4x16x256 .bf16) (h : M.IsWhole) (x : Vec F S32x4x16x256 .bf16) :
    kernelRun0_B.sl.HS4_64 c M h x = slotStores M h x 0 := by
  sl_unfold_words; rfl
theorem stores_B1 (c : Dev nD) (M : Memref sig .tc .vmem S32x4x16x256 .bf16) (h : M.IsWhole) (x : Vec F S32x4x16x256 .bf16) :
    kernelRun0_B.sl.HS5_64 c M h x = slotStores M h x 1 := by
  sl_unfold_words; rfl
theorem stores_B2 (c : Dev nD) (M : Memref sig .tc .vmem S32x4x16x256 .bf16) (h : M.IsWhole) (x : Vec F S32x4x16x256 .bf16) :
    kernelRun0_B.sl.HS6_64 c M h x = slotStores M h x 2 := by
  sl_unfold_words; rfl
theorem stores_B3 (c : Dev nD) (M : Memref sig .tc .vmem S32x4x16x256 .bf16) (h : M.IsWhole) (x : Vec F S32x4x16x256 .bf16) :
    kernelRun0_B.sl.HS7_64 c M h x = slotStores M h x 3 := by
  sl_unfold_words; rfl

end

/-! ## One store's value -/

theorem mask_word : ∀ (s : Fin 8) (l : Fin 128), IntOp.andi (IntOp.cmpi .sge (BitVec.ofNat 32 l.val) (BitVec.ofNat 32 (16 * s.val)))
    (IntOp.cmpi .slt (BitVec.ofNat 32 l.val) (BitVec.ofNat 32 (16 * s.val + 16))) = if l.val / 16 = s.val then 1#1 else 0#1 := by decide +kernel

theorem mask_apply (s : Fin 8) (b : Fin 16) (l : Fin 128) : mask s (ix2 b l) = if l.val / 16 = s.val then 1#1 else 0#1 := by
  unfold mask
  show IntOp.andi (IntOp.cmpi .sge (iota .tc S16x128 32 [1] iota_S16x128_d1_w32 (ix2 b l)) (BitVec.ofNat 32 (16 * s.val)))
    (IntOp.cmpi .slt (iota .tc S16x128 32 [1] iota_S16x128_d1_w32 (ix2 b l)) (BitVec.ofNat 32 (16 * s.val + 16))) = _
  rw [iota_single_apply]
  exact mask_word s l

theorem which_slot : ∀ (a p t : Fin 8), ((if (p + t).val = (a + t).val then 1#1 else 0#1) = (1 : BitVec 1)) ↔ p = a := by decide

theorem pick_apply (t : Fin 8) (s : Fin 8 → FVec Ideal S16x128 .f32) (b : Fin 16) (m : Fin 128) (p : Fin 8) (hp : m.val / 16 = (p + t).val) :
    pick t s (ix2 b m) = s p (ix2 b m) := by
  unfold pick
  simp only [ValueIdx.select_apply, mask_apply, Scalar.select, hp, which_slot]
  fin_cases p <;> rfl

/-- The lane of the block a lane is taken from. -/
def lane (t : Fin 8) (l : Fin 128) : Fin 128 := ⟨(l.val / 16 + t.val) % 8 * 16 + l.val % 16, by omega⟩

theorem slot_apply (t : Fin 8) (s : Fin 8 → FVec Ideal S16x128 .f32) (u : Fin 1) (b : Fin 16) (l : Fin 128) :
    slot t s (ix3 u b l) = s ⟨l.val / 16, by omega⟩ (ix2 b (lane t l)) := by
  obtain rfl : u = 0 := Subsingleton.elim _ _
  match t with
  | ⟨0, h0⟩ =>
    show shapeCast S1x16x128 (pick 0 s) shapeCasts_S16x128_S1x16x128 (ix3 0 b l) = _
    rw [shapeCast_ab_1ab_apply]
    have e : lane ⟨0, h0⟩ l = l := Fin.ext (by show (l.val / 16 + 0) % 8 * 16 + l.val % 16 = l.val; omega)
    rw [e]
    exact pick_apply 0 s b l _ (by show l.val / 16 = (l.val / 16 + 0) % 8; omega)
  | ⟨t + 1, h⟩ =>
    show shapeCast S1x16x128 (dynamicRotate 1 (BitVec.ofNat 32 (112 - 16 * t)) none (pick ⟨t + 1, h⟩ s) rotates_S16x128_d1)
      shapeCasts_S16x128_S1x16x128 (ix3 0 b l) = _
    rw [shapeCast_ab_1ab_apply]
    refine Eq.trans ?_ (pick_apply ⟨t + 1, h⟩ s b (lane ⟨t + 1, h⟩ l) ⟨l.val / 16, by omega⟩ ?_)
    · unfold dynamicRotate
      refine congrArg (pick ⟨t + 1, h⟩ s) ?_
      funext a
      apply Fin.ext
      match a with
      | ⟨0, _⟩ => rfl
      | ⟨1, _⟩ =>
        show (l.val + 128 - ((112 - 16 * t) % 2 ^ 32 + 0) % 128) % 128 = (l.val / 16 + (t + 1)) % 8 * 16 + l.val % 16
        have : t < 7 := by omega
        omega
    · show ((l.val / 16 + (t + 1)) % 8 * 16 + l.val % 16) / 16 = (l.val / 16 + (t + 1)) % 8
      omega

/-- The value of the scan's output the scratch holds at a row of lanes, a row and a lane. -/
def unpacked (x : Vec Ideal S32x4x16x256 .bf16) (st v : Fin 4) (r : Fin 256) (l : Fin 128) : EReal :=
  x (ix4 (⟨v.val * 8 + l.val / 16, by omega⟩ : Fin 32) st (⟨r.val / 16, by omega⟩ : Fin 16)
    (⟨r.val % 16 / 8 * 128 + ((l.val / 16 + r.val % 8) % 8 * 16 + l.val % 16), by omega⟩ : Fin 256))

/-- The whole scratch. -/
def unpackedVal (x : Vec Ideal S32x4x16x256 .bf16) (st : Fin 4) (y : S4x256x128.Idx) : EReal := unpacked x st (y 0) (y 1) (y 2)

theorem src_apply (M : Memref sig .tc .vmem S32x4x16x256 .bf16) (h : M.IsWhole) (x : Vec Ideal S32x4x16x256 .bf16) (st v : Fin 4) (hf : Fin 2)
    (p : Fin 8) (b : Fin 16) (m : Fin 128) :
    (src M h x st v hf p (ix2 b m) : EReal) = x (ix4 (⟨v.val * 8 + p.val, by omega⟩ : Fin 32) st b (⟨hf.val * 128 + m.val, by omega⟩ : Fin 256)) := by
  unfold src
  rw [ValueIdx.extf_apply, shapeCast_apply (k := ix4 0 0 b m), View.readAt_eq_ld, h.read_unread]
  · show x _ = x _
    refine congrArg x ?_
    funext a
    apply Fin.ext
    match a with
    | ⟨0, _⟩ => show v.val * 8 + p.val + 1 * 0 = v.val * 8 + p.val; omega
    | ⟨1, _⟩ => show st.val + 1 * 0 = st.val; omega
    | ⟨2, _⟩ => show 0 + 1 * b.val = b.val; omega
    | ⟨3, _⟩ => show hf.val * 128 + 1 * m.val = hf.val * 128 + m.val; omega
  · rw [Shape.rowMajor_val_four, Shape.rowMajor_val_two]
    show ((0 * 1 + 0) * 16 + b.val) * 128 + m.val = b.val * 128 + m.val
    omega

theorem slotStore_apply (M : Memref sig .tc .vmem S32x4x16x256 .bf16) (h : M.IsWhole) (x : Vec Ideal S32x4x16x256 .bf16) (st v : Fin 4)
    (hf : Fin 2) (t : Fin 8) (y : (slotStore M h x st v hf t).1.shape.Idx) :
    (slotStore M h x st v hf t).2 y = unpackedVal x st ((slotStore M h x st v hf t).1.emb y) := by
  obtain ⟨u, b, l, rfl⟩ : ∃ (u : Fin 1) (b : Fin 16) (l : Fin 128), y = ix3 u b l := ⟨y 0, y 1, y 2, by
    funext a; match a with | ⟨0, _⟩ => rfl | ⟨1, _⟩ => rfl | ⟨2, _⟩ => rfl⟩
  obtain rfl : u = 0 := Subsingleton.elim _ _
  have e : (slotStore M h x st v hf t).1.emb (ix3 0 b l) = ix3 v (⟨hf.val * 8 + t.val + 16 * b.val, by omega⟩ : Fin 256) l := by
    funext a
    apply Fin.ext
    match a with
    | ⟨0, _⟩ => show v.val + 1 * 0 = v.val; omega
    | ⟨1, _⟩ => rfl
    | ⟨2, _⟩ => show 0 + 1 * l.val = l.val; omega
  rw [e]
  refine (slot_apply t _ 0 b l).trans ((src_apply M h x st v hf _ b (lane t l)).trans ?_)
  show x _ = x _
  refine congrArg x ?_
  funext a
  apply Fin.ext
  match a with
  | ⟨0, _⟩ => rfl
  | ⟨1, _⟩ => rfl
  | ⟨2, _⟩ => show b.val = (hf.val * 8 + t.val + 16 * b.val) / 16; omega
  | ⟨3, _⟩ =>
    show hf.val * 128 + ((l.val / 16 + t.val) % 8 * 16 + l.val % 16) = (hf.val * 8 + t.val + 16 * b.val) % 16 / 8 * 128
      + ((l.val / 16 + (hf.val * 8 + t.val + 16 * b.val) % 8) % 8 * 16 + l.val % 16)
    have e1 : (hf.val * 8 + t.val + 16 * b.val) % 16 / 8 = hf.val := by omega
    have e2 : (hf.val * 8 + t.val + 16 * b.val) % 8 = t.val := by omega
    rw [e1, e2]

/-! ## All of them -/

theorem half_agrees (M : Memref sig .tc .vmem S32x4x16x256 .bf16) (h : M.IsWhole) (x : Vec Ideal S32x4x16x256 .bf16) (st v : Fin 4) (hf : Fin 2)
    (L : List (View.Piece (Elt Ideal) S4x256x128 .f32)) (hL : ∀ p ∈ L, ∀ y, p.2 y = unpackedVal x st (p.1.emb y)) :
    ∀ p ∈ halfStores M h x st v hf L, ∀ y, p.2 y = unpackedVal x st (p.1.emb y) := by
  unfold halfStores
  refine List.forall_mem_cons.mpr ⟨fun y => slotStore_apply M h x st v hf 7 y, ?_⟩
  refine List.forall_mem_cons.mpr ⟨fun y => slotStore_apply M h x st v hf 6 y, ?_⟩
  refine List.forall_mem_cons.mpr ⟨fun y => slotStore_apply M h x st v hf 5 y, ?_⟩
  refine List.forall_mem_cons.mpr ⟨fun y => slotStore_apply M h x st v hf 4 y, ?_⟩
  refine List.forall_mem_cons.mpr ⟨fun y => slotStore_apply M h x st v hf 3 y, ?_⟩
  refine List.forall_mem_cons.mpr ⟨fun y => slotStore_apply M h x st v hf 2 y, ?_⟩
  refine List.forall_mem_cons.mpr ⟨fun y => slotStore_apply M h x st v hf 1 y, ?_⟩
  exact List.forall_mem_cons.mpr ⟨fun y => slotStore_apply M h x st v hf 0 y, hL⟩

theorem stores_agree (M : Memref sig .tc .vmem S32x4x16x256 .bf16) (h : M.IsWhole) (x : Vec Ideal S32x4x16x256 .bf16) (st : Fin 4) :
    ∀ p ∈ slotStores M h x st, ∀ y, p.2 y = unpackedVal x st (p.1.emb y) :=
  half_agrees M h x st 3 1 _ <| half_agrees M h x st 3 0 _ <| half_agrees M h x st 2 1 _ <| half_agrees M h x st 2 0 _ <|
    half_agrees M h x st 1 1 _ <| half_agrees M h x st 1 0 _ <| half_agrees M h x st 0 1 _ <| half_agrees M h x st 0 0 [] (by simp)

theorem slot_mem_half (M : Memref sig .tc .vmem S32x4x16x256 .bf16) (h : M.IsWhole) (x : Vec Ideal S32x4x16x256 .bf16) (st v : Fin 4) (hf : Fin 2)
    (L : List (View.Piece (Elt Ideal) S4x256x128 .f32)) (t : Fin 8) : slotStore M h x st v hf t ∈ halfStores M h x st v hf L := by
  unfold halfStores
  fin_cases t <;> simp

theorem tail_mem_half (M : Memref sig .tc .vmem S32x4x16x256 .bf16) (h : M.IsWhole) (x : Vec Ideal S32x4x16x256 .bf16) (st v : Fin 4) (hf : Fin 2)
    (L : List (View.Piece (Elt Ideal) S4x256x128 .f32)) (p : View.Piece (Elt Ideal) S4x256x128 .f32) (hp : p ∈ L) :
    p ∈ halfStores M h x st v hf L := by
  unfold halfStores
  simp [hp]

theorem slot_mem (M : Memref sig .tc .vmem S32x4x16x256 .bf16) (h : M.IsWhole) (x : Vec Ideal S32x4x16x256 .bf16) (st v : Fin 4) (hf : Fin 2)
    (t : Fin 8) : slotStore M h x st v hf t ∈ slotStores M h x st := by
  unfold slotStores
  fin_cases v <;> fin_cases hf
  all_goals first
    | exact slot_mem_half M h x st _ _ _ t
    | (repeat' (first | exact slot_mem_half M h x st _ _ _ t | apply tail_mem_half))

theorem stores_cover (M : Memref sig .tc .vmem S32x4x16x256 .bf16) (h : M.IsWhole) (x : Vec Ideal S32x4x16x256 .bf16) (st : Fin 4)
    (y : S4x256x128.Idx) : ∃ p ∈ slotStores M h x st, y ∈ p.1.set := by
  obtain ⟨v, r, l, rfl⟩ : ∃ (v : Fin 4) (r : Fin 256) (l : Fin 128), y = ix3 v r l := ⟨y 0, y 1, y 2, by
    funext a; match a with | ⟨0, _⟩ => rfl | ⟨1, _⟩ => rfl | ⟨2, _⟩ => rfl⟩
  refine ⟨_, slot_mem M h x st v ⟨r.val % 16 / 8, by omega⟩ ⟨r.val % 8, by omega⟩, ?_⟩
  refine (LoadRect.mem_set _).mpr fun a => ?_
  match a with
  | ⟨0, _⟩ => exact ⟨0, by show 0 < 1; omega, by show v.val = v.val + 1 * 0; omega⟩
  | ⟨1, _⟩ => exact ⟨r.val / 16, by show r.val / 16 < 16; omega, by show r.val = r.val % 16 / 8 * 8 + r.val % 8 + 16 * (r.val / 16); omega⟩
  | ⟨2, _⟩ => exact ⟨l.val, l.isLt, by show l.val = 0 + 1 * l.val; omega⟩

/-- One row of lanes read back. -/
theorem readCov_slots (N : Memref sig .tc .vmem S4x256x128 .f32) (M : Memref sig .tc .vmem S32x4x16x256 .bf16) (h : M.IsWhole)
    (x : Vec Ideal S32x4x16x256 .bf16) (st v : Fin 4) (ho : ∀ a, (![v.val, 0, 0] : Fin 3 → ℕ) a + S1x256x128.size a ≤ S4x256x128.size a)
    (r : Fin 256) (l : Fin 128) :
    (N.view.readCov (slotStores M h x st) (Rect.unit (s := S4x256x128) ![v.val, 0, 0] S1x256x128.size ho).toLoadRect (ix3 0 r l) : EReal)
      = unpacked x st v r l := by
  rw [View.readCov_eq_canon']
  refine (Cert.Attn.canon_agrees (unpackedVal x st) (slotStores M h x st) _ (stores_agree M h x st) (stores_cover M h x st _)).trans ?_
  have e : (Rect.unit (s := S4x256x128) ![v.val, 0, 0] S1x256x128.size ho).toLoadRect.idx (ix3 0 r l) = ix3 v r l := by
    funext a
    apply Fin.ext
    match a with
    | ⟨0, _⟩ => show v.val + 1 * 0 = v.val; omega
    | ⟨1, _⟩ => show 0 + 1 * r.val = r.val; omega
    | ⟨2, _⟩ => show 0 + 1 * l.val = l.val; omega
  rw [e]
  rfl

end Cert.Merge
-- ==== Proof.MergeTile.lean ====
module

public import proofs.«01_k».proof.Proof.UnpackAt

/-! One sub-tile of the merge, as a function of what it loads: the gates, the gelu, the gated sum and the last norm. -/

@[expose] public section

noncomputable section

namespace Cert.Merge

open Cert.Kernel2Ideal Cert.Kernel2Ideal.Gen Idealize.ShloMosaic Idealize.ShloMosaic.ValueIdx

variable {F : FTy → Type} [FloatOps F]

/-- Rows scaled by the root of their mean square, and by a gain. -/
def rms (x : FVec F S256x1024 .f32) (g : FVec F S1x1024 .f32) : FVec F S256x1024 .f32 :=
  mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 g broadcasts_S1x1024_S256x1024)

/-- Twice the two gates, side by side. -/
def gates2 (x : FVec F S256x1024 .f32) (g : Vec F S1x1024 .f32) (w : Vec F S1024x2048 .bf16) (b : Vec F S1x2048 .f32) : FVec F S256x2048 .f32 :=
  addf (broadcast S256x2048 (Scalar.ofBits .f32 0x3F800000#32)) (tanh (addf
    (matmul dot_S256x1024_S1024x2048_S256x2048_1_0_0_1_n_n none
      (truncf .bf16 (rms x (mulf (broadcast S1x1024 (Scalar.ofBits .f32 0x3F000000#32)) (shapeCast S1x1024 g shapeCasts_S1x1024_S1x1024))) bitsLt_bf16_f32)
      (shapeCast S1024x2048 w shapeCasts_S1024x2048_S1024x2048) (constant S256x2048 .f32 0x00000000#32))
    (broadcastTo S256x2048 (mulf (broadcast S1x2048 (Scalar.ofBits .f32 0x3F000000#32)) (shapeCast S1x2048 b shapeCasts_S1x2048_S1x2048))
      broadcasts_S1x2048_S256x2048)))

/-- The scan's output with its channels side by side. -/
def wide (y0 y1 y2 y3 : Vec F S1x256x128 .f32) : FVec F S256x512 .f32 :=
  concatenate S256x512 1 [⟨S256x128, shapeCast S256x128 y0 shapeCasts_S1x256x128_S256x128⟩,
    ⟨S256x128, shapeCast S256x128 y1 shapeCasts_S1x256x128_S256x128⟩, ⟨S256x128, shapeCast S256x128 y2 shapeCasts_S1x256x128_S256x128⟩,
    ⟨S256x128, shapeCast S256x128 y3 shapeCasts_S1x256x128_S256x128⟩] concatenates_S256x128_S256x128_S256x128_S256x128_S256x512_d1

/-- Twice the gelu. -/
def gelu2 (y : FVec F S256x512 .f32) : FVec F S256x512 .f32 :=
  mulf y (addf (broadcast S256x512 (Scalar.ofBits .f32 0x3F800000#32)) (tanh (mulf (broadcast S256x512 (Scalar.ofBits .f32 0x3F4C422A#32))
    (addf y (mulf (broadcast S256x512 (Scalar.ofBits .f32 0x3D372713#32)) (mulf (mulf y y) y))))))

/-- Four times the gated, activated scan output. -/
def branch4 (y2 : FVec F S256x512 .f32) (w : Vec F S512x512 .bf16) (b : Vec F S1x512 .f32) (z : Vec F S16x16x512 .bf16) : FVec F S256x512 .f32 :=
  mulf (mulf y2 (addf (broadcast S256x512 (Scalar.ofBits .f32 0x3F800000#32)) (tanh (addf
    (matmul dot_S256x512_S512x512_S256x512_1_0_0_1_n_n none (truncf .bf16 y2 bitsLt_bf16_f32) w (constant S256x512 .f32 0x00000000#32))
    (broadcastTo S256x512 (mulf (broadcast S1x512 (Scalar.ofBits .f32 0x3F000000#32)) (shapeCast S1x512 b shapeCasts_S1x512_S1x512))
      broadcasts_S1x512_S256x512)))))
    (extf .f32 (shapeCast S256x512 z shapeCasts_S16x16x512_S256x512) bitsLt_bf16_f32)

/-- Twice the gated sum of the two branches. -/
def merged2 (gt : FVec F S256x2048 .f32) (s4 : FVec F S256x512 .f32) (ao : Vec F S16x16x512 .bf16) (wa ws : Vec F S512x1024 .bf16) :
    FVec F S256x1024 .f32 :=
  addf (mulf (extractStridedSlice S256x1024 ![0, 0] gt slices_S256x2048_o0_0_S256x1024)
      (matmul dot_S256x512_S512x1024_S256x1024_1_0_0_1_n_n none (shapeCast S256x512 ao shapeCasts_S16x16x512_S256x512) wa
        (constant S256x1024 .f32 0x00000000#32)))
    (mulf (extractStridedSlice S256x1024 ![0, 1024] gt slices_S256x2048_o0_1024_S256x1024)
      (matmul dot_S256x512_S512x1024_S256x1024_1_0_0_1_n_n none (truncf .bf16 s4 bitsLt_bf16_f32) ws (constant S256x1024 .f32 0x00000000#32)))

/-- The sub-tile. -/
def tile (x3 : Vec F S16x16x1024 .f32) (g : Vec F S1x1024 .f32) (w : Vec F S1024x2048 .bf16) (b : Vec F S1x2048 .f32)
    (y0 y1 y2 y3 : Vec F S1x256x128 .f32) (wl : Vec F S512x512 .bf16) (bl : Vec F S1x512 .f32) (z ao : Vec F S16x16x512 .bf16)
    (wa ws : Vec F S512x1024 .bf16) (wo : Vec F S1024x1024 .bf16) (fg : Vec F S1x1024 .f32) : FVec F S16x16x1024 .f32 :=
  shapeCast S16x16x1024 (rms (addf (shapeCast S256x1024 x3 shapeCasts_S16x16x1024_S256x1024)
    (matmul dot_S256x1024_S1024x1024_S256x1024_1_0_0_1_n_n none (truncf .bf16
      (merged2 (gates2 (shapeCast S256x1024 x3 shapeCasts_S16x16x1024_S256x1024) g w b) (branch4 (gelu2 (wide y0 y1 y2 y3)) wl bl z) ao wa ws) bitsLt_bf16_f32)
      wo (constant S256x1024 .f32 0x00000000#32))) (shapeCast S1x1024 fg shapeCasts_S1x1024_S1x1024)) shapeCasts_S256x1024_S16x16x1024

/-! ## The stores of a grid point -/

theorem rows_fit (n : ℕ) (st : Fin 4) : ∀ a, (![0, st.val * 16, 0] : Fin 3 → ℕ) a + (![16, 16, n] : Fin 3 → ℕ) a ≤ (![16, 64, n] : Fin 3 → ℕ) a := by
  intro a
  match a with
  | ⟨0, _⟩ => show 0 + 16 ≤ 16; omega
  | ⟨1, _⟩ => show st.val * 16 + 16 ≤ 64; omega
  | ⟨2, _⟩ => show 0 + n ≤ n; omega

/-- Sixteen tokens of each batch row: the residual's. -/
def xAt (M : Memref sig .tc .vmem S16x64x1024 .f32) (h : M.IsWhole) (x : Vec F S16x64x1024 .f32) (st : Fin 4) : Vec F S16x16x1024 .f32 :=
  View.readAt (Elt F) M.view (Rect.unit (s := S16x64x1024) ![0, st.val * 16, 0] S16x16x1024.size (rows_fit 1024 st)).toLoadRect (h.unread x)
/-- Sixteen tokens of each batch row: a branch's. -/
def actAt (M : Memref sig .tc .vmem S16x64x512 .bf16) (h : M.IsWhole) (x : Vec F S16x64x512 .bf16) (st : Fin 4) : Vec F S16x16x512 .bf16 :=
  View.readAt (Elt F) M.view (Rect.unit (s := S16x64x512) ![0, st.val * 16, 0] S16x16x512.size (rows_fit 512 st)).toLoadRect (h.unread x)

theorem lanes_fit (v : Fin 4) : ∀ a, (![v.val, 0, 0] : Fin 3 → ℕ) a + S1x256x128.size a ≤ S4x256x128.size a := by
  intro a
  match a with
  | ⟨0, _⟩ => show v.val + 1 ≤ 4; omega
  | ⟨1, _⟩ => show 0 + 256 ≤ 256; omega
  | ⟨2, _⟩ => show 0 + 128 ≤ 128; omega

/-- One row of lanes of the unpacked scan output. -/
def yAt (N : Memref sig .tc .vmem S4x256x128 .f32) (M : Memref sig .tc .vmem S32x4x16x256 .bf16) (h : M.IsWhole) (x : Vec F S32x4x16x256 .bf16)
    (st v : Fin 4) : Vec F S1x256x128 .f32 :=
  N.view.readCov (slotStores M h x st) (Rect.unit (s := S4x256x128) ![v.val, 0, 0] S1x256x128.size (lanes_fit v)).toLoadRect

/-- The store of one sub-tile, the weights as they are loaded. -/
def tileStore (arg1 : Memref sig .tc .vmem S16x64x1024 .f32) (harg1 : arg1.IsWhole) (arg2 : Memref sig .tc .vmem S1x1024 .f32) (harg2 : arg2.IsWhole)
    (arg3 : Memref sig .tc .vmem S1024x2176 .bf16) (harg3 : arg3.IsWhole) (arg4 : Memref sig .tc .vmem S1x2048 .f32) (harg4 : arg4.IsWhole)
    (arg5 : Memref sig .tc .vmem S16x64x512 .bf16) (harg5 : arg5.IsWhole) (arg6 : Memref sig .tc .vmem S32x4x16x256 .bf16) (harg6 : arg6.IsWhole)
    (arg7 : Memref sig .tc .vmem S16x64x512 .bf16) (harg7 : arg7.IsWhole) (arg9 : Memref sig .tc .vmem S1x512 .f32) (harg9 : arg9.IsWhole)
    (arg13 : Memref sig .tc .vmem S1x1024 .f32) (harg13 : arg13.IsWhole) (N : Memref sig .tc .vmem S4x256x128 .f32)
    (x0 : Vec F S16x64x1024 .f32) (x1 : Vec F S1x1024 .f32) (x2 : Vec F S1024x2176 .bf16) (x3 : Vec F S1x2048 .f32) (x4 : Vec F S16x64x512 .bf16)
    (x5 : Vec F S32x4x16x256 .bf16) (x6 : Vec F S16x64x512 .bf16) (x8 : Vec F S1x512 .f32) (x12 : Vec F S1x1024 .f32)
    (wl : Vec F S512x512 .bf16) (wa ws : Vec F S512x1024 .bf16) (wo : Vec F S1024x1024 .bf16) (st : Fin 4) :
    View.Piece (Elt F) S16x64x1024 .f32 :=
  ⟨Rect.unit ![0, st.val * 16, 0] S16x16x1024.size (rows_fit 1024 st),
    tile (xAt arg1 harg1 x0 st)
      (View.readAt (Elt F) arg2.view (Rect.unit (s := S1x1024) ![0, 0] S1x1024.size inb_S1x1024_S1x1024_0_0).toLoadRect (harg2.unread x1))
      (View.readAt (Elt F) arg3.view (Rect.unit (s := S1024x2176) ![0, 128] S1024x2048.size inb_S1024x2176_S1024x2048_0_128).toLoadRect (harg3.unread x2))
      (View.readAt (Elt F) arg4.view (Rect.unit (s := S1x2048) ![0, 0] S1x2048.size inb_S1x2048_S1x2048_0_0).toLoadRect (harg4.unread x3))
      (yAt N arg6 harg6 x5 st 0) (yAt N arg6 harg6 x5 st 1) (yAt N arg6 harg6 x5 st 2) (yAt N arg6 harg6 x5 st 3) wl
      (View.readAt (Elt F) arg9.view (Rect.unit (s := S1x512) ![0, 0] S1x512.size inb_S1x512_S1x512_0_0).toLoadRect (harg9.unread x8))
      (actAt arg7 harg7 x6 st) (actAt arg5 harg5 x4 st) wa ws wo
      (View.readAt (Elt F) arg13.view (Rect.unit (s := S1x1024) ![0, 0] S1x1024.size inb_S1x1024_S1x1024_0_0).toLoadRect (harg13.unread x12))⟩

end Cert.Merge
-- ==== Proof.MergePieces.lean ====
module

public import proofs.«01_k».proof.Proof.MergeTile

/-! The stores of a grid point of the merge, in the first point and in the later ones. -/

@[expose] public section

noncomputable section

namespace Cert.Merge

open Cert.Kernel2Ideal Cert.Kernel2Ideal.Gen Idealize.ShloMosaic Idealize.ShloMosaic.ValueIdx

variable {F : FTy → Type} [FloatOps F]

set_option maxHeartbeats 1000000 in
theorem pieces_A (c : Dev nD) (i : grid0.Coords) (arg1 : Memref sig .tc .vmem S16x64x1024 .f32) (harg1 : arg1.IsWhole) (arg2 : Memref sig .tc .vmem S1x1024 .f32) (harg2 : arg2.IsWhole) (arg3 : Memref sig .tc .vmem S1024x2176 .bf16) (harg3 : arg3.IsWhole) (arg4 : Memref sig .tc .vmem S1x2048 .f32) (harg4 : arg4.IsWhole) (arg5 : Memref sig .tc .vmem S16x64x512 .bf16) (harg5 : arg5.IsWhole) (arg6 : Memref sig .tc .vmem S32x4x16x256 .bf16) (harg6 : arg6.IsWhole) (arg7 : Memref sig .tc .vmem S16x64x512 .bf16) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1024x1024 .f32) (harg12 : arg12.IsWhole) (arg13 : Memref sig .tc .vmem S1x1024 .f32) (harg13 : arg13.IsWhole) (arg14 : Memref sig .tc .vmem S16x64x1024 .f32) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S4x256x128 .f32) (harg19 : arg19.IsWhole) (arg20 : Memref sig .tc .vmem S4x256x128 .f32) (harg20 : arg20.IsWhole) (arg21 : Memref sig .tc .vmem S4x256x128 .f32) (harg21 : arg21.IsWhole) (arg22 : Memref sig .tc .vmem S4x256x128 .f32) (harg22 : arg22.IsWhole) (hc0 : cond0_0 i)
    (x0 : Vec F S16x64x1024 .f32) (x1 : Vec F S1x1024 .f32) (x2 : Vec F S1024x2176 .bf16) (x3 : Vec F S1x2048 .f32) (x4 : Vec F S16x64x512 .bf16) (x5 : Vec F S32x4x16x256 .bf16) (x6 : Vec F S16x64x512 .bf16) (x7 : Vec F S512x512 .f32) (x8 : Vec F S1x512 .f32) (x9 : Vec F S512x1024 .f32) (x10 : Vec F S512x1024 .f32) (x11 : Vec F S1024x1024 .f32) (x12 : Vec F S1x1024 .f32)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).1
      = [tileStore arg1 harg1 arg2 harg2 arg3 harg3 arg4 harg4 arg5 harg5 arg6 harg6 arg7 harg7 arg9 harg9 arg13 harg13 arg22 x0 x1 x2 x3 x4 x5 x6 x8 x12 (arg15.view.readCov (kernelRun0_A.sl.HS0_1 c arg8 harg8 x7) (Rect.unit (s := S512x512) ![0, 0] S512x512.size inb_S512x512_S512x512_0_0).toLoadRect)
      (arg16.view.readCov (kernelRun0_A.sl.HS1_1 c arg10 harg10 x9) (Rect.unit (s := S512x1024) ![0, 0] S512x1024.size inb_S512x1024_S512x1024_0_0).toLoadRect)
      (arg17.view.readCov (kernelRun0_A.sl.HS2_1 c arg11 harg11 x10) (Rect.unit (s := S512x1024) ![0, 0] S512x1024.size inb_S512x1024_S512x1024_0_0).toLoadRect)
      (arg18.view.readCov (kernelRun0_A.sl.HS3_1 c arg12 harg12 x11) (Rect.unit (s := S1024x1024) ![0, 0] S1024x1024.size inb_S1024x1024_S1024x1024_0_0).toLoadRect) 3, tileStore arg1 harg1 arg2 harg2 arg3 harg3 arg4 harg4 arg5 harg5 arg6 harg6 arg7 harg7 arg9 harg9 arg13 harg13 arg21 x0 x1 x2 x3 x4 x5 x6 x8 x12 (arg15.view.readCov (kernelRun0_A.sl.HS0_1 c arg8 harg8 x7) (Rect.unit (s := S512x512) ![0, 0] S512x512.size inb_S512x512_S512x512_0_0).toLoadRect)
      (arg16.view.readCov (kernelRun0_A.sl.HS1_1 c arg10 harg10 x9) (Rect.unit (s := S512x1024) ![0, 0] S512x1024.size inb_S512x1024_S512x1024_0_0).toLoadRect)
      (arg17.view.readCov (kernelRun0_A.sl.HS2_1 c arg11 harg11 x10) (Rect.unit (s := S512x1024) ![0, 0] S512x1024.size inb_S512x1024_S512x1024_0_0).toLoadRect)
      (arg18.view.readCov (kernelRun0_A.sl.HS3_1 c arg12 harg12 x11) (Rect.unit (s := S1024x1024) ![0, 0] S1024x1024.size inb_S1024x1024_S1024x1024_0_0).toLoadRect) 2, tileStore arg1 harg1 arg2 harg2 arg3 harg3 arg4 harg4 arg5 harg5 arg6 harg6 arg7 harg7 arg9 harg9 arg13 harg13 arg20 x0 x1 x2 x3 x4 x5 x6 x8 x12 (arg15.view.readCov (kernelRun0_A.sl.HS0_1 c arg8 harg8 x7) (Rect.unit (s := S512x512) ![0, 0] S512x512.size inb_S512x512_S512x512_0_0).toLoadRect)
      (arg16.view.readCov (kernelRun0_A.sl.HS1_1 c arg10 harg10 x9) (Rect.unit (s := S512x1024) ![0, 0] S512x1024.size inb_S512x1024_S512x1024_0_0).toLoadRect)
      (arg17.view.readCov (kernelRun0_A.sl.HS2_1 c arg11 harg11 x10) (Rect.unit (s := S512x1024) ![0, 0] S512x1024.size inb_S512x1024_S512x1024_0_0).toLoadRect)
      (arg18.view.readCov (kernelRun0_A.sl.HS3_1 c arg12 harg12 x11) (Rect.unit (s := S1024x1024) ![0, 0] S1024x1024.size inb_S1024x1024_S1024x1024_0_0).toLoadRect) 1, tileStore arg1 harg1 arg2 harg2 arg3 harg3 arg4 harg4 arg5 harg5 arg6 harg6 arg7 harg7 arg9 harg9 arg13 harg13 arg19 x0 x1 x2 x3 x4 x5 x6 x8 x12 (arg15.view.readCov (kernelRun0_A.sl.HS0_1 c arg8 harg8 x7) (Rect.unit (s := S512x512) ![0, 0] S512x512.size inb_S512x512_S512x512_0_0).toLoadRect)
      (arg16.view.readCov (kernelRun0_A.sl.HS1_1 c arg10 harg10 x9) (Rect.unit (s := S512x1024) ![0, 0] S512x1024.size inb_S512x1024_S512x1024_0_0).toLoadRect)
      (arg17.view.readCov (kernelRun0_A.sl.HS2_1 c arg11 harg11 x10) (Rect.unit (s := S512x1024) ![0, 0] S512x1024.size inb_S512x1024_S512x1024_0_0).toLoadRect)
      (arg18.view.readCov (kernelRun0_A.sl.HS3_1 c arg12 harg12 x11) (Rect.unit (s := S1024x1024) ![0, 0] S1024x1024.size inb_S1024x1024_S1024x1024_0_0).toLoadRect) 0] := by
  unfold kernelRun0_A
  sl_unfold_run_values
  dsimp only
  simp only [stores_A0, stores_A1, stores_A2, stores_A3]
  rfl

set_option maxHeartbeats 1000000 in
theorem pieces_B (c : Dev nD) (i : grid0.Coords) (arg1 : Memref sig .tc .vmem S16x64x1024 .f32) (harg1 : arg1.IsWhole) (arg2 : Memref sig .tc .vmem S1x1024 .f32) (harg2 : arg2.IsWhole) (arg3 : Memref sig .tc .vmem S1024x2176 .bf16) (harg3 : arg3.IsWhole) (arg4 : Memref sig .tc .vmem S1x2048 .f32) (harg4 : arg4.IsWhole) (arg5 : Memref sig .tc .vmem S16x64x512 .bf16) (harg5 : arg5.IsWhole) (arg6 : Memref sig .tc .vmem S32x4x16x256 .bf16) (harg6 : arg6.IsWhole) (arg7 : Memref sig .tc .vmem S16x64x512 .bf16) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1024x1024 .f32) (harg12 : arg12.IsWhole) (arg13 : Memref sig .tc .vmem S1x1024 .f32) (harg13 : arg13.IsWhole) (arg14 : Memref sig .tc .vmem S16x64x1024 .f32) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S4x256x128 .f32) (harg19 : arg19.IsWhole) (arg20 : Memref sig .tc .vmem S4x256x128 .f32) (harg20 : arg20.IsWhole) (arg21 : Memref sig .tc .vmem S4x256x128 .f32) (harg21 : arg21.IsWhole) (arg22 : Memref sig .tc .vmem S4x256x128 .f32) (harg22 : arg22.IsWhole) (hc0 : ¬cond0_0 i)
    (x0 : Vec F S16x64x1024 .f32) (x1 : Vec F S1x1024 .f32) (x2 : Vec F S1024x2176 .bf16) (x3 : Vec F S1x2048 .f32) (x4 : Vec F S16x64x512 .bf16) (x5 : Vec F S32x4x16x256 .bf16) (x6 : Vec F S16x64x512 .bf16) (x7 : Vec F S512x512 .f32) (x8 : Vec F S1x512 .f32) (x9 : Vec F S512x1024 .f32) (x10 : Vec F S512x1024 .f32) (x11 : Vec F S1024x1024 .f32) (x12 : Vec F S1x1024 .f32)  (xs0 : Vec F S512x512 .bf16) (xs1 : Vec F S512x1024 .bf16) (xs2 : Vec F S512x1024 .bf16) (xs3 : Vec F S1024x1024 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 xs1 xs2 xs3).1
      = [tileStore arg1 harg1 arg2 harg2 arg3 harg3 arg4 harg4 arg5 harg5 arg6 harg6 arg7 harg7 arg9 harg9 arg13 harg13 arg22 x0 x1 x2 x3 x4 x5 x6 x8 x12 (View.readAt (Elt F) arg15.view (Rect.unit (s := S512x512) ![0, 0] S512x512.size inb_S512x512_S512x512_0_0).toLoadRect (harg15.unread xs0))
      (View.readAt (Elt F) arg16.view (Rect.unit (s := S512x1024) ![0, 0] S512x1024.size inb_S512x1024_S512x1024_0_0).toLoadRect (harg16.unread xs1))
      (View.readAt (Elt F) arg17.view (Rect.unit (s := S512x1024) ![0, 0] S512x1024.size inb_S512x1024_S512x1024_0_0).toLoadRect (harg17.unread xs2))
      (View.readAt (Elt F) arg18.view (Rect.unit (s := S1024x1024) ![0, 0] S1024x1024.size inb_S1024x1024_S1024x1024_0_0).toLoadRect (harg18.unread xs3)) 3, tileStore arg1 harg1 arg2 harg2 arg3 harg3 arg4 harg4 arg5 harg5 arg6 harg6 arg7 harg7 arg9 harg9 arg13 harg13 arg21 x0 x1 x2 x3 x4 x5 x6 x8 x12 (View.readAt (Elt F) arg15.view (Rect.unit (s := S512x512) ![0, 0] S512x512.size inb_S512x512_S512x512_0_0).toLoadRect (harg15.unread xs0))
      (View.readAt (Elt F) arg16.view (Rect.unit (s := S512x1024) ![0, 0] S512x1024.size inb_S512x1024_S512x1024_0_0).toLoadRect (harg16.unread xs1))
      (View.readAt (Elt F) arg17.view (Rect.unit (s := S512x1024) ![0, 0] S512x1024.size inb_S512x1024_S512x1024_0_0).toLoadRect (harg17.unread xs2))
      (View.readAt (Elt F) arg18.view (Rect.unit (s := S1024x1024) ![0, 0] S1024x1024.size inb_S1024x1024_S1024x1024_0_0).toLoadRect (harg18.unread xs3)) 2, tileStore arg1 harg1 arg2 harg2 arg3 harg3 arg4 harg4 arg5 harg5 arg6 harg6 arg7 harg7 arg9 harg9 arg13 harg13 arg20 x0 x1 x2 x3 x4 x5 x6 x8 x12 (View.readAt (Elt F) arg15.view (Rect.unit (s := S512x512) ![0, 0] S512x512.size inb_S512x512_S512x512_0_0).toLoadRect (harg15.unread xs0))
      (View.readAt (Elt F) arg16.view (Rect.unit (s := S512x1024) ![0, 0] S512x1024.size inb_S512x1024_S512x1024_0_0).toLoadRect (harg16.unread xs1))
      (View.readAt (Elt F) arg17.view (Rect.unit (s := S512x1024) ![0, 0] S512x1024.size inb_S512x1024_S512x1024_0_0).toLoadRect (harg17.unread xs2))
      (View.readAt (Elt F) arg18.view (Rect.unit (s := S1024x1024) ![0, 0] S1024x1024.size inb_S1024x1024_S1024x1024_0_0).toLoadRect (harg18.unread xs3)) 1, tileStore arg1 harg1 arg2 harg2 arg3 harg3 arg4 harg4 arg5 harg5 arg6 harg6 arg7 harg7 arg9 harg9 arg13 harg13 arg19 x0 x1 x2 x3 x4 x5 x6 x8 x12 (View.readAt (Elt F) arg15.view (Rect.unit (s := S512x512) ![0, 0] S512x512.size inb_S512x512_S512x512_0_0).toLoadRect (harg15.unread xs0))
      (View.readAt (Elt F) arg16.view (Rect.unit (s := S512x1024) ![0, 0] S512x1024.size inb_S512x1024_S512x1024_0_0).toLoadRect (harg16.unread xs1))
      (View.readAt (Elt F) arg17.view (Rect.unit (s := S512x1024) ![0, 0] S512x1024.size inb_S512x1024_S512x1024_0_0).toLoadRect (harg17.unread xs2))
      (View.readAt (Elt F) arg18.view (Rect.unit (s := S1024x1024) ![0, 0] S1024x1024.size inb_S1024x1024_S1024x1024_0_0).toLoadRect (harg18.unread xs3)) 0] := by
  unfold kernelRun0_B
  sl_unfold_run_values
  dsimp only
  simp only [stores_B0, stores_B1, stores_B2, stores_B3]
  rfl

end Cert.Merge
-- ==== Proof.MergeAt.lean ====
module

public import proofs.«01_k».proof.Proof.MergeTile
public import proofs.«01_k».proof.Proof.MergeMath

/-! A sub-tile of the merge read at an index: one token. -/

@[expose] public section

noncomputable section

namespace Cert.Merge

open Cert.Kernel2Ideal Cert.Kernel2Ideal.Gen Idealize.ShloMosaic Idealize.ShloMosaic.ValueIdx
open scoped BigOperators

theorem rms_apply (x : FVec Ideal S256x1024 .f32) (g : FVec Ideal S1x1024 .f32) (r : Fin 256) (e : Fin 1024) :
    (rms x g (ix2 r e) : EReal) = nrm (fun d => x (ix2 r d)) (fun d => g (ix2 0 d)) e := by
  unfold rms nrm
  rw [mulf_apply, mulf_apply, broadcastTo_1b_ab_apply]
  refine congrArg (fun z : EReal => x (ix2 r e) * z * g (ix2 0 e)) ?_
  refine (broadcastTo_apply _ broadcasts_S256x1_S256x1024 (ix2 r e) (ix2 r 0) fun ax => match ax with | ⟨0, _⟩ => rfl | ⟨1, _⟩ => rfl).trans ?_
  show Ideal.rsqrt (Ideal.div (shapeCast S256x1 _ _ (ix2 r 0)) _ + _) = _
  rw [shapeCast_a_a1_apply]
  refine congrArg (fun z : EReal => Ideal.rsqrt (Ideal.div z (Ideal.ofBits .f32 0x44800000#32) + Ideal.ofBits .f32 0x358637BD#32)) ?_
  refine (Ideal.multiReduction_add_single (mulf x x) 0x00000000#32 reduces_S256x1024_S256 (.inl rfl) rfl (ix1 r)).trans ?_
  refine Finset.sum_congr rfl fun k _ => ?_
  have e1 : reduces_S256x1024_S256.lift (ix1 r) k = ix2 r k := by
    funext a
    match a with
    | ⟨0, _⟩ => apply Fin.ext; rfl
    | ⟨1, _⟩ => apply Fin.ext; rfl
  rw [e1]
  rfl

theorem dot_gate_apply (x : FVec Ideal S256x1024 .bf16) (w : FVec Ideal S1024x2048 .bf16) (r : Fin 256) (j : Fin 2048) :
    (matmul dot_S256x1024_S1024x2048_S256x2048_1_0_0_1_n_n none x w (constant S256x2048 .f32 0x00000000#32) (ix2 r j) : EReal)
      = ∑ k : Fin 1024, x (ix2 r k) * w (ix2 k j) := by
  refine (Ideal.matmul_plain_apply none _ _ _ r j).trans ?_
  show Ideal.ofBits .f32 0x00000000#32 + _ = _
  rw [Ideal.ofBits_zero_f32, zero_add]

theorem dot_glu_apply (x : FVec Ideal S256x512 .bf16) (w : FVec Ideal S512x512 .bf16) (r : Fin 256) (j : Fin 512) :
    (matmul dot_S256x512_S512x512_S256x512_1_0_0_1_n_n none x w (constant S256x512 .f32 0x00000000#32) (ix2 r j) : EReal)
      = ∑ k : Fin 512, x (ix2 r k) * w (ix2 k j) := by
  refine (Ideal.matmul_plain_apply none _ _ _ r j).trans ?_
  show Ideal.ofBits .f32 0x00000000#32 + _ = _
  rw [Ideal.ofBits_zero_f32, zero_add]

theorem dot_branch_apply (x : FVec Ideal S256x512 .bf16) (w : FVec Ideal S512x1024 .bf16) (r : Fin 256) (j : Fin 1024) :
    (matmul dot_S256x512_S512x1024_S256x1024_1_0_0_1_n_n none x w (constant S256x1024 .f32 0x00000000#32) (ix2 r j) : EReal)
      = ∑ k : Fin 512, x (ix2 r k) * w (ix2 k j) := by
  refine (Ideal.matmul_plain_apply none _ _ _ r j).trans ?_
  show Ideal.ofBits .f32 0x00000000#32 + _ = _
  rw [Ideal.ofBits_zero_f32, zero_add]

theorem dot_out_apply (x : FVec Ideal S256x1024 .bf16) (w : FVec Ideal S1024x1024 .bf16) (r : Fin 256) (j : Fin 1024) :
    (matmul dot_S256x1024_S1024x1024_S256x1024_1_0_0_1_n_n none x w (constant S256x1024 .f32 0x00000000#32) (ix2 r j) : EReal)
      = ∑ k : Fin 1024, x (ix2 r k) * w (ix2 k j) := by
  refine (Ideal.matmul_plain_apply none _ _ _ r j).trans ?_
  show Ideal.ofBits .f32 0x00000000#32 + _ = _
  rw [Ideal.ofBits_zero_f32, zero_add]

theorem gates2_apply (x : FVec Ideal S256x1024 .f32) (g : Vec Ideal S1x1024 .f32) (w : Vec Ideal S1024x2048 .bf16) (b : Vec Ideal S1x2048 .f32)
    (r : Fin 256) (j : Fin 2048) :
    (gates2 x g w b (ix2 r j) : EReal) = ((2 : ℝ) : EReal) * gate (fun d => x (ix2 r d)) (fun d => g (ix2 0 d)) (fun k j => w (ix2 k j)) (fun j => b (ix2 0 j)) j := by
  unfold gates2
  rw [← twice_gate, ← half_ideal]
  show Ideal.ofBits .f32 0x3F800000#32 + Ideal.tanh ((matmul (F := Ideal) dot_S256x1024_S1024x2048_S256x2048_1_0_0_1_n_n none _ _ _ : FVec Ideal S256x2048 .f32) (ix2 r j) + broadcastTo S256x2048 _ _ (ix2 r j)) = _
  rw [one_ideal, dot_gate_apply, broadcastTo_1b_ab_apply, shapeCast_self, shapeCast_self, shapeCast_self]
  refine congrArg (fun z : EReal => 1 + Ideal.tanh (z + Ideal.ofBits .f32 0x3F000000#32 * b (ix2 0 j))) ?_
  refine Finset.sum_congr rfl fun k _ => ?_
  refine congrArg (fun z : EReal => z * w (ix2 k j)) ?_
  exact rms_apply x _ r k

theorem wide_apply (y : Fin 4 → Vec Ideal S1x256x128 .f32) (r : Fin 256) (c : Fin 512) :
    wide (y 0) (y 1) (y 2) (y 3) (ix2 r c) = y ⟨c.val / 128, by omega⟩ (ix3 0 r ⟨c.val % 128, by omega⟩) := by
  obtain ⟨v, l, rfl⟩ : ∃ (v : Fin 4) (l : Fin 128), c = ⟨v.val * 128 + l.val, by omega⟩ :=
    ⟨⟨c.val / 128, by omega⟩, ⟨c.val % 128, by omega⟩, Fin.ext (by show c.val = c.val / 128 * 128 + c.val % 128; omega)⟩
  have e : y ⟨(v.val * 128 + l.val) / 128, by omega⟩ (ix3 0 r ⟨(v.val * 128 + l.val) % 128, by omega⟩) = y v (ix3 0 r l) := by
    have h1 : (⟨(v.val * 128 + l.val) / 128, by omega⟩ : Fin 4) = v := Fin.ext (by show (v.val * 128 + l.val) / 128 = v.val; omega)
    have h2 : (⟨(v.val * 128 + l.val) % 128, by omega⟩ : Fin 128) = l := Fin.ext (by show (v.val * 128 + l.val) % 128 = l.val; omega)
    rw [h1, h2]
  refine Eq.trans ?_ e.symm
  have s : shapeCast S256x128 (y v) shapeCasts_S1x256x128_S256x128 (ix2 r l) = y v (ix3 0 r l) := shapeCast_1ab_ab_apply _ _ _ _
  refine Eq.trans ?_ s
  unfold wide
  match v with
  | ⟨0, _⟩ =>
    refine concatenate_apply_piece (t := S256x512) 1 _ _ _ 0 (by simp) S256x128 (shapeCast S256x128 (y 0) shapeCasts_S1x256x128_S256x128) rfl rfl 0 rfl (ix2 r l) (fun a ha => ?_) ?_
    · match a with
      | ⟨0, _⟩ => rfl
      | ⟨1, _⟩ => exact absurd rfl ha
    · show 0 + l.val = 0 * 128 + l.val; omega
  | ⟨1, _⟩ =>
    refine concatenate_apply_piece (t := S256x512) 1 _ _ _ 1 (by simp) S256x128 (shapeCast S256x128 (y 1) shapeCasts_S1x256x128_S256x128) rfl rfl 128 rfl (ix2 r l) (fun a ha => ?_) ?_
    · match a with
      | ⟨0, _⟩ => rfl
      | ⟨1, _⟩ => exact absurd rfl ha
    · show 128 + l.val = 1 * 128 + l.val; omega
  | ⟨2, _⟩ =>
    refine concatenate_apply_piece (t := S256x512) 1 _ _ _ 2 (by simp) S256x128 (shapeCast S256x128 (y 2) shapeCasts_S1x256x128_S256x128) rfl rfl 256 rfl (ix2 r l) (fun a ha => ?_) ?_
    · match a with
      | ⟨0, _⟩ => rfl
      | ⟨1, _⟩ => exact absurd rfl ha
    · show 256 + l.val = 2 * 128 + l.val; omega
  | ⟨3, _⟩ =>
    refine concatenate_apply_piece (t := S256x512) 1 _ _ _ 3 (by simp) S256x128 (shapeCast S256x128 (y 3) shapeCasts_S1x256x128_S256x128) rfl rfl 384 rfl (ix2 r l) (fun a ha => ?_) ?_
    · match a with
      | ⟨0, _⟩ => rfl
      | ⟨1, _⟩ => exact absurd rfl ha
    · show 384 + l.val = 3 * 128 + l.val; omega

theorem gelu2_apply (y : FVec Ideal S256x512 .f32) (r : Fin 256) (c : Fin 512) :
    (gelu2 y (ix2 r c) : EReal) = ((2 : ℝ) : EReal) * gelu (y (ix2 r c)) := by
  rw [← twice_gelu]
  show y (ix2 r c) * (Ideal.ofBits .f32 0x3F800000#32 + curve (y (ix2 r c))) = _
  rw [one_ideal]

/-- A token's row and column in a sub-tile of sixteen batch rows. -/
theorem rows_apply {n : ℕ} {α : Type} (x : (⟨3, ![16, 16, n]⟩ : Shape).Idx → α) (h : (⟨3, ![16, 16, n]⟩ : Shape).ShapeCasts ⟨2, ![256, n]⟩)
    (b t : Fin 16) (c : Fin n) : shapeCast ⟨2, ![256, n]⟩ x h (ix2 ⟨b.val * 16 + t.val, by omega⟩ c) = x (ix3 b t c) :=
  shapeCast_apply x h _ _ (by
    rw [Shape.rowMajor_val_three, Shape.rowMajor_val_two]
    rfl)

theorem branch4_apply (y : FVec Ideal S256x512 .f32) (w : Vec Ideal S512x512 .bf16) (W : Fin 512 → Fin 512 → EReal)
    (hw : ∀ k j, (w (ix2 k j) : EReal) = ((1 / 4 : ℝ) : EReal) * W k j) (b : Vec Ideal S1x512 .f32) (z : Vec Ideal S16x16x512 .bf16)
    (p t : Fin 16) (c : Fin 512) :
    (branch4 (gelu2 y) w b z (ix2 ⟨p.val * 16 + t.val, by omega⟩ c) : EReal)
      = ((4 : ℝ) : EReal) * branch (fun k => y (ix2 ⟨p.val * 16 + t.val, by omega⟩ k)) (fun k => z (ix3 p t k)) W (fun k => b (ix2 0 k)) c := by
  unfold branch4
  rw [← four_branch]
  simp only [← gelu2_apply, ← hw]
  rw [← half_ideal]
  show (gelu2 y _ * (Ideal.ofBits .f32 0x3F800000#32 + Ideal.tanh ((matmul (F := Ideal) dot_S256x512_S512x512_S256x512_1_0_0_1_n_n none _ _ _ : FVec Ideal S256x512 .f32) _ + broadcastTo S256x512 _ _ _))) * shapeCast S256x512 z _ _ = _
  rw [one_ideal, dot_glu_apply, broadcastTo_1b_ab_apply, shapeCast_self, rows_apply]
  rfl

theorem merged2_apply (gt : FVec Ideal S256x2048 .f32) (G : Fin 2048 → EReal) (s4 : FVec Ideal S256x512 .f32) (S : Fin 512 → EReal)
    (ao : Vec Ideal S16x16x512 .bf16) (wa ws : Vec Ideal S512x1024 .bf16) (WA WS : Fin 512 → Fin 1024 → EReal)
    (hwa : ∀ k j, (wa (ix2 k j) : EReal) = 1 * WA k j) (hws : ∀ k j, (ws (ix2 k j) : EReal) = ((1 / 4 : ℝ) : EReal) * WS k j)
    (p t : Fin 16) (hG : ∀ j, (gt (ix2 ⟨p.val * 16 + t.val, by omega⟩ j) : EReal) = ((2 : ℝ) : EReal) * G j)
    (hS : ∀ c, (s4 (ix2 ⟨p.val * 16 + t.val, by omega⟩ c) : EReal) = ((4 : ℝ) : EReal) * S c) (k : Fin 1024) :
    (merged2 gt s4 ao wa ws (ix2 ⟨p.val * 16 + t.val, by omega⟩ k) : EReal)
      = ((2 : ℝ) : EReal) * merged G (fun c => ao (ix3 p t c)) S WA WS k := by
  unfold merged2
  rw [← twice_merged, addf_apply, mulf_apply, mulf_apply, dot_branch_apply, dot_branch_apply,
    extractStridedSlice_apply _ _ _ _ (ix2 ⟨p.val * 16 + t.val, by omega⟩ ⟨k.val, by omega⟩) (by
      intro a
      match a with
      | ⟨0, _⟩ => show p.val * 16 + t.val = 0 + (p.val * 16 + t.val); omega
      | ⟨1, _⟩ => show k.val = 0 + k.val; omega),
    extractStridedSlice_apply _ _ _ _ (ix2 ⟨p.val * 16 + t.val, by omega⟩ ⟨1024 + k.val, by omega⟩) (by
      intro a
      match a with
      | ⟨0, _⟩ => show p.val * 16 + t.val = 0 + (p.val * 16 + t.val); omega
      | ⟨1, _⟩ => rfl), hG, hG]
  refine congrArg₂ (fun u v : EReal => _ * u + _ * v) (Finset.sum_congr rfl fun c _ => ?_) (Finset.sum_congr rfl fun c _ => ?_)
  · rw [rows_apply, hwa]
  · rw [truncf_apply, hS, hws]

theorem tile_apply (x3 : Vec Ideal S16x16x1024 .f32) (g : Vec Ideal S1x1024 .f32) (w : Vec Ideal S1024x2048 .bf16) (b : Vec Ideal S1x2048 .f32)
    (y : Fin 4 → Vec Ideal S1x256x128 .f32) (wl : Vec Ideal S512x512 .bf16) (bl : Vec Ideal S1x512 .f32) (z ao : Vec Ideal S16x16x512 .bf16)
    (wa ws : Vec Ideal S512x1024 .bf16) (wo : Vec Ideal S1024x1024 .bf16) (fg : Vec Ideal S1x1024 .f32)
    (WL : Fin 512 → Fin 512 → EReal) (WA WS : Fin 512 → Fin 1024 → EReal) (WO : Fin 1024 → Fin 1024 → EReal)
    (hwl : ∀ k j, (wl (ix2 k j) : EReal) = ((1 / 4 : ℝ) : EReal) * WL k j) (hwa : ∀ k j, (wa (ix2 k j) : EReal) = 1 * WA k j)
    (hws : ∀ k j, (ws (ix2 k j) : EReal) = ((1 / 4 : ℝ) : EReal) * WS k j)
    (hwo : ∀ k j, (wo (ix2 k j) : EReal) = ((1 / 2 : ℝ) : EReal) * WO k j) (p t : Fin 16) (e : Fin 1024) :
    (tile x3 g w b (y 0) (y 1) (y 2) (y 3) wl bl z ao wa ws wo fg (ix3 p t e) : EReal)
      = token (fun d => x3 (ix3 p t d)) (fun d => g (ix2 0 d)) (fun k j => w (ix2 k j)) (fun j => b (ix2 0 j)) (fun c => ao (ix3 p t c))
        (fun c => y ⟨c.val / 128, by omega⟩ (ix3 0 ⟨p.val * 16 + t.val, by omega⟩ ⟨c.val % 128, by omega⟩)) (fun c => z (ix3 p t c)) WL
        (fun j => bl (ix2 0 j)) WA WS WO (fun d => fg (ix2 0 d)) e := by
  unfold tile
  rw [shapeCast_apply _ _ (ix3 p t e) (ix2 ⟨p.val * 16 + t.val, by omega⟩ e) (by
    rw [Shape.rowMajor_val_three, Shape.rowMajor_val_two]; rfl), rms_apply, shapeCast_self]
  unfold token
  refine congrArg (fun f => nrm f (fun d => fg (ix2 0 d)) e) (funext fun d => ?_)
  rw [addf_apply, rows_apply, dot_out_apply]
  refine congrArg (fun u : EReal => x3 (ix3 p t d) + u) (Finset.sum_congr rfl fun k _ => ?_)
  rw [truncf_apply, hwo, merged2_apply _ _ _ _ ao wa ws WA WS hwa hws p t (fun j => gates2_apply _ g w b _ j)
    (fun c => branch4_apply _ wl WL hwl bl z p t c), scales_cancel 2 (1 / 2) (by norm_num)]
  simp only [wide_apply, rows_apply]

end Cert.Merge
-- ==== Proof.MergeBlock.lean ====
module

public import proofs.«01_k».proof.Proof.MergePieces
public import proofs.«01_k».proof.Proof.MergeAt
public import proofs.«01_k».proof.Proof.Gen.Kernel2Ideal.Value

/-! The merge's output block and carried weights at an index, after either kind of grid point. -/

@[expose] public section

noncomputable section

namespace Cert.Merge

open Cert.Kernel2Ideal Cert.Kernel2Ideal.Gen Idealize.ShloMosaic Idealize.ShloMosaic.ValueIdx
open scoped BigOperators

theorem read_at {s t : Shape} {e : EltTy} (M : Memref sig .tc .vmem s e) (h : M.IsWhole) (x : Vec Ideal s e) (r : Rect s) (j) (k : s.Idx)
    (hk : ∀ a, (r.toLoadRect.idx j a).val = (k a).val) : View.readAt (Elt Ideal) M.view r.toLoadRect (h.unread x) j = x k := by
  rw [View.readAt_eq_ld, h.read_unread]
  exact congrArg x (funext fun a => Fin.ext (hk a))

theorem xAt_apply (M : Memref sig .tc .vmem S16x64x1024 .f32) (h : M.IsWhole) (x : Vec Ideal S16x64x1024 .f32) (st : Fin 4) (p t : Fin 16) (d : Fin 1024) :
    xAt M h x st (ix3 p t d) = x (ix3 p ⟨st.val * 16 + t.val, by omega⟩ d) := by
  refine read_at (t := S16x16x1024) M h x _ _ _ fun a => ?_
  match a with
  | ⟨0, _⟩ => show 0 + 1 * p.val = p.val; omega
  | ⟨1, _⟩ => show st.val * 16 + 1 * t.val = st.val * 16 + t.val; omega
  | ⟨2, _⟩ => show 0 + 1 * d.val = d.val; omega

theorem actAt_apply (M : Memref sig .tc .vmem S16x64x512 .bf16) (h : M.IsWhole) (x : Vec Ideal S16x64x512 .bf16) (st : Fin 4) (p t : Fin 16) (d : Fin 512) :
    actAt M h x st (ix3 p t d) = x (ix3 p ⟨st.val * 16 + t.val, by omega⟩ d) := by
  refine read_at (t := S16x16x512) M h x _ _ _ fun a => ?_
  match a with
  | ⟨0, _⟩ => show 0 + 1 * p.val = p.val; omega
  | ⟨1, _⟩ => show st.val * 16 + 1 * t.val = st.val * 16 + t.val; omega
  | ⟨2, _⟩ => show 0 + 1 * d.val = d.val; omega

/-- A row of a single row read whole. -/
theorem row_at {n : ℕ} (M : Memref sig .tc .vmem ⟨2, ![1, n]⟩ .f32) (h : M.IsWhole) (x : Vec Ideal ⟨2, ![1, n]⟩ .f32)
    (ho : ∀ a, (![0, 0] : Fin 2 → ℕ) a + (![1, n] : Fin 2 → ℕ) a ≤ (![1, n] : Fin 2 → ℕ) a) (d : Fin n) :
    View.readAt (Elt Ideal) M.view (Rect.unit (s := ⟨2, ![1, n]⟩) ![0, 0] ![1, n] ho).toLoadRect (h.unread x) (ix2 0 d) = x (ix2 0 d) := by
  refine read_at (t := ⟨2, ![1, n]⟩) M h x _ _ _ fun a => ?_
  match a with
  | ⟨0, _⟩ => rfl
  | ⟨1, _⟩ => show 0 + 1 * d.val = d.val; omega

/-- A matrix read whole. -/
theorem mat_at {k n : ℕ} {e : EltTy} (M : Memref sig .tc .vmem ⟨2, ![k, n]⟩ e) (h : M.IsWhole) (x : Vec Ideal ⟨2, ![k, n]⟩ e)
    (ho : ∀ a, (![0, 0] : Fin 2 → ℕ) a + (![k, n] : Fin 2 → ℕ) a ≤ (![k, n] : Fin 2 → ℕ) a) (r : Fin k) (d : Fin n) :
    View.readAt (Elt Ideal) M.view (Rect.unit (s := ⟨2, ![k, n]⟩) ![0, 0] ![k, n] ho).toLoadRect (h.unread x) (ix2 r d) = x (ix2 r d) := by
  refine read_at (t := ⟨2, ![k, n]⟩) M h x _ _ _ fun a => ?_
  match a with
  | ⟨0, _⟩ => show 0 + 1 * r.val = r.val; omega
  | ⟨1, _⟩ => show 0 + 1 * d.val = d.val; omega

/-! ## The output block -/

/-- The weights the branches and the output are made with. -/
structure Weights where
  glu : Fin 512 → Fin 512 → EReal
  attn : Fin 512 → Fin 1024 → EReal
  ssm : Fin 512 → Fin 1024 → EReal
  out : Fin 1024 → Fin 1024 → EReal

/-- A token of a block. -/
def blockVal (W : Weights) (x0 : Vec Ideal S16x64x1024 .f32) (x1 : Vec Ideal S1x1024 .f32) (x2 : Vec Ideal S1024x2176 .bf16) (x3 : Vec Ideal S1x2048 .f32)
    (x4 : Vec Ideal S16x64x512 .bf16) (x5 : Vec Ideal S32x4x16x256 .bf16) (x6 : Vec Ideal S16x64x512 .bf16) (x8 : Vec Ideal S1x512 .f32)
    (x12 : Vec Ideal S1x1024 .f32) (p : Fin 16) (s : Fin 64) (e : Fin 1024) : EReal :=
  token (fun d => x0 (ix3 p s d)) (fun d => x1 (ix2 0 d)) (fun k j => x2 (ix2 k ⟨128 + j.val, by omega⟩)) (fun j => x3 (ix2 0 j)) (fun c => x4 (ix3 p s c))
    (fun c => unpacked x5 ⟨s.val / 16, by omega⟩ ⟨c.val / 128, by omega⟩ ⟨p.val * 16 + s.val % 16, by omega⟩ ⟨c.val % 128, by omega⟩)
    (fun c => x6 (ix3 p s c)) W.glu (fun j => x8 (ix2 0 j)) W.attn W.ssm W.out (fun d => x12 (ix2 0 d)) e

/-- The weights as the kernel keeps them: scaled by powers of two. -/
structure Scaled (W : Weights) (wl : Vec Ideal S512x512 .bf16) (wa ws : Vec Ideal S512x1024 .bf16) (wo : Vec Ideal S1024x1024 .bf16) : Prop where
  glu : ∀ k j, (wl (ix2 k j) : EReal) = ((1 / 4 : ℝ) : EReal) * W.glu k j
  attn : ∀ k j, (wa (ix2 k j) : EReal) = 1 * W.attn k j
  ssm : ∀ k j, (ws (ix2 k j) : EReal) = ((1 / 4 : ℝ) : EReal) * W.ssm k j
  out : ∀ k j, (wo (ix2 k j) : EReal) = ((1 / 2 : ℝ) : EReal) * W.out k j

theorem tileStore_apply (arg1 : Memref sig .tc .vmem S16x64x1024 .f32) (harg1 : arg1.IsWhole) (arg2 : Memref sig .tc .vmem S1x1024 .f32) (harg2 : arg2.IsWhole)
    (arg3 : Memref sig .tc .vmem S1024x2176 .bf16) (harg3 : arg3.IsWhole) (arg4 : Memref sig .tc .vmem S1x2048 .f32) (harg4 : arg4.IsWhole)
    (arg5 : Memref sig .tc .vmem S16x64x512 .bf16) (harg5 : arg5.IsWhole) (arg6 : Memref sig .tc .vmem S32x4x16x256 .bf16) (harg6 : arg6.IsWhole)
    (arg7 : Memref sig .tc .vmem S16x64x512 .bf16) (harg7 : arg7.IsWhole) (arg9 : Memref sig .tc .vmem S1x512 .f32) (harg9 : arg9.IsWhole)
    (arg13 : Memref sig .tc .vmem S1x1024 .f32) (harg13 : arg13.IsWhole) (N : Memref sig .tc .vmem S4x256x128 .f32)
    (x0 : Vec Ideal S16x64x1024 .f32) (x1 : Vec Ideal S1x1024 .f32) (x2 : Vec Ideal S1024x2176 .bf16) (x3 : Vec Ideal S1x2048 .f32) (x4 : Vec Ideal S16x64x512 .bf16)
    (x5 : Vec Ideal S32x4x16x256 .bf16) (x6 : Vec Ideal S16x64x512 .bf16) (x8 : Vec Ideal S1x512 .f32) (x12 : Vec Ideal S1x1024 .f32)
    (wl : Vec Ideal S512x512 .bf16) (wa ws : Vec Ideal S512x1024 .bf16) (wo : Vec Ideal S1024x1024 .bf16) (W : Weights) (hW : Scaled W wl wa ws wo)
    (st : Fin 4) (j : S16x16x1024.Idx) :
    ((tileStore arg1 harg1 arg2 harg2 arg3 harg3 arg4 harg4 arg5 harg5 arg6 harg6 arg7 harg7 arg9 harg9 arg13 harg13 N x0 x1 x2 x3 x4 x5 x6 x8 x12
        wl wa ws wo st).2 j : EReal)
      = (fun y : S16x64x1024.Idx => blockVal W x0 x1 x2 x3 x4 x5 x6 x8 x12 (y 0) (y 1) (y 2))
        ((tileStore arg1 harg1 arg2 harg2 arg3 harg3 arg4 harg4 arg5 harg5 arg6 harg6 arg7 harg7 arg9 harg9 arg13 harg13 N x0 x1 x2 x3 x4 x5 x6 x8 x12
          wl wa ws wo st).1.emb j) := by
  obtain ⟨p, t, e, rfl⟩ : ∃ (p t : Fin 16) (e : Fin 1024), j = ix3 p t e := ⟨j 0, j 1, j 2, by
    funext a; match a with | ⟨0, _⟩ => rfl | ⟨1, _⟩ => rfl | ⟨2, _⟩ => rfl⟩
  have he : (Rect.unit (s := S16x64x1024) ![0, st.val * 16, 0] S16x16x1024.size (rows_fit 1024 st)).emb (ix3 p t e)
      = ix3 p ⟨st.val * 16 + t.val, by omega⟩ e := by
    funext a
    apply Fin.ext
    match a with
    | ⟨0, _⟩ => show 0 + 1 * p.val = p.val; omega
    | ⟨1, _⟩ => show st.val * 16 + 1 * t.val = st.val * 16 + t.val; omega
    | ⟨2, _⟩ => show 0 + 1 * e.val = e.val; omega
  refine (tile_apply _ _ _ _ (yAt N arg6 harg6 x5 st) wl _ _ _ wa ws wo _ W.glu W.attn W.ssm W.out hW.glu hW.attn hW.ssm hW.out p t e).trans ?_
  show _ = (fun y : S16x64x1024.Idx => blockVal W x0 x1 x2 x3 x4 x5 x6 x8 x12 (y 0) (y 1) (y 2))
    ((Rect.unit (s := S16x64x1024) ![0, st.val * 16, 0] S16x16x1024.size (rows_fit 1024 st)).emb (ix3 p t e))
  rw [he]
  show _ = blockVal W x0 x1 x2 x3 x4 x5 x6 x8 x12 p ⟨st.val * 16 + t.val, by omega⟩ e
  unfold blockVal
  have h1 : (⟨(st.val * 16 + t.val) / 16, by omega⟩ : Fin 4) = st := Fin.ext (by show (st.val * 16 + t.val) / 16 = st.val; omega)
  have h2 : (st.val * 16 + t.val) % 16 = t.val := by omega
  have hw : ∀ (k : Fin 1024) (j : Fin 2048), View.readAt (Elt Ideal) arg3.view (Rect.unit (s := S1024x2176) ![0, 128] S1024x2048.size inb_S1024x2176_S1024x2048_0_128).toLoadRect (harg3.unread x2) (ix2 k j)
      = x2 (ix2 k ⟨128 + j.val, by omega⟩) := fun k j => read_at (t := S1024x2048) arg3 harg3 x2 _ _ _ fun a => by
    match a with
    | ⟨0, _⟩ => show 0 + 1 * k.val = k.val; omega
    | ⟨1, _⟩ => show 128 + 1 * j.val = 128 + j.val; omega
  have hy : ∀ c : Fin 512, (yAt N arg6 harg6 x5 st ⟨c.val / 128, by omega⟩ (ix3 0 ⟨p.val * 16 + t.val, by omega⟩ ⟨c.val % 128, by omega⟩) : EReal)
      = unpacked x5 st ⟨c.val / 128, by omega⟩ ⟨p.val * 16 + t.val, by omega⟩ ⟨c.val % 128, by omega⟩ := fun c =>
    readCov_slots N arg6 harg6 x5 st _ _ _ _
  simp only [xAt_apply, actAt_apply, row_at, hw, hy, h1, h2]

/-! ## The carried weights -/

theorem glu_agrees (c : Dev nD) (arg8 : Memref sig .tc .vmem S512x512 .f32) (harg8 : arg8.IsWhole) (x7 : Vec Ideal S512x512 .f32) :
    ∀ q ∈ kernelRun0_A.sl.HS0_1 (F := Ideal) c arg8 harg8 x7, ∀ y, (q.2 y : EReal) = ((1 / 4 : ℝ) : EReal) * x7 (q.1.emb y) := by
  unfold kernelRun0_A.sl.HS0_1
  refine List.forall_mem_singleton.mpr fun y => ?_
  sl_unfold_words
  unfold k0_pay2
  dsimp only
  rw [shapeCast_self, ← quarter_ideal]
  refine congrArg (fun z : EReal => Ideal.ofBits .f32 0x3E800000#32 * z) ?_
  exact read_at (t := S512x512) arg8 harg8 x7 _ _ _ fun a => by rfl

theorem attn_agrees (c : Dev nD) (arg10 : Memref sig .tc .vmem S512x1024 .f32) (harg10 : arg10.IsWhole) (x9 : Vec Ideal S512x1024 .f32) :
    ∀ q ∈ kernelRun0_A.sl.HS1_1 (F := Ideal) c arg10 harg10 x9, ∀ y, (q.2 y : EReal) = 1 * x9 (q.1.emb y) := by
  unfold kernelRun0_A.sl.HS1_1
  refine List.forall_mem_singleton.mpr fun y => ?_
  sl_unfold_words
  unfold k0_pay3
  dsimp only
  rw [shapeCast_self, ← one_ideal]
  refine congrArg (fun z : EReal => Ideal.ofBits .f32 0x3F800000#32 * z) ?_
  exact read_at (t := S512x1024) arg10 harg10 x9 _ _ _ fun a => by rfl

theorem ssm_agrees (c : Dev nD) (arg11 : Memref sig .tc .vmem S512x1024 .f32) (harg11 : arg11.IsWhole) (x10 : Vec Ideal S512x1024 .f32) :
    ∀ q ∈ kernelRun0_A.sl.HS2_1 (F := Ideal) c arg11 harg11 x10, ∀ y, (q.2 y : EReal) = ((1 / 4 : ℝ) : EReal) * x10 (q.1.emb y) := by
  unfold kernelRun0_A.sl.HS2_1
  refine List.forall_mem_singleton.mpr fun y => ?_
  sl_unfold_words
  unfold k0_pay4
  dsimp only
  rw [shapeCast_self, ← quarter_ideal]
  refine congrArg (fun z : EReal => Ideal.ofBits .f32 0x3E800000#32 * z) ?_
  exact read_at (t := S512x1024) arg11 harg11 x10 _ _ _ fun a => by rfl

theorem out_agrees (c : Dev nD) (arg12 : Memref sig .tc .vmem S1024x1024 .f32) (harg12 : arg12.IsWhole) (x11 : Vec Ideal S1024x1024 .f32) :
    ∀ q ∈ kernelRun0_A.sl.HS3_1 (F := Ideal) c arg12 harg12 x11, ∀ y, (q.2 y : EReal) = ((1 / 2 : ℝ) : EReal) * x11 (q.1.emb y) := by
  unfold kernelRun0_A.sl.HS3_1
  refine List.forall_mem_singleton.mpr fun y => ?_
  sl_unfold_words
  unfold k0_pay5
  dsimp only
  rw [shapeCast_self, ← half_ideal]
  refine congrArg (fun z : EReal => Ideal.ofBits .f32 0x3F000000#32 * z) ?_
  exact read_at (t := S1024x1024) arg12 harg12 x11 _ _ _ fun a => by rfl

/-- The glu weights read back in the point that scales them. -/
theorem glu_cov (c : Dev nD) (M : Memref sig .tc .vmem S512x512 .bf16) (arg8 : Memref sig .tc .vmem S512x512 .f32) (harg8 : arg8.IsWhole) (x7 : Vec Ideal S512x512 .f32)
    (hc : ∀ y, ∃ q ∈ kernelRun0_A.sl.HS0_1 (F := Ideal) c arg8 harg8 x7, y ∈ q.1.set) (y : S512x512.Idx) :
    (M.view.readCov (kernelRun0_A.sl.HS0_1 c arg8 harg8 x7) (Rect.unit (s := S512x512) ![0, 0] S512x512.size inb_S512x512_S512x512_0_0).toLoadRect y : EReal) = ((1 / 4 : ℝ) : EReal) * x7 y := by
  rw [View.readCov_eq_canon']
  refine (Cert.Attn.canon_agrees (fun y => (((1 / 4 : ℝ) : EReal) * x7 y : EReal)) _ _ (glu_agrees c arg8 harg8 x7) (hc _)).trans ?_
  refine congrArg (fun z : S512x512.Idx => (((1 / 4 : ℝ) : EReal) * x7 z : EReal)) (funext fun a => Fin.ext ?_)
  show (![0, 0] : Fin 2 → ℕ) a + 1 * (y a).val = (y a).val
  match a with
  | ⟨0, _⟩ => show 0 + 1 * _ = _; omega
  | ⟨1, _⟩ => show 0 + 1 * _ = _; omega

/-- The attn weights read back in the point that scales them. -/
theorem attn_cov (c : Dev nD) (M : Memref sig .tc .vmem S512x1024 .bf16) (arg10 : Memref sig .tc .vmem S512x1024 .f32) (harg10 : arg10.IsWhole) (x9 : Vec Ideal S512x1024 .f32)
    (hc : ∀ y, ∃ q ∈ kernelRun0_A.sl.HS1_1 (F := Ideal) c arg10 harg10 x9, y ∈ q.1.set) (y : S512x1024.Idx) :
    (M.view.readCov (kernelRun0_A.sl.HS1_1 c arg10 harg10 x9) (Rect.unit (s := S512x1024) ![0, 0] S512x1024.size inb_S512x1024_S512x1024_0_0).toLoadRect y : EReal) = 1 * x9 y := by
  rw [View.readCov_eq_canon']
  refine (Cert.Attn.canon_agrees (fun y => (1 * x9 y : EReal)) _ _ (attn_agrees c arg10 harg10 x9) (hc _)).trans ?_
  refine congrArg (fun z : S512x1024.Idx => (1 * x9 z : EReal)) (funext fun a => Fin.ext ?_)
  show (![0, 0] : Fin 2 → ℕ) a + 1 * (y a).val = (y a).val
  match a with
  | ⟨0, _⟩ => show 0 + 1 * _ = _; omega
  | ⟨1, _⟩ => show 0 + 1 * _ = _; omega

/-- The ssm weights read back in the point that scales them. -/
theorem ssm_cov (c : Dev nD) (M : Memref sig .tc .vmem S512x1024 .bf16) (arg11 : Memref sig .tc .vmem S512x1024 .f32) (harg11 : arg11.IsWhole) (x10 : Vec Ideal S512x1024 .f32)
    (hc : ∀ y, ∃ q ∈ kernelRun0_A.sl.HS2_1 (F := Ideal) c arg11 harg11 x10, y ∈ q.1.set) (y : S512x1024.Idx) :
    (M.view.readCov (kernelRun0_A.sl.HS2_1 c arg11 harg11 x10) (Rect.unit (s := S512x1024) ![0, 0] S512x1024.size inb_S512x1024_S512x1024_0_0).toLoadRect y : EReal) = ((1 / 4 : ℝ) : EReal) * x10 y := by
  rw [View.readCov_eq_canon']
  refine (Cert.Attn.canon_agrees (fun y => (((1 / 4 : ℝ) : EReal) * x10 y : EReal)) _ _ (ssm_agrees c arg11 harg11 x10) (hc _)).trans ?_
  refine congrArg (fun z : S512x1024.Idx => (((1 / 4 : ℝ) : EReal) * x10 z : EReal)) (funext fun a => Fin.ext ?_)
  show (![0, 0] : Fin 2 → ℕ) a + 1 * (y a).val = (y a).val
  match a with
  | ⟨0, _⟩ => show 0 + 1 * _ = _; omega
  | ⟨1, _⟩ => show 0 + 1 * _ = _; omega

/-- The out weights read back in the point that scales them. -/
theorem out_cov (c : Dev nD) (M : Memref sig .tc .vmem S1024x1024 .bf16) (arg12 : Memref sig .tc .vmem S1024x1024 .f32) (harg12 : arg12.IsWhole) (x11 : Vec Ideal S1024x1024 .f32)
    (hc : ∀ y, ∃ q ∈ kernelRun0_A.sl.HS3_1 (F := Ideal) c arg12 harg12 x11, y ∈ q.1.set) (y : S1024x1024.Idx) :
    (M.view.readCov (kernelRun0_A.sl.HS3_1 c arg12 harg12 x11) (Rect.unit (s := S1024x1024) ![0, 0] S1024x1024.size inb_S1024x1024_S1024x1024_0_0).toLoadRect y : EReal) = ((1 / 2 : ℝ) : EReal) * x11 y := by
  rw [View.readCov_eq_canon']
  refine (Cert.Attn.canon_agrees (fun y => (((1 / 2 : ℝ) : EReal) * x11 y : EReal)) _ _ (out_agrees c arg12 harg12 x11) (hc _)).trans ?_
  refine congrArg (fun z : S1024x1024.Idx => (((1 / 2 : ℝ) : EReal) * x11 z : EReal)) (funext fun a => Fin.ext ?_)
  show (![0, 0] : Fin 2 → ℕ) a + 1 * (y a).val = (y a).val
  match a with
  | ⟨0, _⟩ => show 0 + 1 * _ = _; omega
  | ⟨1, _⟩ => show 0 + 1 * _ = _; omega

/-! ## The grid points -/

section
variable (c : Dev nD) (i : grid0.Coords) (arg1 : Memref sig .tc .vmem S16x64x1024 .f32) (harg1 : arg1.IsWhole) (arg2 : Memref sig .tc .vmem S1x1024 .f32) (harg2 : arg2.IsWhole) (arg3 : Memref sig .tc .vmem S1024x2176 .bf16) (harg3 : arg3.IsWhole) (arg4 : Memref sig .tc .vmem S1x2048 .f32) (harg4 : arg4.IsWhole) (arg5 : Memref sig .tc .vmem S16x64x512 .bf16) (harg5 : arg5.IsWhole) (arg6 : Memref sig .tc .vmem S32x4x16x256 .bf16) (harg6 : arg6.IsWhole) (arg7 : Memref sig .tc .vmem S16x64x512 .bf16) (harg7 : arg7.IsWhole) (arg8 : Memref sig .tc .vmem S512x512 .f32) (harg8 : arg8.IsWhole) (arg9 : Memref sig .tc .vmem S1x512 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1024x1024 .f32) (harg12 : arg12.IsWhole) (arg13 : Memref sig .tc .vmem S1x1024 .f32) (harg13 : arg13.IsWhole) (arg14 : Memref sig .tc .vmem S16x64x1024 .f32) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S4x256x128 .f32) (harg19 : arg19.IsWhole) (arg20 : Memref sig .tc .vmem S4x256x128 .f32) (harg20 : arg20.IsWhole) (arg21 : Memref sig .tc .vmem S4x256x128 .f32) (harg21 : arg21.IsWhole) (arg22 : Memref sig .tc .vmem S4x256x128 .f32) (harg22 : arg22.IsWhole)
  (x0 : Vec Ideal S16x64x1024 .f32) (x1 : Vec Ideal S1x1024 .f32) (x2 : Vec Ideal S1024x2176 .bf16) (x3 : Vec Ideal S1x2048 .f32) (x4 : Vec Ideal S16x64x512 .bf16) (x5 : Vec Ideal S32x4x16x256 .bf16) (x6 : Vec Ideal S16x64x512 .bf16) (x7 : Vec Ideal S512x512 .f32) (x8 : Vec Ideal S1x512 .f32) (x9 : Vec Ideal S512x1024 .f32) (x10 : Vec Ideal S512x1024 .f32) (x11 : Vec Ideal S1024x1024 .f32) (x12 : Vec Ideal S1x1024 .f32)

/-- The weights as launched. -/
abbrev given (x7 : Vec Ideal S512x512 .f32) (x9 x10 : Vec Ideal S512x1024 .f32) (x11 : Vec Ideal S1024x1024 .f32) : Weights where
  glu k j := x7 (ix2 k j)
  attn k j := x9 (ix2 k j)
  ssm k j := x10 (ix2 k j)
  out k j := x11 (ix2 k j)

theorem scratch_glu (hc0 : cond0_0 i) (y : S512x512.Idx) : (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y : EReal) = ((1 / 4 : ℝ) : EReal) * x7 y := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  exact Cert.Attn.canon_agrees (fun y => (((1 / 4 : ℝ) : EReal) * x7 y : EReal)) _ y (glu_agrees c arg8 harg8 x7) (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)

theorem scratch_attn (hc0 : cond0_0 i) (y : S512x1024.Idx) : (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y : EReal) = 1 * x9 y := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  exact Cert.Attn.canon_agrees (fun y => (1 * x9 y : EReal)) _ y (attn_agrees c arg10 harg10 x9) (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)

theorem scratch_ssm (hc0 : cond0_0 i) (y : S512x1024.Idx) : (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y : EReal) = ((1 / 4 : ℝ) : EReal) * x10 y := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  exact Cert.Attn.canon_agrees (fun y => (((1 / 4 : ℝ) : EReal) * x10 y : EReal)) _ y (ssm_agrees c arg11 harg11 x10) (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)

theorem scratch_out (hc0 : cond0_0 i) (y : S1024x1024.Idx) : (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y : EReal) = ((1 / 2 : ℝ) : EReal) * x11 y := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  exact Cert.Attn.canon_agrees (fun y => (((1 / 2 : ℝ) : EReal) * x11 y : EReal)) _ y (out_agrees c arg12 harg12 x11) (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)

theorem first_out (hc0 : cond0_0 i) (y : S16x64x1024.Idx) : (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y : EReal) = blockVal (given x7 x9 x10 x11) x0 x1 x2 x3 x4 x5 x6 x8 x12 (y 0) (y 1) (y 2) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y
  have hW : Scaled (given x7 x9 x10 x11) _ _ _ _ := ⟨fun k j => glu_cov c arg15 arg8 harg8 x7 (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12) (ix2 k j), fun k j => attn_cov c arg16 arg10 harg10 x9 (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12) (ix2 k j),
    fun k j => ssm_cov c arg17 arg11 harg11 x10 (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12) (ix2 k j), fun k j => out_cov c arg18 arg12 harg12 x11 (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12) (ix2 k j)⟩
  rw [pieces_A] at hc ⊢
  refine Cert.Attn.canon_agrees (fun y : S16x64x1024.Idx => blockVal (given x7 x9 x10 x11) x0 x1 x2 x3 x4 x5 x6 x8 x12 (y 0) (y 1) (y 2)) _ y ?_ hc
  intro q hq
  simp only [List.mem_cons, List.not_mem_nil, or_false] at hq
  rcases hq with rfl | rfl | rfl | rfl
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 3
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 2
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 1
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 0

theorem later_out (hc0 : ¬ cond0_0 i) (xs0 : Vec Ideal S512x512 .bf16) (xs1 xs2 : Vec Ideal S512x1024 .bf16) (xs3 : Vec Ideal S1024x1024 .bf16)
    (W : Weights) (hs : Scaled W xs0 xs1 xs2 xs3) (y : S16x64x1024.Idx) : (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 xs1 xs2 xs3 y : EReal) = blockVal W x0 x1 x2 x3 x4 x5 x6 x8 x12 (y 0) (y 1) (y 2) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 xs1 xs2 xs3)]
  have hc := cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 xs1 xs2 xs3 y
  have hW : Scaled W _ _ _ _ := ⟨fun k j => (mat_at arg15 harg15 xs0 inb_S512x512_S512x512_0_0 k j).trans (hs.glu k j), fun k j => (mat_at arg16 harg16 xs1 inb_S512x1024_S512x1024_0_0 k j).trans (hs.attn k j),
    fun k j => (mat_at arg17 harg17 xs2 inb_S512x1024_S512x1024_0_0 k j).trans (hs.ssm k j), fun k j => (mat_at arg18 harg18 xs3 inb_S1024x1024_S1024x1024_0_0 k j).trans (hs.out k j)⟩
  rw [pieces_B] at hc ⊢
  refine Cert.Attn.canon_agrees (fun y : S16x64x1024.Idx => blockVal W x0 x1 x2 x3 x4 x5 x6 x8 x12 (y 0) (y 1) (y 2)) _ y ?_ hc
  intro q hq
  simp only [List.mem_cons, List.not_mem_nil, or_false] at hq
  rcases hq with rfl | rfl | rfl | rfl
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 3
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 2
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 1
  · exact tileStore_apply arg1 harg1 arg2 harg2 arg3 harg3 arg4 harg4 arg5 harg5 arg6 harg6 arg7 harg7 arg9 harg9 arg13 harg13 _ x0 x1 x2 x3 x4 x5 x6 x8 x12 _ _ _ _ _ hW 0

end

end Cert.Merge

end
-- ==== Proof.MergeLaunch.lean ====
module

public import proofs.«01_k».proof.Proof.MergeBlock

/-! What the merge's launch leaves in its result: the merged token at every index. -/

@[expose] public section

noncomputable section

namespace Cert.Merge

open Cert.Kernel2Ideal Cert.Kernel2Ideal.Gen Idealize.ShloMosaic Idealize.ShloMosaic.ValueIdx
open scoped BigOperators

/-- The scan's output of a token and channel, out of the scan's own layout: sixteen channels by sixteen tokens to a block, the
eight lanes of channels turned by the token's place among eight. -/
def packed (y : Vec Ideal S32x128x16x256 .bf16) (b : Fin 16) (t : Fin 2048) (c : Fin 512) : EReal :=
  y (ix4 ⟨c.val / 16, by omega⟩ ⟨t.val / 16, by omega⟩ b ⟨t.val % 16 / 8 * 128 + ((c.val % 128 / 16 + t.val % 8) % 8 * 16 + c.val % 16), by omega⟩)

/-- The merged token of the arguments. -/
def tokenOf (x : Vec Ideal S16x2048x1024 .f32) (g : Vec Ideal S1024 .f32) (w : Vec Ideal S1024x4352 .f32) (bg : Vec Ideal S2048 .f32)
    (ao : Vec Ideal S16x2048x512 .bf16) (y : Vec Ideal S32x128x16x256 .bf16) (z : Vec Ideal S16x2048x512 .bf16) (wl : Vec Ideal S512x512 .f32)
    (bl : Vec Ideal S512 .f32) (wa ws : Vec Ideal S512x1024 .f32) (wo : Vec Ideal S1024x1024 .f32) (fg : Vec Ideal S1024 .f32)
    (b : Fin 16) (t : Fin 2048) (e : Fin 1024) : EReal :=
  token (fun d => x (ix3 b t d)) (fun d => g (ix1 d)) (fun k j => w (ix2 k ⟨2304 + j.val, by omega⟩)) (fun j => bg (ix1 j)) (fun c => ao (ix3 b t c))
    (packed y b t) (fun c => z (ix3 b t c)) (fun k j => wl (ix2 k j)) (fun j => bl (ix1 j)) (fun k j => wa (ix2 k j)) (fun k j => ws (ix2 k j))
    (fun k j => wo (ix2 k j)) (fun d => fg (ix1 d)) e

theorem shapeCast_n_1n {n : ℕ} {α : Type} (x : (⟨1, ![n]⟩ : Shape).Idx → α) (h : (⟨1, ![n]⟩ : Shape).ShapeCasts ⟨2, ![1, n]⟩) (d : Fin n) :
    shapeCast ⟨2, ![1, n]⟩ x h (ix2 0 d) = x (ix1 d) :=
  shapeCast_apply x h _ _ (by
    rw [Shape.rowMajor_val_two, Shape.rowMajor_val_one]
    show d.val = 0 * n + d.val
    omega)

section
variable (m : (ℓ : Loc nD τ sig) → Buf (Elt Ideal) ℓ) (c : Dev nD)

theorem idx_rest : ∀ t : Fin cfg0.N, (∀ a, win0_1.index t a = 0) ∧ (∀ a, win0_3.index t a = 0) ∧ (∀ a, win0_7.index t a = 0) ∧ (∀ a, win0_8.index t a = 0)
    ∧ (∀ a, win0_9.index t a = 0) ∧ (∀ a, win0_10.index t a = 0) ∧ (∀ a, win0_11.index t a = 0) ∧ (∀ a, win0_12.index t a = 0)
    ∧ win0_2.index t (0 : Fin 2) = 0 ∧ win0_2.index t (1 : Fin 2) = 1 :=
  (by decide +kernel : ∀ t : Fin grid0.N, _)

theorem idx_tile : ∀ t : Fin cfg0.N,
    (win0_0.index t (0 : Fin 3) = 0 ∧ win0_0.index t (1 : Fin 3) = t.val ∧ win0_0.index t (2 : Fin 3) = 0)
    ∧ (win0_4.index t (0 : Fin 3) = 0 ∧ win0_4.index t (1 : Fin 3) = t.val ∧ win0_4.index t (2 : Fin 3) = 0)
    ∧ (win0_6.index t (0 : Fin 3) = 0 ∧ win0_6.index t (1 : Fin 3) = t.val ∧ win0_6.index t (2 : Fin 3) = 0)
    ∧ win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)

theorem points (t : Fin cfg0.N) : t.val < 32 := lt_of_lt_of_eq t.isLt N_0

theorem x_block (t : Fin cfg0.N) (p : Fin 16) (s : Fin 64) (l : Fin 1024) :
    iblk m c 0 t (ix3 p s l) = m ((c.tc : Thread nD τ).loc main_arg0) (ix3 p ⟨t.val * 64 + s.val, by have := points t; omega⟩ l) := by
  rw [← V_main_arg0 m c]
  show V m c main_arg0 (((cfg0.win 0).blk t).view.emb (ix3 p s l)) = _
  congr 1
  funext a
  apply Fin.ext
  obtain ⟨h0, h1, h2⟩ := (idx_tile t).1
  match a with
  | ⟨0, _⟩ => show win0_0.index t (0 : Fin 3) * 16 + 1 * p.val = p.val; omega
  | ⟨1, _⟩ => show win0_0.index t (1 : Fin 3) * 64 + 1 * s.val = t.val * 64 + s.val; omega
  | ⟨2, _⟩ => show win0_0.index t (2 : Fin 3) * 1024 + 1 * l.val = l.val; omega

theorem ao_block (t : Fin cfg0.N) (p : Fin 16) (s : Fin 64) (l : Fin 512) :
    iblk m c 4 t (ix3 p s l) = m ((c.tc : Thread nD τ).loc main_arg4) (ix3 p ⟨t.val * 64 + s.val, by have := points t; omega⟩ l) := by
  rw [← V_main_arg4 m c]
  show V m c main_arg4 (((cfg0.win 4).blk t).view.emb (ix3 p s l)) = _
  congr 1
  funext a
  apply Fin.ext
  obtain ⟨h0, h1, h2⟩ := (idx_tile t).2.1
  match a with
  | ⟨0, _⟩ => show win0_4.index t (0 : Fin 3) * 16 + 1 * p.val = p.val; omega
  | ⟨1, _⟩ => show win0_4.index t (1 : Fin 3) * 64 + 1 * s.val = t.val * 64 + s.val; omega
  | ⟨2, _⟩ => show win0_4.index t (2 : Fin 3) * 512 + 1 * l.val = l.val; omega

theorem z_block (t : Fin cfg0.N) (p : Fin 16) (s : Fin 64) (l : Fin 512) :
    iblk m c 6 t (ix3 p s l) = m ((c.tc : Thread nD τ).loc main_arg6) (ix3 p ⟨t.val * 64 + s.val, by have := points t; omega⟩ l) := by
  rw [← V_main_arg6 m c]
  show V m c main_arg6 (((cfg0.win 6).blk t).view.emb (ix3 p s l)) = _
  congr 1
  funext a
  apply Fin.ext
  obtain ⟨h0, h1, h2⟩ := (idx_tile t).2.2.1
  match a with
  | ⟨0, _⟩ => show win0_6.index t (0 : Fin 3) * 16 + 1 * p.val = p.val; omega
  | ⟨1, _⟩ => show win0_6.index t (1 : Fin 3) * 64 + 1 * s.val = t.val * 64 + s.val; omega
  | ⟨2, _⟩ => show win0_6.index t (2 : Fin 3) * 512 + 1 * l.val = l.val; omega

theorem y_block (t : Fin cfg0.N) (q : Fin 32) (k : Fin 4) (p : Fin 16) (l : Fin 256) :
    iblk m c 5 t (ix4 q k p l) = m ((c.tc : Thread nD τ).loc main_arg5) (ix4 q ⟨t.val * 4 + k.val, by have := points t; omega⟩ p l) := by
  rw [← V_main_arg5 m c]
  show V m c main_arg5 (((cfg0.win 5).blk t).view.emb (ix4 q k p l)) = _
  congr 1
  funext a
  apply Fin.ext
  obtain ⟨h0, h1, h2, h3⟩ := (idx_tile t).2.2.2
  match a with
  | ⟨0, _⟩ => show win0_5.index t (0 : Fin 4) * 32 + 1 * q.val = q.val; omega
  | ⟨1, _⟩ => show win0_5.index t (1 : Fin 4) * 4 + 1 * k.val = t.val * 4 + k.val; omega
  | ⟨2, _⟩ => show win0_5.index t (2 : Fin 4) * 16 + 1 * p.val = p.val; omega
  | ⟨3, _⟩ => show win0_5.index t (3 : Fin 4) * 256 + 1 * l.val = l.val; omega

theorem w_block (t : Fin cfg0.N) (k : Fin 1024) (j : Fin 2048) :
    (iblk m c 2 t (ix2 k ⟨128 + j.val, by omega⟩) : EReal) = m ((c.tc : Thread nD τ).loc main_arg2) (ix2 k ⟨2304 + j.val, by omega⟩) := by
  have e : V m c main_v1 = (truncf .bf16 (m ((c.tc : Thread nD τ).loc main_arg2) : Vec Ideal S1024x4352 .f32) bitsLt_bf16_f32 : FVec Ideal S1024x4352 .bf16) := by rfl
  have h : iblk m c 2 t (ix2 k ⟨128 + j.val, by omega⟩) = V m c main_v1 (ix2 k ⟨2304 + j.val, by omega⟩) := by
    show V m c main_v1 (((cfg0.win 2).blk t).view.emb (ix2 k ⟨128 + j.val, by omega⟩)) = _
    congr 1
    funext a
    apply Fin.ext
    obtain ⟨h0, h1⟩ := (idx_rest t).2.2.2.2.2.2.2.2
    match a with
    | ⟨0, _⟩ => show win0_2.index t (0 : Fin 2) * 1024 + 1 * k.val = k.val; omega
    | ⟨1, _⟩ => show win0_2.index t (1 : Fin 2) * 2176 + 1 * (128 + j.val) = 2304 + j.val; omega
  rw [h, e]
  rfl

theorem gain_block (t : Fin cfg0.N) (d : Fin 1024) : iblk m c 1 t (ix2 0 d) = m ((c.tc : Thread nD τ).loc main_arg1) (ix1 d) := by
  have e : V m c main_v0 = shapeCast S1x1024 (m ((c.tc : Thread nD τ).loc main_arg1) : Vec Ideal S1024 .f32) shapeCasts_S1024_S1x1024 := by rfl
  have h : iblk m c 1 t (ix2 0 d) = V m c main_v0 (ix2 0 d) := by
    show V m c main_v0 (((cfg0.win 1).blk t).view.emb (ix2 0 d)) = _
    congr 1
    funext a
    apply Fin.ext
    have h := (idx_rest t).1
    match a with
    | ⟨0, _⟩ => show win0_1.index t (0 : Fin 2) * 1 + 1 * 0 = 0; have := h 0; omega
    | ⟨1, _⟩ => show win0_1.index t (1 : Fin 2) * 1024 + 1 * d.val = d.val; have := h 1; omega
  rw [h, e]
  exact shapeCast_n_1n _ _ d

theorem bgate_block (t : Fin cfg0.N) (d : Fin 2048) : iblk m c 3 t (ix2 0 d) = m ((c.tc : Thread nD τ).loc main_arg3) (ix1 d) := by
  have e : V m c main_v2 = shapeCast S1x2048 (m ((c.tc : Thread nD τ).loc main_arg3) : Vec Ideal S2048 .f32) shapeCasts_S2048_S1x2048 := by rfl
  have h : iblk m c 3 t (ix2 0 d) = V m c main_v2 (ix2 0 d) := by
    show V m c main_v2 (((cfg0.win 3).blk t).view.emb (ix2 0 d)) = _
    congr 1
    funext a
    apply Fin.ext
    have h := (idx_rest t).2.1
    match a with
    | ⟨0, _⟩ => show win0_3.index t (0 : Fin 2) * 1 + 1 * 0 = 0; have := h 0; omega
    | ⟨1, _⟩ => show win0_3.index t (1 : Fin 2) * 2048 + 1 * d.val = d.val; have := h 1; omega
  rw [h, e]
  exact shapeCast_n_1n _ _ d

theorem glu_block (t : Fin cfg0.N) (k : Fin 512) (d : Fin 512) : iblk m c 7 t (ix2 k d) = m ((c.tc : Thread nD τ).loc main_arg7) (ix2 k d) := by
  rw [← V_main_arg7 m c]
  show V m c main_arg7 (((cfg0.win 7).blk t).view.emb (ix2 k d)) = _
  congr 1
  funext a
  apply Fin.ext
  have h := (idx_rest t).2.2.1
  match a with
  | ⟨0, _⟩ => show win0_7.index t (0 : Fin 2) * 512 + 1 * k.val = k.val; have := h 0; omega
  | ⟨1, _⟩ => show win0_7.index t (1 : Fin 2) * 512 + 1 * d.val = d.val; have := h 1; omega

theorem bglu_block (t : Fin cfg0.N) (d : Fin 512) : iblk m c 8 t (ix2 0 d) = m ((c.tc : Thread nD τ).loc main_arg8) (ix1 d) := by
  have e : V m c main_v3 = shapeCast S1x512 (m ((c.tc : Thread nD τ).loc main_arg8) : Vec Ideal S512 .f32) shapeCasts_S512_S1x512 := by rfl
  have h : iblk m c 8 t (ix2 0 d) = V m c main_v3 (ix2 0 d) := by
    show V m c main_v3 (((cfg0.win 8).blk t).view.emb (ix2 0 d)) = _
    congr 1
    funext a
    apply Fin.ext
    have h := (idx_rest t).2.2.2.1
    match a with
    | ⟨0, _⟩ => show win0_8.index t (0 : Fin 2) * 1 + 1 * 0 = 0; have := h 0; omega
    | ⟨1, _⟩ => show win0_8.index t (1 : Fin 2) * 512 + 1 * d.val = d.val; have := h 1; omega
  rw [h, e]
  exact shapeCast_n_1n _ _ d

theorem attn_block (t : Fin cfg0.N) (k : Fin 512) (d : Fin 1024) : iblk m c 9 t (ix2 k d) = m ((c.tc : Thread nD τ).loc main_arg9) (ix2 k d) := by
  rw [← V_main_arg9 m c]
  show V m c main_arg9 (((cfg0.win 9).blk t).view.emb (ix2 k d)) = _
  congr 1
  funext a
  apply Fin.ext
  have h := (idx_rest t).2.2.2.2.1
  match a with
  | ⟨0, _⟩ => show win0_9.index t (0 : Fin 2) * 512 + 1 * k.val = k.val; have := h 0; omega
  | ⟨1, _⟩ => show win0_9.index t (1 : Fin 2) * 1024 + 1 * d.val = d.val; have := h 1; omega

theorem ssm_block (t : Fin cfg0.N) (k : Fin 512) (d : Fin 1024) : iblk m c 10 t (ix2 k d) = m ((c.tc : Thread nD τ).loc main_arg10) (ix2 k d) := by
  rw [← V_main_arg10 m c]
  show V m c main_arg10 (((cfg0.win 10).blk t).view.emb (ix2 k d)) = _
  congr 1
  funext a
  apply Fin.ext
  have h := (idx_rest t).2.2.2.2.2.1
  match a with
  | ⟨0, _⟩ => show win0_10.index t (0 : Fin 2) * 512 + 1 * k.val = k.val; have := h 0; omega
  | ⟨1, _⟩ => show win0_10.index t (1 : Fin 2) * 1024 + 1 * d.val = d.val; have := h 1; omega

theorem out_block (t : Fin cfg0.N) (k : Fin 1024) (d : Fin 1024) : iblk m c 11 t (ix2 k d) = m ((c.tc : Thread nD τ).loc main_arg11) (ix2 k d) := by
  rw [← V_main_arg11 m c]
  show V m c main_arg11 (((cfg0.win 11).blk t).view.emb (ix2 k d)) = _
  congr 1
  funext a
  apply Fin.ext
  have h := (idx_rest t).2.2.2.2.2.2.1
  match a with
  | ⟨0, _⟩ => show win0_11.index t (0 : Fin 2) * 1024 + 1 * k.val = k.val; have := h 0; omega
  | ⟨1, _⟩ => show win0_11.index t (1 : Fin 2) * 1024 + 1 * d.val = d.val; have := h 1; omega

theorem fgain_block (t : Fin cfg0.N) (d : Fin 1024) : iblk m c 12 t (ix2 0 d) = m ((c.tc : Thread nD τ).loc main_arg12) (ix1 d) := by
  have e : V m c main_v4 = shapeCast S1x1024 (m ((c.tc : Thread nD τ).loc main_arg12) : Vec Ideal S1024 .f32) shapeCasts_S1024_S1x1024 := by rfl
  have h : iblk m c 12 t (ix2 0 d) = V m c main_v4 (ix2 0 d) := by
    show V m c main_v4 (((cfg0.win 12).blk t).view.emb (ix2 0 d)) = _
    congr 1
    funext a
    apply Fin.ext
    have h := (idx_rest t).2.2.2.2.2.2.2.1
    match a with
    | ⟨0, _⟩ => show win0_12.index t (0 : Fin 2) * 1 + 1 * 0 = 0; have := h 0; omega
    | ⟨1, _⟩ => show win0_12.index t (1 : Fin 2) * 1024 + 1 * d.val = d.val; have := h 1; omega
  rw [h, e]
  exact shapeCast_n_1n _ _ d

/-- The weights as launched. -/
abbrev launched : Weights :=
  given (m ((c.tc : Thread nD τ).loc main_arg7)) (m ((c.tc : Thread nD τ).loc main_arg9)) (m ((c.tc : Thread nD τ).loc main_arg10)) (m ((c.tc : Thread nD τ).loc main_arg11))

theorem given_block (t : Fin cfg0.N) : given (iblk m c 7 t) (iblk m c 9 t) (iblk m c 10 t) (iblk m c 11 t) = launched m c := by
  unfold given
  simp only [glu_block, attn_block, ssm_block, out_block]

/-- What a point leaves: the weights it carries on, and its output block. -/
abbrev Left (t : Fin cfg0.N) (st : Vec Ideal S16x64x1024 .f32 × Vec Ideal S512x512 .bf16 × Vec Ideal S512x1024 .bf16 × Vec Ideal S512x1024 .bf16 × Vec Ideal S1024x1024 .bf16) : Prop :=
  Scaled (launched m c) st.2.1 st.2.2.1 st.2.2.2.1 st.2.2.2.2
    ∧ ∀ y : S16x64x1024.Idx, (st.1 y : EReal) = blockVal (launched m c) (iblk m c 0 t) (iblk m c 1 t) (iblk m c 2 t) (iblk m c 3 t) (iblk m c 4 t) (iblk m c 5 t)
        (iblk m c 6 t) (iblk m c 8 t) (iblk m c 12 t) (y 0) (y 1) (y 2)

theorem first_at (t : Fin cfg0.N) (acc) (h0 : t.val % 32 = 0) : Left m c t (Cert.Kernel2Ideal.Value.stAt0 m c t.val t.isLt acc) := by
  have e := Cert.Kernel2Ideal.Value.stAt0_A m c t acc h0
  rw [e]
  refine ⟨⟨fun k j => ?_, fun k j => ?_, fun k j => ?_, fun k j => ?_⟩, fun y => ?_⟩
  · have f := scratch_glu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (ix2 k j)
    rw [glu_block] at f
    with_reducible exact f
  · have f := scratch_attn c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (ix2 k j)
    rw [attn_block] at f
    with_reducible exact f
  · have f := scratch_ssm c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (ix2 k j)
    rw [ssm_block] at f
    with_reducible exact f
  · have f := scratch_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) (ix2 k j)
    rw [out_block] at f
    with_reducible exact f
  · have f := first_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) y
    rw [given_block] at f
    with_reducible exact f

theorem later_at (t : Fin cfg0.N) (acc : Vec Ideal S16x64x1024 .f32 × Vec Ideal S512x512 .bf16 × Vec Ideal S512x1024 .bf16 × Vec Ideal S512x1024 .bf16 × Vec Ideal S1024x1024 .bf16)
    (hs : Scaled (launched m c) acc.2.1 acc.2.2.1 acc.2.2.2.1 acc.2.2.2.2) (h0 : ¬ t.val % 32 = 0) :
    Left m c t (Cert.Kernel2Ideal.Value.stAt0 m c t.val t.isLt acc) := by
  have e := Cert.Kernel2Ideal.Value.stAt0_B m c t acc h0
  rw [e]
  refine ⟨hs, fun y => ?_⟩
  have f := later_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0_0 t).mp h)) acc.2.1 acc.2.2.1 acc.2.2.2.1 acc.2.2.2.2 (launched m c) hs y
  with_reducible exact f

theorem outs_at : ∀ (n : ℕ) (hn : n < cfg0.N), Left m c ⟨n, hn⟩ (outsAt0 m c n hn) := by
  intro n
  induction n with
  | zero =>
    intro hn
    rw [Cert.Kernel2Ideal.Value.outsAt0_zero]
    exact first_at m c ⟨0, hn⟩ _ (Nat.zero_mod _)
  | succ n ih =>
    intro hn
    obtain ⟨hb, -⟩ := ih (Nat.lt_of_succ_lt hn)
    have hN := lt_of_lt_of_eq hn (show cfg0.N = 32 from N_0)
    rw [Cert.Kernel2Ideal.Value.outsAt0_succ]
    exact later_at m c ⟨n + 1, hn⟩ _ hb (by show ¬ (n + 1) % 32 = 0; omega)

/-- A block's token is the arguments' token. -/
theorem block_token (t : Fin cfg0.N) (b : Fin 16) (s : Fin 64) (T : Fin 2048) (hT : T.val = t.val * 64 + s.val) (e : Fin 1024) :
    blockVal (launched m c) (iblk m c 0 t) (iblk m c 1 t) (iblk m c 2 t) (iblk m c 3 t) (iblk m c 4 t) (iblk m c 5 t)
        (iblk m c 6 t) (iblk m c 8 t) (iblk m c 12 t) b s e
      = tokenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) b T e := by
  have hlt : t.val * 64 + s.val < 2048 := by clear hT; have := points t; omega
  obtain rfl : T = ⟨t.val * 64 + s.val, hlt⟩ := Fin.ext hT
  unfold blockVal tokenOf launched given
  have hy : ∀ l : Fin 512, unpacked (iblk m c 5 t) ⟨s.val / 16, by omega⟩ ⟨l.val / 128, by omega⟩ ⟨b.val * 16 + s.val % 16, by omega⟩ ⟨l.val % 128, by omega⟩
      = packed (m ((c.tc : Thread nD τ).loc main_arg5)) b ⟨t.val * 64 + s.val, by have := points t; omega⟩ l := fun l => by
    unfold unpacked packed
    rw [y_block]
    refine congrArg (m ((c.tc : Thread nD τ).loc main_arg5)) (funext fun a => Fin.ext ?_)
    match a with
    | ⟨0, _⟩ => show l.val / 128 * 8 + l.val % 128 / 16 = l.val / 16; omega
    | ⟨1, _⟩ => show t.val * 4 + s.val / 16 = (t.val * 64 + s.val) / 16; omega
    | ⟨2, _⟩ => show (b.val * 16 + s.val % 16) / 16 = b.val; omega
    | ⟨3, _⟩ =>
      show (b.val * 16 + s.val % 16) % 16 / 8 * 128 + ((l.val % 128 / 16 + (b.val * 16 + s.val % 16) % 8) % 8 * 16 + l.val % 128 % 16)
        = (t.val * 64 + s.val) % 16 / 8 * 128 + ((l.val % 128 / 16 + (t.val * 64 + s.val) % 8) % 8 * 16 + l.val % 16)
      have h1 : (b.val * 16 + s.val % 16) % 16 = (t.val * 64 + s.val) % 16 := by omega
      have h2 : (b.val * 16 + s.val % 16) % 8 = (t.val * 64 + s.val) % 8 := by omega
      have h3 : l.val % 128 % 16 = l.val % 16 := by omega
      rw [h1, h2, h3]
  simp only [x_block, gain_block, w_block, bgate_block, ao_block, hy, z_block, bglu_block, fgain_block]

/-- The result array at an index. -/
theorem result_at (b : Fin 16) (T : Fin 2048) (e : Fin 1024) :
    (Cert.Kernel2Ideal.Value.G13 m c (ix3 b T e) : EReal)
      = tokenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) b T e := by
  have hp : Cert.Kernel2Ideal.Value.pt13Of (ix3 b T e) = T.val / 64 := by
    show 32 * (b.val / 16 - 0) + 1 * (T.val / 64 - 0) + 1 * (e.val / 1024 - 0) = T.val / 64
    omega
  have hb : T.val / 64 < cfg0.N := lt_of_lt_of_eq (by omega : T.val / 64 < 32) N_0.symm
  unfold Cert.Kernel2Ideal.Value.G13
  rw [dif_pos (by rw [hp]; exact hb), Cert.Kernel2Ideal.Value.fold0_congr m c _ _ (T.val / 64) (by omega) hp,
    ← Cert.Kernel2Ideal.Value.outsAt0_sweep m c (T.val / 64) hb]
  have hl : Cert.Kernel2Ideal.Value.loc13Of (ix3 b T e) = ix3 b ⟨T.val % 64, by omega⟩ e := by
    funext a
    apply Fin.ext
    match a with
    | ⟨0, _⟩ => exact Nat.mod_eq_of_lt b.isLt
    | ⟨1, _⟩ => rfl
    | ⟨2, _⟩ => exact Nat.mod_eq_of_lt e.isLt
  rw [hl]
  refine ((outs_at m c (T.val / 64) hb).2 (ix3 b ⟨T.val % 64, by omega⟩ e)).trans ?_
  exact block_token m c ⟨T.val / 64, hb⟩ b ⟨T.val % 64, by omega⟩ T (by show T.val = T.val / 64 * 64 + T.val % 64; omega) e

end

end Cert.Merge

end
-- ==== Proof.MergeRef.lean ====
module

public import proofs.«01_k».proof.Proof.MergeScan
public import proofs.«01_k».proof.Proof.MergeLaunch

/-! The reference's merge is the merged token at every index. -/

@[expose] public section

noncomputable section

namespace Cert.Merge

open Cert.Reference2Ideal Cert.Reference2Ideal.Gen Cert.Reference2Ideal.Read Idealize.ShloMosaic Idealize.ShloMosaic.ValueIdx
open scoped BigOperators

theorem zero_bits : (Ideal.ofBits .f32 0x00000000#32 : EReal) = 0 := by
  simp [Ideal.ofBits, Ideal.ieee]

section
variable (x0 : Vec Ideal S16x2048x1024 .f32) (x1 : Vec Ideal S1024 .f32) (x2 : Vec Ideal S1024x4352 .f32) (x3 : Vec Ideal S2048 .f32)
    (x4 : Vec Ideal S16x2048x512 .bf16) (x5 : Vec Ideal S32x128x16x256 .bf16) (x6 : Vec Ideal S16x2048x512 .bf16) (x7 : Vec Ideal S512x512 .f32)
    (x8 : Vec Ideal S512 .f32) (x9 x10 : Vec Ideal S512x1024 .f32) (x11 : Vec Ideal S1024x1024 .f32) (x12 : Vec Ideal S1024 .f32)
    (b : Fin 16) (t : Fin 2048)

/-- The first norm. -/
theorem ref_norm (d : Fin 1024) :
    (val_main_v12 (F := Ideal) x0 x1 (ix3 b t d) : EReal) = nrm (fun d => x0 (ix3 b t d)) (fun d => x1 (ix1 d)) d := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply]
  have hi : ∀ k, idx_main_v1 (idx_main_v2 (idx_main_v8 (ix3 b t d))) k = ix3 b t k := fun k => by
    funext a; match a with | ⟨0, _⟩ => rfl | ⟨1, _⟩ => rfl | ⟨2, _⟩ => rfl
  have hj : idx_main_v10 (idx_main_v11 (ix3 b t d)) = ix1 d := by
    funext a; match a with | ⟨0, _⟩ => rfl
  simp only [hi, hj, val_main_v0_apply, val_main_cst_apply, val_main_cst_0_apply, val_main_cst_1_apply]
  show x0 (ix3 b t d) * Ideal.rsqrt (Ideal.div (Ideal.ofBits .f32 0x00000000#32 + _) _ + _) * _ = _
  rw [zero_bits, zero_add]
  rfl

/-- The logits of the gates. -/
theorem ref_logit (j : Fin 2048) :
    (val_main_v17 (F := Ideal) x0 x1 x2 x3 (ix3 b t j) : EReal)
      = (∑ d, nrm (fun d => x0 (ix3 b t d)) (fun d => x1 (ix1 d)) d * x2 (ix2 d ⟨2304 + j.val, by omega⟩)) + x3 (ix1 j) := by
  rw [val_main_v17_apply, val_main_v14_apply, val_main_v16_apply, val_main_v15_apply]
  have hj : idx_main_v15 (idx_main_v16 (ix3 b t j)) = ix1 j := by
    funext a; match a with | ⟨0, _⟩ => rfl
  rw [hj]
  refine congrArg (· + x3 (ix1 j)) (Finset.sum_congr rfl fun d _ => ?_)
  have hl : lidx_main_v14 (ix3 b t j) d = ix3 b t d := by
    funext a; match a with | ⟨0, _⟩ => rfl | ⟨1, _⟩ => rfl | ⟨2, _⟩ => rfl
  have hr : idx_main_v13 (ridx_main_v14 (ix3 b t j) d) = ix2 d ⟨2304 + j.val, by omega⟩ := by
    funext a; apply Fin.ext; match a with | ⟨0, _⟩ => rfl | ⟨1, _⟩ => rfl
  rw [hl, ref_norm, val_main_v13_apply, hr]

/-- The attention's gate. -/
theorem ref_gate_attn (k : Fin 1024) :
    (val_main_v88 (F := Ideal) x0 x1 x2 x3 (ix3 b t k) : EReal)
      = gate (fun d => x0 (ix3 b t d)) (fun d => x1 (ix1 d)) (fun k j => x2 (ix2 k ⟨2304 + j.val, by omega⟩)) (fun j => x3 (ix1 j)) ⟨k.val, by omega⟩ := by
  rw [val_main_v88_apply, val_main_v87_apply, val_main_v86_apply, val_main_v85_apply, val_main_v84_apply, val_main_v83_apply, val_main_v18_apply,
    val_main_cst_8_apply, val_main_cst_9_apply]
  have hi : idx_main_v18 (ix3 b t k) = ix3 b t ⟨k.val, by omega⟩ := by
    funext a; apply Fin.ext; match a with | ⟨0, _⟩ => rfl | ⟨1, _⟩ => rfl | ⟨2, _⟩ => rfl
  rw [hi, ref_logit]
  show Ideal.div (Ideal.ofBits .f32 0x3F800000#32) (Ideal.ofBits .f32 0x3F800000#32 + _) = _
  rw [one_ideal]
  rfl

/-- The scan's gate. -/
theorem ref_gate_ssm (k : Fin 1024) :
    (val_main_v97 (F := Ideal) x0 x1 x2 x3 (ix3 b t k) : EReal)
      = gate (fun d => x0 (ix3 b t d)) (fun d => x1 (ix1 d)) (fun k j => x2 (ix2 k ⟨2304 + j.val, by omega⟩)) (fun j => x3 (ix1 j)) ⟨1024 + k.val, by omega⟩ := by
  rw [val_main_v97_apply, val_main_v96_apply, val_main_v95_apply, val_main_v94_apply, val_main_v93_apply, val_main_v92_apply, val_main_v19_apply,
    val_main_cst_10_apply, val_main_cst_11_apply]
  have hi : idx_main_v19 (ix3 b t k) = ix3 b t ⟨1024 + k.val, by omega⟩ := by
    funext a; apply Fin.ext; match a with | ⟨0, _⟩ => rfl | ⟨1, _⟩ => rfl | ⟨2, _⟩ => rfl
  rw [hi, ref_logit]
  show Ideal.div (Ideal.ofBits .f32 0x3F800000#32) (Ideal.ofBits .f32 0x3F800000#32 + _) = _
  rw [one_ideal]
  rfl

/-- The activated scan. -/
theorem ref_gelu (k : Fin 512) : (val_main_v69 (F := Ideal) x5 (ix3 b t k) : EReal) = gelu (packed x5 b t k) := by
  rw [val_main_v69_apply, val_main_v68_apply, val_main_v67_apply, val_main_v66_apply, val_main_v65_apply, val_main_v64_apply, val_main_v63_apply,
    val_main_v62_apply, val_main_v61_apply, val_main_v60_apply, val_main_v59_apply, val_main_v58_apply, val_main_v57_apply, scan_at,
    val_main_cst_2_apply, val_main_cst_3_apply, val_main_cst_4_apply, val_main_cst_5_apply]
  show packed x5 b t k * (_ * (Ideal.ofBits .f32 0x3F800000#32 + curve (packed x5 b t k))) = _
  rw [one_ideal]
  rfl

/-- The scan branch. -/
theorem ref_branch (c : Fin 512) :
    (val_main_v82 (F := Ideal) x5 x6 x7 x8 (ix3 b t c) : EReal)
      = branch (packed x5 b t) (fun c => x6 (ix3 b t c)) (fun k j => x7 (ix2 k j)) (fun j => x8 (ix1 j)) c := by
  rw [val_main_v82_apply, val_main_v81_apply, val_main_v80_apply, val_main_v79_apply, val_main_v78_apply, val_main_v77_apply, val_main_v76_apply,
    val_main_v75_apply, val_main_v74_apply, val_main_v73_apply, val_main_v72_apply, val_main_v71_apply, val_main_v70_apply,
    val_main_cst_6_apply, val_main_cst_7_apply, ref_gelu]
  have hj : idx_main_v71 (idx_main_v72 (ix3 b t c)) = ix1 c := by
    funext a; match a with | ⟨0, _⟩ => rfl
  have hs : (∑ k : Fin 512, (val_main_v69 (F := Ideal) x5) (lidx_main_v70 (ix3 b t c) k) * x7 (ridx_main_v70 (ix3 b t c) k) : EReal)
      = ∑ k, gelu (packed x5 b t k) * x7 (ix2 k c) := Finset.sum_congr rfl fun k _ => by
    have hl : lidx_main_v70 (ix3 b t c) k = ix3 b t k := by
      funext a; match a with | ⟨0, _⟩ => rfl | ⟨1, _⟩ => rfl | ⟨2, _⟩ => rfl
    have hr : ridx_main_v70 (ix3 b t c) k = ix2 k c := by
      funext a; match a with | ⟨0, _⟩ => rfl | ⟨1, _⟩ => rfl
    rw [hl, hr, ref_gelu]
  rw [hj, hs]
  show gelu (packed x5 b t c) * Ideal.div (Ideal.ofBits .f32 0x3F800000#32) (Ideal.ofBits .f32 0x3F800000#32 + _) * _ = _
  rw [one_ideal]
  rfl

/-- The gated sum of the branches. -/
theorem ref_merged (k : Fin 1024) :
    (val_main_v100 (F := Ideal) x0 x1 x2 x3 x4 x5 x6 x7 x8 x9 x10 (ix3 b t k) : EReal)
      = merged (gate (fun d => x0 (ix3 b t d)) (fun d => x1 (ix1 d)) (fun k j => x2 (ix2 k ⟨2304 + j.val, by omega⟩)) (fun j => x3 (ix1 j)))
          (fun c => x4 (ix3 b t c)) (branch (packed x5 b t) (fun c => x6 (ix3 b t c)) (fun k j => x7 (ix2 k j)) (fun j => x8 (ix1 j)))
          (fun k j => x9 (ix2 k j)) (fun k j => x10 (ix2 k j)) k := by
  rw [val_main_v100_apply, val_main_v91_apply, val_main_v90_apply, val_main_v99_apply, val_main_v98_apply, ref_gate_attn, ref_gate_ssm]
  have ha : (∑ c : Fin 512, (val_main_v89 (F := Ideal) x4) (lidx_main_v90 (ix3 b t k) c) * x9 (ridx_main_v90 (ix3 b t k) c) : EReal)
      = ∑ c, x4 (ix3 b t c) * x9 (ix2 c k) := Finset.sum_congr rfl fun c _ => by
    have hl : lidx_main_v90 (ix3 b t k) c = ix3 b t c := by
      funext a; match a with | ⟨0, _⟩ => rfl | ⟨1, _⟩ => rfl | ⟨2, _⟩ => rfl
    have hr : ridx_main_v90 (ix3 b t k) c = ix2 c k := by
      funext a; match a with | ⟨0, _⟩ => rfl | ⟨1, _⟩ => rfl
    rw [hl, hr, val_main_v89_apply]
    rfl
  have hs : (∑ c : Fin 512, (val_main_v82 (F := Ideal) x5 x6 x7 x8) (lidx_main_v98 (ix3 b t k) c) * x10 (ridx_main_v98 (ix3 b t k) c) : EReal)
      = ∑ c, branch (packed x5 b t) (fun c => x6 (ix3 b t c)) (fun k j => x7 (ix2 k j)) (fun j => x8 (ix1 j)) c * x10 (ix2 c k) :=
    Finset.sum_congr rfl fun c _ => by
      have hl : lidx_main_v98 (ix3 b t k) c = ix3 b t c := by
        funext a; match a with | ⟨0, _⟩ => rfl | ⟨1, _⟩ => rfl | ⟨2, _⟩ => rfl
      have hr : ridx_main_v98 (ix3 b t k) c = ix2 c k := by
        funext a; match a with | ⟨0, _⟩ => rfl | ⟨1, _⟩ => rfl
      rw [hl, hr, ref_branch]
  rw [ha, hs]
  rfl

/-- The residual. -/
theorem ref_residual (d : Fin 1024) :
    (val_main_v102 (F := Ideal) x0 x1 x2 x3 x4 x5 x6 x7 x8 x9 x10 x11 (ix3 b t d) : EReal)
      = x0 (ix3 b t d) + ∑ k, merged (gate (fun d => x0 (ix3 b t d)) (fun d => x1 (ix1 d)) (fun k j => x2 (ix2 k ⟨2304 + j.val, by omega⟩)) (fun j => x3 (ix1 j)))
          (fun c => x4 (ix3 b t c)) (branch (packed x5 b t) (fun c => x6 (ix3 b t c)) (fun k j => x7 (ix2 k j)) (fun j => x8 (ix1 j)))
          (fun k j => x9 (ix2 k j)) (fun k j => x10 (ix2 k j)) k * x11 (ix2 k d) := by
  rw [val_main_v102_apply, val_main_v101_apply]
  refine congrArg (x0 (ix3 b t d) + ·) (Finset.sum_congr rfl fun k _ => ?_)
  have hl : lidx_main_v101 (ix3 b t d) k = ix3 b t k := by
    funext a; match a with | ⟨0, _⟩ => rfl | ⟨1, _⟩ => rfl | ⟨2, _⟩ => rfl
  have hr : ridx_main_v101 (ix3 b t d) k = ix2 k d := by
    funext a; match a with | ⟨0, _⟩ => rfl | ⟨1, _⟩ => rfl
  rw [hl, hr, ref_merged]

/-- The reference's result. -/
theorem ref_at (e : Fin 1024) :
    (val_main_v115 (F := Ideal) x0 x1 x2 x3 x4 x5 x6 x7 x8 x9 x10 x11 x12 (ix3 b t e) : EReal)
      = tokenOf x0 x1 x2 x3 x4 x5 x6 x7 x8 x9 x10 x11 x12 b t e := by
  rw [val_main_v115_apply, val_main_v114_apply, val_main_v113_apply, val_main_v112_apply, val_main_v111_apply, val_main_v110_apply,
    val_main_v109_apply, val_main_v108_apply, val_main_v107_apply, val_main_v106_apply, val_main_v105_apply, val_main_v104_apply]
  have hi : ∀ k, idx_main_v104 (idx_main_v105 (idx_main_v111 (ix3 b t e))) k = ix3 b t k := fun k => by
    funext a; match a with | ⟨0, _⟩ => rfl | ⟨1, _⟩ => rfl | ⟨2, _⟩ => rfl
  have hj : idx_main_v113 (idx_main_v114 (ix3 b t e)) = ix1 e := by
    funext a; match a with | ⟨0, _⟩ => rfl
  simp only [hi, hj, val_main_v103_apply, val_main_cst_12_apply, val_main_cst_13_apply, val_main_cst_14_apply, ref_residual]
  show _ * Ideal.rsqrt (Ideal.div (Ideal.ofBits .f32 0x00000000#32 + _) _ + _) * _ = _
  rw [zero_bits, zero_add]
  rfl

end

end Cert.Merge

end
-- ==== Proof.ProjTile.lean ====
module

public import proofs.«01_k».proof.Proof.Gen.Kernel3Ideal
public import Idealize.ShloMosaic.Lib.Tactic.RunNames
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal

/-! One sub-tile of the input projection, as a function of what it loads: sixteen tokens of each batch row. -/

@[expose] public section

noncomputable section

namespace Cert.Proj

open Cert.Kernel3Ideal Cert.Kernel3Ideal.Gen Idealize.ShloMosaic Idealize.ShloMosaic.ValueIdx

variable {F : FTy → Type} [FloatOps F]

/-- Rows scaled by the root of their mean square, and by a gain. -/
def rms (x : FVec F S256x1024 .f32) (g : FVec F S1x1024 .f32) : FVec F S256x1024 .f32 :=
  mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 g broadcasts_S1x1024_S256x1024)

/-- The normed rows of a sub-tile. -/
def hid (x : Vec F S16x16x1024 .f32) (g : Vec F S1x1024 .f32) : FVec F S256x1024 .bf16 :=
  truncf .bf16 (rms (shapeCast S256x1024 x shapeCasts_S16x16x1024_S256x1024) (shapeCast S1x1024 g shapeCasts_S1x1024_S1x1024)) bitsLt_bf16_f32

/-- The scan's input and its gate, side by side. -/
def uz (x : Vec F S16x16x1024 .f32) (g : Vec F S1x1024 .f32) (w : Vec F S1024x1024 .bf16) : FVec F S256x1024 .f32 :=
  matmul dot_S256x1024_S1024x1024_S256x1024_1_0_0_1_n_n none (hid x g) (shapeCast S1024x1024 w shapeCasts_S1024x1024_S1024x1024)
    (constant S256x1024 .f32 0x00000000#32)

/-- The attention's gate before its silu. -/
def za (x : Vec F S16x16x1024 .f32) (g : Vec F S1x1024 .f32) (w : Vec F S1024x512 .bf16) : FVec F S256x512 .f32 :=
  matmul dot_S256x1024_S1024x512_S256x512_1_0_0_1_n_n none (hid x g) (shapeCast S1024x512 w shapeCasts_S1024x512_S1024x512)
    (constant S256x512 .f32 0x00000000#32)

/-- The queries, keys and values side by side. -/
def qkv (x : Vec F S16x16x1024 .f32) (g : Vec F S1x1024 .f32) (w : Vec F S1024x768 .bf16) : FVec F S256x768 .f32 :=
  matmul dot_S256x1024_S1024x768_S256x768_1_0_0_1_n_n none (hid x g) (shapeCast S1024x768 w shapeCasts_S1024x768_S1024x768)
    (constant S256x768 .f32 0x00000000#32)

/-- The silu, by the hyperbolic tangent. -/
def siluTile (a : FVec F S256x512 .f32) : FVec F S16x16x512 .bf16 :=
  shapeCast S16x16x512 (truncf .bf16 (mulf a (addf (mulf (broadcast S256x512 (Scalar.ofBits .f32 0x3F000000#32))
    (tanh (mulf (broadcast S256x512 (Scalar.ofBits .f32 0x3F000000#32)) a))) (broadcast S256x512 (Scalar.ofBits .f32 0x3F000000#32))))
    bitsLt_bf16_f32) shapeCasts_S256x512_S16x16x512

/-- The scaled queries. -/
def qTile (a : FVec F S256x768 .f32) : FVec F S16x16x512 .bf16 :=
  shapeCast S16x16x512 (truncf .bf16 (mulf (extractStridedSlice S256x512 ![0, 0] a slices_S256x768_o0_0_S256x512)
    (broadcast S256x512 (Scalar.ofBits .f32 0x3E38AA3B#32))) bitsLt_bf16_f32) shapeCasts_S256x512_S16x16x512

/-- Two heads, and the two exchanged. -/
def twice (a : FVec F S256x128 .f32) : FVec F S16x16x256 .bf16 :=
  shapeCast S16x16x256 (truncf .bf16 (concatenate S256x256 1 [⟨S256x128, a⟩, ⟨S256x128, dynamicRotate 1 64#32 none a rotates_S256x128_d1⟩]
    concatenates_S256x128_S256x128_S256x256_d1) bitsLt_bf16_f32) shapeCasts_S256x256_S16x16x256

/-! ## The stores of a grid point -/

theorem rows_fit (n : ℕ) (st : Fin 8) : ∀ a, (![0, st.val * 16, 0] : Fin 3 → ℕ) a + (![16, 16, n] : Fin 3 → ℕ) a ≤ (![16, 128, n] : Fin 3 → ℕ) a := by
  intro a
  match a with
  | ⟨0, _⟩ => show 0 + 16 ≤ 16; omega
  | ⟨1, _⟩ => show st.val * 16 + 16 ≤ 128; omega
  | ⟨2, _⟩ => show 0 + n ≤ n; omega

section
variable (arg1 : Memref sig .tc .vmem S16x128x1024 .f32) (harg1 : arg1.IsWhole) (arg2 : Memref sig .tc .vmem S1x1024 .f32) (harg2 : arg2.IsWhole)
  (arg3 : Memref sig .tc .vmem S1024x2304 .bf16) (harg3 : arg3.IsWhole)
  (x0 : Vec F S16x128x1024 .f32) (x1 : Vec F S1x1024 .f32) (x2 : Vec F S1024x2304 .bf16) (st : Fin 8)

/-- Sixteen tokens of each batch row. -/
def xAt : Vec F S16x16x1024 .f32 :=
  View.readAt (Elt F) arg1.view (Rect.unit (s := S16x128x1024) ![0, st.val * 16, 0] S16x16x1024.size (rows_fit 1024 st)).toLoadRect (harg1.unread x0)
/-- The gain. -/
def gAt : Vec F S1x1024 .f32 :=
  View.readAt (Elt F) arg2.view (Rect.unit (s := S1x1024) ![0, 0] S1x1024.size inb_S1x1024_S1x1024_0_0).toLoadRect (harg2.unread x1)

/-- The scan's columns of a sub-tile. -/
def uzAt : FVec F S256x1024 .f32 := uz (xAt arg1 harg1 x0 st) (gAt arg2 harg2 x1)
  (View.readAt (Elt F) arg3.view (Rect.unit (s := S1024x2304) ![0, 1280] S1024x1024.size inb_S1024x2304_S1024x1024_0_1280).toLoadRect (harg3.unread x2))
/-- The attention's gate of a sub-tile. -/
def zaAt : FVec F S256x512 .f32 := za (xAt arg1 harg1 x0 st) (gAt arg2 harg2 x1)
  (View.readAt (Elt F) arg3.view (Rect.unit (s := S1024x2304) ![0, 768] S1024x512.size inb_S1024x2304_S1024x512_0_768).toLoadRect (harg3.unread x2))
/-- The heads of a sub-tile. -/
def qkvAt : FVec F S256x768 .f32 := qkv (xAt arg1 harg1 x0 st) (gAt arg2 harg2 x1)
  (View.readAt (Elt F) arg3.view (Rect.unit (s := S1024x2304) ![0, 0] S1024x768.size inb_S1024x2304_S1024x768_0_0).toLoadRect (harg3.unread x2))

def qStore : View.Piece (Elt F) S16x128x512 .bf16 :=
  ⟨Rect.unit ![0, st.val * 16, 0] S16x16x512.size (rows_fit 512 st), qTile (qkvAt arg1 harg1 arg2 harg2 arg3 harg3 x0 x1 x2 st)⟩
def kStore : View.Piece (Elt F) S16x128x256 .bf16 :=
  ⟨Rect.unit ![0, st.val * 16, 0] S16x16x256.size (rows_fit 256 st),
    twice (extractStridedSlice S256x128 ![0, 512] (qkvAt arg1 harg1 arg2 harg2 arg3 harg3 x0 x1 x2 st) slices_S256x768_o0_512_S256x128)⟩
def vStore : View.Piece (Elt F) S16x128x256 .bf16 :=
  ⟨Rect.unit ![0, st.val * 16, 0] S16x16x256.size (rows_fit 256 st),
    twice (extractStridedSlice S256x128 ![0, 640] (qkvAt arg1 harg1 arg2 harg2 arg3 harg3 x0 x1 x2 st) slices_S256x768_o0_640_S256x128)⟩
def zaStore : View.Piece (Elt F) S16x128x512 .bf16 :=
  ⟨Rect.unit ![0, st.val * 16, 0] S16x16x512.size (rows_fit 512 st), siluTile (zaAt arg1 harg1 arg2 harg2 arg3 harg3 x0 x1 x2 st)⟩
def zsStore : View.Piece (Elt F) S16x128x512 .bf16 :=
  ⟨Rect.unit ![0, st.val * 16, 0] S16x16x512.size (rows_fit 512 st),
    siluTile (extractStridedSlice S256x512 ![0, 512] (uzAt arg1 harg1 arg2 harg2 arg3 harg3 x0 x1 x2 st) slices_S256x1024_o0_512_S256x512)⟩

theorem lanes_fit (v : Fin 4) : ∀ a, (![v.val, 0, 0] : Fin 3 → ℕ) a + S1x256x128.size a ≤ S4x256x128.size a := by
  intro a
  match a with
  | ⟨0, _⟩ => show v.val + 1 ≤ 4; omega
  | ⟨1, _⟩ => show 0 + 256 ≤ 256; omega
  | ⟨2, _⟩ => show 0 + 128 ≤ 128; omega

/-- A hundred and twenty-eight of the scan's channels. -/
def part (a : FVec F S256x1024 .f32) : Fin 4 → FVec F S256x128 .f32
  | ⟨0, _⟩ => extractStridedSlice S256x128 ![0, 0] a slices_S256x1024_o0_0_S256x128
  | ⟨1, _⟩ => extractStridedSlice S256x128 ![0, 128] a slices_S256x1024_o0_128_S256x128
  | ⟨2, _⟩ => extractStridedSlice S256x128 ![0, 256] a slices_S256x1024_o0_256_S256x128
  | ⟨3, _⟩ => extractStridedSlice S256x128 ![0, 384] a slices_S256x1024_o0_384_S256x128

/-- The store of those channels into the scratch. -/
def uStore (v : Fin 4) : View.Piece (Elt F) S4x256x128 .f32 :=
  ⟨Rect.unit ![v.val, 0, 0] S1x256x128.size (lanes_fit v),
    shapeCast S1x256x128 (part (uzAt arg1 harg1 arg2 harg2 arg3 harg3 x0 x1 x2 st) v) shapeCasts_S256x128_S1x256x128⟩

/-- The four stores, last first. -/
def uStores : List (View.Piece (Elt F) S4x256x128 .f32) :=
  [uStore arg1 harg1 arg2 harg2 arg3 harg3 x0 x1 x2 st 3, uStore arg1 harg1 arg2 harg2 arg3 harg3 x0 x1 x2 st 2,
    uStore arg1 harg1 arg2 harg2 arg3 harg3 x0 x1 x2 st 1, uStore arg1 harg1 arg2 harg2 arg3 harg3 x0 x1 x2 st 0]

end

/-! ## The scan's input, packed by sixty-four stores -/

/-- The lanes of slot `s`: sixteen of the hundred and twenty-eight. -/
def mask (s : Fin 8) : IVec S16x128 1 :=
  andi (cmpi .sge (iota .tc S16x128 32 [1] iota_S16x128_d1_w32) (broadcast S16x128 (BitVec.ofNat 32 (16 * s.val))))
    (cmpi .slt (iota .tc S16x128 32 [1] iota_S16x128_d1_w32) (broadcast S16x128 (BitVec.ofNat 32 (16 * s.val + 16))))

/-- For the group at place `p` of its eight: each slot's lanes from the token that holds them. -/
def pick (p : Fin 8) (s : Fin 8 → FVec F S16x128 .f32) : FVec F S16x128 .f32 :=
  select (mask (7 + p)) (s 7) (select (mask (6 + p)) (s 6) (select (mask (5 + p)) (s 5) (select (mask (4 + p)) (s 4)
    (select (mask (3 + p)) (s 3) (select (mask (2 + p)) (s 2) (select (mask (1 + p)) (s 1) (s 0)))))))

/-- A token's lanes, turned by its place among eight. -/
def turned : Fin 8 → Vec F S1x16x128 .f32 → FVec F S16x128 .f32
  | ⟨0, _⟩, y => shapeCast S16x128 y shapeCasts_S1x16x128_S16x128
  | ⟨t + 1, _⟩, y => dynamicRotate 1 (BitVec.ofNat 32 (16 * (t + 1))) none (shapeCast S16x128 y shapeCasts_S1x16x128_S16x128) rotates_S16x128_d1

theorem row_fits (v : Fin 4) (hf : Fin 2) (t : Fin 8) :
    ∀ a, S1x16x128.size a = 0 ∨ (![v.val, hf.val * 8 + t.val, 0] : Fin 3 → ℕ) a + (![1, 16, 1] : Fin 3 → ℕ) a * (S1x16x128.size a - 1) < S4x256x128.size a := by
  intro a
  right
  match a with
  | ⟨0, _⟩ => show v.val + 1 * (1 - 1) < 4; omega
  | ⟨1, _⟩ => show hf.val * 8 + t.val + 16 * (16 - 1) < 256; omega
  | ⟨2, _⟩ => show 0 + 1 * (128 - 1) < 128; omega

/-- One token of each batch row, out of the scratch. -/
def row (N : Memref sig .tc .vmem S4x256x128 .f32) (L : List (View.Piece (Elt F) S4x256x128 .f32)) (v : Fin 4) (hf : Fin 2) (t : Fin 8) : Vec F S1x16x128 .f32 :=
  N.view.readCov L ⟨![v.val, hf.val * 8 + t.val, 0], S1x16x128.size, ![1, 16, 1], row_fits v hf t⟩

theorem dst_fits (st : Fin 8) (v : Fin 4) (hf : Fin 2) (p : Fin 8) :
    ∀ a, (![v.val * 8 + p.val, st.val, 0, hf.val * 128] : Fin 4 → ℕ) a + S1x1x16x128.size a ≤ S32x8x16x256.size a := by
  intro a
  match a with
  | ⟨0, _⟩ => show v.val * 8 + p.val + 1 ≤ 32; omega
  | ⟨1, _⟩ => show st.val + 1 ≤ 8; omega
  | ⟨2, _⟩ => show 0 + 16 ≤ 16; omega
  | ⟨3, _⟩ => show hf.val * 128 + 128 ≤ 256; omega

/-- The store of one group's half chunk, for all the batch rows. -/
def packStore (N : Memref sig .tc .vmem S4x256x128 .f32) (L : List (View.Piece (Elt F) S4x256x128 .f32)) (st : Fin 8) (v : Fin 4) (hf : Fin 2) (p : Fin 8) :
    View.Piece (Elt F) S32x8x16x256 .bf16 :=
  ⟨Rect.unit ![v.val * 8 + p.val, st.val, 0, hf.val * 128] S1x1x16x128.size (dst_fits st v hf p),
    shapeCast S1x1x16x128 (truncf .bf16 (pick p (fun t => turned t (row N L v hf t))) bitsLt_bf16_f32) shapeCasts_S16x128_S1x1x16x128⟩

/-- The stores of one row of lanes' half, last first, before the others. -/
def halfStores (N : Memref sig .tc .vmem S4x256x128 .f32) (L : List (View.Piece (Elt F) S4x256x128 .f32)) (st : Fin 8) (v : Fin 4) (hf : Fin 2)
    (R : List (View.Piece (Elt F) S32x8x16x256 .bf16)) : List (View.Piece (Elt F) S32x8x16x256 .bf16) :=
  packStore N L st v hf 7 :: packStore N L st v hf 6 :: packStore N L st v hf 5 :: packStore N L st v hf 4
    :: packStore N L st v hf 3 :: packStore N L st v hf 2 :: packStore N L st v hf 1 :: packStore N L st v hf 0 :: R

/-- A sub-tile's sixty-four, last first, before the others. -/
def packStores (N : Memref sig .tc .vmem S4x256x128 .f32) (L : List (View.Piece (Elt F) S4x256x128 .f32)) (st : Fin 8)
    (R : List (View.Piece (Elt F) S32x8x16x256 .bf16)) : List (View.Piece (Elt F) S32x8x16x256 .bf16) :=
  halfStores N L st 3 1 <| halfStores N L st 3 0 <| halfStores N L st 2 1 <| halfStores N L st 2 0 <|
    halfStores N L st 1 1 <| halfStores N L st 1 0 <| halfStores N L st 0 1 <| halfStores N L st 0 0 R

end Cert.Proj

end
-- ==== Proof.ProjPieces.lean ====
module

public import proofs.«01_k».proof.Proof.ProjTile
public import proofs.«01_k».proof.Proof.Gen.Kernel3Ideal.Value

/-! The stores of a grid point of the input projection. -/

@[expose] public section

noncomputable section

namespace Cert.Proj

open Cert.Kernel3Ideal Cert.Kernel3Ideal.Gen Idealize.ShloMosaic Idealize.ShloMosaic.ValueIdx

variable {F : FTy → Type} [FloatOps F]

theorem scratch_0 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS0_4 c arg1 harg1 arg2 harg2 arg3 harg3 x0 x1 x2 = uStores arg1 harg1 arg2 harg2 arg3 harg3 x0 x1 x2 0 := by
  sl_unfold_words; rfl
theorem scratch_1 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS1_4 c arg1 harg1 arg2 harg2 arg3 harg3 x0 x1 x2 = uStores arg1 harg1 arg2 harg2 arg3 harg3 x0 x1 x2 1 := by
  sl_unfold_words; rfl
theorem scratch_2 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS2_4 c arg1 harg1 arg2 harg2 arg3 harg3 x0 x1 x2 = uStores arg1 harg1 arg2 harg2 arg3 harg3 x0 x1 x2 2 := by
  sl_unfold_words; rfl
theorem scratch_3 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS3_4 c arg1 harg1 arg2 harg2 arg3 harg3 x0 x1 x2 = uStores arg1 harg1 arg2 harg2 arg3 harg3 x0 x1 x2 3 := by
  sl_unfold_words; rfl
theorem scratch_4 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS4_4 c arg1 harg1 arg2 harg2 arg3 harg3 x0 x1 x2 = uStores arg1 harg1 arg2 harg2 arg3 harg3 x0 x1 x2 4 := by
  sl_unfold_words; rfl
theorem scratch_5 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS5_4 c arg1 harg1 arg2 harg2 arg3 harg3 x0 x1 x2 = uStores arg1 harg1 arg2 harg2 arg3 harg3 x0 x1 x2 5 := by
  sl_unfold_words; rfl
theorem scratch_6 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS6_4 c arg1 harg1 arg2 harg2 arg3 harg3 x0 x1 x2 = uStores arg1 harg1 arg2 harg2 arg3 harg3 x0 x1 x2 6 := by
  sl_unfold_words; rfl
theorem scratch_7 (c : Dev nD) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (x0 : Vec F S16x128x1024 .f32) (x1 : Vec F S1x1024 .f32) (x2 : Vec F S1024x2304 .bf16) :
    kernelRun0_A.sl.HS7_4 c arg1 harg1 arg2 harg2 arg3 harg3 x0 x1 x2 = uStores arg1 harg1 arg2 harg2 arg3 harg3 x0 x1 x2 7 := by
  sl_unfold_words; rfl

section
variable (c : Dev nD) (i : grid0.Coords) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S16x128x512 .bf16) (harg4 : arg4.IsWhole) (arg5 : Memref sig .tc .vmem S16x128x256 .bf16) (harg5 : arg5.IsWhole) (arg6 : Memref sig .tc .vmem S16x128x256 .bf16) (harg6 : arg6.IsWhole) (arg7 : Memref sig .tc .vmem S16x128x512 .bf16) (harg7 : arg7.IsWhole) (arg8 : Memref sig .tc .vmem S32x8x16x256 .bf16) (harg8 : arg8.IsWhole) (arg9 : Memref sig .tc .vmem S16x128x512 .bf16) (harg9 : arg9.IsWhole) (arg10 : Memref sig .tc .vmem S4x256x128 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S4x256x128 .f32) (harg13 : arg13.IsWhole) (arg14 : Memref sig .tc .vmem S4x256x128 .f32) (harg14 : arg14.IsWhole) (arg15 : Memref sig .tc .vmem S4x256x128 .f32) (harg15 : arg15.IsWhole) (arg16 : Memref sig .tc .vmem S4x256x128 .f32) (harg16 : arg16.IsWhole) (arg17 : Memref sig .tc .vmem S4x256x128 .f32) (harg17 : arg17.IsWhole)
  (x0 : Vec F S16x128x1024 .f32) (x1 : Vec F S1x1024 .f32) (x2 : Vec F S1024x2304 .bf16)

set_option maxHeartbeats 4000000 in
theorem pieces_q : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).1
    = [qStore arg1 harg1 arg2 harg2 arg3 harg3 x0 x1 x2 7, qStore arg1 harg1 arg2 harg2 arg3 harg3 x0 x1 x2 6, qStore arg1 harg1 arg2 harg2 arg3 harg3 x0 x1 x2 5, qStore arg1 harg1 arg2 harg2 arg3 harg3 x0 x1 x2 4, qStore arg1 harg1 arg2 harg2 arg3 harg3 x0 x1 x2 3, qStore arg1 harg1 arg2 harg2 arg3 harg3 x0 x1 x2 2, qStore arg1 harg1 arg2 harg2 arg3 harg3 x0 x1 x2 1, qStore arg1 harg1 arg2 harg2 arg3 harg3 x0 x1 x2 0] := by
  unfold kernelRun0_A
  sl_unfold_run_values
  dsimp only
  rfl

set_option maxHeartbeats 4000000 in
theorem pieces_k : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.1
    = [kStore arg1 harg1 arg2 harg2 arg3 harg3 x0 x1 x2 7, kStore arg1 harg1 arg2 harg2 arg3 harg3 x0 x1 x2 6, kStore arg1 harg1 arg2 harg2 arg3 harg3 x0 x1 x2 5, kStore arg1 harg1 arg2 harg2 arg3 harg3 x0 x1 x2 4, kStore arg1 harg1 arg2 harg2 arg3 harg3 x0 x1 x2 3, kStore arg1 harg1 arg2 harg2 arg3 harg3 x0 x1 x2 2, kStore arg1 harg1 arg2 harg2 arg3 harg3 x0 x1 x2 1, kStore arg1 harg1 arg2 harg2 arg3 harg3 x0 x1 x2 0] := by
  unfold kernelRun0_A
  sl_unfold_run_values
  dsimp only
  rfl

set_option maxHeartbeats 4000000 in
theorem pieces_v : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.1
    = [vStore arg1 harg1 arg2 harg2 arg3 harg3 x0 x1 x2 7, vStore arg1 harg1 arg2 harg2 arg3 harg3 x0 x1 x2 6, vStore arg1 harg1 arg2 harg2 arg3 harg3 x0 x1 x2 5, vStore arg1 harg1 arg2 harg2 arg3 harg3 x0 x1 x2 4, vStore arg1 harg1 arg2 harg2 arg3 harg3 x0 x1 x2 3, vStore arg1 harg1 arg2 harg2 arg3 harg3 x0 x1 x2 2, vStore arg1 harg1 arg2 harg2 arg3 harg3 x0 x1 x2 1, vStore arg1 harg1 arg2 harg2 arg3 harg3 x0 x1 x2 0] := by
  unfold kernelRun0_A
  sl_unfold_run_values
  dsimp only
  rfl

set_option maxHeartbeats 4000000 in
theorem pieces_za : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.2.1
    = [zaStore arg1 harg1 arg2 harg2 arg3 harg3 x0 x1 x2 7, zaStore arg1 harg1 arg2 harg2 arg3 harg3 x0 x1 x2 6, zaStore arg1 harg1 arg2 harg2 arg3 harg3 x0 x1 x2 5, zaStore arg1 harg1 arg2 harg2 arg3 harg3 x0 x1 x2 4, zaStore arg1 harg1 arg2 harg2 arg3 harg3 x0 x1 x2 3, zaStore arg1 harg1 arg2 harg2 arg3 harg3 x0 x1 x2 2, zaStore arg1 harg1 arg2 harg2 arg3 harg3 x0 x1 x2 1, zaStore arg1 harg1 arg2 harg2 arg3 harg3 x0 x1 x2 0] := by
  unfold kernelRun0_A
  sl_unfold_run_values
  dsimp only
  rfl

set_option maxHeartbeats 4000000 in
theorem pieces_u : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.2.2.1
    = (packStores arg17 (uStores arg1 harg1 arg2 harg2 arg3 harg3 x0 x1 x2 7) 7 <| packStores arg16 (uStores arg1 harg1 arg2 harg2 arg3 harg3 x0 x1 x2 6) 6 <| packStores arg15 (uStores arg1 harg1 arg2 harg2 arg3 harg3 x0 x1 x2 5) 5 <| packStores arg14 (uStores arg1 harg1 arg2 harg2 arg3 harg3 x0 x1 x2 4) 4 <| packStores arg13 (uStores arg1 harg1 arg2 harg2 arg3 harg3 x0 x1 x2 3) 3 <| packStores arg12 (uStores arg1 harg1 arg2 harg2 arg3 harg3 x0 x1 x2 2) 2 <| packStores arg11 (uStores arg1 harg1 arg2 harg2 arg3 harg3 x0 x1 x2 1) 1 <| packStores arg10 (uStores arg1 harg1 arg2 harg2 arg3 harg3 x0 x1 x2 0) 0 <| []) := by
  unfold kernelRun0_A
  sl_unfold_run_values
  dsimp only
  simp only [scratch_0, scratch_1, scratch_2, scratch_3, scratch_4, scratch_5, scratch_6, scratch_7]
  rfl

set_option maxHeartbeats 4000000 in
theorem pieces_zs : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.2.2.2.1
    = [zsStore arg1 harg1 arg2 harg2 arg3 harg3 x0 x1 x2 7, zsStore arg1 harg1 arg2 harg2 arg3 harg3 x0 x1 x2 6, zsStore arg1 harg1 arg2 harg2 arg3 harg3 x0 x1 x2 5, zsStore arg1 harg1 arg2 harg2 arg3 harg3 x0 x1 x2 4, zsStore arg1 harg1 arg2 harg2 arg3 harg3 x0 x1 x2 3, zsStore arg1 harg1 arg2 harg2 arg3 harg3 x0 x1 x2 2, zsStore arg1 harg1 arg2 harg2 arg3 harg3 x0 x1 x2 1, zsStore arg1 harg1 arg2 harg2 arg3 harg3 x0 x1 x2 0] := by
  unfold kernelRun0_A
  sl_unfold_run_values
  dsimp only
  rfl

end

end Cert.Proj

end
-- ==== Proof.ProjMath.lean ====
module

public import proofs.«01_k».proof.Proof.MergeMath

/-! The input projection of one token, in plain extended reals. -/

@[expose] public section

noncomputable section

namespace Cert.Proj

open Idealize.ShloMosaic
open scoped BigOperators

/-- One column of the projection of a normed token. -/
def col (x g : Fin 1024 → EReal) (w : Fin 1024 → Fin 2304 → EReal) (j : Fin 2304) : EReal :=
  ∑ d, Cert.Merge.nrm x g d * w d j

/-- The silu. -/
def silu (z : EReal) : EReal := z * Ideal.logistic z

theorem silu_tanh (z : EReal) :
    z * (Ideal.ofBits .f32 0x3F000000#32 * Ideal.tanh (Ideal.ofBits .f32 0x3F000000#32 * z) + Ideal.ofBits .f32 0x3F000000#32) = silu z := by
  unfold silu
  rw [Cert.Merge.half_ideal]
  have e : ((1 / 2 : ℝ) : EReal) * Ideal.tanh (((1 / 2 : ℝ) : EReal) * z) + ((1 / 2 : ℝ) : EReal)
      = ((1 / 2 : ℝ) : EReal) * (1 + Ideal.tanh (((1 / 2 : ℝ) : EReal) * z)) := by
    rw [Cert.Merge.scale_add _ (by norm_num), mul_one, add_comm]
  rw [e, Cert.Merge.twice_logistic, ← mul_assoc ((1 / 2 : ℝ) : EReal), ← EReal.coe_mul]
  norm_num

/-- The column of the two heads, and of the two exchanged. -/
def exch (c : Fin 256) : Fin 128 := if h : c.val < 128 then ⟨c.val, h⟩ else ⟨(c.val - 64) % 128, by omega⟩

end Cert.Proj

end
-- ==== Proof.ProjAt.lean ====
module

public import proofs.«01_k».proof.Proof.ProjTile
public import proofs.«01_k».proof.Proof.ProjMath

/-! A sub-tile of the input projection read at an index: one token's columns. -/

@[expose] public section

noncomputable section

namespace Cert.Proj

open Cert.Kernel3Ideal Cert.Kernel3Ideal.Gen Idealize.ShloMosaic Idealize.ShloMosaic.ValueIdx
open scoped BigOperators

theorem rms_apply (x : FVec Ideal S256x1024 .f32) (g : FVec Ideal S1x1024 .f32) (r : Fin 256) (e : Fin 1024) :
    (rms x g (ix2 r e) : EReal) = Cert.Merge.nrm (fun d => x (ix2 r d)) (fun d => g (ix2 0 d)) e := by
  unfold rms Cert.Merge.nrm
  rw [mulf_apply, mulf_apply, broadcastTo_1b_ab_apply]
  refine congrArg (fun z : EReal => x (ix2 r e) * z * g (ix2 0 e)) ?_
  refine (broadcastTo_apply _ broadcasts_S256x1_S256x1024 (ix2 r e) (ix2 r 0) fun ax => match ax with | ⟨0, _⟩ => rfl | ⟨1, _⟩ => rfl).trans ?_
  show Ideal.rsqrt (Ideal.div (shapeCast S256x1 _ _ (ix2 r 0)) _ + _) = _
  rw [shapeCast_a_a1_apply]
  refine congrArg (fun z : EReal => Ideal.rsqrt (Ideal.div z (Ideal.ofBits .f32 0x44800000#32) + Ideal.ofBits .f32 0x358637BD#32)) ?_
  refine (Ideal.multiReduction_add_single (mulf x x) 0x00000000#32 reduces_S256x1024_S256 (.inl rfl) rfl (ix1 r)).trans ?_
  refine Finset.sum_congr rfl fun k _ => ?_
  have e1 : reduces_S256x1024_S256.lift (ix1 r) k = ix2 r k := by
    funext a
    match a with
    | ⟨0, _⟩ => apply Fin.ext; rfl
    | ⟨1, _⟩ => apply Fin.ext; rfl
  rw [e1]
  rfl

/-- A token's row and column in a sub-tile of sixteen batch rows. -/
theorem rows_apply {n : ℕ} {α : Type} (x : (⟨3, ![16, 16, n]⟩ : Shape).Idx → α) (h : (⟨3, ![16, 16, n]⟩ : Shape).ShapeCasts ⟨2, ![256, n]⟩)
    (b t : Fin 16) (c : Fin n) : shapeCast ⟨2, ![256, n]⟩ x h (ix2 ⟨b.val * 16 + t.val, by omega⟩ c) = x (ix3 b t c) :=
  shapeCast_apply x h _ _ (by
    rw [Shape.rowMajor_val_three, Shape.rowMajor_val_two]
    rfl)

/-- And back. -/
theorem back_apply {n : ℕ} {α : Type} (x : (⟨2, ![256, n]⟩ : Shape).Idx → α) (h : (⟨2, ![256, n]⟩ : Shape).ShapeCasts ⟨3, ![16, 16, n]⟩)
    (b t : Fin 16) (c : Fin n) : shapeCast ⟨3, ![16, 16, n]⟩ x h (ix3 b t c) = x (ix2 ⟨b.val * 16 + t.val, by omega⟩ c) :=
  shapeCast_apply x h _ _ (by
    rw [Shape.rowMajor_val_three, Shape.rowMajor_val_two]
    rfl)

theorem hid_apply (x : Vec Ideal S16x16x1024 .f32) (g : Vec Ideal S1x1024 .f32) (p t : Fin 16) (d : Fin 1024) :
    (hid x g (ix2 ⟨p.val * 16 + t.val, by omega⟩ d) : EReal) = Cert.Merge.nrm (fun d => x (ix3 p t d)) (fun d => g (ix2 0 d)) d := by
  unfold hid
  show rms (F := Ideal) _ _ (ix2 _ d) = _
  rw [rms_apply, shapeCast_self]
  simp only [rows_apply]

theorem uz_apply (x : Vec Ideal S16x16x1024 .f32) (g : Vec Ideal S1x1024 .f32) (w : Vec Ideal S1024x1024 .bf16) (p t : Fin 16) (j : Fin 1024) :
    (uz x g w (ix2 ⟨p.val * 16 + t.val, by omega⟩ j) : EReal)
      = ∑ k : Fin 1024, Cert.Merge.nrm (fun d => x (ix3 p t d)) (fun d => g (ix2 0 d)) k * w (ix2 k j) := by
  unfold uz
  refine (Ideal.matmul_plain_apply none _ _ _ _ j).trans ?_
  show Ideal.ofBits .f32 0x00000000#32 + _ = _
  rw [Ideal.ofBits_zero_f32, zero_add, shapeCast_self]
  simp only [hid_apply]

theorem za_apply (x : Vec Ideal S16x16x1024 .f32) (g : Vec Ideal S1x1024 .f32) (w : Vec Ideal S1024x512 .bf16) (p t : Fin 16) (j : Fin 512) :
    (za x g w (ix2 ⟨p.val * 16 + t.val, by omega⟩ j) : EReal)
      = ∑ k : Fin 1024, Cert.Merge.nrm (fun d => x (ix3 p t d)) (fun d => g (ix2 0 d)) k * w (ix2 k j) := by
  unfold za
  refine (Ideal.matmul_plain_apply none _ _ _ _ j).trans ?_
  show Ideal.ofBits .f32 0x00000000#32 + _ = _
  rw [Ideal.ofBits_zero_f32, zero_add, shapeCast_self]
  simp only [hid_apply]

theorem qkv_apply (x : Vec Ideal S16x16x1024 .f32) (g : Vec Ideal S1x1024 .f32) (w : Vec Ideal S1024x768 .bf16) (p t : Fin 16) (j : Fin 768) :
    (qkv x g w (ix2 ⟨p.val * 16 + t.val, by omega⟩ j) : EReal)
      = ∑ k : Fin 1024, Cert.Merge.nrm (fun d => x (ix3 p t d)) (fun d => g (ix2 0 d)) k * w (ix2 k j) := by
  unfold qkv
  refine (Ideal.matmul_plain_apply none _ _ _ _ j).trans ?_
  show Ideal.ofBits .f32 0x00000000#32 + _ = _
  rw [Ideal.ofBits_zero_f32, zero_add, shapeCast_self]
  simp only [hid_apply]

theorem siluTile_apply (a : FVec Ideal S256x512 .f32) (p t : Fin 16) (c : Fin 512) :
    (siluTile a (ix3 p t c) : EReal) = silu (a (ix2 ⟨p.val * 16 + t.val, by omega⟩ c)) := by
  unfold siluTile
  rw [← silu_tanh]
  exact back_apply _ _ p t c

theorem qTile_apply (a : FVec Ideal S256x768 .f32) (p t : Fin 16) (c : Fin 512) :
    (qTile a (ix3 p t c) : EReal) = a (ix2 ⟨p.val * 16 + t.val, by omega⟩ ⟨c.val, by omega⟩) * Ideal.ofBits .f32 0x3E38AA3B#32 := by
  unfold qTile
  refine (back_apply _ _ p t c).trans ?_
  refine congrArg (fun z : EReal => z * Ideal.ofBits .f32 0x3E38AA3B#32) ?_
  refine congrArg a ?_
  funext ax
  apply Fin.ext
  match ax with
  | ⟨0, _⟩ => show 0 + (p.val * 16 + t.val) = p.val * 16 + t.val; omega
  | ⟨1, _⟩ => show 0 + c.val = c.val; omega

theorem twice_apply (a : FVec Ideal S256x128 .f32) (p t : Fin 16) (c : Fin 256) :
    (twice a (ix3 p t c) : EReal) = a (ix2 ⟨p.val * 16 + t.val, by omega⟩ (exch c)) := by
  unfold twice
  refine (back_apply _ _ p t c).trans ?_
  show concatenate S256x256 1 [⟨S256x128, a⟩, ⟨S256x128, dynamicRotate 1 64#32 none a rotates_S256x128_d1⟩]
    concatenates_S256x128_S256x128_S256x256_d1 (ix2 ⟨p.val * 16 + t.val, by omega⟩ c) = _
  unfold exch
  by_cases h : c.val < 128
  · rw [dif_pos h]
    exact concatenate_pair_apply_left (t := S256x256) 1 a (dynamicRotate 1 64#32 none a rotates_S256x128_d1) _ _ rfl (ix2 (⟨p.val * 16 + t.val, by omega⟩ : Fin 256) (⟨c.val, h⟩ : Fin 128)) (fun ax => match ax with
      | ⟨0, _⟩ => rfl | ⟨1, _⟩ => rfl)
  · rw [dif_neg h]
    refine (concatenate_pair_apply_right (t := S256x256) 1 a (dynamicRotate 1 64#32 none a rotates_S256x128_d1) _ _ rfl rfl (ix2 (⟨p.val * 16 + t.val, by omega⟩ : Fin 256) (⟨c.val - 128, by omega⟩ : Fin 128)) (fun ax => match ax with
      | ⟨0, _⟩ => fun _ => rfl | ⟨1, _⟩ => fun ha => absurd rfl ha) (by show c.val - 128 + 128 = c.val; omega)).trans ?_
    unfold dynamicRotate
    refine congrArg a ?_
    funext ax
    apply Fin.ext
    match ax with
    | ⟨0, _⟩ => rfl
    | ⟨1, _⟩ =>
      show (c.val - 128 + 128 - (64 + 0) % 128) % 128 = (c.val - 64) % 128
      omega

theorem part_apply (a : FVec Ideal S256x1024 .f32) (v : Fin 4) (r : Fin 256) (l : Fin 128) :
    (part a v (ix2 r l) : EReal) = a (ix2 r ⟨v.val * 128 + l.val, by omega⟩) := by
  match v with
  | ⟨0, _⟩ => exact congrArg a (funext fun ax => Fin.ext (match ax with
      | ⟨0, _⟩ => by show 0 + r.val = r.val; omega
      | ⟨1, _⟩ => by show 0 + l.val = 0 * 128 + l.val; omega))
  | ⟨1, _⟩ => exact congrArg a (funext fun ax => Fin.ext (match ax with
      | ⟨0, _⟩ => by show 0 + r.val = r.val; omega
      | ⟨1, _⟩ => by show 128 + l.val = 1 * 128 + l.val; omega))
  | ⟨2, _⟩ => exact congrArg a (funext fun ax => Fin.ext (match ax with
      | ⟨0, _⟩ => by show 0 + r.val = r.val; omega
      | ⟨1, _⟩ => by show 256 + l.val = 2 * 128 + l.val; omega))
  | ⟨3, _⟩ => exact congrArg a (funext fun ax => Fin.ext (match ax with
      | ⟨0, _⟩ => by show 0 + r.val = r.val; omega
      | ⟨1, _⟩ => by show 384 + l.val = 3 * 128 + l.val; omega))

/-! ## What is loaded -/

theorem read_at {s t : Shape} {e : EltTy} (M : Memref sig .tc .vmem s e) (h : M.IsWhole) (x : Vec Ideal s e) (r : Rect s) (j) (k : s.Idx)
    (hk : ∀ a, (r.toLoadRect.idx j a).val = (k a).val) : View.readAt (Elt Ideal) M.view r.toLoadRect (h.unread x) j = x k := by
  rw [View.readAt_eq_ld, h.read_unread]
  exact congrArg x (funext fun a => Fin.ext (hk a))

section
variable (arg1 : Memref sig .tc .vmem S16x128x1024 .f32) (harg1 : arg1.IsWhole) (arg2 : Memref sig .tc .vmem S1x1024 .f32) (harg2 : arg2.IsWhole)
  (arg3 : Memref sig .tc .vmem S1024x2304 .bf16) (harg3 : arg3.IsWhole)
  (x0 : Vec Ideal S16x128x1024 .f32) (x1 : Vec Ideal S1x1024 .f32) (x2 : Vec Ideal S1024x2304 .bf16) (st : Fin 8)

theorem xAt_apply (p t : Fin 16) (d : Fin 1024) :
    xAt arg1 harg1 x0 st (ix3 p t d) = x0 (ix3 p ⟨st.val * 16 + t.val, by omega⟩ d) := by
  refine read_at (t := S16x16x1024) arg1 harg1 x0 _ _ _ fun a => ?_
  match a with
  | ⟨0, _⟩ => show 0 + 1 * p.val = p.val; omega
  | ⟨1, _⟩ => show st.val * 16 + 1 * t.val = st.val * 16 + t.val; omega
  | ⟨2, _⟩ => show 0 + 1 * d.val = d.val; omega

theorem gAt_apply (d : Fin 1024) : gAt arg2 harg2 x1 (ix2 0 d) = x1 (ix2 0 d) := by
  refine read_at (t := S1x1024) arg2 harg2 x1 _ _ _ fun a => ?_
  match a with
  | ⟨0, _⟩ => rfl
  | ⟨1, _⟩ => show 0 + 1 * d.val = d.val; omega

/-- A token's column in a block. -/
def blockCol (p : Fin 16) (s : Fin 128) (j : Fin 2304) : EReal :=
  col (fun d => x0 (ix3 p s d)) (fun d => x1 (ix2 0 d)) (fun k j => x2 (ix2 k j)) j

theorem uzAt_apply (p t : Fin 16) (j : Fin 1024) :
    (uzAt arg1 harg1 arg2 harg2 arg3 harg3 x0 x1 x2 st (ix2 ⟨p.val * 16 + t.val, by omega⟩ j) : EReal)
      = blockCol x0 x1 x2 p ⟨st.val * 16 + t.val, by omega⟩ ⟨1280 + j.val, by omega⟩ := by
  unfold uzAt blockCol col
  rw [uz_apply]
  simp only [xAt_apply, gAt_apply]
  refine Finset.sum_congr rfl fun k _ => congrArg (fun z : EReal => Cert.Merge.nrm (fun d => x0 (ix3 p ⟨st.val * 16 + t.val, by omega⟩ d)) (fun d => x1 (ix2 0 d)) k * z) ?_
  refine read_at (t := S1024x1024) arg3 harg3 x2 _ _ _ fun a => ?_
  match a with
  | ⟨0, _⟩ => show 0 + 1 * k.val = k.val; omega
  | ⟨1, _⟩ => show 1280 + 1 * j.val = 1280 + j.val; omega

theorem zaAt_apply (p t : Fin 16) (j : Fin 512) :
    (zaAt arg1 harg1 arg2 harg2 arg3 harg3 x0 x1 x2 st (ix2 ⟨p.val * 16 + t.val, by omega⟩ j) : EReal)
      = blockCol x0 x1 x2 p ⟨st.val * 16 + t.val, by omega⟩ ⟨768 + j.val, by omega⟩ := by
  unfold zaAt blockCol col
  rw [za_apply]
  simp only [xAt_apply, gAt_apply]
  refine Finset.sum_congr rfl fun k _ => congrArg (fun z : EReal => Cert.Merge.nrm (fun d => x0 (ix3 p ⟨st.val * 16 + t.val, by omega⟩ d)) (fun d => x1 (ix2 0 d)) k * z) ?_
  refine read_at (t := S1024x512) arg3 harg3 x2 _ _ _ fun a => ?_
  match a with
  | ⟨0, _⟩ => show 0 + 1 * k.val = k.val; omega
  | ⟨1, _⟩ => show 768 + 1 * j.val = 768 + j.val; omega

theorem qkvAt_apply (p t : Fin 16) (j : Fin 768) :
    (qkvAt arg1 harg1 arg2 harg2 arg3 harg3 x0 x1 x2 st (ix2 ⟨p.val * 16 + t.val, by omega⟩ j) : EReal)
      = blockCol x0 x1 x2 p ⟨st.val * 16 + t.val, by omega⟩ ⟨j.val, by omega⟩ := by
  unfold qkvAt blockCol col
  rw [qkv_apply]
  simp only [xAt_apply, gAt_apply]
  refine Finset.sum_congr rfl fun k _ => congrArg (fun z : EReal => Cert.Merge.nrm (fun d => x0 (ix3 p ⟨st.val * 16 + t.val, by omega⟩ d)) (fun d => x1 (ix2 0 d)) k * z) ?_
  refine read_at (t := S1024x768) arg3 harg3 x2 _ _ _ fun a => ?_
  match a with
  | ⟨0, _⟩ => show 0 + 1 * k.val = k.val; omega
  | ⟨1, _⟩ => show 0 + 1 * j.val = j.val; omega

/-! ## The five plain outputs -/

/-- A block's scaled queries. -/
def qVal (y : S16x128x512.Idx) : EReal := blockCol x0 x1 x2 (y 0) (y 1) ⟨(y 2).val, by have : (y 2).val < 512 := (y 2).isLt; omega⟩ * Ideal.ofBits .f32 0x3E38AA3B#32
/-- A block's keys, with their heads exchanged beside them. -/
def kVal (y : S16x128x256.Idx) : EReal := blockCol x0 x1 x2 (y 0) (y 1) ⟨512 + (exch (y 2)).val, by omega⟩
/-- A block's values, with their heads exchanged beside them. -/
def vVal (y : S16x128x256.Idx) : EReal := blockCol x0 x1 x2 (y 0) (y 1) ⟨640 + (exch (y 2)).val, by omega⟩
/-- A block's attention gate. -/
def zaVal (y : S16x128x512.Idx) : EReal := silu (blockCol x0 x1 x2 (y 0) (y 1) ⟨768 + (y 2).val, by have : (y 2).val < 512 := (y 2).isLt; omega⟩)
/-- A block's scan gate. -/
def zsVal (y : S16x128x512.Idx) : EReal := silu (blockCol x0 x1 x2 (y 0) (y 1) ⟨1792 + (y 2).val, by have : (y 2).val < 512 := (y 2).isLt; omega⟩)

theorem tile_emb {n : ℕ} (p t : Fin 16) (c : Fin n) :
    (Rect.unit (s := ⟨3, ![16, 128, n]⟩) ![0, st.val * 16, 0] ![16, 16, n] (rows_fit n st)).emb (ix3 p t c) = ix3 p ⟨st.val * 16 + t.val, by omega⟩ c := by
  funext a
  apply Fin.ext
  match a with
  | ⟨0, _⟩ => show 0 + 1 * p.val = p.val; omega
  | ⟨1, _⟩ => show st.val * 16 + 1 * t.val = st.val * 16 + t.val; omega
  | ⟨2, _⟩ => show 0 + 1 * c.val = c.val; omega

theorem tile_idx {n : ℕ} (j : (⟨3, ![16, 16, n]⟩ : Shape).Idx) : ∃ (p t : Fin 16) (c : Fin n), j = ix3 p t c :=
  ⟨j 0, j 1, j 2, by funext a; match a with | ⟨0, _⟩ => rfl | ⟨1, _⟩ => rfl | ⟨2, _⟩ => rfl⟩

theorem qStore_apply (j) : ((qStore arg1 harg1 arg2 harg2 arg3 harg3 x0 x1 x2 st).2 j : EReal)
    = qVal x0 x1 x2 ((qStore arg1 harg1 arg2 harg2 arg3 harg3 x0 x1 x2 st).1.emb j) := by
  obtain ⟨p, t, c, rfl⟩ := tile_idx (n := 512) j
  refine Eq.trans ?_ (congrArg (qVal x0 x1 x2) (tile_emb st p t c)).symm
  exact (qTile_apply _ p t c).trans (congrArg (fun z : EReal => z * Ideal.ofBits .f32 0x3E38AA3B#32) (qkvAt_apply arg1 harg1 arg2 harg2 arg3 harg3 x0 x1 x2 st p t _))

theorem kStore_apply (j) : ((kStore arg1 harg1 arg2 harg2 arg3 harg3 x0 x1 x2 st).2 j : EReal)
    = kVal x0 x1 x2 ((kStore arg1 harg1 arg2 harg2 arg3 harg3 x0 x1 x2 st).1.emb j) := by
  obtain ⟨p, t, c, rfl⟩ := tile_idx (n := 256) j
  refine Eq.trans ?_ (congrArg (kVal x0 x1 x2) (tile_emb st p t c)).symm
  refine (twice_apply _ p t c).trans (Eq.trans ?_ (qkvAt_apply arg1 harg1 arg2 harg2 arg3 harg3 x0 x1 x2 st p t ⟨512 + (exch c).val, by omega⟩))
  refine congrArg (qkvAt arg1 harg1 arg2 harg2 arg3 harg3 x0 x1 x2 st) (funext fun ax => Fin.ext ?_)
  match ax with
  | ⟨0, _⟩ => show 0 + (p.val * 16 + t.val) = p.val * 16 + t.val; omega
  | ⟨1, _⟩ => rfl

theorem vStore_apply (j) : ((vStore arg1 harg1 arg2 harg2 arg3 harg3 x0 x1 x2 st).2 j : EReal)
    = vVal x0 x1 x2 ((vStore arg1 harg1 arg2 harg2 arg3 harg3 x0 x1 x2 st).1.emb j) := by
  obtain ⟨p, t, c, rfl⟩ := tile_idx (n := 256) j
  refine Eq.trans ?_ (congrArg (vVal x0 x1 x2) (tile_emb st p t c)).symm
  refine (twice_apply _ p t c).trans (Eq.trans ?_ (qkvAt_apply arg1 harg1 arg2 harg2 arg3 harg3 x0 x1 x2 st p t ⟨640 + (exch c).val, by omega⟩))
  refine congrArg (qkvAt arg1 harg1 arg2 harg2 arg3 harg3 x0 x1 x2 st) (funext fun ax => Fin.ext ?_)
  match ax with
  | ⟨0, _⟩ => show 0 + (p.val * 16 + t.val) = p.val * 16 + t.val; omega
  | ⟨1, _⟩ => rfl

theorem zaStore_apply (j) : ((zaStore arg1 harg1 arg2 harg2 arg3 harg3 x0 x1 x2 st).2 j : EReal)
    = zaVal x0 x1 x2 ((zaStore arg1 harg1 arg2 harg2 arg3 harg3 x0 x1 x2 st).1.emb j) := by
  obtain ⟨p, t, c, rfl⟩ := tile_idx (n := 512) j
  refine Eq.trans ?_ (congrArg (zaVal x0 x1 x2) (tile_emb st p t c)).symm
  exact (siluTile_apply _ p t c).trans (congrArg silu (zaAt_apply arg1 harg1 arg2 harg2 arg3 harg3 x0 x1 x2 st p t c))

theorem zsStore_apply (j) : ((zsStore arg1 harg1 arg2 harg2 arg3 harg3 x0 x1 x2 st).2 j : EReal)
    = zsVal x0 x1 x2 ((zsStore arg1 harg1 arg2 harg2 arg3 harg3 x0 x1 x2 st).1.emb j) := by
  obtain ⟨p, t, c, rfl⟩ := tile_idx (n := 512) j
  refine Eq.trans ?_ (congrArg (zsVal x0 x1 x2) (tile_emb st p t c)).symm
  refine (siluTile_apply _ p t c).trans (congrArg silu ?_)
  refine Eq.trans ?_ ((uzAt_apply arg1 harg1 arg2 harg2 arg3 harg3 x0 x1 x2 st p t ⟨512 + c.val, by omega⟩).trans ?_)
  · refine congrArg (uzAt arg1 harg1 arg2 harg2 arg3 harg3 x0 x1 x2 st) (funext fun ax => Fin.ext ?_)
    match ax with
    | ⟨0, _⟩ => show 0 + (p.val * 16 + t.val) = p.val * 16 + t.val; omega
    | ⟨1, _⟩ => rfl
  · exact congrArg (blockCol x0 x1 x2 p ⟨st.val * 16 + t.val, by omega⟩) (Fin.ext (by show 1280 + (512 + c.val) = 1792 + c.val; omega))

end

end Cert.Proj

end
-- ==== Proof.ProjPack.lean ====
module

public import proofs.«01_k».proof.Proof.ProjAt
public import proofs.«01_k».proof.Proof.UnpackAt

/-! The packed scan input at an index: which token and channel each lane of a group's block holds. -/

@[expose] public section

noncomputable section

namespace Cert.Proj

open Cert.Kernel3Ideal Cert.Kernel3Ideal.Gen Idealize.ShloMosaic Idealize.ShloMosaic.ValueIdx
open scoped BigOperators

theorem pick_apply (p : Fin 8) (s : Fin 8 → FVec Ideal S16x128 .f32) (b : Fin 16) (m : Fin 128) (t : Fin 8) (ht : m.val / 16 = (t + p).val) :
    pick p s (ix2 b m) = s t (ix2 b m) := Cert.Merge.pick_apply p s b m t ht

theorem turned_apply (t : Fin 8) (y : Vec Ideal S1x16x128 .f32) (b : Fin 16) (m : Fin 128) :
    turned t y (ix2 b m) = y (ix3 0 b ⟨(m.val / 16 + 8 - t.val) % 8 * 16 + m.val % 16, by omega⟩) := by
  match t with
  | ⟨0, h0⟩ =>
    show shapeCast S16x128 y shapeCasts_S1x16x128_S16x128 (ix2 b m) = _
    rw [shapeCast_1ab_ab_apply]
    exact congrArg (fun l : Fin 128 => y (ix3 0 b l)) (Fin.ext (by show m.val = (m.val / 16 + 8 - 0) % 8 * 16 + m.val % 16; omega))
  | ⟨t + 1, h⟩ =>
    show dynamicRotate 1 (BitVec.ofNat 32 (16 * (t + 1))) none (shapeCast S16x128 y shapeCasts_S1x16x128_S16x128) rotates_S16x128_d1 (ix2 b m) = _
    refine Eq.trans ?_ (shapeCast_1ab_ab_apply y shapeCasts_S1x16x128_S16x128 b _)
    unfold dynamicRotate
    refine congrArg (shapeCast S16x128 y shapeCasts_S1x16x128_S16x128) ?_
    funext a
    apply Fin.ext
    match a with
    | ⟨0, _⟩ => rfl
    | ⟨1, _⟩ =>
      show (m.val + 128 - ((16 * (t + 1)) % 2 ^ 32 + 0) % 128) % 128 = (m.val / 16 + 8 - (t + 1)) % 8 * 16 + m.val % 16
      have : t < 7 := by omega
      omega

section
variable (arg1 : Memref sig .tc .vmem S16x128x1024 .f32) (harg1 : arg1.IsWhole) (arg2 : Memref sig .tc .vmem S1x1024 .f32) (harg2 : arg2.IsWhole)
  (arg3 : Memref sig .tc .vmem S1024x2304 .bf16) (harg3 : arg3.IsWhole)
  (x0 : Vec Ideal S16x128x1024 .f32) (x1 : Vec Ideal S1x1024 .f32) (x2 : Vec Ideal S1024x2304 .bf16) (st : Fin 8)

/-- What the scratch of a sub-tile holds at a row of lanes, a row and a lane. -/
def scratchVal (y : S4x256x128.Idx) : EReal :=
  blockCol x0 x1 x2 ⟨(y 1).val / 16, by have : (y 1).val < 256 := (y 1).isLt; omega⟩ ⟨st.val * 16 + (y 1).val % 16, by omega⟩
    ⟨1280 + ((y 0).val * 128 + (y 2).val), by have : (y 0).val < 4 := (y 0).isLt; have : (y 2).val < 128 := (y 2).isLt; omega⟩

theorem uStore_apply (v : Fin 4) (j) : ((uStore arg1 harg1 arg2 harg2 arg3 harg3 x0 x1 x2 st v).2 j : EReal)
    = scratchVal x0 x1 x2 st ((uStore arg1 harg1 arg2 harg2 arg3 harg3 x0 x1 x2 st v).1.emb j) := by
  obtain ⟨u, r, l, rfl⟩ : ∃ (u : Fin 1) (r : Fin 256) (l : Fin 128), j = ix3 u r l := ⟨j 0, j 1, j 2, by
    funext a; match a with | ⟨0, _⟩ => rfl | ⟨1, _⟩ => rfl | ⟨2, _⟩ => rfl⟩
  obtain rfl : u = 0 := Subsingleton.elim _ _
  have e : (uStore arg1 harg1 arg2 harg2 arg3 harg3 x0 x1 x2 st v).1.emb (ix3 0 r l) = ix3 v r l := by
    funext a
    apply Fin.ext
    match a with
    | ⟨0, _⟩ => show v.val + 1 * 0 = v.val; omega
    | ⟨1, _⟩ => show 0 + 1 * r.val = r.val; omega
    | ⟨2, _⟩ => show 0 + 1 * l.val = l.val; omega
  rw [e]
  refine (shapeCast_ab_1ab_apply (part (uzAt arg1 harg1 arg2 harg2 arg3 harg3 x0 x1 x2 st) v) shapeCasts_S256x128_S1x256x128 0 r l).trans ?_
  rw [part_apply]
  have er : r = (⟨(⟨r.val / 16, by omega⟩ : Fin 16).val * 16 + (⟨r.val % 16, by omega⟩ : Fin 16).val, by omega⟩ : Fin 256) :=
    Fin.ext (by show r.val = r.val / 16 * 16 + r.val % 16; omega)
  refine Eq.trans ?_ (uzAt_apply arg1 harg1 arg2 harg2 arg3 harg3 x0 x1 x2 st ⟨r.val / 16, by omega⟩ ⟨r.val % 16, by omega⟩ ⟨v.val * 128 + l.val, by omega⟩)
  exact congrArg (fun r' : Fin 256 => uzAt arg1 harg1 arg2 harg2 arg3 harg3 x0 x1 x2 st (ix2 r' ⟨v.val * 128 + l.val, by omega⟩)) er

theorem uStores_agree : ∀ p ∈ uStores arg1 harg1 arg2 harg2 arg3 harg3 x0 x1 x2 st, ∀ y, p.2 y = scratchVal x0 x1 x2 st (p.1.emb y) := by
  unfold uStores
  refine List.forall_mem_cons.mpr ⟨fun y => uStore_apply arg1 harg1 arg2 harg2 arg3 harg3 x0 x1 x2 st 3 y, ?_⟩
  refine List.forall_mem_cons.mpr ⟨fun y => uStore_apply arg1 harg1 arg2 harg2 arg3 harg3 x0 x1 x2 st 2 y, ?_⟩
  refine List.forall_mem_cons.mpr ⟨fun y => uStore_apply arg1 harg1 arg2 harg2 arg3 harg3 x0 x1 x2 st 1 y, ?_⟩
  exact List.forall_mem_cons.mpr ⟨fun y => uStore_apply arg1 harg1 arg2 harg2 arg3 harg3 x0 x1 x2 st 0 y, by simp⟩

theorem uStores_cover (y : S4x256x128.Idx) : ∃ p ∈ uStores arg1 harg1 arg2 harg2 arg3 harg3 x0 x1 x2 st, y ∈ p.1.set := by
  obtain ⟨v, r, l, rfl⟩ : ∃ (v : Fin 4) (r : Fin 256) (l : Fin 128), y = ix3 v r l := ⟨y 0, y 1, y 2, by
    funext a; match a with | ⟨0, _⟩ => rfl | ⟨1, _⟩ => rfl | ⟨2, _⟩ => rfl⟩
  refine ⟨uStore arg1 harg1 arg2 harg2 arg3 harg3 x0 x1 x2 st v, ?_, ?_⟩
  · unfold uStores
    fin_cases v <;> simp
  · refine (LoadRect.mem_set _).mpr fun a => ?_
    match a with
    | ⟨0, _⟩ => exact ⟨0, by show 0 < 1; omega, by show v.val = v.val + 1 * 0; omega⟩
    | ⟨1, _⟩ => exact ⟨r.val, r.isLt, by show r.val = 0 + 1 * r.val; omega⟩
    | ⟨2, _⟩ => exact ⟨l.val, l.isLt, by show l.val = 0 + 1 * l.val; omega⟩

/-- One token of each batch row, read back. -/
theorem row_apply (N : Memref sig .tc .vmem S4x256x128 .f32) (v : Fin 4) (hf : Fin 2) (t : Fin 8) (b : Fin 16) (l : Fin 128) :
    (row N (uStores arg1 harg1 arg2 harg2 arg3 harg3 x0 x1 x2 st) v hf t (ix3 0 b l) : EReal)
      = blockCol x0 x1 x2 b ⟨st.val * 16 + (hf.val * 8 + t.val), by omega⟩ ⟨1280 + (v.val * 128 + l.val), by omega⟩ := by
  unfold row
  rw [View.readCov_eq_canon']
  refine (Cert.Attn.canon_agrees (scratchVal x0 x1 x2 st) (uStores arg1 harg1 arg2 harg2 arg3 harg3 x0 x1 x2 st) _
    (uStores_agree arg1 harg1 arg2 harg2 arg3 harg3 x0 x1 x2 st) (uStores_cover arg1 harg1 arg2 harg2 arg3 harg3 x0 x1 x2 st _)).trans ?_
  have e : (LoadRect.mk (s := S4x256x128) ![v.val, hf.val * 8 + t.val, 0] S1x16x128.size ![1, 16, 1] (row_fits v hf t)).idx (ix3 0 b l)
      = ix3 v (⟨hf.val * 8 + t.val + 16 * b.val, by omega⟩ : Fin 256) l := by
    funext a
    apply Fin.ext
    match a with
    | ⟨0, _⟩ => show v.val + 1 * 0 = v.val; omega
    | ⟨1, _⟩ => rfl
    | ⟨2, _⟩ => show 0 + 1 * l.val = l.val; omega
  refine (congrArg (scratchVal x0 x1 x2 st) e).trans ?_
  have e1 : (⟨(hf.val * 8 + t.val + 16 * b.val) / 16, by omega⟩ : Fin 16) = b := Fin.ext (by show (hf.val * 8 + t.val + 16 * b.val) / 16 = b.val; omega)
  have e2 : (⟨st.val * 16 + (hf.val * 8 + t.val + 16 * b.val) % 16, by omega⟩ : Fin 128) = ⟨st.val * 16 + (hf.val * 8 + t.val), by omega⟩ :=
    Fin.ext (by show st.val * 16 + (hf.val * 8 + t.val + 16 * b.val) % 16 = st.val * 16 + (hf.val * 8 + t.val); omega)
  exact congrArg₂ (fun (b : Fin 16) (s : Fin 128) => blockCol x0 x1 x2 b s ⟨1280 + (v.val * 128 + l.val), by omega⟩) e1 e2

/-- The scan's input of a block, packed: a group, a chunk, a batch row and a lane. -/
def packed (g : Fin 32) (k : Fin 8) (b : Fin 16) (l : Fin 256) : EReal :=
  blockCol x0 x1 x2 b ⟨k.val * 16 + (l.val / 128 * 8 + (l.val % 128 / 16 + 8 - g.val % 8) % 8), by omega⟩ ⟨1280 + (g.val * 16 + l.val % 16), by omega⟩

/-- The whole block. -/
def packedVal (y : S32x8x16x256.Idx) : EReal := packed x0 x1 x2 (y 0) (y 1) (y 2) (y 3)

theorem packStore_apply (N : Memref sig .tc .vmem S4x256x128 .f32) (v : Fin 4) (hf : Fin 2) (p : Fin 8) (j) :
    ((packStore N (uStores arg1 harg1 arg2 harg2 arg3 harg3 x0 x1 x2 st) st v hf p).2 j : EReal)
      = packedVal x0 x1 x2 ((packStore N (uStores arg1 harg1 arg2 harg2 arg3 harg3 x0 x1 x2 st) st v hf p).1.emb j) := by
  obtain ⟨u, w, b, m, rfl⟩ : ∃ (u w : Fin 1) (b : Fin 16) (m : Fin 128), j = ix4 u w b m := ⟨j 0, j 1, j 2, j 3, by
    funext a; match a with | ⟨0, _⟩ => rfl | ⟨1, _⟩ => rfl | ⟨2, _⟩ => rfl | ⟨3, _⟩ => rfl⟩
  obtain rfl : u = 0 := Subsingleton.elim _ _
  obtain rfl : w = 0 := Subsingleton.elim _ _
  have e : (packStore N (uStores arg1 harg1 arg2 harg2 arg3 harg3 x0 x1 x2 st) st v hf p).1.emb (ix4 0 0 b m)
      = ix4 (⟨v.val * 8 + p.val, by omega⟩ : Fin 32) st b (⟨hf.val * 128 + m.val, by omega⟩ : Fin 256) := by
    funext a
    apply Fin.ext
    match a with
    | ⟨0, _⟩ => show v.val * 8 + p.val + 1 * 0 = v.val * 8 + p.val; omega
    | ⟨1, _⟩ => show st.val + 1 * 0 = st.val; omega
    | ⟨2, _⟩ => show 0 + 1 * b.val = b.val; omega
    | ⟨3, _⟩ => show hf.val * 128 + 1 * m.val = hf.val * 128 + m.val; omega
  rw [e]
  refine (shapeCast_apply (truncf .bf16 (pick p (fun t => turned t (row N (uStores arg1 harg1 arg2 harg2 arg3 harg3 x0 x1 x2 st) v hf t))) bitsLt_bf16_f32)
    shapeCasts_S16x128_S1x1x16x128 (ix4 0 0 b m) (ix2 b m) (by
      rw [Shape.rowMajor_val_four, Shape.rowMajor_val_two]
      show b.val * 128 + m.val = ((0 * 1 + 0) * 16 + b.val) * 128 + m.val
      omega)).trans ?_
  show pick p (fun t => turned t (row N (uStores arg1 harg1 arg2 harg2 arg3 harg3 x0 x1 x2 st) v hf t)) (ix2 b m) = _
  refine (pick_apply p _ b m ⟨(m.val / 16 + 8 - p.val) % 8, by omega⟩ (by
    rw [Fin.val_add]
    show m.val / 16 = ((m.val / 16 + 8 - p.val) % 8 + p.val) % 8
    omega)).trans ?_
  refine (turned_apply _ _ b m).trans ((row_apply arg1 harg1 arg2 harg2 arg3 harg3 x0 x1 x2 st N v hf _ b _).trans ?_)
  show blockCol x0 x1 x2 b _ _ = blockCol x0 x1 x2 b _ _
  refine congrArg₂ (fun (s : Fin 128) (j : Fin 2304) => blockCol x0 x1 x2 b s j) (Fin.ext ?_) (Fin.ext ?_)
  · show st.val * 16 + (hf.val * 8 + (m.val / 16 + 8 - p.val) % 8)
      = st.val * 16 + ((hf.val * 128 + m.val) / 128 * 8 + ((hf.val * 128 + m.val) % 128 / 16 + 8 - (v.val * 8 + p.val) % 8) % 8)
    have e1 : (hf.val * 128 + m.val) / 128 = hf.val := by omega
    have e2 : (hf.val * 128 + m.val) % 128 = m.val := by omega
    have e3 : (v.val * 8 + p.val) % 8 = p.val := by omega
    rw [e1, e2, e3]
  · show 1280 + (v.val * 128 + ((m.val / 16 + 8 - (m.val / 16 + 8 - p.val) % 8) % 8 * 16 + m.val % 16))
      = 1280 + ((v.val * 8 + p.val) * 16 + (hf.val * 128 + m.val) % 16)
    have e1 : (m.val / 16 + 8 - (m.val / 16 + 8 - p.val) % 8) % 8 = p.val := by omega
    rw [e1]
    omega

/-! ## All of them -/

theorem half_agrees (N : Memref sig .tc .vmem S4x256x128 .f32) (v : Fin 4) (hf : Fin 2)
    (R : List (View.Piece (Elt Ideal) S32x8x16x256 .bf16)) (hR : ∀ p ∈ R, ∀ y, p.2 y = packedVal x0 x1 x2 (p.1.emb y)) :
    ∀ p ∈ halfStores N (uStores arg1 harg1 arg2 harg2 arg3 harg3 x0 x1 x2 st) st v hf R, ∀ y, p.2 y = packedVal x0 x1 x2 (p.1.emb y) := by
  unfold halfStores
  refine List.forall_mem_cons.mpr ⟨fun y => packStore_apply arg1 harg1 arg2 harg2 arg3 harg3 x0 x1 x2 st N v hf 7 y, ?_⟩
  refine List.forall_mem_cons.mpr ⟨fun y => packStore_apply arg1 harg1 arg2 harg2 arg3 harg3 x0 x1 x2 st N v hf 6 y, ?_⟩
  refine List.forall_mem_cons.mpr ⟨fun y => packStore_apply arg1 harg1 arg2 harg2 arg3 harg3 x0 x1 x2 st N v hf 5 y, ?_⟩
  refine List.forall_mem_cons.mpr ⟨fun y => packStore_apply arg1 harg1 arg2 harg2 arg3 harg3 x0 x1 x2 st N v hf 4 y, ?_⟩
  refine List.forall_mem_cons.mpr ⟨fun y => packStore_apply arg1 harg1 arg2 harg2 arg3 harg3 x0 x1 x2 st N v hf 3 y, ?_⟩
  refine List.forall_mem_cons.mpr ⟨fun y => packStore_apply arg1 harg1 arg2 harg2 arg3 harg3 x0 x1 x2 st N v hf 2 y, ?_⟩
  refine List.forall_mem_cons.mpr ⟨fun y => packStore_apply arg1 harg1 arg2 harg2 arg3 harg3 x0 x1 x2 st N v hf 1 y, ?_⟩
  exact List.forall_mem_cons.mpr ⟨fun y => packStore_apply arg1 harg1 arg2 harg2 arg3 harg3 x0 x1 x2 st N v hf 0 y, hR⟩

theorem pack_agrees (N : Memref sig .tc .vmem S4x256x128 .f32)
    (R : List (View.Piece (Elt Ideal) S32x8x16x256 .bf16)) (hR : ∀ p ∈ R, ∀ y, p.2 y = packedVal x0 x1 x2 (p.1.emb y)) :
    ∀ p ∈ packStores N (uStores arg1 harg1 arg2 harg2 arg3 harg3 x0 x1 x2 st) st R, ∀ y, p.2 y = packedVal x0 x1 x2 (p.1.emb y) :=
  have H := half_agrees arg1 harg1 arg2 harg2 arg3 harg3 x0 x1 x2 st N
  H 3 1 _ <| H 3 0 _ <| H 2 1 _ <| H 2 0 _ <| H 1 1 _ <| H 1 0 _ <| H 0 1 _ <| H 0 0 R hR

end

end Cert.Proj

end
-- ==== Proof.ProjBlock.lean ====
module

public import proofs.«01_k».proof.Proof.ProjPieces
public import proofs.«01_k».proof.Proof.ProjPack

/-! What a grid point of the input projection leaves in each of its six outputs. -/

@[expose] public section

noncomputable section

namespace Cert.Proj

open Cert.Kernel3Ideal Cert.Kernel3Ideal.Gen Idealize.ShloMosaic Idealize.ShloMosaic.ValueIdx

variable (c : Dev nD) (i : grid0.Coords) (arg1 : Memref sig .tc .vmem S16x128x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S16x128x512 .bf16) (harg4 : arg4.IsWhole) (arg5 : Memref sig .tc .vmem S16x128x256 .bf16) (harg5 : arg5.IsWhole) (arg6 : Memref sig .tc .vmem S16x128x256 .bf16) (harg6 : arg6.IsWhole) (arg7 : Memref sig .tc .vmem S16x128x512 .bf16) (harg7 : arg7.IsWhole) (arg8 : Memref sig .tc .vmem S32x8x16x256 .bf16) (harg8 : arg8.IsWhole) (arg9 : Memref sig .tc .vmem S16x128x512 .bf16) (harg9 : arg9.IsWhole) (arg10 : Memref sig .tc .vmem S4x256x128 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S4x256x128 .f32) (harg13 : arg13.IsWhole) (arg14 : Memref sig .tc .vmem S4x256x128 .f32) (harg14 : arg14.IsWhole) (arg15 : Memref sig .tc .vmem S4x256x128 .f32) (harg15 : arg15.IsWhole) (arg16 : Memref sig .tc .vmem S4x256x128 .f32) (harg16 : arg16.IsWhole) (arg17 : Memref sig .tc .vmem S4x256x128 .f32) (harg17 : arg17.IsWhole)
  (x0 : Vec Ideal S16x128x1024 .f32) (x1 : Vec Ideal S1x1024 .f32) (x2 : Vec Ideal S1024x2304 .bf16)

theorem out_q (y : S16x128x512.Idx) : (out0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y : EReal) = qVal x0 x1 x2 y := by
  unfold out0_A_3
  rw [View.read_writes_eq_canon _ _ _ (cover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2)]
  have hc := cover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
  rw [pieces_q] at hc ⊢
  refine Cert.Attn.canon_agrees (qVal x0 x1 x2) _ y ?_ hc
  intro q hq
  simp only [List.mem_cons, List.not_mem_nil, or_false] at hq
  rcases hq with rfl | rfl | rfl | rfl | rfl | rfl | rfl | rfl
  · exact qStore_apply arg1 harg1 arg2 harg2 arg3 harg3 x0 x1 x2 7
  · exact qStore_apply arg1 harg1 arg2 harg2 arg3 harg3 x0 x1 x2 6
  · exact qStore_apply arg1 harg1 arg2 harg2 arg3 harg3 x0 x1 x2 5
  · exact qStore_apply arg1 harg1 arg2 harg2 arg3 harg3 x0 x1 x2 4
  · exact qStore_apply arg1 harg1 arg2 harg2 arg3 harg3 x0 x1 x2 3
  · exact qStore_apply arg1 harg1 arg2 harg2 arg3 harg3 x0 x1 x2 2
  · exact qStore_apply arg1 harg1 arg2 harg2 arg3 harg3 x0 x1 x2 1
  · exact qStore_apply arg1 harg1 arg2 harg2 arg3 harg3 x0 x1 x2 0

theorem out_k (y : S16x128x256.Idx) : (out0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y : EReal) = kVal x0 x1 x2 y := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2)]
  have hc := cover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
  rw [pieces_k] at hc ⊢
  refine Cert.Attn.canon_agrees (kVal x0 x1 x2) _ y ?_ hc
  intro q hq
  simp only [List.mem_cons, List.not_mem_nil, or_false] at hq
  rcases hq with rfl | rfl | rfl | rfl | rfl | rfl | rfl | rfl
  · exact kStore_apply arg1 harg1 arg2 harg2 arg3 harg3 x0 x1 x2 7
  · exact kStore_apply arg1 harg1 arg2 harg2 arg3 harg3 x0 x1 x2 6
  · exact kStore_apply arg1 harg1 arg2 harg2 arg3 harg3 x0 x1 x2 5
  · exact kStore_apply arg1 harg1 arg2 harg2 arg3 harg3 x0 x1 x2 4
  · exact kStore_apply arg1 harg1 arg2 harg2 arg3 harg3 x0 x1 x2 3
  · exact kStore_apply arg1 harg1 arg2 harg2 arg3 harg3 x0 x1 x2 2
  · exact kStore_apply arg1 harg1 arg2 harg2 arg3 harg3 x0 x1 x2 1
  · exact kStore_apply arg1 harg1 arg2 harg2 arg3 harg3 x0 x1 x2 0

theorem out_v (y : S16x128x256.Idx) : (out0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y : EReal) = vVal x0 x1 x2 y := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2)]
  have hc := cover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
  rw [pieces_v] at hc ⊢
  refine Cert.Attn.canon_agrees (vVal x0 x1 x2) _ y ?_ hc
  intro q hq
  simp only [List.mem_cons, List.not_mem_nil, or_false] at hq
  rcases hq with rfl | rfl | rfl | rfl | rfl | rfl | rfl | rfl
  · exact vStore_apply arg1 harg1 arg2 harg2 arg3 harg3 x0 x1 x2 7
  · exact vStore_apply arg1 harg1 arg2 harg2 arg3 harg3 x0 x1 x2 6
  · exact vStore_apply arg1 harg1 arg2 harg2 arg3 harg3 x0 x1 x2 5
  · exact vStore_apply arg1 harg1 arg2 harg2 arg3 harg3 x0 x1 x2 4
  · exact vStore_apply arg1 harg1 arg2 harg2 arg3 harg3 x0 x1 x2 3
  · exact vStore_apply arg1 harg1 arg2 harg2 arg3 harg3 x0 x1 x2 2
  · exact vStore_apply arg1 harg1 arg2 harg2 arg3 harg3 x0 x1 x2 1
  · exact vStore_apply arg1 harg1 arg2 harg2 arg3 harg3 x0 x1 x2 0

theorem out_za (y : S16x128x512.Idx) : (out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y : EReal) = zaVal x0 x1 x2 y := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2)]
  have hc := cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
  rw [pieces_za] at hc ⊢
  refine Cert.Attn.canon_agrees (zaVal x0 x1 x2) _ y ?_ hc
  intro q hq
  simp only [List.mem_cons, List.not_mem_nil, or_false] at hq
  rcases hq with rfl | rfl | rfl | rfl | rfl | rfl | rfl | rfl
  · exact zaStore_apply arg1 harg1 arg2 harg2 arg3 harg3 x0 x1 x2 7
  · exact zaStore_apply arg1 harg1 arg2 harg2 arg3 harg3 x0 x1 x2 6
  · exact zaStore_apply arg1 harg1 arg2 harg2 arg3 harg3 x0 x1 x2 5
  · exact zaStore_apply arg1 harg1 arg2 harg2 arg3 harg3 x0 x1 x2 4
  · exact zaStore_apply arg1 harg1 arg2 harg2 arg3 harg3 x0 x1 x2 3
  · exact zaStore_apply arg1 harg1 arg2 harg2 arg3 harg3 x0 x1 x2 2
  · exact zaStore_apply arg1 harg1 arg2 harg2 arg3 harg3 x0 x1 x2 1
  · exact zaStore_apply arg1 harg1 arg2 harg2 arg3 harg3 x0 x1 x2 0

theorem out_u (y : S32x8x16x256.Idx) : (out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y : EReal) = packedVal x0 x1 x2 y := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2)]
  have hc := cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
  rw [pieces_u] at hc ⊢
  refine Cert.Attn.canon_agrees (packedVal x0 x1 x2) _ y ?_ hc
  have H := fun st N => pack_agrees arg1 harg1 arg2 harg2 arg3 harg3 x0 x1 x2 st N
  exact H 7 arg17 _ <| H 6 arg16 _ <| H 5 arg15 _ <| H 4 arg14 _ <| H 3 arg13 _ <| H 2 arg12 _ <| H 1 arg11 _ <| H 0 arg10 [] (by simp)

theorem out_zs (y : S16x128x512.Idx) : (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y : EReal) = zsVal x0 x1 x2 y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2)]
  have hc := cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
  rw [pieces_zs] at hc ⊢
  refine Cert.Attn.canon_agrees (zsVal x0 x1 x2) _ y ?_ hc
  intro q hq
  simp only [List.mem_cons, List.not_mem_nil, or_false] at hq
  rcases hq with rfl | rfl | rfl | rfl | rfl | rfl | rfl | rfl
  · exact zsStore_apply arg1 harg1 arg2 harg2 arg3 harg3 x0 x1 x2 7
  · exact zsStore_apply arg1 harg1 arg2 harg2 arg3 harg3 x0 x1 x2 6
  · exact zsStore_apply arg1 harg1 arg2 harg2 arg3 harg3 x0 x1 x2 5
  · exact zsStore_apply arg1 harg1 arg2 harg2 arg3 harg3 x0 x1 x2 4
  · exact zsStore_apply arg1 harg1 arg2 harg2 arg3 harg3 x0 x1 x2 3
  · exact zsStore_apply arg1 harg1 arg2 harg2 arg3 harg3 x0 x1 x2 2
  · exact zsStore_apply arg1 harg1 arg2 harg2 arg3 harg3 x0 x1 x2 1
  · exact zsStore_apply arg1 harg1 arg2 harg2 arg3 harg3 x0 x1 x2 0

end Cert.Proj

end
-- ==== Proof.ProjLaunch.lean ====
module

public import proofs.«01_k».proof.Proof.ProjBlock

/-! What the input projection's launch leaves in its six results, at every index. -/

@[expose] public section

noncomputable section

namespace Cert.Proj

open Cert.Kernel3Ideal Cert.Kernel3Ideal.Gen Idealize.ShloMosaic Idealize.ShloMosaic.ValueIdx
open scoped BigOperators

/-- A token's column of the arguments. -/
def colOf (x : Vec Ideal S16x2048x1024 .f32) (g : Vec Ideal S1024 .f32) (w : Vec Ideal S1024x4352 .f32) (b : Fin 16) (t : Fin 2048) (j : Fin 2304) : EReal :=
  col (fun d => x (ix3 b t d)) (fun d => g (ix1 d)) (fun k j => w (ix2 k ⟨j.val, by omega⟩)) j

theorem shapeCast_n_1n {n : ℕ} {α : Type} (x : (⟨1, ![n]⟩ : Shape).Idx → α) (h : (⟨1, ![n]⟩ : Shape).ShapeCasts ⟨2, ![1, n]⟩) (d : Fin n) :
    shapeCast ⟨2, ![1, n]⟩ x h (ix2 0 d) = x (ix1 d) :=
  shapeCast_apply x h _ _ (by
    rw [Shape.rowMajor_val_two, Shape.rowMajor_val_one]
    show d.val = 0 * n + d.val
    omega)

section
variable (m : (ℓ : Loc nD τ sig) → Buf (Elt Ideal) ℓ) (c : Dev nD)

theorem idx_in : ∀ t : Fin cfg0.N, (win0_0.index t (0 : Fin 3) = 0 ∧ win0_0.index t (1 : Fin 3) = t.val ∧ win0_0.index t (2 : Fin 3) = 0)
    ∧ (∀ a, win0_1.index t a = 0) ∧ (∀ a, win0_2.index t a = 0) :=
  (by decide +kernel : ∀ t : Fin grid0.N, _)

theorem idx_out : ∀ t : Fin cfg0.N,
    (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_8.index t (0 : Fin 3) = 0 ∧ win0_8.index t (1 : Fin 3) = t.val ∧ win0_8.index t (2 : Fin 3) = 0)
    ∧ win0_7.index t (0 : Fin 4) = 0 ∧ win0_7.index t (1 : Fin 4) = t.val ∧ win0_7.index t (2 : Fin 4) = 0 ∧ win0_7.index t (3 : Fin 4) = 0 :=
  (by decide +kernel : ∀ t : Fin grid0.N, _)

theorem points (t : Fin cfg0.N) : t.val < 16 := lt_of_lt_of_eq t.isLt N_0

theorem x_block (t : Fin cfg0.N) (p : Fin 16) (s : Fin 128) (l : Fin 1024) :
    iblk m c 0 t (ix3 p s l) = m ((c.tc : Thread nD τ).loc main_arg0) (ix3 p ⟨t.val * 128 + s.val, by have := points t; omega⟩ l) := by
  rw [← V_main_arg0 m c]
  show V m c main_arg0 (((cfg0.win 0).blk t).view.emb (ix3 p s l)) = _
  congr 1
  funext a
  apply Fin.ext
  obtain ⟨h0, h1, h2⟩ := (idx_in t).1
  match a with
  | ⟨0, _⟩ => show win0_0.index t (0 : Fin 3) * 16 + 1 * p.val = p.val; omega
  | ⟨1, _⟩ => show win0_0.index t (1 : Fin 3) * 128 + 1 * s.val = t.val * 128 + s.val; omega
  | ⟨2, _⟩ => show win0_0.index t (2 : Fin 3) * 1024 + 1 * l.val = l.val; omega

theorem gain_block (t : Fin cfg0.N) (d : Fin 1024) : iblk m c 1 t (ix2 0 d) = m ((c.tc : Thread nD τ).loc main_arg1) (ix1 d) := by
  have e : V m c main_v0 = shapeCast S1x1024 (m ((c.tc : Thread nD τ).loc main_arg1) : Vec Ideal S1024 .f32) shapeCasts_S1024_S1x1024 := by rfl
  have h : iblk m c 1 t (ix2 0 d) = V m c main_v0 (ix2 0 d) := by
    show V m c main_v0 (((cfg0.win 1).blk t).view.emb (ix2 0 d)) = _
    congr 1
    funext a
    apply Fin.ext
    have h := (idx_in t).2.1
    match a with
    | ⟨0, _⟩ => show win0_1.index t (0 : Fin 2) * 1 + 1 * 0 = 0; have := h 0; omega
    | ⟨1, _⟩ => show win0_1.index t (1 : Fin 2) * 1024 + 1 * d.val = d.val; have := h 1; omega
  rw [h, e]
  exact shapeCast_n_1n _ _ d

theorem w_block (t : Fin cfg0.N) (k : Fin 1024) (j : Fin 2304) :
    (X0_2 m c t (ix2 k j) : EReal) = m ((c.tc : Thread nD τ).loc main_arg2) (ix2 k ⟨j.val, by omega⟩) := by
  have e : V m c main_v1 = (truncf .bf16 (m ((c.tc : Thread nD τ).loc main_arg2) : Vec Ideal S1024x4352 .f32) bitsLt_bf16_f32 : FVec Ideal S1024x4352 .bf16) := by rfl
  have h : X0_2 m c t (ix2 k j) = V m c main_v1 (ix2 k ⟨j.val, by omega⟩) := by
    unfold X0_2 Pipeline.Window.fill
    rw [dif_pos (moved0_2 t (ix2 k j))]
    show V m c main_v1 (((cfg0.win 2).blk t).view.emb _) = _
    refine congrArg (V m c main_v1) ?_
    funext a
    apply Fin.ext
    have h := (idx_in t).2.2
    match a with
    | ⟨0, _⟩ => show win0_2.index t (0 : Fin 2) * 1024 + 1 * k.val = k.val; have := h 0; omega
    | ⟨1, _⟩ => show win0_2.index t (1 : Fin 2) * 2304 + 1 * j.val = j.val; have := h 1; omega
  rw [h, e]
  rfl

theorem col_block (t : Fin cfg0.N) (p : Fin 16) (s : Fin 128) (j : Fin 2304) :
    blockCol (iblk m c 0 t) (iblk m c 1 t) (X0_2 m c t) p s j
      = colOf (m ((c.tc : Thread nD τ).loc main_arg0)) (m ((c.tc : Thread nD τ).loc main_arg1)) (m ((c.tc : Thread nD τ).loc main_arg2)) p ⟨t.val * 128 + s.val, by have := points t; omega⟩ j := by
  unfold blockCol colOf
  have h0 : (fun d => iblk m c 0 t (ix3 p s d)) = fun d => m ((c.tc : Thread nD τ).loc main_arg0) (ix3 p ⟨t.val * 128 + s.val, by have := points t; omega⟩ d) := funext fun d => x_block m c t p s d
  have h1 : (fun d => iblk m c 1 t (ix2 0 d)) = fun d => m ((c.tc : Thread nD τ).loc main_arg1) (ix1 d) := funext fun d => gain_block m c t d
  have h2 : (fun k j => X0_2 m c t (ix2 k j)) = fun k (j : Fin 2304) => m ((c.tc : Thread nD τ).loc main_arg2) (ix2 k ⟨j.val, by omega⟩) := funext fun k => funext fun j => w_block m c t k j
  rw [h0, h1, h2]

theorem result_q (b : Fin 16) (t : Fin 2048) (e : Fin 512) : ((dats m 0 c).arrAt 3 cfg0.N (ix3 b t e) : EReal)
    = colOf (m ((c.tc : Thread nD τ).loc main_arg0)) (m ((c.tc : Thread nD τ).loc main_arg1)) (m ((c.tc : Thread nD τ).loc main_arg2)) b t ⟨e.val, by omega⟩ * Ideal.ofBits .f32 0x3E38AA3B#32 := by
  have hN : t.val / 128 < cfg0.N := by have h := N_0; have : cfg0.N = 16 := h; omega
  have h := congrFun (Value.blocks3 m c ⟨t.val / 128, hN⟩ (flush0_3 _)) (ix3 b ⟨t.val % 128, by omega⟩ e)
  have he : ((cfg0.win 3).blk ⟨t.val / 128, hN⟩).view.emb (ix3 b (⟨t.val % 128, by omega⟩ : Fin 128) e) = ix3 b t e := by
    funext a
    apply Fin.ext
    obtain ⟨h0, h1, h2⟩ := (idx_out ⟨t.val / 128, hN⟩).1
    match a with
    | ⟨0, _⟩ => show win0_3.index ⟨t.val / 128, hN⟩ (0 : Fin 3) * 16 + 1 * b.val = b.val; omega
    | ⟨1, _⟩ => show win0_3.index ⟨t.val / 128, hN⟩ (1 : Fin 3) * 128 + 1 * (t.val % 128) = t.val; simp only at h1; omega
    | ⟨2, _⟩ => show win0_3.index ⟨t.val / 128, hN⟩ (2 : Fin 3) * 512 + 1 * e.val = e.val; omega
  refine (congrArg ((dats m 0 c).arrAt 3 cfg0.N) he).symm.trans (h.trans ?_)
  rw [Value.flushed3_A]
  refine (out_q c _ _ _ _ _ _ _ _ _ _ _ _ _ _ _ _ _ _ _ _ _ _ _ _ _ _ _ _ _ _ _ _ _ _ _ _ _ _ (ix3 b ⟨t.val % 128, by omega⟩ e)).trans ?_
  unfold qVal
  refine congrArg (fun z : EReal => z * Ideal.ofBits .f32 0x3E38AA3B#32) ((col_block m c ⟨t.val / 128, hN⟩ b ⟨t.val % 128, by omega⟩ _).trans ?_)
  exact congrArg (fun t : Fin 2048 => colOf (m ((c.tc : Thread nD τ).loc main_arg0)) (m ((c.tc : Thread nD τ).loc main_arg1)) (m ((c.tc : Thread nD τ).loc main_arg2)) b t _) (Fin.ext (by show t.val / 128 * 128 + t.val % 128 = t.val; omega))

theorem result_k (b : Fin 16) (t : Fin 2048) (e : Fin 256) : ((dats m 0 c).arrAt 4 cfg0.N (ix3 b t e) : EReal)
    = colOf (m ((c.tc : Thread nD τ).loc main_arg0)) (m ((c.tc : Thread nD τ).loc main_arg1)) (m ((c.tc : Thread nD τ).loc main_arg2)) b t ⟨512 + (exch e).val, by omega⟩ := by
  have hN : t.val / 128 < cfg0.N := by have h := N_0; have : cfg0.N = 16 := h; omega
  have h := congrFun (Value.blocks4 m c ⟨t.val / 128, hN⟩ (flush0_4 _)) (ix3 b ⟨t.val % 128, by omega⟩ e)
  have he : ((cfg0.win 4).blk ⟨t.val / 128, hN⟩).view.emb (ix3 b (⟨t.val % 128, by omega⟩ : Fin 128) e) = ix3 b t e := by
    funext a
    apply Fin.ext
    obtain ⟨h0, h1, h2⟩ := (idx_out ⟨t.val / 128, hN⟩).2.1
    match a with
    | ⟨0, _⟩ => show win0_4.index ⟨t.val / 128, hN⟩ (0 : Fin 3) * 16 + 1 * b.val = b.val; omega
    | ⟨1, _⟩ => show win0_4.index ⟨t.val / 128, hN⟩ (1 : Fin 3) * 128 + 1 * (t.val % 128) = t.val; simp only at h1; omega
    | ⟨2, _⟩ => show win0_4.index ⟨t.val / 128, hN⟩ (2 : Fin 3) * 256 + 1 * e.val = e.val; omega
  refine (congrArg ((dats m 0 c).arrAt 4 cfg0.N) he).symm.trans (h.trans ?_)
  rw [Value.flushed4_A]
  refine (out_k c _ _ _ _ _ _ _ _ _ _ _ _ _ _ _ _ _ _ _ _ _ _ _ _ _ _ _ _ _ _ _ _ _ _ _ _ _ _ (ix3 b ⟨t.val % 128, by omega⟩ e)).trans ?_
  unfold kVal
  refine (col_block m c ⟨t.val / 128, hN⟩ b ⟨t.val % 128, by omega⟩ _).trans ?_
  exact congrArg (fun t : Fin 2048 => colOf (m ((c.tc : Thread nD τ).loc main_arg0)) (m ((c.tc : Thread nD τ).loc main_arg1)) (m ((c.tc : Thread nD τ).loc main_arg2)) b t _) (Fin.ext (by show t.val / 128 * 128 + t.val % 128 = t.val; omega))

theorem result_v (b : Fin 16) (t : Fin 2048) (e : Fin 256) : ((dats m 0 c).arrAt 5 cfg0.N (ix3 b t e) : EReal)
    = colOf (m ((c.tc : Thread nD τ).loc main_arg0)) (m ((c.tc : Thread nD τ).loc main_arg1)) (m ((c.tc : Thread nD τ).loc main_arg2)) b t ⟨640 + (exch e).val, by omega⟩ := by
  have hN : t.val / 128 < cfg0.N := by have h := N_0; have : cfg0.N = 16 := h; omega
  have h := congrFun (Value.blocks5 m c ⟨t.val / 128, hN⟩ (flush0_5 _)) (ix3 b ⟨t.val % 128, by omega⟩ e)
  have he : ((cfg0.win 5).blk ⟨t.val / 128, hN⟩).view.emb (ix3 b (⟨t.val % 128, by omega⟩ : Fin 128) e) = ix3 b t e := by
    funext a
    apply Fin.ext
    obtain ⟨h0, h1, h2⟩ := (idx_out ⟨t.val / 128, hN⟩).2.2.1
    match a with
    | ⟨0, _⟩ => show win0_5.index ⟨t.val / 128, hN⟩ (0 : Fin 3) * 16 + 1 * b.val = b.val; omega
    | ⟨1, _⟩ => show win0_5.index ⟨t.val / 128, hN⟩ (1 : Fin 3) * 128 + 1 * (t.val % 128) = t.val; simp only at h1; omega
    | ⟨2, _⟩ => show win0_5.index ⟨t.val / 128, hN⟩ (2 : Fin 3) * 256 + 1 * e.val = e.val; omega
  refine (congrArg ((dats m 0 c).arrAt 5 cfg0.N) he).symm.trans (h.trans ?_)
  rw [Value.flushed5_A]
  refine (out_v c _ _ _ _ _ _ _ _ _ _ _ _ _ _ _ _ _ _ _ _ _ _ _ _ _ _ _ _ _ _ _ _ _ _ _ _ _ _ (ix3 b ⟨t.val % 128, by omega⟩ e)).trans ?_
  unfold vVal
  refine (col_block m c ⟨t.val / 128, hN⟩ b ⟨t.val % 128, by omega⟩ _).trans ?_
  exact congrArg (fun t : Fin 2048 => colOf (m ((c.tc : Thread nD τ).loc main_arg0)) (m ((c.tc : Thread nD τ).loc main_arg1)) (m ((c.tc : Thread nD τ).loc main_arg2)) b t _) (Fin.ext (by show t.val / 128 * 128 + t.val % 128 = t.val; omega))

theorem result_za (b : Fin 16) (t : Fin 2048) (e : Fin 512) : ((dats m 0 c).arrAt 6 cfg0.N (ix3 b t e) : EReal)
    = silu (colOf (m ((c.tc : Thread nD τ).loc main_arg0)) (m ((c.tc : Thread nD τ).loc main_arg1)) (m ((c.tc : Thread nD τ).loc main_arg2)) b t ⟨768 + e.val, by omega⟩) := by
  have hN : t.val / 128 < cfg0.N := by have h := N_0; have : cfg0.N = 16 := h; omega
  have h := congrFun (Value.blocks6 m c ⟨t.val / 128, hN⟩ (flush0_6 _)) (ix3 b ⟨t.val % 128, by omega⟩ e)
  have he : ((cfg0.win 6).blk ⟨t.val / 128, hN⟩).view.emb (ix3 b (⟨t.val % 128, by omega⟩ : Fin 128) e) = ix3 b t e := by
    funext a
    apply Fin.ext
    obtain ⟨h0, h1, h2⟩ := (idx_out ⟨t.val / 128, hN⟩).2.2.2.1
    match a with
    | ⟨0, _⟩ => show win0_6.index ⟨t.val / 128, hN⟩ (0 : Fin 3) * 16 + 1 * b.val = b.val; omega
    | ⟨1, _⟩ => show win0_6.index ⟨t.val / 128, hN⟩ (1 : Fin 3) * 128 + 1 * (t.val % 128) = t.val; simp only at h1; omega
    | ⟨2, _⟩ => show win0_6.index ⟨t.val / 128, hN⟩ (2 : Fin 3) * 512 + 1 * e.val = e.val; omega
  refine (congrArg ((dats m 0 c).arrAt 6 cfg0.N) he).symm.trans (h.trans ?_)
  rw [Value.flushed6_A]
  refine (out_za c _ _ _ _ _ _ _ _ _ _ _ _ _ _ _ _ _ _ _ _ _ _ _ _ _ _ _ _ _ _ _ _ _ _ _ _ _ _ (ix3 b ⟨t.val % 128, by omega⟩ e)).trans ?_
  unfold zaVal
  refine congrArg silu ((col_block m c ⟨t.val / 128, hN⟩ b ⟨t.val % 128, by omega⟩ _).trans ?_)
  exact congrArg (fun t : Fin 2048 => colOf (m ((c.tc : Thread nD τ).loc main_arg0)) (m ((c.tc : Thread nD τ).loc main_arg1)) (m ((c.tc : Thread nD τ).loc main_arg2)) b t _) (Fin.ext (by show t.val / 128 * 128 + t.val % 128 = t.val; omega))

theorem result_zs (b : Fin 16) (t : Fin 2048) (e : Fin 512) : ((dats m 0 c).arrAt 8 cfg0.N (ix3 b t e) : EReal)
    = silu (colOf (m ((c.tc : Thread nD τ).loc main_arg0)) (m ((c.tc : Thread nD τ).loc main_arg1)) (m ((c.tc : Thread nD τ).loc main_arg2)) b t ⟨1792 + e.val, by omega⟩) := by
  have hN : t.val / 128 < cfg0.N := by have h := N_0; have : cfg0.N = 16 := h; omega
  have h := congrFun (Value.blocks8 m c ⟨t.val / 128, hN⟩ (flush0_8 _)) (ix3 b ⟨t.val % 128, by omega⟩ e)
  have he : ((cfg0.win 8).blk ⟨t.val / 128, hN⟩).view.emb (ix3 b (⟨t.val % 128, by omega⟩ : Fin 128) e) = ix3 b t e := by
    funext a
    apply Fin.ext
    obtain ⟨h0, h1, h2⟩ := (idx_out ⟨t.val / 128, hN⟩).2.2.2.2.1
    match a with
    | ⟨0, _⟩ => show win0_8.index ⟨t.val / 128, hN⟩ (0 : Fin 3) * 16 + 1 * b.val = b.val; omega
    | ⟨1, _⟩ => show win0_8.index ⟨t.val / 128, hN⟩ (1 : Fin 3) * 128 + 1 * (t.val % 128) = t.val; simp only at h1; omega
    | ⟨2, _⟩ => show win0_8.index ⟨t.val / 128, hN⟩ (2 : Fin 3) * 512 + 1 * e.val = e.val; omega
  refine (congrArg ((dats m 0 c).arrAt 8 cfg0.N) he).symm.trans (h.trans ?_)
  rw [Value.flushed8_A]
  refine (out_zs c _ _ _ _ _ _ _ _ _ _ _ _ _ _ _ _ _ _ _ _ _ _ _ _ _ _ _ _ _ _ _ _ _ _ _ _ _ _ (ix3 b ⟨t.val % 128, by omega⟩ e)).trans ?_
  unfold zsVal
  refine congrArg silu ((col_block m c ⟨t.val / 128, hN⟩ b ⟨t.val % 128, by omega⟩ _).trans ?_)
  exact congrArg (fun t : Fin 2048 => colOf (m ((c.tc : Thread nD τ).loc main_arg0)) (m ((c.tc : Thread nD τ).loc main_arg1)) (m ((c.tc : Thread nD τ).loc main_arg2)) b t _) (Fin.ext (by show t.val / 128 * 128 + t.val % 128 = t.val; omega))

theorem result_u (g : Fin 32) (k : Fin 128) (b : Fin 16) (l : Fin 256) : ((dats m 0 c).arrAt 7 cfg0.N (ix4 g k b l) : EReal)
    = colOf (m ((c.tc : Thread nD τ).loc main_arg0)) (m ((c.tc : Thread nD τ).loc main_arg1)) (m ((c.tc : Thread nD τ).loc main_arg2)) b ⟨k.val * 16 + (l.val / 128 * 8 + (l.val % 128 / 16 + 8 - g.val % 8) % 8), by omega⟩ ⟨1280 + (g.val * 16 + l.val % 16), by omega⟩ := by
  have hN : k.val / 8 < cfg0.N := by have h := N_0; have : cfg0.N = 16 := h; omega
  have h := congrFun (Value.blocks7 m c ⟨k.val / 8, hN⟩ (flush0_7 _)) (ix4 g ⟨k.val % 8, by omega⟩ b l)
  have he : ((cfg0.win 7).blk ⟨k.val / 8, hN⟩).view.emb (ix4 g (⟨k.val % 8, by omega⟩ : Fin 8) b l) = ix4 g k b l := by
    funext a
    apply Fin.ext
    obtain ⟨h0, h1, h2, h3⟩ := (idx_out ⟨k.val / 8, hN⟩).2.2.2.2.2
    match a with
    | ⟨0, _⟩ => show win0_7.index ⟨k.val / 8, hN⟩ (0 : Fin 4) * 32 + 1 * g.val = g.val; omega
    | ⟨1, _⟩ => show win0_7.index ⟨k.val / 8, hN⟩ (1 : Fin 4) * 8 + 1 * (k.val % 8) = k.val; simp only at h1; omega
    | ⟨2, _⟩ => show win0_7.index ⟨k.val / 8, hN⟩ (2 : Fin 4) * 16 + 1 * b.val = b.val; omega
    | ⟨3, _⟩ => show win0_7.index ⟨k.val / 8, hN⟩ (3 : Fin 4) * 256 + 1 * l.val = l.val; omega
  refine (congrArg ((dats m 0 c).arrAt 7 cfg0.N) he).symm.trans (h.trans ?_)
  rw [Value.flushed7_A]
  refine (out_u c _ _ _ _ _ _ _ _ _ _ _ _ _ _ _ _ _ _ _ _ _ _ _ _ _ _ _ _ _ _ _ _ _ _ _ _ _ _ (ix4 g ⟨k.val % 8, by omega⟩ b l)).trans ?_
  unfold packedVal packed
  refine (col_block m c ⟨k.val / 8, hN⟩ b _ _).trans ?_
  exact congrArg (fun t : Fin 2048 => colOf (m ((c.tc : Thread nD τ).loc main_arg0)) (m ((c.tc : Thread nD τ).loc main_arg1)) (m ((c.tc : Thread nD τ).loc main_arg2)) b t _) (Fin.ext (by
    show k.val / 8 * 128 + (k.val % 8 * 16 + (l.val / 128 * 8 + (l.val % 128 / 16 + 8 - g.val % 8) % 8))
      = k.val * 16 + (l.val / 128 * 8 + (l.val % 128 / 16 + 8 - g.val % 8) % 8)
    omega))

end

end Cert.Proj

end
-- ==== Proof.ProjScan.lean ====
module

public import proofs.«01_k».proof.Proof.ProjMath
public import proofs.«01_k».proof.Proof.MergeScan
public import proofs.«01_k».proof.Proof.Gen.Reference3Ideal.Read

/-! The reference's layout of the scan's input, at an index. -/

@[expose] public section

noncomputable section

namespace Cert.Proj

open Cert.Reference3Ideal Cert.Reference3Ideal.Gen Cert.Reference3Ideal.Read Idealize.ShloMosaic Idealize.ShloMosaic.ValueIdx
open Cert.Merge (at7 rowMajor_val_seven turn_apply drop_apply)
open scoped BigOperators

variable (x0 : Vec Ideal S16x2048x1024 .f32) (x1 : Vec Ideal S1024 .f32) (x2 : Vec Ideal S1024x4352 .f32)

/-- The scan's columns cut into chunks, halves, tokens, groups of eight, places and channels, and put in the layout's order. -/
theorem lanes_apply (v : Fin 4) (p : Fin 8) (n : Fin 128) (b : Fin 16) (h : Fin 2) (s : Fin 8) (c : Fin 16) :
    (val_main_v31 (F := Ideal) x0 x1 x2 (at7 v p n b h s c) : EReal)
      = val_main_v19 (F := Ideal) x0 x1 x2 (ix3 b ⟨n.val * 16 + (h.val * 8 + s.val), by omega⟩ ⟨(v.val * 8 + p.val) * 16 + c.val, by omega⟩) := by
  rw [val_main_v31_apply]
  have e : idx_main_v31 (at7 v p n b h s c) = at7 b n h s v p c := by
    funext a; match a with | ⟨0, _⟩ => rfl | ⟨1, _⟩ => rfl | ⟨2, _⟩ => rfl | ⟨3, _⟩ => rfl | ⟨4, _⟩ => rfl | ⟨5, _⟩ => rfl | ⟨6, _⟩ => rfl
  rw [e]
  unfold val_main_v30
  exact shapeCast_apply _ _ _ (ix3 b ⟨n.val * 16 + (h.val * 8 + s.val), by omega⟩ ⟨(v.val * 8 + p.val) * 16 + c.val, by omega⟩) (by
    rw [rowMajor_val_seven, Shape.rowMajor_val_three]
    show (b.val * 2048 + (n.val * 16 + (h.val * 8 + s.val))) * 512 + ((v.val * 8 + p.val) * 16 + c.val)
      = (((((b.val * 128 + n.val) * 2 + h.val) * 8 + s.val) * 4 + v.val) * 8 + p.val) * 16 + c.val
    omega)

theorem plane_0 (v : Fin 4) (n : Fin 128) (b : Fin 16) (h : Fin 2) (s : Fin 8) (c : Fin 16) :
    val_main_v33 (F := Ideal) x0 x1 x2 (ix6 v n b h s c) = val_main_v31 (F := Ideal) x0 x1 x2 (at7 v 0 n b h s c) := by
  unfold val_main_v33
  rw [drop_apply, val_main_v32_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_0 (v : Fin 4) (n : Fin 128) (b : Fin 16) (h : Fin 2) (s : Fin 8) (c : Fin 16) :
    val_main_v34 (F := Ideal) x0 x1 x2 (ix6 v n b h s c) = val_main_v31 (F := Ideal) x0 x1 x2 (at7 v 0 n b h ⟨(0 + s.val) % 8, Nat.mod_lt _ (by omega)⟩ c) := by
  unfold val_main_v34
  refine (turn_apply 8 0 rfl (val_main_v33 (F := Ideal) x0 x1 x2) _ _ ?_ ?_ _ v n b h s c).trans (plane_0 x0 x1 x2 v n b h _ c)
  · intro v n b h s c
    refine (val_main_call1_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => exact (Nat.zero_add _).symm | ⟨5, _⟩ => rfl
  · intro v n b h s c
    refine (val_main_call1_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_0 (v : Fin 4) (n : Fin 128) (b : Fin 16) (h : Fin 2) (s : Fin 8) (c : Fin 16) :
    val_main_v64 (F := Ideal) x0 x1 x2 (at7 v 0 n b h s c) = val_main_v31 (F := Ideal) x0 x1 x2 (at7 v 0 n b h ⟨(0 + s.val) % 8, Nat.mod_lt _ (by omega)⟩ c) := by
  unfold val_main_v64
  refine (concatenate_apply_piece (t := S4x8x128x16x2x8x16) 1 _ _ _ 0 (by simp) S4x1x128x16x2x8x16 (val_main_v56 (F := Ideal) x0 x1 x2) rfl rfl 0 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v56_apply (F := Ideal) x0 x1 x2 _).trans ?_
  refine (congrArg _ ?_).trans (turned_0 x0 x1 x2 v n b h s c)
  funext a; match a with | ⟨0, _⟩ => rfl | ⟨1, _⟩ => rfl | ⟨2, _⟩ => rfl | ⟨3, _⟩ => rfl | ⟨4, _⟩ => rfl | ⟨5, _⟩ => rfl

theorem plane_1 (v : Fin 4) (n : Fin 128) (b : Fin 16) (h : Fin 2) (s : Fin 8) (c : Fin 16) :
    val_main_v36 (F := Ideal) x0 x1 x2 (ix6 v n b h s c) = val_main_v31 (F := Ideal) x0 x1 x2 (at7 v 1 n b h s c) := by
  unfold val_main_v36
  rw [drop_apply, val_main_v35_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_1 (v : Fin 4) (n : Fin 128) (b : Fin 16) (h : Fin 2) (s : Fin 8) (c : Fin 16) :
    val_main_v37 (F := Ideal) x0 x1 x2 (ix6 v n b h s c) = val_main_v31 (F := Ideal) x0 x1 x2 (at7 v 1 n b h ⟨(7 + s.val) % 8, Nat.mod_lt _ (by omega)⟩ c) := by
  unfold val_main_v37
  refine (turn_apply 1 7 rfl (val_main_v36 (F := Ideal) x0 x1 x2) _ _ ?_ ?_ _ v n b h s c).trans (plane_1 x0 x1 x2 v n b h _ c)
  · intro v n b h s c
    refine (val_main_call2_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call2_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_1 (v : Fin 4) (n : Fin 128) (b : Fin 16) (h : Fin 2) (s : Fin 8) (c : Fin 16) :
    val_main_v64 (F := Ideal) x0 x1 x2 (at7 v 1 n b h s c) = val_main_v31 (F := Ideal) x0 x1 x2 (at7 v 1 n b h ⟨(7 + s.val) % 8, Nat.mod_lt _ (by omega)⟩ c) := by
  unfold val_main_v64
  refine (concatenate_apply_piece (t := S4x8x128x16x2x8x16) 1 _ _ _ 1 (by simp) S4x1x128x16x2x8x16 (val_main_v57 (F := Ideal) x0 x1 x2) rfl rfl 1 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v57_apply (F := Ideal) x0 x1 x2 _).trans ?_
  refine (congrArg _ ?_).trans (turned_1 x0 x1 x2 v n b h s c)
  funext a; match a with | ⟨0, _⟩ => rfl | ⟨1, _⟩ => rfl | ⟨2, _⟩ => rfl | ⟨3, _⟩ => rfl | ⟨4, _⟩ => rfl | ⟨5, _⟩ => rfl

theorem plane_2 (v : Fin 4) (n : Fin 128) (b : Fin 16) (h : Fin 2) (s : Fin 8) (c : Fin 16) :
    val_main_v39 (F := Ideal) x0 x1 x2 (ix6 v n b h s c) = val_main_v31 (F := Ideal) x0 x1 x2 (at7 v 2 n b h s c) := by
  unfold val_main_v39
  rw [drop_apply, val_main_v38_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_2 (v : Fin 4) (n : Fin 128) (b : Fin 16) (h : Fin 2) (s : Fin 8) (c : Fin 16) :
    val_main_v40 (F := Ideal) x0 x1 x2 (ix6 v n b h s c) = val_main_v31 (F := Ideal) x0 x1 x2 (at7 v 2 n b h ⟨(6 + s.val) % 8, Nat.mod_lt _ (by omega)⟩ c) := by
  unfold val_main_v40
  refine (turn_apply 2 6 rfl (val_main_v39 (F := Ideal) x0 x1 x2) _ _ ?_ ?_ _ v n b h s c).trans (plane_2 x0 x1 x2 v n b h _ c)
  · intro v n b h s c
    refine (val_main_call3_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call3_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_2 (v : Fin 4) (n : Fin 128) (b : Fin 16) (h : Fin 2) (s : Fin 8) (c : Fin 16) :
    val_main_v64 (F := Ideal) x0 x1 x2 (at7 v 2 n b h s c) = val_main_v31 (F := Ideal) x0 x1 x2 (at7 v 2 n b h ⟨(6 + s.val) % 8, Nat.mod_lt _ (by omega)⟩ c) := by
  unfold val_main_v64
  refine (concatenate_apply_piece (t := S4x8x128x16x2x8x16) 1 _ _ _ 2 (by simp) S4x1x128x16x2x8x16 (val_main_v58 (F := Ideal) x0 x1 x2) rfl rfl 2 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v58_apply (F := Ideal) x0 x1 x2 _).trans ?_
  refine (congrArg _ ?_).trans (turned_2 x0 x1 x2 v n b h s c)
  funext a; match a with | ⟨0, _⟩ => rfl | ⟨1, _⟩ => rfl | ⟨2, _⟩ => rfl | ⟨3, _⟩ => rfl | ⟨4, _⟩ => rfl | ⟨5, _⟩ => rfl

theorem plane_3 (v : Fin 4) (n : Fin 128) (b : Fin 16) (h : Fin 2) (s : Fin 8) (c : Fin 16) :
    val_main_v42 (F := Ideal) x0 x1 x2 (ix6 v n b h s c) = val_main_v31 (F := Ideal) x0 x1 x2 (at7 v 3 n b h s c) := by
  unfold val_main_v42
  rw [drop_apply, val_main_v41_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_3 (v : Fin 4) (n : Fin 128) (b : Fin 16) (h : Fin 2) (s : Fin 8) (c : Fin 16) :
    val_main_v43 (F := Ideal) x0 x1 x2 (ix6 v n b h s c) = val_main_v31 (F := Ideal) x0 x1 x2 (at7 v 3 n b h ⟨(5 + s.val) % 8, Nat.mod_lt _ (by omega)⟩ c) := by
  unfold val_main_v43
  refine (turn_apply 3 5 rfl (val_main_v42 (F := Ideal) x0 x1 x2) _ _ ?_ ?_ _ v n b h s c).trans (plane_3 x0 x1 x2 v n b h _ c)
  · intro v n b h s c
    refine (val_main_call4_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call4_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_3 (v : Fin 4) (n : Fin 128) (b : Fin 16) (h : Fin 2) (s : Fin 8) (c : Fin 16) :
    val_main_v64 (F := Ideal) x0 x1 x2 (at7 v 3 n b h s c) = val_main_v31 (F := Ideal) x0 x1 x2 (at7 v 3 n b h ⟨(5 + s.val) % 8, Nat.mod_lt _ (by omega)⟩ c) := by
  unfold val_main_v64
  refine (concatenate_apply_piece (t := S4x8x128x16x2x8x16) 1 _ _ _ 3 (by simp) S4x1x128x16x2x8x16 (val_main_v59 (F := Ideal) x0 x1 x2) rfl rfl 3 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v59_apply (F := Ideal) x0 x1 x2 _).trans ?_
  refine (congrArg _ ?_).trans (turned_3 x0 x1 x2 v n b h s c)
  funext a; match a with | ⟨0, _⟩ => rfl | ⟨1, _⟩ => rfl | ⟨2, _⟩ => rfl | ⟨3, _⟩ => rfl | ⟨4, _⟩ => rfl | ⟨5, _⟩ => rfl

theorem plane_4 (v : Fin 4) (n : Fin 128) (b : Fin 16) (h : Fin 2) (s : Fin 8) (c : Fin 16) :
    val_main_v45 (F := Ideal) x0 x1 x2 (ix6 v n b h s c) = val_main_v31 (F := Ideal) x0 x1 x2 (at7 v 4 n b h s c) := by
  unfold val_main_v45
  rw [drop_apply, val_main_v44_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_4 (v : Fin 4) (n : Fin 128) (b : Fin 16) (h : Fin 2) (s : Fin 8) (c : Fin 16) :
    val_main_v46 (F := Ideal) x0 x1 x2 (ix6 v n b h s c) = val_main_v31 (F := Ideal) x0 x1 x2 (at7 v 4 n b h ⟨(4 + s.val) % 8, Nat.mod_lt _ (by omega)⟩ c) := by
  unfold val_main_v46
  refine (turn_apply 4 4 rfl (val_main_v45 (F := Ideal) x0 x1 x2) _ _ ?_ ?_ _ v n b h s c).trans (plane_4 x0 x1 x2 v n b h _ c)
  · intro v n b h s c
    refine (val_main_call5_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call5_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_4 (v : Fin 4) (n : Fin 128) (b : Fin 16) (h : Fin 2) (s : Fin 8) (c : Fin 16) :
    val_main_v64 (F := Ideal) x0 x1 x2 (at7 v 4 n b h s c) = val_main_v31 (F := Ideal) x0 x1 x2 (at7 v 4 n b h ⟨(4 + s.val) % 8, Nat.mod_lt _ (by omega)⟩ c) := by
  unfold val_main_v64
  refine (concatenate_apply_piece (t := S4x8x128x16x2x8x16) 1 _ _ _ 4 (by simp) S4x1x128x16x2x8x16 (val_main_v60 (F := Ideal) x0 x1 x2) rfl rfl 4 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v60_apply (F := Ideal) x0 x1 x2 _).trans ?_
  refine (congrArg _ ?_).trans (turned_4 x0 x1 x2 v n b h s c)
  funext a; match a with | ⟨0, _⟩ => rfl | ⟨1, _⟩ => rfl | ⟨2, _⟩ => rfl | ⟨3, _⟩ => rfl | ⟨4, _⟩ => rfl | ⟨5, _⟩ => rfl

theorem plane_5 (v : Fin 4) (n : Fin 128) (b : Fin 16) (h : Fin 2) (s : Fin 8) (c : Fin 16) :
    val_main_v48 (F := Ideal) x0 x1 x2 (ix6 v n b h s c) = val_main_v31 (F := Ideal) x0 x1 x2 (at7 v 5 n b h s c) := by
  unfold val_main_v48
  rw [drop_apply, val_main_v47_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_5 (v : Fin 4) (n : Fin 128) (b : Fin 16) (h : Fin 2) (s : Fin 8) (c : Fin 16) :
    val_main_v49 (F := Ideal) x0 x1 x2 (ix6 v n b h s c) = val_main_v31 (F := Ideal) x0 x1 x2 (at7 v 5 n b h ⟨(3 + s.val) % 8, Nat.mod_lt _ (by omega)⟩ c) := by
  unfold val_main_v49
  refine (turn_apply 5 3 rfl (val_main_v48 (F := Ideal) x0 x1 x2) _ _ ?_ ?_ _ v n b h s c).trans (plane_5 x0 x1 x2 v n b h _ c)
  · intro v n b h s c
    refine (val_main_call6_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call6_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_5 (v : Fin 4) (n : Fin 128) (b : Fin 16) (h : Fin 2) (s : Fin 8) (c : Fin 16) :
    val_main_v64 (F := Ideal) x0 x1 x2 (at7 v 5 n b h s c) = val_main_v31 (F := Ideal) x0 x1 x2 (at7 v 5 n b h ⟨(3 + s.val) % 8, Nat.mod_lt _ (by omega)⟩ c) := by
  unfold val_main_v64
  refine (concatenate_apply_piece (t := S4x8x128x16x2x8x16) 1 _ _ _ 5 (by simp) S4x1x128x16x2x8x16 (val_main_v61 (F := Ideal) x0 x1 x2) rfl rfl 5 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v61_apply (F := Ideal) x0 x1 x2 _).trans ?_
  refine (congrArg _ ?_).trans (turned_5 x0 x1 x2 v n b h s c)
  funext a; match a with | ⟨0, _⟩ => rfl | ⟨1, _⟩ => rfl | ⟨2, _⟩ => rfl | ⟨3, _⟩ => rfl | ⟨4, _⟩ => rfl | ⟨5, _⟩ => rfl

theorem plane_6 (v : Fin 4) (n : Fin 128) (b : Fin 16) (h : Fin 2) (s : Fin 8) (c : Fin 16) :
    val_main_v51 (F := Ideal) x0 x1 x2 (ix6 v n b h s c) = val_main_v31 (F := Ideal) x0 x1 x2 (at7 v 6 n b h s c) := by
  unfold val_main_v51
  rw [drop_apply, val_main_v50_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_6 (v : Fin 4) (n : Fin 128) (b : Fin 16) (h : Fin 2) (s : Fin 8) (c : Fin 16) :
    val_main_v52 (F := Ideal) x0 x1 x2 (ix6 v n b h s c) = val_main_v31 (F := Ideal) x0 x1 x2 (at7 v 6 n b h ⟨(2 + s.val) % 8, Nat.mod_lt _ (by omega)⟩ c) := by
  unfold val_main_v52
  refine (turn_apply 6 2 rfl (val_main_v51 (F := Ideal) x0 x1 x2) _ _ ?_ ?_ _ v n b h s c).trans (plane_6 x0 x1 x2 v n b h _ c)
  · intro v n b h s c
    refine (val_main_call7_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call7_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_6 (v : Fin 4) (n : Fin 128) (b : Fin 16) (h : Fin 2) (s : Fin 8) (c : Fin 16) :
    val_main_v64 (F := Ideal) x0 x1 x2 (at7 v 6 n b h s c) = val_main_v31 (F := Ideal) x0 x1 x2 (at7 v 6 n b h ⟨(2 + s.val) % 8, Nat.mod_lt _ (by omega)⟩ c) := by
  unfold val_main_v64
  refine (concatenate_apply_piece (t := S4x8x128x16x2x8x16) 1 _ _ _ 6 (by simp) S4x1x128x16x2x8x16 (val_main_v62 (F := Ideal) x0 x1 x2) rfl rfl 6 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v62_apply (F := Ideal) x0 x1 x2 _).trans ?_
  refine (congrArg _ ?_).trans (turned_6 x0 x1 x2 v n b h s c)
  funext a; match a with | ⟨0, _⟩ => rfl | ⟨1, _⟩ => rfl | ⟨2, _⟩ => rfl | ⟨3, _⟩ => rfl | ⟨4, _⟩ => rfl | ⟨5, _⟩ => rfl

theorem plane_7 (v : Fin 4) (n : Fin 128) (b : Fin 16) (h : Fin 2) (s : Fin 8) (c : Fin 16) :
    val_main_v54 (F := Ideal) x0 x1 x2 (ix6 v n b h s c) = val_main_v31 (F := Ideal) x0 x1 x2 (at7 v 7 n b h s c) := by
  unfold val_main_v54
  rw [drop_apply, val_main_v53_apply]
  refine congrArg _ ?_
  funext a; match a with | ⟨0, _⟩ => rfl | ⟨1, _⟩ => rfl | ⟨2, _⟩ => rfl | ⟨3, _⟩ => rfl | ⟨4, _⟩ => rfl | ⟨5, _⟩ => rfl | ⟨6, _⟩ => rfl

theorem turned_7 (v : Fin 4) (n : Fin 128) (b : Fin 16) (h : Fin 2) (s : Fin 8) (c : Fin 16) :
    val_main_v55 (F := Ideal) x0 x1 x2 (ix6 v n b h s c) = val_main_v31 (F := Ideal) x0 x1 x2 (at7 v 7 n b h ⟨(1 + s.val) % 8, Nat.mod_lt _ (by omega)⟩ c) := by
  unfold val_main_v55
  refine (turn_apply 7 1 rfl (val_main_v54 (F := Ideal) x0 x1 x2) _ _ ?_ ?_ _ v n b h s c).trans (plane_7 x0 x1 x2 v n b h _ c)
  · intro v n b h s c
    refine (val_main_call8_v0_apply (F := Ideal) x0 x1 x2 _).trans (congrArg _ ?_)
    funext a; apply Fin.ext
    match a with | ⟨0, _⟩ => rfl | ⟨1, _⟩ => rfl | ⟨2, _⟩ => rfl | ⟨3, _⟩ => rfl | ⟨4, _⟩ => rfl | ⟨5, _⟩ => rfl
  · intro v n b h s c
    refine (val_main_call8_v1_apply (F := Ideal) x0 x1 x2 _).trans (congrArg _ ?_)
    funext a; match a with | ⟨0, _⟩ => rfl | ⟨1, _⟩ => rfl | ⟨2, _⟩ => rfl | ⟨3, _⟩ => rfl | ⟨4, _⟩ => rfl | ⟨5, _⟩ => rfl

theorem stacked_7 (v : Fin 4) (n : Fin 128) (b : Fin 16) (h : Fin 2) (s : Fin 8) (c : Fin 16) :
    val_main_v64 (F := Ideal) x0 x1 x2 (at7 v 7 n b h s c) = val_main_v31 (F := Ideal) x0 x1 x2 (at7 v 7 n b h ⟨(1 + s.val) % 8, Nat.mod_lt _ (by omega)⟩ c) := by
  unfold val_main_v64
  refine (concatenate_apply_piece (t := S4x8x128x16x2x8x16) 1 _ _ _ 7 (by simp) S4x1x128x16x2x8x16 (val_main_v63 (F := Ideal) x0 x1 x2) rfl rfl 7 rfl (at7 v 0 n b h s c)
    (fun a ha => match a with
      | ⟨0, _⟩ => rfl | ⟨1, _⟩ => absurd rfl ha | ⟨2, _⟩ => rfl | ⟨3, _⟩ => rfl | ⟨4, _⟩ => rfl | ⟨5, _⟩ => rfl | ⟨6, _⟩ => rfl) rfl).trans ?_
  refine (val_main_v63_apply (F := Ideal) x0 x1 x2 _).trans ?_
  refine (congrArg _ ?_).trans (turned_7 x0 x1 x2 v n b h s c)
  funext a; match a with | ⟨0, _⟩ => rfl | ⟨1, _⟩ => rfl | ⟨2, _⟩ => rfl | ⟨3, _⟩ => rfl | ⟨4, _⟩ => rfl | ⟨5, _⟩ => rfl

/-- The lanes of every place among eight, turned. -/
theorem stacked_apply (v : Fin 4) (p : Fin 8) (n : Fin 128) (b : Fin 16) (h : Fin 2) (s : Fin 8) (c : Fin 16) :
    val_main_v64 (F := Ideal) x0 x1 x2 (at7 v p n b h s c) = val_main_v31 (F := Ideal) x0 x1 x2 (at7 v p n b h ⟨(s.val + 8 - p.val) % 8, Nat.mod_lt _ (by omega)⟩ c) := by
  have e : ∀ (k : ℕ) (p' : Fin 8), (k + s.val) % 8 = (s.val + 8 - p'.val) % 8 →
      val_main_v31 (F := Ideal) x0 x1 x2 (at7 v p' n b h ⟨(k + s.val) % 8, Nat.mod_lt _ (by omega)⟩ c)
        = val_main_v31 (F := Ideal) x0 x1 x2 (at7 v p' n b h ⟨(s.val + 8 - p'.val) % 8, Nat.mod_lt _ (by omega)⟩ c) := fun k p' hk =>
    congrArg (fun z : Fin 8 => val_main_v31 (F := Ideal) x0 x1 x2 (at7 v p' n b h z c)) (Fin.ext hk)
  match p with
  | ⟨0, _⟩ => exact (stacked_0 x0 x1 x2 v n b h s c).trans (e 0 0 (by show (0 + s.val) % 8 = (s.val + 8 - 0) % 8; omega))
  | ⟨1, _⟩ => exact (stacked_1 x0 x1 x2 v n b h s c).trans (e 7 1 (by show (7 + s.val) % 8 = (s.val + 8 - 1) % 8; omega))
  | ⟨2, _⟩ => exact (stacked_2 x0 x1 x2 v n b h s c).trans (e 6 2 (by show (6 + s.val) % 8 = (s.val + 8 - 2) % 8; omega))
  | ⟨3, _⟩ => exact (stacked_3 x0 x1 x2 v n b h s c).trans (e 5 3 (by show (5 + s.val) % 8 = (s.val + 8 - 3) % 8; omega))
  | ⟨4, _⟩ => exact (stacked_4 x0 x1 x2 v n b h s c).trans (e 4 4 (by show (4 + s.val) % 8 = (s.val + 8 - 4) % 8; omega))
  | ⟨5, _⟩ => exact (stacked_5 x0 x1 x2 v n b h s c).trans (e 3 5 (by show (3 + s.val) % 8 = (s.val + 8 - 5) % 8; omega))
  | ⟨6, _⟩ => exact (stacked_6 x0 x1 x2 v n b h s c).trans (e 2 6 (by show (2 + s.val) % 8 = (s.val + 8 - 6) % 8; omega))
  | ⟨7, _⟩ => exact (stacked_7 x0 x1 x2 v n b h s c).trans (e 1 7 (by show (1 + s.val) % 8 = (s.val + 8 - 7) % 8; omega))

/-- The scan's input in its layout. -/
theorem layout_at (g : Fin 32) (k : Fin 128) (b : Fin 16) (l : Fin 256) :
    (val_main_v65 (F := Ideal) x0 x1 x2 (ix4 g k b l) : EReal)
      = val_main_v19 (F := Ideal) x0 x1 x2 (ix3 b ⟨k.val * 16 + (l.val / 128 * 8 + (l.val % 128 / 16 + 8 - g.val % 8) % 8), by omega⟩ ⟨g.val * 16 + l.val % 16, by omega⟩) := by
  unfold val_main_v65
  refine (shapeCast_apply _ _ _ (at7 ⟨g.val / 8, by omega⟩ ⟨g.val % 8, by omega⟩ k b ⟨l.val / 128, by omega⟩ ⟨l.val % 128 / 16, by omega⟩ ⟨l.val % 16, by omega⟩) (by
    rw [rowMajor_val_seven, Shape.rowMajor_val_four]
    show (((((g.val / 8 * 8 + g.val % 8) * 128 + k.val) * 16 + b.val) * 2 + l.val / 128) * 8 + l.val % 128 / 16) * 16 + l.val % 16
      = ((g.val * 128 + k.val) * 16 + b.val) * 256 + l.val
    omega)).trans ?_
  rw [stacked_apply, lanes_apply]
  exact congrArg (fun z : Fin 512 => val_main_v19 (F := Ideal) x0 x1 x2 (ix3 b _ z)) (Fin.ext (by show (g.val / 8 * 8 + g.val % 8) * 16 + l.val % 16 = g.val * 16 + l.val % 16; omega))

end Cert.Proj

end
-- ==== Proof.ProjRef.lean ====
module

public import proofs.«01_k».proof.Proof.ProjScan

/-! The reference's projection is the projected token at every index of its six results. -/

@[expose] public section

noncomputable section

namespace Cert.Proj

open Cert.Reference3Ideal Cert.Reference3Ideal.Gen Cert.Reference3Ideal.Read Idealize.ShloMosaic Idealize.ShloMosaic.ValueIdx
open scoped BigOperators

theorem zero_bits : (Ideal.ofBits .f32 0x00000000#32 : EReal) = 0 := by
  simp [Ideal.ofBits, Ideal.ieee]

section
variable (x0 : Vec Ideal S16x2048x1024 .f32) (x1 : Vec Ideal S1024 .f32) (x2 : Vec Ideal S1024x4352 .f32) (b : Fin 16) (t : Fin 2048)

/-- The norm. -/
theorem ref_norm (d : Fin 1024) :
    (val_main_v12 (F := Ideal) x0 x1 (ix3 b t d) : EReal) = Cert.Merge.nrm (fun d => x0 (ix3 b t d)) (fun d => x1 (ix1 d)) d := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply]
  have hi : ∀ k, idx_main_v1 (idx_main_v2 (idx_main_v8 (ix3 b t d))) k = ix3 b t k := fun k => by
    funext a; match a with | ⟨0, _⟩ => rfl | ⟨1, _⟩ => rfl | ⟨2, _⟩ => rfl
  have hj : idx_main_v10 (idx_main_v11 (ix3 b t d)) = ix1 d := by
    funext a; match a with | ⟨0, _⟩ => rfl
  simp only [hi, hj, val_main_v0_apply, val_main_cst_apply, val_main_cst_0_apply, val_main_cst_1_apply]
  show x0 (ix3 b t d) * Ideal.rsqrt (Ideal.div (Ideal.ofBits .f32 0x00000000#32 + _) _ + _) * _ = _
  rw [zero_bits, zero_add]
  rfl

/-- A token's column. -/
def refCol (j : Fin 2304) : EReal := col (fun d => x0 (ix3 b t d)) (fun d => x1 (ix1 d)) (fun k j => x2 (ix2 k ⟨j.val, by omega⟩)) j

theorem ref_col (j : Fin 2304) : (val_main_v14 (F := Ideal) x0 x1 x2 (ix3 b t j) : EReal) = refCol x0 x1 x2 b t j := by
  rw [val_main_v14_apply]
  unfold refCol col
  refine Finset.sum_congr rfl fun d _ => ?_
  have hl : lidx_main_v14 (ix3 b t j) d = ix3 b t d := by
    funext a; match a with | ⟨0, _⟩ => rfl | ⟨1, _⟩ => rfl | ⟨2, _⟩ => rfl
  have hr : idx_main_v13 (ridx_main_v14 (ix3 b t j) d) = ix2 d ⟨j.val, by omega⟩ := by
    funext a; apply Fin.ext; match a with | ⟨0, _⟩ => rfl | ⟨1, _⟩ => rfl
  rw [hl, ref_norm, val_main_v13_apply, hr]

theorem part_15 (e : Fin 512) : (val_main_v15 (F := Ideal) x0 x1 x2 (ix3 b t e) : EReal) = refCol x0 x1 x2 b t ⟨e.val, by omega⟩ := by
  rw [val_main_v15_apply]
  have hi : idx_main_v15 (ix3 b t e) = ix3 b t ⟨e.val, by omega⟩ := by
    funext a; apply Fin.ext; match a with | ⟨0, _⟩ => rfl | ⟨1, _⟩ => rfl | ⟨2, _⟩ => rfl
  rw [hi, ref_col]

theorem part_16 (e : Fin 128) : (val_main_v16 (F := Ideal) x0 x1 x2 (ix3 b t e) : EReal) = refCol x0 x1 x2 b t ⟨512 + e.val, by omega⟩ := by
  rw [val_main_v16_apply]
  have hi : idx_main_v16 (ix3 b t e) = ix3 b t ⟨512 + e.val, by omega⟩ := by
    funext a; apply Fin.ext; match a with | ⟨0, _⟩ => rfl | ⟨1, _⟩ => rfl | ⟨2, _⟩ => rfl
  rw [hi, ref_col]

theorem part_17 (e : Fin 128) : (val_main_v17 (F := Ideal) x0 x1 x2 (ix3 b t e) : EReal) = refCol x0 x1 x2 b t ⟨640 + e.val, by omega⟩ := by
  rw [val_main_v17_apply]
  have hi : idx_main_v17 (ix3 b t e) = ix3 b t ⟨640 + e.val, by omega⟩ := by
    funext a; apply Fin.ext; match a with | ⟨0, _⟩ => rfl | ⟨1, _⟩ => rfl | ⟨2, _⟩ => rfl
  rw [hi, ref_col]

theorem part_18 (e : Fin 512) : (val_main_v18 (F := Ideal) x0 x1 x2 (ix3 b t e) : EReal) = refCol x0 x1 x2 b t ⟨768 + e.val, by omega⟩ := by
  rw [val_main_v18_apply]
  have hi : idx_main_v18 (ix3 b t e) = ix3 b t ⟨768 + e.val, by omega⟩ := by
    funext a; apply Fin.ext; match a with | ⟨0, _⟩ => rfl | ⟨1, _⟩ => rfl | ⟨2, _⟩ => rfl
  rw [hi, ref_col]

theorem part_19 (e : Fin 512) : (val_main_v19 (F := Ideal) x0 x1 x2 (ix3 b t e) : EReal) = refCol x0 x1 x2 b t ⟨1280 + e.val, by omega⟩ := by
  rw [val_main_v19_apply]
  have hi : idx_main_v19 (ix3 b t e) = ix3 b t ⟨1280 + e.val, by omega⟩ := by
    funext a; apply Fin.ext; match a with | ⟨0, _⟩ => rfl | ⟨1, _⟩ => rfl | ⟨2, _⟩ => rfl
  rw [hi, ref_col]

theorem part_20 (e : Fin 512) : (val_main_v20 (F := Ideal) x0 x1 x2 (ix3 b t e) : EReal) = refCol x0 x1 x2 b t ⟨1792 + e.val, by omega⟩ := by
  rw [val_main_v20_apply]
  have hi : idx_main_v20 (ix3 b t e) = ix3 b t ⟨1792 + e.val, by omega⟩ := by
    funext a; apply Fin.ext; match a with | ⟨0, _⟩ => rfl | ⟨1, _⟩ => rfl | ⟨2, _⟩ => rfl
  rw [hi, ref_col]

/-- The queries. -/
theorem ref_q (e : Fin 512) : (val_main_v67 (F := Ideal) x0 x1 x2 (ix3 b t e) : EReal)
    = refCol x0 x1 x2 b t ⟨e.val, by omega⟩ * Ideal.ofBits .f32 0x3E38AA3B#32 := by
  rw [val_main_v67_apply, val_main_v22_apply, val_main_v21_apply, val_main_cst_2_apply, part_15]
  rfl

/-- A head of them, among the two and the two exchanged. -/
theorem cat_k (e : Fin 256) : (val_main_v25 (F := Ideal) x0 x1 x2 (ix3 b t e) : EReal)
    = val_main_v16 (F := Ideal) x0 x1 x2 (ix3 b t (exch e)) := by
  unfold val_main_v25
  by_cases h0 : e.val < 64
  · refine (concatenate_apply_piece (t := S16x2048x256) 2 _ _ _ 0 (by simp) S16x2048x64 (val_main_v23 (F := Ideal) x0 x1 x2) rfl rfl 0 rfl
      (ix3 b t (⟨e.val - 0, by omega⟩ : Fin 64)) (fun a ha => match a with
        | ⟨0, _⟩ => rfl | ⟨1, _⟩ => rfl | ⟨2, _⟩ => absurd rfl ha) (by show 0 + (e.val - 0) = e.val; omega)).trans ?_
    rw [val_main_v23_apply]
    refine congrArg (val_main_v16 (F := Ideal) x0 x1 x2) ?_
    funext a; apply Fin.ext
    match a with
    | ⟨0, _⟩ => rfl
    | ⟨1, _⟩ => rfl
    | ⟨2, _⟩ =>
      show (e.val - 0) = (exch e).val
      unfold exch
      split <;> dsimp only <;> omega
  by_cases h1 : e.val < 128
  · refine (concatenate_apply_piece (t := S16x2048x256) 2 _ _ _ 1 (by simp) S16x2048x64 (val_main_v24 (F := Ideal) x0 x1 x2) rfl rfl 64 rfl
      (ix3 b t (⟨e.val - 64, by omega⟩ : Fin 64)) (fun a ha => match a with
        | ⟨0, _⟩ => rfl | ⟨1, _⟩ => rfl | ⟨2, _⟩ => absurd rfl ha) (by show 64 + (e.val - 64) = e.val; omega)).trans ?_
    rw [val_main_v24_apply]
    refine congrArg (val_main_v16 (F := Ideal) x0 x1 x2) ?_
    funext a; apply Fin.ext
    match a with
    | ⟨0, _⟩ => rfl
    | ⟨1, _⟩ => rfl
    | ⟨2, _⟩ =>
      show 64 + (e.val - 64) = (exch e).val
      unfold exch
      split <;> dsimp only <;> omega
  by_cases h2 : e.val < 192
  · refine (concatenate_apply_piece (t := S16x2048x256) 2 _ _ _ 2 (by simp) S16x2048x64 (val_main_v24 (F := Ideal) x0 x1 x2) rfl rfl 128 rfl
      (ix3 b t (⟨e.val - 128, by omega⟩ : Fin 64)) (fun a ha => match a with
        | ⟨0, _⟩ => rfl | ⟨1, _⟩ => rfl | ⟨2, _⟩ => absurd rfl ha) (by show 128 + (e.val - 128) = e.val; omega)).trans ?_
    rw [val_main_v24_apply]
    refine congrArg (val_main_v16 (F := Ideal) x0 x1 x2) ?_
    funext a; apply Fin.ext
    match a with
    | ⟨0, _⟩ => rfl
    | ⟨1, _⟩ => rfl
    | ⟨2, _⟩ =>
      show 64 + (e.val - 128) = (exch e).val
      unfold exch
      split <;> dsimp only <;> omega
  · refine (concatenate_apply_piece (t := S16x2048x256) 2 _ _ _ 3 (by simp) S16x2048x64 (val_main_v23 (F := Ideal) x0 x1 x2) rfl rfl 192 rfl
      (ix3 b t (⟨e.val - 192, by omega⟩ : Fin 64)) (fun a ha => match a with
        | ⟨0, _⟩ => rfl | ⟨1, _⟩ => rfl | ⟨2, _⟩ => absurd rfl ha) (by show 192 + (e.val - 192) = e.val; omega)).trans ?_
    rw [val_main_v23_apply]
    refine congrArg (val_main_v16 (F := Ideal) x0 x1 x2) ?_
    funext a; apply Fin.ext
    match a with
    | ⟨0, _⟩ => rfl
    | ⟨1, _⟩ => rfl
    | ⟨2, _⟩ =>
      show (e.val - 192) = (exch e).val
      unfold exch
      split <;> dsimp only <;> omega

theorem ref_k (e : Fin 256) : (val_main_v68 (F := Ideal) x0 x1 x2 (ix3 b t e) : EReal)
    = refCol x0 x1 x2 b t ⟨512 + (exch e).val, by omega⟩ := by
  rw [val_main_v68_apply]
  exact (cat_k x0 x1 x2 b t e).trans (part_16 x0 x1 x2 b t (exch e))

/-- A head of them, among the two and the two exchanged. -/
theorem cat_v (e : Fin 256) : (val_main_v28 (F := Ideal) x0 x1 x2 (ix3 b t e) : EReal)
    = val_main_v17 (F := Ideal) x0 x1 x2 (ix3 b t (exch e)) := by
  unfold val_main_v28
  by_cases h0 : e.val < 64
  · refine (concatenate_apply_piece (t := S16x2048x256) 2 _ _ _ 0 (by simp) S16x2048x64 (val_main_v26 (F := Ideal) x0 x1 x2) rfl rfl 0 rfl
      (ix3 b t (⟨e.val - 0, by omega⟩ : Fin 64)) (fun a ha => match a with
        | ⟨0, _⟩ => rfl | ⟨1, _⟩ => rfl | ⟨2, _⟩ => absurd rfl ha) (by show 0 + (e.val - 0) = e.val; omega)).trans ?_
    rw [val_main_v26_apply]
    refine congrArg (val_main_v17 (F := Ideal) x0 x1 x2) ?_
    funext a; apply Fin.ext
    match a with
    | ⟨0, _⟩ => rfl
    | ⟨1, _⟩ => rfl
    | ⟨2, _⟩ =>
      show (e.val - 0) = (exch e).val
      unfold exch
      split <;> dsimp only <;> omega
  by_cases h1 : e.val < 128
  · refine (concatenate_apply_piece (t := S16x2048x256) 2 _ _ _ 1 (by simp) S16x2048x64 (val_main_v27 (F := Ideal) x0 x1 x2) rfl rfl 64 rfl
      (ix3 b t (⟨e.val - 64, by omega⟩ : Fin 64)) (fun a ha => match a with
        | ⟨0, _⟩ => rfl | ⟨1, _⟩ => rfl | ⟨2, _⟩ => absurd rfl ha) (by show 64 + (e.val - 64) = e.val; omega)).trans ?_
    rw [val_main_v27_apply]
    refine congrArg (val_main_v17 (F := Ideal) x0 x1 x2) ?_
    funext a; apply Fin.ext
    match a with
    | ⟨0, _⟩ => rfl
    | ⟨1, _⟩ => rfl
    | ⟨2, _⟩ =>
      show 64 + (e.val - 64) = (exch e).val
      unfold exch
      split <;> dsimp only <;> omega
  by_cases h2 : e.val < 192
  · refine (concatenate_apply_piece (t := S16x2048x256) 2 _ _ _ 2 (by simp) S16x2048x64 (val_main_v27 (F := Ideal) x0 x1 x2) rfl rfl 128 rfl
      (ix3 b t (⟨e.val - 128, by omega⟩ : Fin 64)) (fun a ha => match a with
        | ⟨0, _⟩ => rfl | ⟨1, _⟩ => rfl | ⟨2, _⟩ => absurd rfl ha) (by show 128 + (e.val - 128) = e.val; omega)).trans ?_
    rw [val_main_v27_apply]
    refine congrArg (val_main_v17 (F := Ideal) x0 x1 x2) ?_
    funext a; apply Fin.ext
    match a with
    | ⟨0, _⟩ => rfl
    | ⟨1, _⟩ => rfl
    | ⟨2, _⟩ =>
      show 64 + (e.val - 128) = (exch e).val
      unfold exch
      split <;> dsimp only <;> omega
  · refine (concatenate_apply_piece (t := S16x2048x256) 2 _ _ _ 3 (by simp) S16x2048x64 (val_main_v26 (F := Ideal) x0 x1 x2) rfl rfl 192 rfl
      (ix3 b t (⟨e.val - 192, by omega⟩ : Fin 64)) (fun a ha => match a with
        | ⟨0, _⟩ => rfl | ⟨1, _⟩ => rfl | ⟨2, _⟩ => absurd rfl ha) (by show 192 + (e.val - 192) = e.val; omega)).trans ?_
    rw [val_main_v26_apply]
    refine congrArg (val_main_v17 (F := Ideal) x0 x1 x2) ?_
    funext a; apply Fin.ext
    match a with
    | ⟨0, _⟩ => rfl
    | ⟨1, _⟩ => rfl
    | ⟨2, _⟩ =>
      show (e.val - 192) = (exch e).val
      unfold exch
      split <;> dsimp only <;> omega

theorem ref_v (e : Fin 256) : (val_main_v69 (F := Ideal) x0 x1 x2 (ix3 b t e) : EReal)
    = refCol x0 x1 x2 b t ⟨640 + (exch e).val, by omega⟩ := by
  rw [val_main_v69_apply]
  exact (cat_v x0 x1 x2 b t e).trans (part_17 x0 x1 x2 b t (exch e))

theorem ref_za (e : Fin 512) : (val_main_v70 (F := Ideal) x0 x1 x2 (ix3 b t e) : EReal)
    = silu (refCol x0 x1 x2 b t ⟨768 + e.val, by omega⟩) := by
  rw [val_main_v70_apply, val_main_v29_apply, val_main_call0_v5_apply, val_main_call0_v4_apply, val_main_call0_v3_apply, val_main_call0_v2_apply, val_main_call0_v1_apply, val_main_call0_v0_apply,
    val_main_call0_cst_apply, val_main_call0_cst_0_apply, part_18]
  show refCol x0 x1 x2 b t _ * Ideal.div (Ideal.ofBits .f32 0x3F800000#32) (Ideal.ofBits .f32 0x3F800000#32 + _) = _
  rw [Cert.Merge.one_ideal]
  rfl

theorem ref_zs (e : Fin 512) : (val_main_v72 (F := Ideal) x0 x1 x2 (ix3 b t e) : EReal)
    = silu (refCol x0 x1 x2 b t ⟨1792 + e.val, by omega⟩) := by
  rw [val_main_v72_apply, val_main_v66_apply, val_main_call9_v5_apply, val_main_call9_v4_apply, val_main_call9_v3_apply, val_main_call9_v2_apply, val_main_call9_v1_apply, val_main_call9_v0_apply,
    val_main_call9_cst_apply, val_main_call9_cst_0_apply, part_20]
  show refCol x0 x1 x2 b t _ * Ideal.div (Ideal.ofBits .f32 0x3F800000#32) (Ideal.ofBits .f32 0x3F800000#32 + _) = _
  rw [Cert.Merge.one_ideal]
  rfl

theorem ref_u (g : Fin 32) (k : Fin 128) (l : Fin 256) : (val_main_v71 (F := Ideal) x0 x1 x2 (ix4 g k b l) : EReal)
    = refCol x0 x1 x2 b ⟨k.val * 16 + (l.val / 128 * 8 + (l.val % 128 / 16 + 8 - g.val % 8) % 8), by omega⟩ ⟨1280 + (g.val * 16 + l.val % 16), by omega⟩ := by
  rw [val_main_v71_apply]
  exact (layout_at x0 x1 x2 g k b l).trans (part_19 x0 x1 x2 b _ _)

end

end Cert.Proj

end
-- ==== Proof.ProjEq.lean ====
module

public import proofs.«01_k».proof.Proof.ProjLaunch
public import proofs.«01_k».proof.Proof.ProjRef

/-! The two projections' six results agree, entry by entry: each is a column of the projected token. -/

@[expose] public section

noncomputable section

namespace Cert.Proj

open Cert.Kernel3Ideal Cert.Kernel3Ideal.Gen Idealize.ShloMosaic Idealize.ShloMosaic.ValueIdx
open scoped BigOperators

variable (m : (ℓ : Loc nD τ sig) → Buf (Elt Ideal) ℓ) (c : Dev nD)

theorem proj_q : Cert.Reference3Ideal.Read.val_main_v67 (F := Ideal) (m ((c.tc : Thread nD τ).loc main_arg0))
      (m ((c.tc : Thread nD τ).loc main_arg1)) (m ((c.tc : Thread nD τ).loc main_arg2)) = (dats m 0 c).arrAt 3 cfg0.N := by
  funext y
  obtain ⟨b, t, e, rfl⟩ : ∃ (b : Fin 16) (t : Fin 2048) (e : Fin 512), y = ix3 b t e := ⟨_, _, _, eq_ix3 y⟩
  exact (ref_q _ _ _ b t e).trans (result_q m c b t e).symm

theorem proj_k : Cert.Reference3Ideal.Read.val_main_v68 (F := Ideal) (m ((c.tc : Thread nD τ).loc main_arg0))
      (m ((c.tc : Thread nD τ).loc main_arg1)) (m ((c.tc : Thread nD τ).loc main_arg2)) = (dats m 0 c).arrAt 4 cfg0.N := by
  funext y
  obtain ⟨b, t, e, rfl⟩ : ∃ (b : Fin 16) (t : Fin 2048) (e : Fin 256), y = ix3 b t e := ⟨_, _, _, eq_ix3 y⟩
  exact (ref_k _ _ _ b t e).trans (result_k m c b t e).symm

theorem proj_v : Cert.Reference3Ideal.Read.val_main_v69 (F := Ideal) (m ((c.tc : Thread nD τ).loc main_arg0))
      (m ((c.tc : Thread nD τ).loc main_arg1)) (m ((c.tc : Thread nD τ).loc main_arg2)) = (dats m 0 c).arrAt 5 cfg0.N := by
  funext y
  obtain ⟨b, t, e, rfl⟩ : ∃ (b : Fin 16) (t : Fin 2048) (e : Fin 256), y = ix3 b t e := ⟨_, _, _, eq_ix3 y⟩
  exact (ref_v _ _ _ b t e).trans (result_v m c b t e).symm

theorem proj_za : Cert.Reference3Ideal.Read.val_main_v70 (F := Ideal) (m ((c.tc : Thread nD τ).loc main_arg0))
      (m ((c.tc : Thread nD τ).loc main_arg1)) (m ((c.tc : Thread nD τ).loc main_arg2)) = (dats m 0 c).arrAt 6 cfg0.N := by
  funext y
  obtain ⟨b, t, e, rfl⟩ : ∃ (b : Fin 16) (t : Fin 2048) (e : Fin 512), y = ix3 b t e := ⟨_, _, _, eq_ix3 y⟩
  exact (ref_za _ _ _ b t e).trans (result_za m c b t e).symm

theorem proj_zs : Cert.Reference3Ideal.Read.val_main_v72 (F := Ideal) (m ((c.tc : Thread nD τ).loc main_arg0))
      (m ((c.tc : Thread nD τ).loc main_arg1)) (m ((c.tc : Thread nD τ).loc main_arg2)) = (dats m 0 c).arrAt 8 cfg0.N := by
  funext y
  obtain ⟨b, t, e, rfl⟩ : ∃ (b : Fin 16) (t : Fin 2048) (e : Fin 512), y = ix3 b t e := ⟨_, _, _, eq_ix3 y⟩
  exact (ref_zs _ _ _ b t e).trans (result_zs m c b t e).symm

theorem proj_u : Cert.Reference3Ideal.Read.val_main_v71 (F := Ideal) (m ((c.tc : Thread nD τ).loc main_arg0))
      (m ((c.tc : Thread nD τ).loc main_arg1)) (m ((c.tc : Thread nD τ).loc main_arg2)) = (dats m 0 c).arrAt 7 cfg0.N := by
  funext y
  obtain ⟨g, k, b, l, rfl⟩ : ∃ (g : Fin 32) (k : Fin 128) (b : Fin 16) (l : Fin 256), y = ix4 g k b l := ⟨_, _, _, _, eq_ix4 y⟩
  exact (ref_u _ _ _ b g k l).trans (result_u m c g k b l).symm

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_logits
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Finite
public import proofs.«01_k».proof.Proof.MergeRef
public import proofs.«01_k».proof.Proof.ProjEq
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_logits := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite_logits := fun m ρ _ => frame_ri m ρ trivial

theorem preserves : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl,
    IdealRules.named_const.statement Cert.KernelIdeal.κ "qscale" .f32 0x3E38AA3B#32 _ rfl⟩

/-- The two programs' results agree, entry by entry: each is the gated softmax mean of its window. -/
theorem result_eq (m : (ℓ : Loc Cert.KernelIdeal.nD Cert.KernelIdeal.τ Cert.KernelIdeal.sig) → Buf (Elt Ideal) ℓ)
    (c : Dev Cert.KernelIdeal.nD) (R : Cert.Attn.Finite4 m c) :
    Cert.ReferenceIdeal.Read.val_main_v114 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Value.G6 m c := by
  funext y
  obtain ⟨b, t, l, rfl⟩ : ∃ (b : Fin 16) (t : Fin 2048) (l : Fin 512), y = ValueIdx.ix3 b t l := ⟨_, _, _, ValueIdx.eq_ix3 y⟩
  exact (Cert.Attn.reference_at _ R _ b t l).trans (Cert.Attn.result_at m c R b t l).symm

theorem algebraic : Cert.algebraic_KernelIdeal_ReferenceIdeal_pre_finite_logits := by
  intro m ρ m' ρ' hpre hagree
  refine ⟨_, Cert.KernelIdeal.Value.run (F := Ideal) m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5⟩ := hagree c
  rw [Cert.ReferenceIdeal.Read.val_main_v114_eq, h0, h1, h2, h3, h4, h5]
  exact result_eq m c (Cert.Attn.real_of_pre (hpre c))

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves2 : Cert.preserves_Kernel2_Kernel2Ideal := trivial

/-- The two merges' results agree, entry by entry: each is the merged token. -/
theorem merge_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v115 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
        (m ((c.tc : Thread Cert.Kernel2Ideal.nD Cert.Kernel2Ideal.τ).loc Cert.Kernel2Ideal.main_arg6))
        (m ((c.tc : Thread Cert.Kernel2Ideal.nD Cert.Kernel2Ideal.τ).loc Cert.Kernel2Ideal.main_arg7))
        (m ((c.tc : Thread Cert.Kernel2Ideal.nD Cert.Kernel2Ideal.τ).loc Cert.Kernel2Ideal.main_arg8))
        (m ((c.tc : Thread Cert.Kernel2Ideal.nD Cert.Kernel2Ideal.τ).loc Cert.Kernel2Ideal.main_arg9))
        (m ((c.tc : Thread Cert.Kernel2Ideal.nD Cert.Kernel2Ideal.τ).loc Cert.Kernel2Ideal.main_arg10))
        (m ((c.tc : Thread Cert.Kernel2Ideal.nD Cert.Kernel2Ideal.τ).loc Cert.Kernel2Ideal.main_arg11))
        (m ((c.tc : Thread Cert.Kernel2Ideal.nD Cert.Kernel2Ideal.τ).loc Cert.Kernel2Ideal.main_arg12))
      = Cert.Kernel2Ideal.Value.G13 m c := by
  funext y
  obtain ⟨b, t, l, rfl⟩ : ∃ (b : Fin 16) (t : Fin 2048) (l : Fin 1024), y = ValueIdx.ix3 b t l := ⟨_, _, _, ValueIdx.eq_ix3 y⟩
  exact (Cert.Merge.ref_at _ _ _ _ _ _ _ _ _ _ _ _ _ b t l).trans (Cert.Merge.result_at m c b t l).symm

theorem algebraic2 : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun r h c => ⟨(h c).1.trans ?_, (h c).2⟩) (Cert.Reference2Ideal.Value.run (F := Ideal) m' ρ')
  obtain ⟨h0, h1, h2, h3, h4, h5, h6, h7, h8, h9, h10, h11, h12⟩ := hagree c
  rw [Cert.Reference2Ideal.Read.val_main_v115_eq]
  show Cert.Reference2Ideal.Read.val_main_v115 (F := Ideal)
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg5))
        (m' ((c.tc : Thread Cert.Reference2Ideal.nD Cert.Reference2Ideal.τ).loc Cert.Reference2Ideal.main_arg6))
        (m' ((c.tc : Thread Cert.Reference2Ideal.nD Cert.Reference2Ideal.τ).loc Cert.Reference2Ideal.main_arg7))
        (m' ((c.tc : Thread Cert.Reference2Ideal.nD Cert.Reference2Ideal.τ).loc Cert.Reference2Ideal.main_arg8))
        (m' ((c.tc : Thread Cert.Reference2Ideal.nD Cert.Reference2Ideal.τ).loc Cert.Reference2Ideal.main_arg9))
        (m' ((c.tc : Thread Cert.Reference2Ideal.nD Cert.Reference2Ideal.τ).loc Cert.Reference2Ideal.main_arg10))
        (m' ((c.tc : Thread Cert.Reference2Ideal.nD Cert.Reference2Ideal.τ).loc Cert.Reference2Ideal.main_arg11))
        (m' ((c.tc : Thread Cert.Reference2Ideal.nD Cert.Reference2Ideal.τ).loc Cert.Reference2Ideal.main_arg12)) = _
  rw [h0, h1, h2, h3, h4, h5, h6, h7, h8, h9, h10, h11, h12]
  exact merge_eq m c

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal := by
  intro m ρ m' ρ' _ hagree
  refine ⟨_, _, _, _, _, _, Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, h1, h2⟩ := hagree c
  obtain ⟨r0, r1, r2, r3, r4, r5, ha⟩ := h c
  refine ⟨r0.trans ?_, r1.trans ?_, r2.trans ?_, r3.trans ?_, r4.trans ?_, r5.trans ?_, ha⟩
  · rw [Cert.Reference3Ideal.Read.val_main_v67_eq]
    show Cert.Reference3Ideal.Read.val_main_v67 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = _
    rw [h0, h1, h2]
    exact Cert.Proj.proj_q m c
  · rw [Cert.Reference3Ideal.Read.val_main_v68_eq]
    show Cert.Reference3Ideal.Read.val_main_v68 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = _
    rw [h0, h1, h2]
    exact Cert.Proj.proj_k m c
  · rw [Cert.Reference3Ideal.Read.val_main_v69_eq]
    show Cert.Reference3Ideal.Read.val_main_v69 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = _
    rw [h0, h1, h2]
    exact Cert.Proj.proj_v m c
  · rw [Cert.Reference3Ideal.Read.val_main_v70_eq]
    show Cert.Reference3Ideal.Read.val_main_v70 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = _
    rw [h0, h1, h2]
    exact Cert.Proj.proj_za m c
  · rw [Cert.Reference3Ideal.Read.val_main_v71_eq]
    show Cert.Reference3Ideal.Read.val_main_v71 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = _
    rw [h0, h1, h2]
    exact Cert.Proj.proj_u m c
  · rw [Cert.Reference3Ideal.Read.val_main_v72_eq]
    show Cert.Reference3Ideal.Read.val_main_v72 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = _
    rw [h0, h1, h2]
    exact Cert.Proj.proj_zs m c

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_finite_logits.Gen.facts,
  frame_p, frame_pi, frame_pi_pre, frame_ri, frame_ri_pre, frame_p2, frame_pi2, frame_ri2, frame_p3, frame_pi3, frame_ri3,
  preserves, algebraic, preserves2, algebraic2, preserves3, algebraic3⟩

end Cert.Proof

end
